-- ==== Defs.lean ====
def Pre_MlpUp (m : (ℓ : Loc Cert.MlpUp.nD Cert.MlpUp.τ Cert.MlpUp.sig) → Buf (Elt Bits) ℓ) : Prop :=
  True

def Pre_MlpUpIdeal (m : (ℓ : Loc Cert.MlpUpIdeal.nD Cert.MlpUpIdeal.τ Cert.MlpUpIdeal.sig) → Buf (Elt Ideal) ℓ) : Prop :=
  True

def Pre_MlpUpRefIdeal (m : (ℓ : Loc Cert.MlpUpRefIdeal.nD Cert.MlpUpRefIdeal.τ Cert.MlpUpRefIdeal.sig) → Buf (Elt Ideal) ℓ) : Prop :=
  True

def Pre_MlpDown (m : (ℓ : Loc Cert.MlpDown.nD Cert.MlpDown.τ Cert.MlpDown.sig) → Buf (Elt Bits) ℓ) : Prop :=
  True

def Pre_MlpDownIdeal (m : (ℓ : Loc Cert.MlpDownIdeal.nD Cert.MlpDownIdeal.τ Cert.MlpDownIdeal.sig) → Buf (Elt Ideal) ℓ) : Prop :=
  True

def Pre_MlpDownRefIdeal (m : (ℓ : Loc Cert.MlpDownRefIdeal.nD Cert.MlpDownRefIdeal.τ Cert.MlpDownRefIdeal.sig) → Buf (Elt Ideal) ℓ) : Prop :=
  True

def Pre_InMoba (m : (ℓ : Loc Cert.InMoba.nD Cert.InMoba.τ Cert.InMoba.sig) → Buf (Elt Bits) ℓ) : Prop :=
  True

def Pre_InMobaIdeal (m : (ℓ : Loc Cert.InMobaIdeal.nD Cert.InMobaIdeal.τ Cert.InMobaIdeal.sig) → Buf (Elt Ideal) ℓ) : Prop :=
  True

def Pre_InMobaRefIdeal (m : (ℓ : Loc Cert.InMobaRefIdeal.nD Cert.InMobaRefIdeal.τ Cert.InMobaRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_InGdn (m : (ℓ : Loc Cert.InGdn.nD Cert.InGdn.τ Cert.InGdn.sig) → Buf (Elt Bits) ℓ) : Prop :=
  True

def Pre_InGdnIdeal (m : (ℓ : Loc Cert.InGdnIdeal.nD Cert.InGdnIdeal.τ Cert.InGdnIdeal.sig) → Buf (Elt Ideal) ℓ) : Prop :=
  True

def Pre_InGdnRefIdeal (m : (ℓ : Loc Cert.InGdnRefIdeal.nD Cert.InGdnRefIdeal.τ Cert.InGdnRefIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def Pre_MemAttn (m : (ℓ : Loc Cert.MemAttn.nD Cert.MemAttn.τ Cert.MemAttn.sig) → Buf (Elt Bits) ℓ) : Prop :=
  True

def Pre_MemAttnIdeal (m : (ℓ : Loc Cert.MemAttnIdeal.nD Cert.MemAttnIdeal.τ Cert.MemAttnIdeal.sig) → Buf (Elt Ideal) ℓ) : Prop :=
  True

def Pre_MemAttnRefIdeal (m : (ℓ : Loc Cert.MemAttnRefIdeal.nD Cert.MemAttnRefIdeal.τ Cert.MemAttnRefIdeal.sig) → Buf (Elt Ideal) ℓ) : Prop :=
  True

def Pre_Gdn (m : (ℓ : Loc Cert.Gdn.nD Cert.Gdn.τ Cert.Gdn.sig) → Buf (Elt Bits) ℓ) : Prop :=
  True

def Pre_GdnIdeal (m : (ℓ : Loc Cert.GdnIdeal.nD Cert.GdnIdeal.τ Cert.GdnIdeal.sig) → Buf (Elt Ideal) ℓ) : Prop :=
  True

def Pre_Moba (m : (ℓ : Loc Cert.Moba.nD Cert.Moba.τ Cert.Moba.sig) → Buf (Elt Bits) ℓ) : Prop :=
  True

def Pre_MobaIdeal (m : (ℓ : Loc Cert.MobaIdeal.nD Cert.MobaIdeal.τ Cert.MobaIdeal.sig) → Buf (Elt Ideal) ℓ) : Prop :=
  True

def quiescent_MlpUp [hMlpUp : Cert.MlpUp.Facts] : Prop :=
  ∀ (m : (ℓ : Loc Cert.MlpUp.nD Cert.MlpUp.τ Cert.MlpUp.sig) → Buf (Elt Bits) ℓ) (g : Dev Cert.MlpUp.nD → PrngReg), Pre_MlpUp m →
    θ_run (Cert.MlpUp.defs (F := Bits)) (onTc (τ := Cert.MlpUp.τ) (Cert.MlpUp.main (F := Bits))) ⟨m, fun _ => 0, g⟩ (fun r => (∀ c : Dev Cert.MlpUp.nD,
      r.2.mem ((c.tc : Thread Cert.MlpUp.nD Cert.MlpUp.τ).loc Cert.MlpUp.main_arg0) = m ((c.tc : Thread Cert.MlpUp.nD Cert.MlpUp.τ).loc Cert.MlpUp.main_arg0)
      ∧ r.2.mem ((c.tc : Thread Cert.MlpUp.nD Cert.MlpUp.τ).loc Cert.MlpUp.main_arg1) = m ((c.tc : Thread Cert.MlpUp.nD Cert.MlpUp.τ).loc Cert.MlpUp.main_arg1)
      ∧ r.2.mem ((c.tc : Thread Cert.MlpUp.nD Cert.MlpUp.τ).loc Cert.MlpUp.main_arg2) = m ((c.tc : Thread Cert.MlpUp.nD Cert.MlpUp.τ).loc Cert.MlpUp.main_arg2))
      ∧ r.2.sem = fun _ => 0)

def quiescent_MlpUpIdeal [hMlpUpIdeal : Cert.MlpUpIdeal.Facts] : Prop :=
  ∀ (m : (ℓ : Loc Cert.MlpUpIdeal.nD Cert.MlpUpIdeal.τ Cert.MlpUpIdeal.sig) → Buf (Elt Ideal) ℓ) (g : Dev Cert.MlpUpIdeal.nD → PrngReg), Pre_MlpUpIdeal m →
    θ_run (Cert.MlpUpIdeal.defs (F := Ideal)) (onTc (τ := Cert.MlpUpIdeal.τ) (Cert.MlpUpIdeal.main (F := Ideal))) ⟨m, fun _ => 0, g⟩ (fun r => (∀ c : Dev Cert.MlpUpIdeal.nD,
      r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
      ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1)
      ∧ r.2.mem ((c.tc : Thread Cert.MlpUpIdeal.nD Cert.MlpUpIdeal.τ).loc Cert.MlpUpIdeal.main_arg2) = m ((c.tc : Thread Cert.MlpUpIdeal.nD Cert.MlpUpIdeal.τ).loc Cert.MlpUpIdeal.main_arg2))
      ∧ r.2.sem = fun _ => 0)

def quiescent_MlpUpRefIdeal [hMlpUpRefIdeal : Cert.MlpUpRefIdeal.Facts] : Prop :=
  ∀ (m : (ℓ : Loc Cert.MlpUpRefIdeal.nD Cert.MlpUpRefIdeal.τ Cert.MlpUpRefIdeal.sig) → Buf (Elt Ideal) ℓ) (g : Dev Cert.MlpUpRefIdeal.nD → PrngReg), Pre_MlpUpRefIdeal m →
    θ_run (Cert.MlpUpRefIdeal.defs (F := Ideal)) (onTc (τ := Cert.MlpUpRefIdeal.τ) (Cert.MlpUpRefIdeal.main (F := Ideal))) ⟨m, fun _ => 0, g⟩ (fun r => (∀ c : Dev Cert.MlpUpRefIdeal.nD,
      r.2.mem ((c.tc : Thread Cert.MlpUpRefIdeal.nD Cert.MlpUpRefIdeal.τ).loc Cert.MlpUpRefIdeal.main_arg0) = m ((c.tc : Thread Cert.MlpUpRefIdeal.nD Cert.MlpUpRefIdeal.τ).loc Cert.MlpUpRefIdeal.main_arg0)
      ∧ r.2.mem ((c.tc : Thread Cert.MlpUpRefIdeal.nD Cert.MlpUpRefIdeal.τ).loc Cert.MlpUpRefIdeal.main_arg1) = m ((c.tc : Thread Cert.MlpUpRefIdeal.nD Cert.MlpUpRefIdeal.τ).loc Cert.MlpUpRefIdeal.main_arg1)
      ∧ r.2.mem ((c.tc : Thread Cert.MlpUpRefIdeal.nD Cert.MlpUpRefIdeal.τ).loc Cert.MlpUpRefIdeal.main_arg2) = m ((c.tc : Thread Cert.MlpUpRefIdeal.nD Cert.MlpUpRefIdeal.τ).loc Cert.MlpUpRefIdeal.main_arg2))
      ∧ r.2.sem = fun _ => 0)

def quiescent_MlpDown [hMlpDown : Cert.MlpDown.Facts] : Prop :=
  ∀ (m : (ℓ : Loc Cert.MlpDown.nD Cert.MlpDown.τ Cert.MlpDown.sig) → Buf (Elt Bits) ℓ) (g : Dev Cert.MlpDown.nD → PrngReg), Pre_MlpDown m →
    θ_run (Cert.MlpDown.defs (F := Bits)) (onTc (τ := Cert.MlpDown.τ) (Cert.MlpDown.main (F := Bits))) ⟨m, fun _ => 0, g⟩ (fun r => (∀ c : Dev Cert.MlpDown.nD,
      r.2.mem ((c.tc : Thread Cert.MlpDown.nD Cert.MlpDown.τ).loc Cert.MlpDown.main_arg0) = m ((c.tc : Thread Cert.MlpDown.nD Cert.MlpDown.τ).loc Cert.MlpDown.main_arg0)
      ∧ r.2.mem ((c.tc : Thread Cert.MlpDown.nD Cert.MlpDown.τ).loc Cert.MlpDown.main_arg1) = m ((c.tc : Thread Cert.MlpDown.nD Cert.MlpDown.τ).loc Cert.MlpDown.main_arg1)
      ∧ r.2.mem ((c.tc : Thread Cert.MlpDown.nD Cert.MlpDown.τ).loc Cert.MlpDown.main_arg2) = m ((c.tc : Thread Cert.MlpDown.nD Cert.MlpDown.τ).loc Cert.MlpDown.main_arg2)
      ∧ r.2.mem ((c.tc : Thread Cert.MlpDown.nD Cert.MlpDown.τ).loc Cert.MlpDown.main_arg3) = m ((c.tc : Thread Cert.MlpDown.nD Cert.MlpDown.τ).loc Cert.MlpDown.main_arg3))
      ∧ r.2.sem = fun _ => 0)

def quiescent_MlpDownIdeal [hMlpDownIdeal : Cert.MlpDownIdeal.Facts] : Prop :=
  ∀ (m : (ℓ : Loc Cert.MlpDownIdeal.nD Cert.MlpDownIdeal.τ Cert.MlpDownIdeal.sig) → Buf (Elt Ideal) ℓ) (g : Dev Cert.MlpDownIdeal.nD → PrngReg), Pre_MlpDownIdeal m →
    θ_run (Cert.MlpDownIdeal.defs (F := Ideal)) (onTc (τ := Cert.MlpDownIdeal.τ) (Cert.MlpDownIdeal.main (F := Ideal))) ⟨m, fun _ => 0, g⟩ (fun r => (∀ c : Dev Cert.MlpDownIdeal.nD,
      r.2.mem ((c.tc : Thread Cert.MlpDownIdeal.nD Cert.MlpDownIdeal.τ).loc Cert.MlpDownIdeal.main_arg0) = m ((c.tc : Thread Cert.MlpDownIdeal.nD Cert.MlpDownIdeal.τ).loc Cert.MlpDownIdeal.main_arg0)
      ∧ r.2.mem ((c.tc : Thread Cert.MlpDownIdeal.nD Cert.MlpDownIdeal.τ).loc Cert.MlpDownIdeal.main_arg1) = m ((c.tc : Thread Cert.MlpDownIdeal.nD Cert.MlpDownIdeal.τ).loc Cert.MlpDownIdeal.main_arg1)
      ∧ r.2.mem ((c.tc : Thread Cert.MlpDownIdeal.nD Cert.MlpDownIdeal.τ).loc Cert.MlpDownIdeal.main_arg2) = m ((c.tc : Thread Cert.MlpDownIdeal.nD Cert.MlpDownIdeal.τ).loc Cert.MlpDownIdeal.main_arg2)
      ∧ r.2.mem ((c.tc : Thread Cert.MlpDownIdeal.nD Cert.MlpDownIdeal.τ).loc Cert.MlpDownIdeal.main_arg3) = m ((c.tc : Thread Cert.MlpDownIdeal.nD Cert.MlpDownIdeal.τ).loc Cert.MlpDownIdeal.main_arg3))
      ∧ r.2.sem = fun _ => 0)

def quiescent_MlpDownRefIdeal [hMlpDownRefIdeal : Cert.MlpDownRefIdeal.Facts] : Prop :=
  ∀ (m : (ℓ : Loc Cert.MlpDownRefIdeal.nD Cert.MlpDownRefIdeal.τ Cert.MlpDownRefIdeal.sig) → Buf (Elt Ideal) ℓ) (g : Dev Cert.MlpDownRefIdeal.nD → PrngReg), Pre_MlpDownRefIdeal m →
    θ_run (Cert.MlpDownRefIdeal.defs (F := Ideal)) (onTc (τ := Cert.MlpDownRefIdeal.τ) (Cert.MlpDownRefIdeal.main (F := Ideal))) ⟨m, fun _ => 0, g⟩ (fun r => (∀ c : Dev Cert.MlpDownRefIdeal.nD,
      r.2.mem ((c.tc : Thread Cert.MlpDownRefIdeal.nD Cert.MlpDownRefIdeal.τ).loc Cert.MlpDownRefIdeal.main_arg0) = m ((c.tc : Thread Cert.MlpDownRefIdeal.nD Cert.MlpDownRefIdeal.τ).loc Cert.MlpDownRefIdeal.main_arg0)
      ∧ r.2.mem ((c.tc : Thread Cert.MlpDownRefIdeal.nD Cert.MlpDownRefIdeal.τ).loc Cert.MlpDownRefIdeal.main_arg1) = m ((c.tc : Thread Cert.MlpDownRefIdeal.nD Cert.MlpDownRefIdeal.τ).loc Cert.MlpDownRefIdeal.main_arg1)
      ∧ r.2.mem ((c.tc : Thread Cert.MlpDownRefIdeal.nD Cert.MlpDownRefIdeal.τ).loc Cert.MlpDownRefIdeal.main_arg2) = m ((c.tc : Thread Cert.MlpDownRefIdeal.nD Cert.MlpDownRefIdeal.τ).loc Cert.MlpDownRefIdeal.main_arg2)
      ∧ r.2.mem ((c.tc : Thread Cert.MlpDownRefIdeal.nD Cert.MlpDownRefIdeal.τ).loc Cert.MlpDownRefIdeal.main_arg3) = m ((c.tc : Thread Cert.MlpDownRefIdeal.nD Cert.MlpDownRefIdeal.τ).loc Cert.MlpDownRefIdeal.main_arg3))
      ∧ r.2.sem = fun _ => 0)

def quiescent_InMoba [hInMoba : Cert.InMoba.Facts] : Prop :=
  ∀ (m : (ℓ : Loc Cert.InMoba.nD Cert.InMoba.τ Cert.InMoba.sig) → Buf (Elt Bits) ℓ) (g : Dev Cert.InMoba.nD → PrngReg), Pre_InMoba m →
    θ_run (Cert.InMoba.defs (F := Bits)) (onTc (τ := Cert.InMoba.τ) (Cert.InMoba.main (F := Bits))) ⟨m, fun _ => 0, g⟩ (fun r => (∀ c : Dev Cert.InMoba.nD,
      r.2.mem ((c.tc : Thread Cert.InMoba.nD Cert.InMoba.τ).loc Cert.InMoba.main_arg0) = m ((c.tc : Thread Cert.InMoba.nD Cert.InMoba.τ).loc Cert.InMoba.main_arg0)
      ∧ r.2.mem ((c.tc : Thread Cert.InMoba.nD Cert.InMoba.τ).loc Cert.InMoba.main_arg1) = m ((c.tc : Thread Cert.InMoba.nD Cert.InMoba.τ).loc Cert.InMoba.main_arg1)
      ∧ r.2.mem ((c.tc : Thread Cert.InMoba.nD Cert.InMoba.τ).loc Cert.InMoba.main_arg2) = m ((c.tc : Thread Cert.InMoba.nD Cert.InMoba.τ).loc Cert.InMoba.main_arg2))
      ∧ r.2.sem = fun _ => 0)

def quiescent_InMobaIdeal [hInMobaIdeal : Cert.InMobaIdeal.Facts] : Prop :=
  ∀ (m : (ℓ : Loc Cert.InMobaIdeal.nD Cert.InMobaIdeal.τ Cert.InMobaIdeal.sig) → Buf (Elt Ideal) ℓ) (g : Dev Cert.InMobaIdeal.nD → PrngReg), Pre_InMobaIdeal m →
    θ_run (Cert.InMobaIdeal.defs (F := Ideal)) (onTc (τ := Cert.InMobaIdeal.τ) (Cert.InMobaIdeal.main (F := Ideal))) ⟨m, fun _ => 0, g⟩ (fun r => (∀ c : Dev Cert.InMobaIdeal.nD,
      r.2.mem ((c.tc : Thread Cert.InMobaIdeal.nD Cert.InMobaIdeal.τ).loc Cert.InMobaIdeal.main_arg0) = m ((c.tc : Thread Cert.InMobaIdeal.nD Cert.InMobaIdeal.τ).loc Cert.InMobaIdeal.main_arg0)
      ∧ r.2.mem ((c.tc : Thread Cert.InMobaIdeal.nD Cert.InMobaIdeal.τ).loc Cert.InMobaIdeal.main_arg1) = m ((c.tc : Thread Cert.InMobaIdeal.nD Cert.InMobaIdeal.τ).loc Cert.InMobaIdeal.main_arg1)
      ∧ r.2.mem ((c.tc : Thread Cert.InMobaIdeal.nD Cert.InMobaIdeal.τ).loc Cert.InMobaIdeal.main_arg2) = m ((c.tc : Thread Cert.InMobaIdeal.nD Cert.InMobaIdeal.τ).loc Cert.InMobaIdeal.main_arg2))
      ∧ r.2.sem = fun _ => 0)

def quiescent_InMobaRefIdeal [hInMobaRefIdeal : Cert.InMobaRefIdeal.Facts] : Prop :=
  ∀ (m : (ℓ : Loc Cert.InMobaRefIdeal.nD Cert.InMobaRefIdeal.τ Cert.InMobaRefIdeal.sig) → Buf (Elt Ideal) ℓ) (g : Dev Cert.InMobaRefIdeal.nD → PrngReg), Pre_InMobaRefIdeal m →
    θ_run (Cert.InMobaRefIdeal.defs (F := Ideal)) (onTc (τ := Cert.InMobaRefIdeal.τ) (Cert.InMobaRefIdeal.main (F := Ideal))) ⟨m, fun _ => 0, g⟩ (fun r => (∀ c : Dev Cert.InMobaRefIdeal.nD,
      r.2.mem ((c.tc : Thread Cert.InMobaRefIdeal.nD Cert.InMobaRefIdeal.τ).loc Cert.InMobaRefIdeal.main_arg0) = m ((c.tc : Thread Cert.InMobaRefIdeal.nD Cert.InMobaRefIdeal.τ).loc Cert.InMobaRefIdeal.main_arg0)
      ∧ r.2.mem ((c.tc : Thread Cert.InMobaRefIdeal.nD Cert.InMobaRefIdeal.τ).loc Cert.InMobaRefIdeal.main_arg1) = m ((c.tc : Thread Cert.InMobaRefIdeal.nD Cert.InMobaRefIdeal.τ).loc Cert.InMobaRefIdeal.main_arg1)
      ∧ r.2.mem ((c.tc : Thread Cert.InMobaRefIdeal.nD Cert.InMobaRefIdeal.τ).loc Cert.InMobaRefIdeal.main_arg2) = m ((c.tc : Thread Cert.InMobaRefIdeal.nD Cert.InMobaRefIdeal.τ).loc Cert.InMobaRefIdeal.main_arg2))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4))
      ∧ r.2.sem = fun _ => 0)

def quiescent_InGdn [hInGdn : Cert.InGdn.Facts] : Prop :=
  ∀ (m : (ℓ : Loc Cert.InGdn.nD Cert.InGdn.τ Cert.InGdn.sig) → Buf (Elt Bits) ℓ) (g : Dev Cert.InGdn.nD → PrngReg), Pre_InGdn m →
    θ_run (Cert.InGdn.defs (F := Bits)) (onTc (τ := Cert.InGdn.τ) (Cert.InGdn.main (F := Bits))) ⟨m, fun _ => 0, g⟩ (fun r => (∀ c : Dev Cert.InGdn.nD,
      r.2.mem ((c.tc : Thread Cert.InGdn.nD Cert.InGdn.τ).loc Cert.InGdn.main_arg0) = m ((c.tc : Thread Cert.InGdn.nD Cert.InGdn.τ).loc Cert.InGdn.main_arg0)
      ∧ r.2.mem ((c.tc : Thread Cert.InGdn.nD Cert.InGdn.τ).loc Cert.InGdn.main_arg1) = m ((c.tc : Thread Cert.InGdn.nD Cert.InGdn.τ).loc Cert.InGdn.main_arg1)
      ∧ r.2.mem ((c.tc : Thread Cert.InGdn.nD Cert.InGdn.τ).loc Cert.InGdn.main_arg2) = m ((c.tc : Thread Cert.InGdn.nD Cert.InGdn.τ).loc Cert.InGdn.main_arg2))
      ∧ r.2.sem = fun _ => 0)

def quiescent_InGdnIdeal [hInGdnIdeal : Cert.InGdnIdeal.Facts] : Prop :=
  ∀ (m : (ℓ : Loc Cert.InGdnIdeal.nD Cert.InGdnIdeal.τ Cert.InGdnIdeal.sig) → Buf (Elt Ideal) ℓ) (g : Dev Cert.InGdnIdeal.nD → PrngReg), Pre_InGdnIdeal m →
    θ_run (Cert.InGdnIdeal.defs (F := Ideal)) (onTc (τ := Cert.InGdnIdeal.τ) (Cert.InGdnIdeal.main (F := Ideal))) ⟨m, fun _ => 0, g⟩ (fun r => (∀ c : Dev Cert.InGdnIdeal.nD,
      r.2.mem ((c.tc : Thread Cert.InGdnIdeal.nD Cert.InGdnIdeal.τ).loc Cert.InGdnIdeal.main_arg0) = m ((c.tc : Thread Cert.InGdnIdeal.nD Cert.InGdnIdeal.τ).loc Cert.InGdnIdeal.main_arg0)
      ∧ r.2.mem ((c.tc : Thread Cert.InGdnIdeal.nD Cert.InGdnIdeal.τ).loc Cert.InGdnIdeal.main_arg1) = m ((c.tc : Thread Cert.InGdnIdeal.nD Cert.InGdnIdeal.τ).loc Cert.InGdnIdeal.main_arg1)
      ∧ r.2.mem ((c.tc : Thread Cert.InGdnIdeal.nD Cert.InGdnIdeal.τ).loc Cert.InGdnIdeal.main_arg2) = m ((c.tc : Thread Cert.InGdnIdeal.nD Cert.InGdnIdeal.τ).loc Cert.InGdnIdeal.main_arg2))
      ∧ r.2.sem = fun _ => 0)

def quiescent_InGdnRefIdeal [hInGdnRefIdeal : Cert.InGdnRefIdeal.Facts] : Prop :=
  ∀ (m : (ℓ : Loc Cert.InGdnRefIdeal.nD Cert.InGdnRefIdeal.τ Cert.InGdnRefIdeal.sig) → Buf (Elt Ideal) ℓ) (g : Dev Cert.InGdnRefIdeal.nD → PrngReg), Pre_InGdnRefIdeal m →
    θ_run (Cert.InGdnRefIdeal.defs (F := Ideal)) (onTc (τ := Cert.InGdnRefIdeal.τ) (Cert.InGdnRefIdeal.main (F := Ideal))) ⟨m, fun _ => 0, g⟩ (fun r => (∀ c : Dev Cert.InGdnRefIdeal.nD,
      r.2.mem ((c.tc : Thread Cert.InGdnRefIdeal.nD Cert.InGdnRefIdeal.τ).loc Cert.InGdnRefIdeal.main_arg0) = m ((c.tc : Thread Cert.InGdnRefIdeal.nD Cert.InGdnRefIdeal.τ).loc Cert.InGdnRefIdeal.main_arg0)
      ∧ r.2.mem ((c.tc : Thread Cert.InGdnRefIdeal.nD Cert.InGdnRefIdeal.τ).loc Cert.InGdnRefIdeal.main_arg1) = m ((c.tc : Thread Cert.InGdnRefIdeal.nD Cert.InGdnRefIdeal.τ).loc Cert.InGdnRefIdeal.main_arg1)
      ∧ r.2.mem ((c.tc : Thread Cert.InGdnRefIdeal.nD Cert.InGdnRefIdeal.τ).loc Cert.InGdnRefIdeal.main_arg2) = m ((c.tc : Thread Cert.InGdnRefIdeal.nD Cert.InGdnRefIdeal.τ).loc Cert.InGdnRefIdeal.main_arg2))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1)
      ∧ r.2.mem ((c.tc : Thread Cert.MemKv.nD Cert.MemKv.τ).loc Cert.MemKv.main_arg2) = m ((c.tc : Thread Cert.MemKv.nD Cert.MemKv.τ).loc Cert.MemKv.main_arg2)
      ∧ r.2.mem ((c.tc : Thread Cert.MemKv.nD Cert.MemKv.τ).loc Cert.MemKv.main_arg3) = m ((c.tc : Thread Cert.MemKv.nD Cert.MemKv.τ).loc Cert.MemKv.main_arg3))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
      ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2)
      ∧ r.2.mem ((c.tc : Thread Cert.MemKvIdeal.nD Cert.MemKvIdeal.τ).loc Cert.MemKvIdeal.main_arg3) = m ((c.tc : Thread Cert.MemKvIdeal.nD Cert.MemKvIdeal.τ).loc Cert.MemKvIdeal.main_arg3))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1)
      ∧ r.2.mem ((c.tc : Thread Cert.MemKvRefIdeal.nD Cert.MemKvRefIdeal.τ).loc Cert.MemKvRefIdeal.main_arg2) = m ((c.tc : Thread Cert.MemKvRefIdeal.nD Cert.MemKvRefIdeal.τ).loc Cert.MemKvRefIdeal.main_arg2)
      ∧ r.2.mem ((c.tc : Thread Cert.MemKvRefIdeal.nD Cert.MemKvRefIdeal.τ).loc Cert.MemKvRefIdeal.main_arg3) = m ((c.tc : Thread Cert.MemKvRefIdeal.nD Cert.MemKvRefIdeal.τ).loc Cert.MemKvRefIdeal.main_arg3))
      ∧ r.2.sem = fun _ => 0)

def quiescent_MemAttn [hMemAttn : Cert.MemAttn.Facts] : Prop :=
  ∀ (m : (ℓ : Loc Cert.MemAttn.nD Cert.MemAttn.τ Cert.MemAttn.sig) → Buf (Elt Bits) ℓ) (g : Dev Cert.MemAttn.nD → PrngReg), Pre_MemAttn m →
    θ_run (Cert.MemAttn.defs (F := Bits)) (onTc (τ := Cert.MemAttn.τ) (Cert.MemAttn.main (F := Bits))) ⟨m, fun _ => 0, g⟩ (fun r => (∀ c : Dev Cert.MemAttn.nD,
      r.2.mem ((c.tc : Thread Cert.MemAttn.nD Cert.MemAttn.τ).loc Cert.MemAttn.main_arg0) = m ((c.tc : Thread Cert.MemAttn.nD Cert.MemAttn.τ).loc Cert.MemAttn.main_arg0)
      ∧ r.2.mem ((c.tc : Thread Cert.MemAttn.nD Cert.MemAttn.τ).loc Cert.MemAttn.main_arg1) = m ((c.tc : Thread Cert.MemAttn.nD Cert.MemAttn.τ).loc Cert.MemAttn.main_arg1)
      ∧ r.2.mem ((c.tc : Thread Cert.MemAttn.nD Cert.MemAttn.τ).loc Cert.MemAttn.main_arg2) = m ((c.tc : Thread Cert.MemAttn.nD Cert.MemAttn.τ).loc Cert.MemAttn.main_arg2)
      ∧ r.2.mem ((c.tc : Thread Cert.MemAttn.nD Cert.MemAttn.τ).loc Cert.MemAttn.main_arg3) = m ((c.tc : Thread Cert.MemAttn.nD Cert.MemAttn.τ).loc Cert.MemAttn.main_arg3)
      ∧ r.2.mem ((c.tc : Thread Cert.MemAttn.nD Cert.MemAttn.τ).loc Cert.MemAttn.main_arg4) = m ((c.tc : Thread Cert.MemAttn.nD Cert.MemAttn.τ).loc Cert.MemAttn.main_arg4)
      ∧ r.2.mem ((c.tc : Thread Cert.MemAttn.nD Cert.MemAttn.τ).loc Cert.MemAttn.main_arg5) = m ((c.tc : Thread Cert.MemAttn.nD Cert.MemAttn.τ).loc Cert.MemAttn.main_arg5)
      ∧ r.2.mem ((c.tc : Thread Cert.MemAttn.nD Cert.MemAttn.τ).loc Cert.MemAttn.main_arg6) = m ((c.tc : Thread Cert.MemAttn.nD Cert.MemAttn.τ).loc Cert.MemAttn.main_arg6))
      ∧ r.2.sem = fun _ => 0)

def quiescent_MemAttnIdeal [hMemAttnIdeal : Cert.MemAttnIdeal.Facts] : Prop :=
  ∀ (m : (ℓ : Loc Cert.MemAttnIdeal.nD Cert.MemAttnIdeal.τ Cert.MemAttnIdeal.sig) → Buf (Elt Ideal) ℓ) (g : Dev Cert.MemAttnIdeal.nD → PrngReg), Pre_MemAttnIdeal m →
    θ_run (Cert.MemAttnIdeal.defs (F := Ideal)) (onTc (τ := Cert.MemAttnIdeal.τ) (Cert.MemAttnIdeal.main (F := Ideal))) ⟨m, fun _ => 0, g⟩ (fun r => (∀ c : Dev Cert.MemAttnIdeal.nD,
      r.2.mem ((c.tc : Thread Cert.MemAttnIdeal.nD Cert.MemAttnIdeal.τ).loc Cert.MemAttnIdeal.main_arg0) = m ((c.tc : Thread Cert.MemAttnIdeal.nD Cert.MemAttnIdeal.τ).loc Cert.MemAttnIdeal.main_arg0)
      ∧ r.2.mem ((c.tc : Thread Cert.MemAttnIdeal.nD Cert.MemAttnIdeal.τ).loc Cert.MemAttnIdeal.main_arg1) = m ((c.tc : Thread Cert.MemAttnIdeal.nD Cert.MemAttnIdeal.τ).loc Cert.MemAttnIdeal.main_arg1)
      ∧ r.2.mem ((c.tc : Thread Cert.MemAttnIdeal.nD Cert.MemAttnIdeal.τ).loc Cert.MemAttnIdeal.main_arg2) = m ((c.tc : Thread Cert.MemAttnIdeal.nD Cert.MemAttnIdeal.τ).loc Cert.MemAttnIdeal.main_arg2)
      ∧ r.2.mem ((c.tc : Thread Cert.MemAttnIdeal.nD Cert.MemAttnIdeal.τ).loc Cert.MemAttnIdeal.main_arg3) = m ((c.tc : Thread Cert.MemAttnIdeal.nD Cert.MemAttnIdeal.τ).loc Cert.MemAttnIdeal.main_arg3)
      ∧ r.2.mem ((c.tc : Thread Cert.MemAttnIdeal.nD Cert.MemAttnIdeal.τ).loc Cert.MemAttnIdeal.main_arg4) = m ((c.tc : Thread Cert.MemAttnIdeal.nD Cert.MemAttnIdeal.τ).loc Cert.MemAttnIdeal.main_arg4)
      ∧ r.2.mem ((c.tc : Thread Cert.MemAttnIdeal.nD Cert.MemAttnIdeal.τ).loc Cert.MemAttnIdeal.main_arg5) = m ((c.tc : Thread Cert.MemAttnIdeal.nD Cert.MemAttnIdeal.τ).loc Cert.MemAttnIdeal.main_arg5)
      ∧ r.2.mem ((c.tc : Thread Cert.MemAttnIdeal.nD Cert.MemAttnIdeal.τ).loc Cert.MemAttnIdeal.main_arg6) = m ((c.tc : Thread Cert.MemAttnIdeal.nD Cert.MemAttnIdeal.τ).loc Cert.MemAttnIdeal.main_arg6))
      ∧ r.2.sem = fun _ => 0)

def quiescent_MemAttnRefIdeal [hMemAttnRefIdeal : Cert.MemAttnRefIdeal.Facts] : Prop :=
  ∀ (m : (ℓ : Loc Cert.MemAttnRefIdeal.nD Cert.MemAttnRefIdeal.τ Cert.MemAttnRefIdeal.sig) → Buf (Elt Ideal) ℓ) (g : Dev Cert.MemAttnRefIdeal.nD → PrngReg), Pre_MemAttnRefIdeal m →
    θ_run (Cert.MemAttnRefIdeal.defs (F := Ideal)) (onTc (τ := Cert.MemAttnRefIdeal.τ) (Cert.MemAttnRefIdeal.main (F := Ideal))) ⟨m, fun _ => 0, g⟩ (fun r => (∀ c : Dev Cert.MemAttnRefIdeal.nD,
      r.2.mem ((c.tc : Thread Cert.MemAttnRefIdeal.nD Cert.MemAttnRefIdeal.τ).loc Cert.MemAttnRefIdeal.main_arg0) = m ((c.tc : Thread Cert.MemAttnRefIdeal.nD Cert.MemAttnRefIdeal.τ).loc Cert.MemAttnRefIdeal.main_arg0)
      ∧ r.2.mem ((c.tc : Thread Cert.MemAttnRefIdeal.nD Cert.MemAttnRefIdeal.τ).loc Cert.MemAttnRefIdeal.main_arg1) = m ((c.tc : Thread Cert.MemAttnRefIdeal.nD Cert.MemAttnRefIdeal.τ).loc Cert.MemAttnRefIdeal.main_arg1)
      ∧ r.2.mem ((c.tc : Thread Cert.MemAttnRefIdeal.nD Cert.MemAttnRefIdeal.τ).loc Cert.MemAttnRefIdeal.main_arg2) = m ((c.tc : Thread Cert.MemAttnRefIdeal.nD Cert.MemAttnRefIdeal.τ).loc Cert.MemAttnRefIdeal.main_arg2)
      ∧ r.2.mem ((c.tc : Thread Cert.MemAttnRefIdeal.nD Cert.MemAttnRefIdeal.τ).loc Cert.MemAttnRefIdeal.main_arg3) = m ((c.tc : Thread Cert.MemAttnRefIdeal.nD Cert.MemAttnRefIdeal.τ).loc Cert.MemAttnRefIdeal.main_arg3)
      ∧ r.2.mem ((c.tc : Thread Cert.MemAttnRefIdeal.nD Cert.MemAttnRefIdeal.τ).loc Cert.MemAttnRefIdeal.main_arg4) = m ((c.tc : Thread Cert.MemAttnRefIdeal.nD Cert.MemAttnRefIdeal.τ).loc Cert.MemAttnRefIdeal.main_arg4)
      ∧ r.2.mem ((c.tc : Thread Cert.MemAttnRefIdeal.nD Cert.MemAttnRefIdeal.τ).loc Cert.MemAttnRefIdeal.main_arg5) = m ((c.tc : Thread Cert.MemAttnRefIdeal.nD Cert.MemAttnRefIdeal.τ).loc Cert.MemAttnRefIdeal.main_arg5)
      ∧ r.2.mem ((c.tc : Thread Cert.MemAttnRefIdeal.nD Cert.MemAttnRefIdeal.τ).loc Cert.MemAttnRefIdeal.main_arg6) = m ((c.tc : Thread Cert.MemAttnRefIdeal.nD Cert.MemAttnRefIdeal.τ).loc Cert.MemAttnRefIdeal.main_arg6))
      ∧ r.2.sem = fun _ => 0)

def quiescent_Gdn [hGdn : Cert.Gdn.Facts] : Prop :=
  ∀ (m : (ℓ : Loc Cert.Gdn.nD Cert.Gdn.τ Cert.Gdn.sig) → Buf (Elt Bits) ℓ) (g : Dev Cert.Gdn.nD → PrngReg), Pre_Gdn m →
    θ_run (Cert.Gdn.defs (F := Bits)) (onTc (τ := Cert.Gdn.τ) (Cert.Gdn.main (F := Bits))) ⟨m, fun _ => 0, g⟩ (fun r => (∀ c : Dev Cert.Gdn.nD,
      r.2.mem ((c.tc : Thread Cert.Gdn.nD Cert.Gdn.τ).loc Cert.Gdn.main_arg0) = m ((c.tc : Thread Cert.Gdn.nD Cert.Gdn.τ).loc Cert.Gdn.main_arg0)
      ∧ r.2.mem ((c.tc : Thread Cert.Gdn.nD Cert.Gdn.τ).loc Cert.Gdn.main_arg1) = m ((c.tc : Thread Cert.Gdn.nD Cert.Gdn.τ).loc Cert.Gdn.main_arg1)
      ∧ r.2.mem ((c.tc : Thread Cert.Gdn.nD Cert.Gdn.τ).loc Cert.Gdn.main_arg2) = m ((c.tc : Thread Cert.Gdn.nD Cert.Gdn.τ).loc Cert.Gdn.main_arg2)
      ∧ r.2.mem ((c.tc : Thread Cert.Gdn.nD Cert.Gdn.τ).loc Cert.Gdn.main_arg3) = m ((c.tc : Thread Cert.Gdn.nD Cert.Gdn.τ).loc Cert.Gdn.main_arg3)
      ∧ r.2.mem ((c.tc : Thread Cert.Gdn.nD Cert.Gdn.τ).loc Cert.Gdn.main_arg4) = m ((c.tc : Thread Cert.Gdn.nD Cert.Gdn.τ).loc Cert.Gdn.main_arg4)
      ∧ r.2.mem ((c.tc : Thread Cert.Gdn.nD Cert.Gdn.τ).loc Cert.Gdn.main_arg5) = m ((c.tc : Thread Cert.Gdn.nD Cert.Gdn.τ).loc Cert.Gdn.main_arg5)
      ∧ r.2.mem ((c.tc : Thread Cert.Gdn.nD Cert.Gdn.τ).loc Cert.Gdn.main_arg6) = m ((c.tc : Thread Cert.Gdn.nD Cert.Gdn.τ).loc Cert.Gdn.main_arg6)
      ∧ r.2.mem ((c.tc : Thread Cert.Gdn.nD Cert.Gdn.τ).loc Cert.Gdn.main_arg7) = m ((c.tc : Thread Cert.Gdn.nD Cert.Gdn.τ).loc Cert.Gdn.main_arg7)
      ∧ r.2.mem ((c.tc : Thread Cert.Gdn.nD Cert.Gdn.τ).loc Cert.Gdn.main_arg8) = m ((c.tc : Thread Cert.Gdn.nD Cert.Gdn.τ).loc Cert.Gdn.main_arg8)
      ∧ r.2.mem ((c.tc : Thread Cert.Gdn.nD Cert.Gdn.τ).loc Cert.Gdn.main_arg9) = m ((c.tc : Thread Cert.Gdn.nD Cert.Gdn.τ).loc Cert.Gdn.main_arg9))
      ∧ r.2.sem = fun _ => 0)

def quiescent_GdnIdeal [hGdnIdeal : Cert.GdnIdeal.Facts] : Prop :=
  ∀ (m : (ℓ : Loc Cert.GdnIdeal.nD Cert.GdnIdeal.τ Cert.GdnIdeal.sig) → Buf (Elt Ideal) ℓ) (g : Dev Cert.GdnIdeal.nD → PrngReg), Pre_GdnIdeal m →
    θ_run (Cert.GdnIdeal.defs (F := Ideal)) (onTc (τ := Cert.GdnIdeal.τ) (Cert.GdnIdeal.main (F := Ideal))) ⟨m, fun _ => 0, g⟩ (fun r => (∀ c : Dev Cert.GdnIdeal.nD,
      r.2.mem ((c.tc : Thread Cert.GdnIdeal.nD Cert.GdnIdeal.τ).loc Cert.GdnIdeal.main_arg0) = m ((c.tc : Thread Cert.GdnIdeal.nD Cert.GdnIdeal.τ).loc Cert.GdnIdeal.main_arg0)
      ∧ r.2.mem ((c.tc : Thread Cert.GdnIdeal.nD Cert.GdnIdeal.τ).loc Cert.GdnIdeal.main_arg1) = m ((c.tc : Thread Cert.GdnIdeal.nD Cert.GdnIdeal.τ).loc Cert.GdnIdeal.main_arg1)
      ∧ r.2.mem ((c.tc : Thread Cert.GdnIdeal.nD Cert.GdnIdeal.τ).loc Cert.GdnIdeal.main_arg2) = m ((c.tc : Thread Cert.GdnIdeal.nD Cert.GdnIdeal.τ).loc Cert.GdnIdeal.main_arg2)
      ∧ r.2.mem ((c.tc : Thread Cert.GdnIdeal.nD Cert.GdnIdeal.τ).loc Cert.GdnIdeal.main_arg3) = m ((c.tc : Thread Cert.GdnIdeal.nD Cert.GdnIdeal.τ).loc Cert.GdnIdeal.main_arg3)
      ∧ r.2.mem ((c.tc : Thread Cert.GdnIdeal.nD Cert.GdnIdeal.τ).loc Cert.GdnIdeal.main_arg4) = m ((c.tc : Thread Cert.GdnIdeal.nD Cert.GdnIdeal.τ).loc Cert.GdnIdeal.main_arg4)
      ∧ r.2.mem ((c.tc : Thread Cert.GdnIdeal.nD Cert.GdnIdeal.τ).loc Cert.GdnIdeal.main_arg5) = m ((c.tc : Thread Cert.GdnIdeal.nD Cert.GdnIdeal.τ).loc Cert.GdnIdeal.main_arg5)
      ∧ r.2.mem ((c.tc : Thread Cert.GdnIdeal.nD Cert.GdnIdeal.τ).loc Cert.GdnIdeal.main_arg6) = m ((c.tc : Thread Cert.GdnIdeal.nD Cert.GdnIdeal.τ).loc Cert.GdnIdeal.main_arg6)
      ∧ r.2.mem ((c.tc : Thread Cert.GdnIdeal.nD Cert.GdnIdeal.τ).loc Cert.GdnIdeal.main_arg7) = m ((c.tc : Thread Cert.GdnIdeal.nD Cert.GdnIdeal.τ).loc Cert.GdnIdeal.main_arg7)
      ∧ r.2.mem ((c.tc : Thread Cert.GdnIdeal.nD Cert.GdnIdeal.τ).loc Cert.GdnIdeal.main_arg8) = m ((c.tc : Thread Cert.GdnIdeal.nD Cert.GdnIdeal.τ).loc Cert.GdnIdeal.main_arg8)
      ∧ r.2.mem ((c.tc : Thread Cert.GdnIdeal.nD Cert.GdnIdeal.τ).loc Cert.GdnIdeal.main_arg9) = m ((c.tc : Thread Cert.GdnIdeal.nD Cert.GdnIdeal.τ).loc Cert.GdnIdeal.main_arg9))
      ∧ r.2.sem = fun _ => 0)

def quiescent_Moba [hMoba : Cert.Moba.Facts] : Prop :=
  ∀ (m : (ℓ : Loc Cert.Moba.nD Cert.Moba.τ Cert.Moba.sig) → Buf (Elt Bits) ℓ) (g : Dev Cert.Moba.nD → PrngReg), Pre_Moba m →
    θ_run (Cert.Moba.defs (F := Bits)) (onTc (τ := Cert.Moba.τ) (Cert.Moba.main (F := Bits))) ⟨m, fun _ => 0, g⟩ (fun r => (∀ c : Dev Cert.Moba.nD,
      r.2.mem ((c.tc : Thread Cert.Moba.nD Cert.Moba.τ).loc Cert.Moba.main_arg0) = m ((c.tc : Thread Cert.Moba.nD Cert.Moba.τ).loc Cert.Moba.main_arg0)
      ∧ r.2.mem ((c.tc : Thread Cert.Moba.nD Cert.Moba.τ).loc Cert.Moba.main_arg1) = m ((c.tc : Thread Cert.Moba.nD Cert.Moba.τ).loc Cert.Moba.main_arg1)
      ∧ r.2.mem ((c.tc : Thread Cert.Moba.nD Cert.Moba.τ).loc Cert.Moba.main_arg2) = m ((c.tc : Thread Cert.Moba.nD Cert.Moba.τ).loc Cert.Moba.main_arg2))
      ∧ r.2.sem = fun _ => 0)

def quiescent_MobaIdeal [hMobaIdeal : Cert.MobaIdeal.Facts] : Prop :=
  ∀ (m : (ℓ : Loc Cert.MobaIdeal.nD Cert.MobaIdeal.τ Cert.MobaIdeal.sig) → Buf (Elt Ideal) ℓ) (g : Dev Cert.MobaIdeal.nD → PrngReg), Pre_MobaIdeal m →
    θ_run (Cert.MobaIdeal.defs (F := Ideal)) (onTc (τ := Cert.MobaIdeal.τ) (Cert.MobaIdeal.main (F := Ideal))) ⟨m, fun _ => 0, g⟩ (fun r => (∀ c : Dev Cert.MobaIdeal.nD,
      r.2.mem ((c.tc : Thread Cert.MobaIdeal.nD Cert.MobaIdeal.τ).loc Cert.MobaIdeal.main_arg0) = m ((c.tc : Thread Cert.MobaIdeal.nD Cert.MobaIdeal.τ).loc Cert.MobaIdeal.main_arg0)
      ∧ r.2.mem ((c.tc : Thread Cert.MobaIdeal.nD Cert.MobaIdeal.τ).loc Cert.MobaIdeal.main_arg1) = m ((c.tc : Thread Cert.MobaIdeal.nD Cert.MobaIdeal.τ).loc Cert.MobaIdeal.main_arg1)
      ∧ r.2.mem ((c.tc : Thread Cert.MobaIdeal.nD Cert.MobaIdeal.τ).loc Cert.MobaIdeal.main_arg2) = m ((c.tc : Thread Cert.MobaIdeal.nD Cert.MobaIdeal.τ).loc Cert.MobaIdeal.main_arg2))
      ∧ r.2.sem = fun _ => 0)

def preserves_MlpUp_MlpUpIdeal : Prop :=
  True

def algebraic_MlpUpIdeal_MlpUpRefIdeal [hMlpUpIdeal : Cert.MlpUpIdeal.Facts] [hMlpUpRefIdeal : Cert.MlpUpRefIdeal.Facts] : Prop :=
  ∀ (m : (ℓ : Loc Cert.MlpUpIdeal.nD Cert.MlpUpIdeal.τ Cert.MlpUpIdeal.sig) → Buf (Elt Ideal) ℓ) (g : Dev Cert.MlpUpIdeal.nD → PrngReg)
    (m' : (ℓ : Loc Cert.MlpUpRefIdeal.nD Cert.MlpUpRefIdeal.τ Cert.MlpUpRefIdeal.sig) → Buf (Elt Ideal) ℓ) (g' : Dev Cert.MlpUpRefIdeal.nD → PrngReg), Pre_MlpUpIdeal m →
    (∀ c : Dev Cert.MlpUpIdeal.nD,
      m' ((c.tc : Thread Cert.MlpUpRefIdeal.nD Cert.MlpUpRefIdeal.τ).loc Cert.MlpUpRefIdeal.main_arg0) = m ((c.tc : Thread Cert.MlpUpIdeal.nD Cert.MlpUpIdeal.τ).loc Cert.MlpUpIdeal.main_arg0)
      ∧ m' ((c.tc : Thread Cert.MlpUpRefIdeal.nD Cert.MlpUpRefIdeal.τ).loc Cert.MlpUpRefIdeal.main_arg1) = m ((c.tc : Thread Cert.MlpUpIdeal.nD Cert.MlpUpIdeal.τ).loc Cert.MlpUpIdeal.main_arg1)
      ∧ m' ((c.tc : Thread Cert.MlpUpRefIdeal.nD Cert.MlpUpRefIdeal.τ).loc Cert.MlpUpRefIdeal.main_arg2) = m ((c.tc : Thread Cert.MlpUpIdeal.nD Cert.MlpUpIdeal.τ).loc Cert.MlpUpIdeal.main_arg2)) →
    ∃ (v0 : (c : Dev Cert.MlpUpIdeal.nD) → Buf (Elt Ideal) ((c.tc : Thread Cert.MlpUpIdeal.nD Cert.MlpUpIdeal.τ).loc Cert.MlpUpIdeal.main_v4)),
      θ_run (Cert.MlpUpIdeal.defs (F := Ideal)) (onTc (τ := Cert.MlpUpIdeal.τ) (Cert.MlpUpIdeal.main (F := Ideal))) ⟨m, fun _ => 0, g⟩ (fun r => ∀ c : Dev Cert.MlpUpIdeal.nD,
          r.2.mem ((c.tc : Thread Cert.MlpUpIdeal.nD Cert.MlpUpIdeal.τ).loc Cert.MlpUpIdeal.main_v4) = v0 c
          ∧ r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
          ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1)
          ∧ r.2.mem ((c.tc : Thread Cert.MlpUpIdeal.nD Cert.MlpUpIdeal.τ).loc Cert.MlpUpIdeal.main_arg2) = m ((c.tc : Thread Cert.MlpUpIdeal.nD Cert.MlpUpIdeal.τ).loc Cert.MlpUpIdeal.main_arg2))
      ∧ θ_run (Cert.MlpUpRefIdeal.defs (F := Ideal)) (onTc (τ := Cert.MlpUpRefIdeal.τ) (Cert.MlpUpRefIdeal.main (F := Ideal))) ⟨m', fun _ => 0, g'⟩ (fun r => ∀ c : Dev Cert.MlpUpRefIdeal.nD,
          r.2.mem ((c.tc : Thread Cert.MlpUpRefIdeal.nD Cert.MlpUpRefIdeal.τ).loc Cert.MlpUpRefIdeal.main_v17) = v0 c
          ∧ r.2.mem ((c.tc : Thread Cert.MlpUpRefIdeal.nD Cert.MlpUpRefIdeal.τ).loc Cert.MlpUpRefIdeal.main_arg0) = m' ((c.tc : Thread Cert.MlpUpRefIdeal.nD Cert.MlpUpRefIdeal.τ).loc Cert.MlpUpRefIdeal.main_arg0)
          ∧ r.2.mem ((c.tc : Thread Cert.MlpUpRefIdeal.nD Cert.MlpUpRefIdeal.τ).loc Cert.MlpUpRefIdeal.main_arg1) = m' ((c.tc : Thread Cert.MlpUpRefIdeal.nD Cert.MlpUpRefIdeal.τ).loc Cert.MlpUpRefIdeal.main_arg1)
          ∧ r.2.mem ((c.tc : Thread Cert.MlpUpRefIdeal.nD Cert.MlpUpRefIdeal.τ).loc Cert.MlpUpRefIdeal.main_arg2) = m' ((c.tc : Thread Cert.MlpUpRefIdeal.nD Cert.MlpUpRefIdeal.τ).loc Cert.MlpUpRefIdeal.main_arg2))

def preserves_MlpDown_MlpDownIdeal : Prop :=
  True

def algebraic_MlpDownIdeal_MlpDownRefIdeal [hMlpDownIdeal : Cert.MlpDownIdeal.Facts] [hMlpDownRefIdeal : Cert.MlpDownRefIdeal.Facts] : Prop :=
  ∀ (m : (ℓ : Loc Cert.MlpDownIdeal.nD Cert.MlpDownIdeal.τ Cert.MlpDownIdeal.sig) → Buf (Elt Ideal) ℓ) (g : Dev Cert.MlpDownIdeal.nD → PrngReg)
    (m' : (ℓ : Loc Cert.MlpDownRefIdeal.nD Cert.MlpDownRefIdeal.τ Cert.MlpDownRefIdeal.sig) → Buf (Elt Ideal) ℓ) (g' : Dev Cert.MlpDownRefIdeal.nD → PrngReg), Pre_MlpDownIdeal m →
    (∀ c : Dev Cert.MlpDownIdeal.nD,
      m' ((c.tc : Thread Cert.MlpDownRefIdeal.nD Cert.MlpDownRefIdeal.τ).loc Cert.MlpDownRefIdeal.main_arg0) = m ((c.tc : Thread Cert.MlpDownIdeal.nD Cert.MlpDownIdeal.τ).loc Cert.MlpDownIdeal.main_arg0)
      ∧ m' ((c.tc : Thread Cert.MlpDownRefIdeal.nD Cert.MlpDownRefIdeal.τ).loc Cert.MlpDownRefIdeal.main_arg1) = m ((c.tc : Thread Cert.MlpDownIdeal.nD Cert.MlpDownIdeal.τ).loc Cert.MlpDownIdeal.main_arg1)
      ∧ m' ((c.tc : Thread Cert.MlpDownRefIdeal.nD Cert.MlpDownRefIdeal.τ).loc Cert.MlpDownRefIdeal.main_arg2) = m ((c.tc : Thread Cert.MlpDownIdeal.nD Cert.MlpDownIdeal.τ).loc Cert.MlpDownIdeal.main_arg2)
      ∧ m' ((c.tc : Thread Cert.MlpDownRefIdeal.nD Cert.MlpDownRefIdeal.τ).loc Cert.MlpDownRefIdeal.main_arg3) = m ((c.tc : Thread Cert.MlpDownIdeal.nD Cert.MlpDownIdeal.τ).loc Cert.MlpDownIdeal.main_arg3)) →
    ∃ (v0 : (c : Dev Cert.MlpDownIdeal.nD) → Buf (Elt Ideal) ((c.tc : Thread Cert.MlpDownIdeal.nD Cert.MlpDownIdeal.τ).loc Cert.MlpDownIdeal.main_v3)),
      θ_run (Cert.MlpDownIdeal.defs (F := Ideal)) (onTc (τ := Cert.MlpDownIdeal.τ) (Cert.MlpDownIdeal.main (F := Ideal))) ⟨m, fun _ => 0, g⟩ (fun r => ∀ c : Dev Cert.MlpDownIdeal.nD,
          r.2.mem ((c.tc : Thread Cert.MlpDownIdeal.nD Cert.MlpDownIdeal.τ).loc Cert.MlpDownIdeal.main_v3) = v0 c
          ∧ r.2.mem ((c.tc : Thread Cert.MlpDownIdeal.nD Cert.MlpDownIdeal.τ).loc Cert.MlpDownIdeal.main_arg0) = m ((c.tc : Thread Cert.MlpDownIdeal.nD Cert.MlpDownIdeal.τ).loc Cert.MlpDownIdeal.main_arg0)
          ∧ r.2.mem ((c.tc : Thread Cert.MlpDownIdeal.nD Cert.MlpDownIdeal.τ).loc Cert.MlpDownIdeal.main_arg1) = m ((c.tc : Thread Cert.MlpDownIdeal.nD Cert.MlpDownIdeal.τ).loc Cert.MlpDownIdeal.main_arg1)
          ∧ r.2.mem ((c.tc : Thread Cert.MlpDownIdeal.nD Cert.MlpDownIdeal.τ).loc Cert.MlpDownIdeal.main_arg2) = m ((c.tc : Thread Cert.MlpDownIdeal.nD Cert.MlpDownIdeal.τ).loc Cert.MlpDownIdeal.main_arg2)
          ∧ r.2.mem ((c.tc : Thread Cert.MlpDownIdeal.nD Cert.MlpDownIdeal.τ).loc Cert.MlpDownIdeal.main_arg3) = m ((c.tc : Thread Cert.MlpDownIdeal.nD Cert.MlpDownIdeal.τ).loc Cert.MlpDownIdeal.main_arg3))
      ∧ θ_run (Cert.MlpDownRefIdeal.defs (F := Ideal)) (onTc (τ := Cert.MlpDownRefIdeal.τ) (Cert.MlpDownRefIdeal.main (F := Ideal))) ⟨m', fun _ => 0, g'⟩ (fun r => ∀ c : Dev Cert.MlpDownRefIdeal.nD,
          r.2.mem ((c.tc : Thread Cert.MlpDownRefIdeal.nD Cert.MlpDownRefIdeal.τ).loc Cert.MlpDownRefIdeal.main_v14) = v0 c
          ∧ r.2.mem ((c.tc : Thread Cert.MlpDownRefIdeal.nD Cert.MlpDownRefIdeal.τ).loc Cert.MlpDownRefIdeal.main_arg0) = m' ((c.tc : Thread Cert.MlpDownRefIdeal.nD Cert.MlpDownRefIdeal.τ).loc Cert.MlpDownRefIdeal.main_arg0)
          ∧ r.2.mem ((c.tc : Thread Cert.MlpDownRefIdeal.nD Cert.MlpDownRefIdeal.τ).loc Cert.MlpDownRefIdeal.main_arg1) = m' ((c.tc : Thread Cert.MlpDownRefIdeal.nD Cert.MlpDownRefIdeal.τ).loc Cert.MlpDownRefIdeal.main_arg1)
          ∧ r.2.mem ((c.tc : Thread Cert.MlpDownRefIdeal.nD Cert.MlpDownRefIdeal.τ).loc Cert.MlpDownRefIdeal.main_arg2) = m' ((c.tc : Thread Cert.MlpDownRefIdeal.nD Cert.MlpDownRefIdeal.τ).loc Cert.MlpDownRefIdeal.main_arg2)
          ∧ r.2.mem ((c.tc : Thread Cert.MlpDownRefIdeal.nD Cert.MlpDownRefIdeal.τ).loc Cert.MlpDownRefIdeal.main_arg3) = m' ((c.tc : Thread Cert.MlpDownRefIdeal.nD Cert.MlpDownRefIdeal.τ).loc Cert.MlpDownRefIdeal.main_arg3))

def preserves_InMoba_InMobaIdeal : Prop :=
  True

def algebraic_InMobaIdeal_InMobaRefIdeal [hInMobaIdeal : Cert.InMobaIdeal.Facts] [hInMobaRefIdeal : Cert.InMobaRefIdeal.Facts] : Prop :=
  ∀ (m : (ℓ : Loc Cert.InMobaIdeal.nD Cert.InMobaIdeal.τ Cert.InMobaIdeal.sig) → Buf (Elt Ideal) ℓ) (g : Dev Cert.InMobaIdeal.nD → PrngReg)
    (m' : (ℓ : Loc Cert.InMobaRefIdeal.nD Cert.InMobaRefIdeal.τ Cert.InMobaRefIdeal.sig) → Buf (Elt Ideal) ℓ) (g' : Dev Cert.InMobaRefIdeal.nD → PrngReg), Pre_InMobaIdeal m →
    (∀ c : Dev Cert.InMobaIdeal.nD,
      m' ((c.tc : Thread Cert.InMobaRefIdeal.nD Cert.InMobaRefIdeal.τ).loc Cert.InMobaRefIdeal.main_arg0) = m ((c.tc : Thread Cert.InMobaIdeal.nD Cert.InMobaIdeal.τ).loc Cert.InMobaIdeal.main_arg0)
      ∧ m' ((c.tc : Thread Cert.InMobaRefIdeal.nD Cert.InMobaRefIdeal.τ).loc Cert.InMobaRefIdeal.main_arg1) = m ((c.tc : Thread Cert.InMobaIdeal.nD Cert.InMobaIdeal.τ).loc Cert.InMobaIdeal.main_arg1)
      ∧ m' ((c.tc : Thread Cert.InMobaRefIdeal.nD Cert.InMobaRefIdeal.τ).loc Cert.InMobaRefIdeal.main_arg2) = m ((c.tc : Thread Cert.InMobaIdeal.nD Cert.InMobaIdeal.τ).loc Cert.InMobaIdeal.main_arg2)) →
    ∃ (v0 : (c : Dev Cert.InMobaIdeal.nD) → Buf (Elt Ideal) ((c.tc : Thread Cert.InMobaIdeal.nD Cert.InMobaIdeal.τ).loc Cert.InMobaIdeal.main_v7)),
      θ_run (Cert.InMobaIdeal.defs (F := Ideal)) (onTc (τ := Cert.InMobaIdeal.τ) (Cert.InMobaIdeal.main (F := Ideal))) ⟨m, fun _ => 0, g⟩ (fun r => ∀ c : Dev Cert.InMobaIdeal.nD,
          r.2.mem ((c.tc : Thread Cert.InMobaIdeal.nD Cert.InMobaIdeal.τ).loc Cert.InMobaIdeal.main_v7) = v0 c
          ∧ r.2.mem ((c.tc : Thread Cert.InMobaIdeal.nD Cert.InMobaIdeal.τ).loc Cert.InMobaIdeal.main_arg0) = m ((c.tc : Thread Cert.InMobaIdeal.nD Cert.InMobaIdeal.τ).loc Cert.InMobaIdeal.main_arg0)
          ∧ r.2.mem ((c.tc : Thread Cert.InMobaIdeal.nD Cert.InMobaIdeal.τ).loc Cert.InMobaIdeal.main_arg1) = m ((c.tc : Thread Cert.InMobaIdeal.nD Cert.InMobaIdeal.τ).loc Cert.InMobaIdeal.main_arg1)
          ∧ r.2.mem ((c.tc : Thread Cert.InMobaIdeal.nD Cert.InMobaIdeal.τ).loc Cert.InMobaIdeal.main_arg2) = m ((c.tc : Thread Cert.InMobaIdeal.nD Cert.InMobaIdeal.τ).loc Cert.InMobaIdeal.main_arg2))
      ∧ θ_run (Cert.InMobaRefIdeal.defs (F := Ideal)) (onTc (τ := Cert.InMobaRefIdeal.τ) (Cert.InMobaRefIdeal.main (F := Ideal))) ⟨m', fun _ => 0, g'⟩ (fun r => ∀ c : Dev Cert.InMobaRefIdeal.nD,
          r.2.mem ((c.tc : Thread Cert.InMobaRefIdeal.nD Cert.InMobaRefIdeal.τ).loc Cert.InMobaRefIdeal.main_v20) = v0 c
          ∧ r.2.mem ((c.tc : Thread Cert.InMobaRefIdeal.nD Cert.InMobaRefIdeal.τ).loc Cert.InMobaRefIdeal.main_arg0) = m' ((c.tc : Thread Cert.InMobaRefIdeal.nD Cert.InMobaRefIdeal.τ).loc Cert.InMobaRefIdeal.main_arg0)
          ∧ r.2.mem ((c.tc : Thread Cert.InMobaRefIdeal.nD Cert.InMobaRefIdeal.τ).loc Cert.InMobaRefIdeal.main_arg1) = m' ((c.tc : Thread Cert.InMobaRefIdeal.nD Cert.InMobaRefIdeal.τ).loc Cert.InMobaRefIdeal.main_arg1)
          ∧ r.2.mem ((c.tc : Thread Cert.InMobaRefIdeal.nD Cert.InMobaRefIdeal.τ).loc Cert.InMobaRefIdeal.main_arg2) = m' ((c.tc : Thread Cert.InMobaRefIdeal.nD Cert.InMobaRefIdeal.τ).loc Cert.InMobaRefIdeal.main_arg2))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)) →
    ∃ (v0 : (c : Dev Cert.OutProjIdeal.nD) → Buf (Elt Ideal) ((c.tc : Thread Cert.OutProjIdeal.nD Cert.OutProjIdeal.τ).loc Cert.OutProjIdeal.main_v4)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v4) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v15) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4))

def preserves_InGdn_InGdnIdeal : Prop :=
  True

def algebraic_InGdnIdeal_InGdnRefIdeal [hInGdnIdeal : Cert.InGdnIdeal.Facts] [hInGdnRefIdeal : Cert.InGdnRefIdeal.Facts] : Prop :=
  ∀ (m : (ℓ : Loc Cert.InGdnIdeal.nD Cert.InGdnIdeal.τ Cert.InGdnIdeal.sig) → Buf (Elt Ideal) ℓ) (g : Dev Cert.InGdnIdeal.nD → PrngReg)
    (m' : (ℓ : Loc Cert.InGdnRefIdeal.nD Cert.InGdnRefIdeal.τ Cert.InGdnRefIdeal.sig) → Buf (Elt Ideal) ℓ) (g' : Dev Cert.InGdnRefIdeal.nD → PrngReg), Pre_InGdnIdeal m →
    (∀ c : Dev Cert.InGdnIdeal.nD,
      m' ((c.tc : Thread Cert.InGdnRefIdeal.nD Cert.InGdnRefIdeal.τ).loc Cert.InGdnRefIdeal.main_arg0) = m ((c.tc : Thread Cert.InGdnIdeal.nD Cert.InGdnIdeal.τ).loc Cert.InGdnIdeal.main_arg0)
      ∧ m' ((c.tc : Thread Cert.InGdnRefIdeal.nD Cert.InGdnRefIdeal.τ).loc Cert.InGdnRefIdeal.main_arg1) = m ((c.tc : Thread Cert.InGdnIdeal.nD Cert.InGdnIdeal.τ).loc Cert.InGdnIdeal.main_arg1)
      ∧ m' ((c.tc : Thread Cert.InGdnRefIdeal.nD Cert.InGdnRefIdeal.τ).loc Cert.InGdnRefIdeal.main_arg2) = m ((c.tc : Thread Cert.InGdnIdeal.nD Cert.InGdnIdeal.τ).loc Cert.InGdnIdeal.main_arg2)) →
    ∃ (v0 : (c : Dev Cert.InGdnIdeal.nD) → Buf (Elt Ideal) ((c.tc : Thread Cert.InGdnIdeal.nD Cert.InGdnIdeal.τ).loc Cert.InGdnIdeal.main_v8_0)) (v1 : (c : Dev Cert.InGdnIdeal.nD) → Buf (Elt Ideal) ((c.tc : Thread Cert.InGdnIdeal.nD Cert.InGdnIdeal.τ).loc Cert.InGdnIdeal.main_v8_1)),
      θ_run (Cert.InGdnIdeal.defs (F := Ideal)) (onTc (τ := Cert.InGdnIdeal.τ) (Cert.InGdnIdeal.main (F := Ideal))) ⟨m, fun _ => 0, g⟩ (fun r => ∀ c : Dev Cert.InGdnIdeal.nD,
          r.2.mem ((c.tc : Thread Cert.InGdnIdeal.nD Cert.InGdnIdeal.τ).loc Cert.InGdnIdeal.main_v8_0) = v0 c
          ∧ r.2.mem ((c.tc : Thread Cert.InGdnIdeal.nD Cert.InGdnIdeal.τ).loc Cert.InGdnIdeal.main_v8_1) = v1 c
          ∧ r.2.mem ((c.tc : Thread Cert.InGdnIdeal.nD Cert.InGdnIdeal.τ).loc Cert.InGdnIdeal.main_arg0) = m ((c.tc : Thread Cert.InGdnIdeal.nD Cert.InGdnIdeal.τ).loc Cert.InGdnIdeal.main_arg0)
          ∧ r.2.mem ((c.tc : Thread Cert.InGdnIdeal.nD Cert.InGdnIdeal.τ).loc Cert.InGdnIdeal.main_arg1) = m ((c.tc : Thread Cert.InGdnIdeal.nD Cert.InGdnIdeal.τ).loc Cert.InGdnIdeal.main_arg1)
          ∧ r.2.mem ((c.tc : Thread Cert.InGdnIdeal.nD Cert.InGdnIdeal.τ).loc Cert.InGdnIdeal.main_arg2) = m ((c.tc : Thread Cert.InGdnIdeal.nD Cert.InGdnIdeal.τ).loc Cert.InGdnIdeal.main_arg2))
      ∧ θ_run (Cert.InGdnRefIdeal.defs (F := Ideal)) (onTc (τ := Cert.InGdnRefIdeal.τ) (Cert.InGdnRefIdeal.main (F := Ideal))) ⟨m', fun _ => 0, g'⟩ (fun r => ∀ c : Dev Cert.InGdnRefIdeal.nD,
          r.2.mem ((c.tc : Thread Cert.InGdnRefIdeal.nD Cert.InGdnRefIdeal.τ).loc Cert.InGdnRefIdeal.main_v14) = v0 c
          ∧ r.2.mem ((c.tc : Thread Cert.InGdnRefIdeal.nD Cert.InGdnRefIdeal.τ).loc Cert.InGdnRefIdeal.main_v16) = v1 c
          ∧ r.2.mem ((c.tc : Thread Cert.InGdnRefIdeal.nD Cert.InGdnRefIdeal.τ).loc Cert.InGdnRefIdeal.main_arg0) = m' ((c.tc : Thread Cert.InGdnRefIdeal.nD Cert.InGdnRefIdeal.τ).loc Cert.InGdnRefIdeal.main_arg0)
          ∧ r.2.mem ((c.tc : Thread Cert.InGdnRefIdeal.nD Cert.InGdnRefIdeal.τ).loc Cert.InGdnRefIdeal.main_arg1) = m' ((c.tc : Thread Cert.InGdnRefIdeal.nD Cert.InGdnRefIdeal.τ).loc Cert.InGdnRefIdeal.main_arg1)
          ∧ r.2.mem ((c.tc : Thread Cert.InGdnRefIdeal.nD Cert.InGdnRefIdeal.τ).loc Cert.InGdnRefIdeal.main_arg2) = m' ((c.tc : Thread Cert.InGdnRefIdeal.nD Cert.InGdnRefIdeal.τ).loc Cert.InGdnRefIdeal.main_arg2))

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)
      ∧ m' ((c.tc : Thread Cert.MemKvRefIdeal.nD Cert.MemKvRefIdeal.τ).loc Cert.MemKvRefIdeal.main_arg2) = m ((c.tc : Thread Cert.MemKvIdeal.nD Cert.MemKvIdeal.τ).loc Cert.MemKvIdeal.main_arg2)
      ∧ m' ((c.tc : Thread Cert.MemKvRefIdeal.nD Cert.MemKvRefIdeal.τ).loc Cert.MemKvRefIdeal.main_arg3) = m ((c.tc : Thread Cert.MemKvIdeal.nD Cert.MemKvIdeal.τ).loc Cert.MemKvIdeal.main_arg3)) →
    ∃ (v0 : (c : Dev Cert.MemKvIdeal.nD) → Buf (Elt Ideal) ((c.tc : Thread Cert.MemKvIdeal.nD Cert.MemKvIdeal.τ).loc Cert.MemKvIdeal.main_v6)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v6) = v0 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
          ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2)
          ∧ r.2.mem ((c.tc : Thread Cert.MemKvIdeal.nD Cert.MemKvIdeal.τ).loc Cert.MemKvIdeal.main_arg3) = m ((c.tc : Thread Cert.MemKvIdeal.nD Cert.MemKvIdeal.τ).loc Cert.MemKvIdeal.main_arg3))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v17) = v0 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1)
          ∧ r.2.mem ((c.tc : Thread Cert.MemKvRefIdeal.nD Cert.MemKvRefIdeal.τ).loc Cert.MemKvRefIdeal.main_arg2) = m' ((c.tc : Thread Cert.MemKvRefIdeal.nD Cert.MemKvRefIdeal.τ).loc Cert.MemKvRefIdeal.main_arg2)
          ∧ r.2.mem ((c.tc : Thread Cert.MemKvRefIdeal.nD Cert.MemKvRefIdeal.τ).loc Cert.MemKvRefIdeal.main_arg3) = m' ((c.tc : Thread Cert.MemKvRefIdeal.nD Cert.MemKvRefIdeal.τ).loc Cert.MemKvRefIdeal.main_arg3))

def preserves_MemAttn_MemAttnIdeal : Prop :=
  True

def algebraic_MemAttnIdeal_MemAttnRefIdeal [hMemAttnIdeal : Cert.MemAttnIdeal.Facts] [hMemAttnRefIdeal : Cert.MemAttnRefIdeal.Facts] : Prop :=
  ∀ (m : (ℓ : Loc Cert.MemAttnIdeal.nD Cert.MemAttnIdeal.τ Cert.MemAttnIdeal.sig) → Buf (Elt Ideal) ℓ) (g : Dev Cert.MemAttnIdeal.nD → PrngReg)
    (m' : (ℓ : Loc Cert.MemAttnRefIdeal.nD Cert.MemAttnRefIdeal.τ Cert.MemAttnRefIdeal.sig) → Buf (Elt Ideal) ℓ) (g' : Dev Cert.MemAttnRefIdeal.nD → PrngReg), Pre_MemAttnIdeal m →
    (∀ c : Dev Cert.MemAttnIdeal.nD,
      m' ((c.tc : Thread Cert.MemAttnRefIdeal.nD Cert.MemAttnRefIdeal.τ).loc Cert.MemAttnRefIdeal.main_arg0) = m ((c.tc : Thread Cert.MemAttnIdeal.nD Cert.MemAttnIdeal.τ).loc Cert.MemAttnIdeal.main_arg0)
      ∧ m' ((c.tc : Thread Cert.MemAttnRefIdeal.nD Cert.MemAttnRefIdeal.τ).loc Cert.MemAttnRefIdeal.main_arg1) = m ((c.tc : Thread Cert.MemAttnIdeal.nD Cert.MemAttnIdeal.τ).loc Cert.MemAttnIdeal.main_arg1)
      ∧ m' ((c.tc : Thread Cert.MemAttnRefIdeal.nD Cert.MemAttnRefIdeal.τ).loc Cert.MemAttnRefIdeal.main_arg2) = m ((c.tc : Thread Cert.MemAttnIdeal.nD Cert.MemAttnIdeal.τ).loc Cert.MemAttnIdeal.main_arg2)
      ∧ m' ((c.tc : Thread Cert.MemAttnRefIdeal.nD Cert.MemAttnRefIdeal.τ).loc Cert.MemAttnRefIdeal.main_arg3) = m ((c.tc : Thread Cert.MemAttnIdeal.nD Cert.MemAttnIdeal.τ).loc Cert.MemAttnIdeal.main_arg3)
      ∧ m' ((c.tc : Thread Cert.MemAttnRefIdeal.nD Cert.MemAttnRefIdeal.τ).loc Cert.MemAttnRefIdeal.main_arg4) = m ((c.tc : Thread Cert.MemAttnIdeal.nD Cert.MemAttnIdeal.τ).loc Cert.MemAttnIdeal.main_arg4)
      ∧ m' ((c.tc : Thread Cert.MemAttnRefIdeal.nD Cert.MemAttnRefIdeal.τ).loc Cert.MemAttnRefIdeal.main_arg5) = m ((c.tc : Thread Cert.MemAttnIdeal.nD Cert.MemAttnIdeal.τ).loc Cert.MemAttnIdeal.main_arg5)
      ∧ m' ((c.tc : Thread Cert.MemAttnRefIdeal.nD Cert.MemAttnRefIdeal.τ).loc Cert.MemAttnRefIdeal.main_arg6) = m ((c.tc : Thread Cert.MemAttnIdeal.nD Cert.MemAttnIdeal.τ).loc Cert.MemAttnIdeal.main_arg6)) →
    ∃ (v0 : (c : Dev Cert.MemAttnIdeal.nD) → Buf (Elt Ideal) ((c.tc : Thread Cert.MemAttnIdeal.nD Cert.MemAttnIdeal.τ).loc Cert.MemAttnIdeal.main_v7)),
      θ_run (Cert.MemAttnIdeal.defs (F := Ideal)) (onTc (τ := Cert.MemAttnIdeal.τ) (Cert.MemAttnIdeal.main (F := Ideal))) ⟨m, fun _ => 0, g⟩ (fun r => ∀ c : Dev Cert.MemAttnIdeal.nD,
          r.2.mem ((c.tc : Thread Cert.MemAttnIdeal.nD Cert.MemAttnIdeal.τ).loc Cert.MemAttnIdeal.main_v7) = v0 c
          ∧ r.2.mem ((c.tc : Thread Cert.MemAttnIdeal.nD Cert.MemAttnIdeal.τ).loc Cert.MemAttnIdeal.main_arg0) = m ((c.tc : Thread Cert.MemAttnIdeal.nD Cert.MemAttnIdeal.τ).loc Cert.MemAttnIdeal.main_arg0)
          ∧ r.2.mem ((c.tc : Thread Cert.MemAttnIdeal.nD Cert.MemAttnIdeal.τ).loc Cert.MemAttnIdeal.main_arg1) = m ((c.tc : Thread Cert.MemAttnIdeal.nD Cert.MemAttnIdeal.τ).loc Cert.MemAttnIdeal.main_arg1)
          ∧ r.2.mem ((c.tc : Thread Cert.MemAttnIdeal.nD Cert.MemAttnIdeal.τ).loc Cert.MemAttnIdeal.main_arg2) = m ((c.tc : Thread Cert.MemAttnIdeal.nD Cert.MemAttnIdeal.τ).loc Cert.MemAttnIdeal.main_arg2)
          ∧ r.2.mem ((c.tc : Thread Cert.MemAttnIdeal.nD Cert.MemAttnIdeal.τ).loc Cert.MemAttnIdeal.main_arg3) = m ((c.tc : Thread Cert.MemAttnIdeal.nD Cert.MemAttnIdeal.τ).loc Cert.MemAttnIdeal.main_arg3)
          ∧ r.2.mem ((c.tc : Thread Cert.MemAttnIdeal.nD Cert.MemAttnIdeal.τ).loc Cert.MemAttnIdeal.main_arg4) = m ((c.tc : Thread Cert.MemAttnIdeal.nD Cert.MemAttnIdeal.τ).loc Cert.MemAttnIdeal.main_arg4)
          ∧ r.2.mem ((c.tc : Thread Cert.MemAttnIdeal.nD Cert.MemAttnIdeal.τ).loc Cert.MemAttnIdeal.main_arg5) = m ((c.tc : Thread Cert.MemAttnIdeal.nD Cert.MemAttnIdeal.τ).loc Cert.MemAttnIdeal.main_arg5)
          ∧ r.2.mem ((c.tc : Thread Cert.MemAttnIdeal.nD Cert.MemAttnIdeal.τ).loc Cert.MemAttnIdeal.main_arg6) = m ((c.tc : Thread Cert.MemAttnIdeal.nD Cert.MemAttnIdeal.τ).loc Cert.MemAttnIdeal.main_arg6))
      ∧ θ_run (Cert.MemAttnRefIdeal.defs (F := Ideal)) (onTc (τ := Cert.MemAttnRefIdeal.τ) (Cert.MemAttnRefIdeal.main (F := Ideal))) ⟨m', fun _ => 0, g'⟩ (fun r => ∀ c : Dev Cert.MemAttnRefIdeal.nD,
          r.2.mem ((c.tc : Thread Cert.MemAttnRefIdeal.nD Cert.MemAttnRefIdeal.τ).loc Cert.MemAttnRefIdeal.main_v49) = v0 c
          ∧ r.2.mem ((c.tc : Thread Cert.MemAttnRefIdeal.nD Cert.MemAttnRefIdeal.τ).loc Cert.MemAttnRefIdeal.main_arg0) = m' ((c.tc : Thread Cert.MemAttnRefIdeal.nD Cert.MemAttnRefIdeal.τ).loc Cert.MemAttnRefIdeal.main_arg0)
          ∧ r.2.mem ((c.tc : Thread Cert.MemAttnRefIdeal.nD Cert.MemAttnRefIdeal.τ).loc Cert.MemAttnRefIdeal.main_arg1) = m' ((c.tc : Thread Cert.MemAttnRefIdeal.nD Cert.MemAttnRefIdeal.τ).loc Cert.MemAttnRefIdeal.main_arg1)
          ∧ r.2.mem ((c.tc : Thread Cert.MemAttnRefIdeal.nD Cert.MemAttnRefIdeal.τ).loc Cert.MemAttnRefIdeal.main_arg2) = m' ((c.tc : Thread Cert.MemAttnRefIdeal.nD Cert.MemAttnRefIdeal.τ).loc Cert.MemAttnRefIdeal.main_arg2)
          ∧ r.2.mem ((c.tc : Thread Cert.MemAttnRefIdeal.nD Cert.MemAttnRefIdeal.τ).loc Cert.MemAttnRefIdeal.main_arg3) = m' ((c.tc : Thread Cert.MemAttnRefIdeal.nD Cert.MemAttnRefIdeal.τ).loc Cert.MemAttnRefIdeal.main_arg3)
          ∧ r.2.mem ((c.tc : Thread Cert.MemAttnRefIdeal.nD Cert.MemAttnRefIdeal.τ).loc Cert.MemAttnRefIdeal.main_arg4) = m' ((c.tc : Thread Cert.MemAttnRefIdeal.nD Cert.MemAttnRefIdeal.τ).loc Cert.MemAttnRefIdeal.main_arg4)
          ∧ r.2.mem ((c.tc : Thread Cert.MemAttnRefIdeal.nD Cert.MemAttnRefIdeal.τ).loc Cert.MemAttnRefIdeal.main_arg5) = m' ((c.tc : Thread Cert.MemAttnRefIdeal.nD Cert.MemAttnRefIdeal.τ).loc Cert.MemAttnRefIdeal.main_arg5)
          ∧ r.2.mem ((c.tc : Thread Cert.MemAttnRefIdeal.nD Cert.MemAttnRefIdeal.τ).loc Cert.MemAttnRefIdeal.main_arg6) = m' ((c.tc : Thread Cert.MemAttnRefIdeal.nD Cert.MemAttnRefIdeal.τ).loc Cert.MemAttnRefIdeal.main_arg6))

def preserves_Gdn_GdnIdeal : Prop :=
  True

def preserves_Moba_MobaIdeal : Prop :=
  True

def Claim : Prop :=
  ∃ (hMlpUp : Cert.MlpUp.Facts) (hMlpUpIdeal : Cert.MlpUpIdeal.Facts) (hMlpUpRefIdeal : Cert.MlpUpRefIdeal.Facts) (hMlpDown : Cert.MlpDown.Facts) (hMlpDownIdeal : Cert.MlpDownIdeal.Facts) (hMlpDownRefIdeal : Cert.MlpDownRefIdeal.Facts) (hInMoba : Cert.InMoba.Facts) (hInMobaIdeal : Cert.InMobaIdeal.Facts) (hInMobaRefIdeal : Cert.InMobaRefIdeal.Facts) (hOutProj : Cert.OutProj.Facts) (hOutProjIdeal : Cert.OutProjIdeal.Facts) (hOutProjRefIdeal : Cert.OutProjRefIdeal.Facts) (hInGdn : Cert.InGdn.Facts) (hInGdnIdeal : Cert.InGdnIdeal.Facts) (hInGdnRefIdeal : Cert.InGdnRefIdeal.Facts) (hMemKv : Cert.MemKv.Facts) (hMemKvIdeal : Cert.MemKvIdeal.Facts) (hMemKvRefIdeal : Cert.MemKvRefIdeal.Facts) (hMemAttn : Cert.MemAttn.Facts) (hMemAttnIdeal : Cert.MemAttnIdeal.Facts) (hMemAttnRefIdeal : Cert.MemAttnRefIdeal.Facts) (hGdn : Cert.Gdn.Facts) (hGdnIdeal : Cert.GdnIdeal.Facts) (hMoba : Cert.Moba.Facts) (hMobaIdeal : Cert.MobaIdeal.Facts),
    quiescent_MlpUp (hMlpUp := hMlpUp)
    ∧ quiescent_MlpUpIdeal (hMlpUpIdeal := hMlpUpIdeal)
    ∧ quiescent_MlpUpRefIdeal (hMlpUpRefIdeal := hMlpUpRefIdeal)
    ∧ quiescent_MlpDown (hMlpDown := hMlpDown)
    ∧ quiescent_MlpDownIdeal (hMlpDownIdeal := hMlpDownIdeal)
    ∧ quiescent_MlpDownRefIdeal (hMlpDownRefIdeal := hMlpDownRefIdeal)
    ∧ quiescent_InMoba (hInMoba := hInMoba)
    ∧ quiescent_InMobaIdeal (hInMobaIdeal := hInMobaIdeal)
    ∧ quiescent_InMobaRefIdeal (hInMobaRefIdeal := hInMobaRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_InGdn (hInGdn := hInGdn)
    ∧ quiescent_InGdnIdeal (hInGdnIdeal := hInGdnIdeal)
    ∧ quiescent_InGdnRefIdeal (hInGdnRefIdeal := hInGdnRefIdeal)
    ∧ quiescent_MemKv (hMemKv := hMemKv)
    ∧ quiescent_MemKvIdeal (hMemKvIdeal := hMemKvIdeal)
    ∧ quiescent_MemKvRefIdeal (hMemKvRefIdeal := hMemKvRefIdeal)
    ∧ quiescent_MemAttn (hMemAttn := hMemAttn)
    ∧ quiescent_MemAttnIdeal (hMemAttnIdeal := hMemAttnIdeal)
    ∧ quiescent_MemAttnRefIdeal (hMemAttnRefIdeal := hMemAttnRefIdeal)
    ∧ quiescent_Gdn (hGdn := hGdn)
    ∧ quiescent_GdnIdeal (hGdnIdeal := hGdnIdeal)
    ∧ quiescent_Moba (hMoba := hMoba)
    ∧ quiescent_MobaIdeal (hMobaIdeal := hMobaIdeal)
    ∧ preserves_MlpUp_MlpUpIdeal
    ∧ algebraic_MlpUpIdeal_MlpUpRefIdeal (hMlpUpIdeal := hMlpUpIdeal) (hMlpUpRefIdeal := hMlpUpRefIdeal)
    ∧ preserves_MlpDown_MlpDownIdeal
    ∧ algebraic_MlpDownIdeal_MlpDownRefIdeal (hMlpDownIdeal := hMlpDownIdeal) (hMlpDownRefIdeal := hMlpDownRefIdeal)
    ∧ preserves_InMoba_InMobaIdeal
    ∧ algebraic_InMobaIdeal_InMobaRefIdeal (hInMobaIdeal := hInMobaIdeal) (hInMobaRefIdeal := hInMobaRefIdeal)
    ∧ preserves_OutProj_OutProjIdeal
    ∧ algebraic_OutProjIdeal_OutProjRefIdeal (hOutProjIdeal := hOutProjIdeal) (hOutProjRefIdeal := hOutProjRefIdeal)
    ∧ preserves_InGdn_InGdnIdeal
    ∧ algebraic_InGdnIdeal_InGdnRefIdeal (hInGdnIdeal := hInGdnIdeal) (hInGdnRefIdeal := hInGdnRefIdeal)
    ∧ preserves_MemKv_MemKvIdeal
    ∧ algebraic_MemKvIdeal_MemKvRefIdeal (hMemKvIdeal := hMemKvIdeal) (hMemKvRefIdeal := hMemKvRefIdeal)
    ∧ preserves_MemAttn_MemAttnIdeal
    ∧ algebraic_MemAttnIdeal_MemAttnRefIdeal (hMemAttnIdeal := hMemAttnIdeal) (hMemAttnRefIdeal := hMemAttnRefIdeal)
    ∧ preserves_Gdn_GdnIdeal
    ∧ preserves_Moba_MobaIdeal
-- ==== MlpUp.lean ====
abbrev S32768x2048 : Shape := ⟨2, ![32768, 2048]⟩
abbrev S2048 : Shape := ⟨1, ![2048]⟩
abbrev S2048x8192 : Shape := ⟨2, ![2048, 8192]⟩
abbrev S_ : Shape := ⟨0, ![]⟩
abbrev S8192 : Shape := ⟨1, ![8192]⟩
abbrev S1x2048 : Shape := ⟨2, ![1, 2048]⟩
abbrev S1x8192 : Shape := ⟨2, ![1, 8192]⟩
abbrev S32768x8192 : Shape := ⟨2, ![32768, 8192]⟩
abbrev S1024x2048 : Shape := ⟨2, ![1024, 2048]⟩
abbrev S2048x2048 : Shape := ⟨2, ![2048, 2048]⟩
abbrev S256x2048 : Shape := ⟨2, ![256, 2048]⟩
abbrev S256 : Shape := ⟨1, ![256]⟩
abbrev S256x1 : Shape := ⟨2, ![256, 1]⟩

abbrev nBuf : Space → Nat
  | .hbm => 9
  | .vmem => 10
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048x8192, .f32⟩
  | .hbm, ⟨3, _⟩ => ⟨S2048x8192, .bf16⟩
  | .hbm, ⟨4, _⟩ => ⟨S_, .f32⟩
  | .hbm, ⟨5, _⟩ => ⟨S8192, .f32⟩
  | .hbm, ⟨6, _⟩ => ⟨S1x2048, .f32⟩
  | .hbm, ⟨7, _⟩ => ⟨S1x8192, .f32⟩
  | .hbm, ⟨8, _⟩ => ⟨S32768x8192, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x2048, .bf16⟩
  | .local _ .vmem, ⟨4, _⟩ => ⟨S2048x2048, .bf16⟩
  | .local _ .vmem, ⟨5, _⟩ => ⟨S1x2048, .f32⟩
  | .local _ .vmem, ⟨6, _⟩ => ⟨S1x2048, .f32⟩
  | .local _ .vmem, ⟨7, _⟩ => ⟨S1024x2048, .bf16⟩
  | .local _ .vmem, ⟨8, _⟩ => ⟨S1024x2048, .bf16⟩
  | .local _ .vmem, ⟨9, _⟩ => ⟨S1024x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .ne arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== MlpUpRefIdeal.lean ====
abbrev S32768x2048 : Shape := ⟨2, ![32768, 2048]⟩
abbrev S2048 : Shape := ⟨1, ![2048]⟩
abbrev S2048x8192 : Shape := ⟨2, ![2048, 8192]⟩
abbrev S_ : Shape := ⟨0, ![]⟩
abbrev S32768 : Shape := ⟨1, ![32768]⟩
abbrev S32768x1 : Shape := ⟨2, ![32768, 1]⟩
abbrev S1x2048 : Shape := ⟨2, ![1, 2048]⟩
abbrev S32768x8192 : Shape := ⟨2, ![32768, 8192]⟩

abbrev nBuf : Space → Nat
  | .hbm => 25
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048x8192, .f32⟩
  | .hbm, ⟨3, _⟩ => ⟨S32768x2048, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x2048, .f32⟩
  | .hbm, ⟨15, _⟩ => ⟨S32768x2048, .f32⟩
  | .hbm, ⟨16, _⟩ => ⟨S1x2048, .f32⟩
  | .hbm, ⟨17, _⟩ => ⟨S32768x2048, .f32⟩
  | .hbm, ⟨18, _⟩ => ⟨S32768x2048, .f32⟩
  | .hbm, ⟨19, _⟩ => ⟨S32768x8192, .f32⟩
  | .hbm, ⟨20, _⟩ => ⟨S_, .f32⟩
  | .hbm, ⟨21, _⟩ => ⟨S32768x8192, .f32⟩
  | .hbm, ⟨22, _⟩ => ⟨S32768x8192, .f32⟩
  | .hbm, ⟨23, _⟩ => ⟨S32768x8192, .f32⟩
  | .hbm, ⟨24, _⟩ => ⟨S32768x8192, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== MlpDown.lean ====
abbrev S32768x8192 : Shape := ⟨2, ![32768, 8192]⟩
abbrev S8192x2048 : Shape := ⟨2, ![8192, 2048]⟩
abbrev S2048 : Shape := ⟨1, ![2048]⟩
abbrev S32768x2048 : Shape := ⟨2, ![32768, 2048]⟩
abbrev S1x2048 : Shape := ⟨2, ![1, 2048]⟩
abbrev S512x2048 : Shape := ⟨2, ![512, 2048]⟩
abbrev S2048x2048 : Shape := ⟨2, ![2048, 2048]⟩
abbrev S128x2048 : Shape := ⟨2, ![128, 2048]⟩
abbrev S128 : Shape := ⟨1, ![128]⟩
abbrev S128x1 : Shape := ⟨2, ![128, 1]⟩

abbrev nBuf : Space → Nat
  | .hbm => 8
  | .vmem => 10
  | .smem => 0
  | _ => 0

abbrev bufTy : (tb : Table) → Fin (tcTables nBuf tb) → BufTy
  | .hbm, ⟨0, _⟩ => ⟨S32768x8192, .f32⟩
  | .hbm, ⟨1, _⟩ => ⟨S8192x2048, .f32⟩
  | .hbm, ⟨2, _⟩ => ⟨S2048, .f32⟩
  | .hbm, ⟨3, _⟩ => ⟨S32768x2048, .f32⟩
  | .hbm, ⟨4, _⟩ => ⟨S32768x8192, .bf16⟩
  | .hbm, ⟨5, _⟩ => ⟨S8192x2048, .bf16⟩
  | .hbm, ⟨6, _⟩ => ⟨S1x2048, .f32⟩
  | .hbm, ⟨7, _⟩ => ⟨S32768x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S2048x2048, .bf16⟩
  | .local _ .vmem, ⟨4, _⟩ => ⟨S1x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | _, _ => ⟨S32768x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![64, 4], ![false, false]⟩

def k0_cond3 (i : grid0.Coords) : BitVec 1 :=
  let arg1 : BitVec 32 := BitVec.ofNat 32 (i 1).val
  let c3_i32_3 : BitVec 32 := 3#32
  let v8 : BitVec 1 := Scalar.cmpi .eq arg1 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== MlpDownRefIdeal.lean ====
abbrev S32768x8192 : Shape := ⟨2, ![32768, 8192]⟩
abbrev S8192x2048 : Shape := ⟨2, ![8192, 2048]⟩
abbrev S2048 : Shape := ⟨1, ![2048]⟩
abbrev S32768x2048 : Shape := ⟨2, ![32768, 2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩

abbrev nBuf : Space → Nat
  | .hbm => 22
  | .vmem => 0
  | .smem => 0
  | _ => 0

abbrev bufTy : (tb : Table) → Fin (tcTables nBuf tb) → BufTy
  | .hbm, ⟨0, _⟩ => ⟨S32768x8192, .f32⟩
  | .hbm, ⟨1, _⟩ => ⟨S8192x2048, .f32⟩
  | .hbm, ⟨2, _⟩ => ⟨S2048, .f32⟩
  | .hbm, ⟨3, _⟩ => ⟨S32768x2048, .f32⟩
  | .hbm, ⟨4, _⟩ => ⟨S32768x2048, .f32⟩
  | .hbm, ⟨5, _⟩ => ⟨S32768x2048, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x2048, .f32⟩
  | .hbm, ⟨17, _⟩ => ⟨S32768x2048, .f32⟩
  | .hbm, ⟨18, _⟩ => ⟨S1x2048, .f32⟩
  | .hbm, ⟨19, _⟩ => ⟨S32768x2048, .f32⟩
  | .hbm, ⟨20, _⟩ => ⟨S32768x2048, .f32⟩
  | .hbm, ⟨21, _⟩ => ⟨S32768x2048, .f32⟩
  | _, _ => ⟨S32768x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== InMoba.lean ====
abbrev S32768x2048 : Shape := ⟨2, ![32768, 2048]⟩
abbrev S2048 : Shape := ⟨1, ![2048]⟩
abbrev S2048x7184 : Shape := ⟨2, ![2048, 7184]⟩
abbrev S2048x3072 : Shape := ⟨2, ![2048, 3072]⟩
abbrev S_ : Shape := ⟨0, ![]⟩
abbrev S1024 : Shape := ⟨1, ![1024]⟩
abbrev S3072 : Shape := ⟨1, ![3072]⟩
abbrev S1x2048 : Shape := ⟨2, ![1, 2048]⟩
abbrev S1x3072 : Shape := ⟨2, ![1, 3072]⟩
abbrev S32768x3072 : Shape := ⟨2, ![32768, 3072]⟩
abbrev S1024x2048 : Shape := ⟨2, ![1024, 2048]⟩
abbrev S2048x1536 : Shape := ⟨2, ![2048, 1536]⟩
abbrev S1x1536 : Shape := ⟨2, ![1, 1536]⟩
abbrev S1024x1536 : Shape := ⟨2, ![1024, 1536]⟩
abbrev S256x2048 : Shape := ⟨2, ![256, 2048]⟩
abbrev S256 : Shape := ⟨1, ![256]⟩
abbrev S256x1 : Shape := ⟨2, ![256, 1]⟩
abbrev S256x1536 : Shape := ⟨2, ![256, 1536]⟩

abbrev nBuf : Space → Nat
  | .hbm => 13
  | .vmem => 10
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048x7184, .f32⟩
  | .hbm, ⟨3, _⟩ => ⟨S2048x3072, .f32⟩
  | .hbm, ⟨4, _⟩ => ⟨S2048x3072, .bf16⟩
  | .hbm, ⟨5, _⟩ => ⟨S_, .f32⟩
  | .hbm, ⟨6, _⟩ => ⟨S1024, .f32⟩
  | .hbm, ⟨7, _⟩ => ⟨S_, .f32⟩
  | .hbm, ⟨8, _⟩ => ⟨S2048, .f32⟩
  | .hbm, ⟨9, _⟩ => ⟨S3072, .f32⟩
  | .hbm, ⟨10, _⟩ => ⟨S1x2048, .f32⟩
  | .hbm, ⟨11, _⟩ => ⟨S1x3072, .f32⟩
  | .hbm, ⟨12, _⟩ => ⟨S32768x3072, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1536, .bf16⟩
  | .local _ .vmem, ⟨4, _⟩ => ⟨S2048x1536, .bf16⟩
  | .local _ .vmem, ⟨5, _⟩ => ⟨S1x1536, .f32⟩
  | .local _ .vmem, ⟨6, _⟩ => ⟨S1x1536, .f32⟩
  | .local _ .vmem, ⟨7, _⟩ => ⟨S1024x1536, .bf16⟩
  | .local _ .vmem, ⟨8, _⟩ => ⟨S1024x1536, .bf16⟩
  | .local _ .vmem, ⟨9, _⟩ => ⟨S1024x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 2], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .ne arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== InMobaRefIdeal.lean ====
abbrev S32768x2048 : Shape := ⟨2, ![32768, 2048]⟩
abbrev S2048 : Shape := ⟨1, ![2048]⟩
abbrev S2048x7184 : Shape := ⟨2, ![2048, 7184]⟩
abbrev S_ : Shape := ⟨0, ![]⟩
abbrev S32768 : Shape := ⟨1, ![32768]⟩
abbrev S32768x1 : Shape := ⟨2, ![32768, 1]⟩
abbrev S1x2048 : Shape := ⟨2, ![1, 2048]⟩
abbrev S32768x7184 : Shape := ⟨2, ![32768, 7184]⟩
abbrev S32768x3072 : Shape := ⟨2, ![32768, 3072]⟩
abbrev S32768x1024 : Shape := ⟨2, ![32768, 1024]⟩

abbrev nBuf : Space → Nat
  | .hbm => 28
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048x7184, .f32⟩
  | .hbm, ⟨3, _⟩ => ⟨S32768x2048, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x2048, .f32⟩
  | .hbm, ⟨15, _⟩ => ⟨S32768x2048, .f32⟩
  | .hbm, ⟨16, _⟩ => ⟨S1x2048, .f32⟩
  | .hbm, ⟨17, _⟩ => ⟨S32768x2048, .f32⟩
  | .hbm, ⟨18, _⟩ => ⟨S32768x2048, .f32⟩
  | .hbm, ⟨19, _⟩ => ⟨S32768x7184, .f32⟩
  | .hbm, ⟨20, _⟩ => ⟨S32768x3072, .f32⟩
  | .hbm, ⟨21, _⟩ => ⟨S32768x1024, .f32⟩
  | .hbm, ⟨22, _⟩ => ⟨S_, .f32⟩
  | .hbm, ⟨23, _⟩ => ⟨S32768x1024, .f32⟩
  | .hbm, ⟨24, _⟩ => ⟨S32768x1024, .f32⟩
  | .hbm, ⟨25, _⟩ => ⟨S32768x2048, .f32⟩
  | .hbm, ⟨26, _⟩ => ⟨S32768x3072, .f32⟩
  | .hbm, ⟨27, _⟩ => ⟨S32768x3072, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== OutProj.lean ====
abbrev S32768x1024 : Shape := ⟨2, ![32768, 1024]⟩
abbrev S2048x2048 : Shape := ⟨2, ![2048, 2048]⟩
abbrev S2048 : Shape := ⟨1, ![2048]⟩
abbrev S32768x2048 : Shape := ⟨2, ![32768, 2048]⟩
abbrev S1x2048 : Shape := ⟨2, ![1, 2048]⟩
abbrev S512x1024 : Shape := ⟨2, ![512, 1024]⟩
abbrev S512x2048 : Shape := ⟨2, ![512, 2048]⟩
abbrev S1024x2048 : Shape := ⟨2, ![1024, 2048]⟩
abbrev S512 : Shape := ⟨1, ![512]⟩
abbrev S512x1 : Shape := ⟨2, ![512, 1]⟩

abbrev nBuf : Space → Nat
  | .hbm => 10
  | .vmem => 10
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S2048x2048, .f32⟩
  | .hbm, ⟨3, _⟩ => ⟨S2048, .f32⟩
  | .hbm, ⟨4, _⟩ => ⟨S32768x2048, .f32⟩
  | .hbm, ⟨5, _⟩ => ⟨S32768x1024, .bf16⟩
  | .hbm, ⟨6, _⟩ => ⟨S32768x1024, .bf16⟩
  | .hbm, ⟨7, _⟩ => ⟨S2048x2048, .bf16⟩
  | .hbm, ⟨8, _⟩ => ⟨S1x2048, .f32⟩
  | .hbm, ⟨9, _⟩ => ⟨S32768x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S2048x2048, .bf16⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![64, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== OutProjRefIdeal.lean ====
abbrev S32768x1024 : Shape := ⟨2, ![32768, 1024]⟩
abbrev S2048x2048 : Shape := ⟨2, ![2048, 2048]⟩
abbrev S2048 : Shape := ⟨1, ![2048]⟩
abbrev S32768x2048 : Shape := ⟨2, ![32768, 2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩

abbrev nBuf : Space → Nat
  | .hbm => 24
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S2048x2048, .f32⟩
  | .hbm, ⟨3, _⟩ => ⟨S2048, .f32⟩
  | .hbm, ⟨4, _⟩ => ⟨S32768x2048, .f32⟩
  | .hbm, ⟨5, _⟩ => ⟨S32768x2048, .f32⟩
  | .hbm, ⟨6, _⟩ => ⟨S32768x2048, .f32⟩
  | .hbm, ⟨7, _⟩ => ⟨S32768x2048, .f32⟩
  | .hbm, ⟨8, _⟩ => ⟨S_, .f32⟩
  | .hbm, ⟨9, _⟩ => ⟨S32768, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S_, .f32⟩
  | .hbm, ⟨15, _⟩ => ⟨S32768x1, .f32⟩
  | .hbm, ⟨16, _⟩ => ⟨S32768x1, .f32⟩
  | .hbm, ⟨17, _⟩ => ⟨S32768x1, .f32⟩
  | .hbm, ⟨18, _⟩ => ⟨S32768x2048, .f32⟩
  | .hbm, ⟨19, _⟩ => ⟨S32768x2048, .f32⟩
  | .hbm, ⟨20, _⟩ => ⟨S1x2048, .f32⟩
  | .hbm, ⟨21, _⟩ => ⟨S32768x2048, .f32⟩
  | .hbm, ⟨22, _⟩ => ⟨S32768x2048, .f32⟩
  | .hbm, ⟨23, _⟩ => ⟨S32768x2048, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]
-- ==== InGdn.lean ====
abbrev S32768x2048 : Shape := ⟨2, ![32768, 2048]⟩
abbrev S2048 : Shape := ⟨1, ![2048]⟩
abbrev S2048x7184 : Shape := ⟨2, ![2048, 7184]⟩
abbrev S2048x4096 : Shape := ⟨2, ![2048, 4096]⟩
abbrev S2048x16 : Shape := ⟨2, ![2048, 16]⟩
abbrev S_ : Shape := ⟨0, ![]⟩
abbrev S2048x128 : Shape := ⟨2, ![2048, 128]⟩
abbrev S4096 : Shape := ⟨1, ![4096]⟩
abbrev S1x2048 : Shape := ⟨2, ![1, 2048]⟩
abbrev S1x4096 : Shape := ⟨2, ![1, 4096]⟩
abbrev S32768x4096 : Shape := ⟨2, ![32768, 4096]⟩
abbrev S32768x128 : Shape := ⟨2, ![32768, 128]⟩
abbrev S1024x2048 : Shape := ⟨2, ![1024, 2048]⟩
abbrev S2048x1024 : Shape := ⟨2, ![2048, 1024]⟩
abbrev S1x1024 : Shape := ⟨2, ![1, 1024]⟩
abbrev S1024x1024 : Shape := ⟨2, ![1024, 1024]⟩
abbrev S1024x128 : Shape := ⟨2, ![1024, 128]⟩
abbrev S256x2048 : Shape := ⟨2, ![256, 2048]⟩
abbrev S256 : Shape := ⟨1, ![256]⟩
abbrev S256x1 : Shape := ⟨2, ![256, 1]⟩
abbrev S256x128 : Shape := ⟨2, ![256, 128]⟩
abbrev S256x1024 : Shape := ⟨2, ![256, 1024]⟩

abbrev nBuf : Space → Nat
  | .hbm => 16
  | .vmem => 13
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048x7184, .f32⟩
  | .hbm, ⟨3, _⟩ => ⟨S2048x4096, .f32⟩
  | .hbm, ⟨4, _⟩ => ⟨S2048x4096, .bf16⟩
  | .hbm, ⟨5, _⟩ => ⟨S2048x16, .f32⟩
  | .hbm, ⟨6, _⟩ => ⟨S_, .i32⟩
  | .hbm, ⟨7, _⟩ => ⟨S_, .f32⟩
  | .hbm, ⟨8, _⟩ => ⟨S2048x128, .f32⟩
  | .hbm, ⟨9, _⟩ => ⟨S2048x128, .bf16⟩
  | .hbm, ⟨10, _⟩ => ⟨S_, .f32⟩
  | .hbm, ⟨11, _⟩ => ⟨S4096, .f32⟩
  | .hbm, ⟨12, _⟩ => ⟨S1x2048, .f32⟩
  | .hbm, ⟨13, _⟩ => ⟨S1x4096, .f32⟩
  | .hbm, ⟨14, _⟩ => ⟨S32768x4096, .f32⟩
  | .hbm, ⟨15, _⟩ => ⟨S32768x128, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1x1024, .f32⟩
  | .local _ .vmem, ⟨6, _⟩ => ⟨S1x1024, .f32⟩
  | .local _ .vmem, ⟨7, _⟩ => ⟨S2048x128, .bf16⟩
  | .local _ .vmem, ⟨8, _⟩ => ⟨S1024x1024, .f32⟩
  | .local _ .vmem, ⟨9, _⟩ => ⟨S1024x1024, .f32⟩
  | .local _ .vmem, ⟨10, _⟩ => ⟨S1024x128, .f32⟩
  | .local _ .vmem, ⟨11, _⟩ => ⟨S1024x128, .f32⟩
  | .local _ .vmem, ⟨12, _⟩ => ⟨S1024x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .ne arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S2048x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== InGdnRefIdeal.lean ====
abbrev S32768x2048 : Shape := ⟨2, ![32768, 2048]⟩
abbrev S2048 : Shape := ⟨1, ![2048]⟩
abbrev S2048x7184 : Shape := ⟨2, ![2048, 7184]⟩
abbrev S_ : Shape := ⟨0, ![]⟩
abbrev S32768 : Shape := ⟨1, ![32768]⟩
abbrev S32768x1 : Shape := ⟨2, ![32768, 1]⟩
abbrev S1x2048 : Shape := ⟨2, ![1, 2048]⟩
abbrev S32768x7184 : Shape := ⟨2, ![32768, 7184]⟩
abbrev S32768x4096 : Shape := ⟨2, ![32768, 4096]⟩
abbrev S32768x16 : Shape := ⟨2, ![32768, 16]⟩
abbrev S32768x128 : Shape := ⟨2, ![32768, 128]⟩

abbrev nBuf : Space → Nat
  | .hbm => 25
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048x7184, .f32⟩
  | .hbm, ⟨3, _⟩ => ⟨S32768x2048, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x2048, .f32⟩
  | .hbm, ⟨15, _⟩ => ⟨S32768x2048, .f32⟩
  | .hbm, ⟨16, _⟩ => ⟨S1x2048, .f32⟩
  | .hbm, ⟨17, _⟩ => ⟨S32768x2048, .f32⟩
  | .hbm, ⟨18, _⟩ => ⟨S32768x2048, .f32⟩
  | .hbm, ⟨19, _⟩ => ⟨S32768x7184, .f32⟩
  | .hbm, ⟨20, _⟩ => ⟨S32768x4096, .f32⟩
  | .hbm, ⟨21, _⟩ => ⟨S32768x16, .f32⟩
  | .hbm, ⟨22, _⟩ => ⟨S_, .i32⟩
  | .hbm, ⟨23, _⟩ => ⟨S_, .f32⟩
  | .hbm, ⟨24, _⟩ => ⟨S32768x128, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c : Ref sig .tc := ⟨.hbm, 22, rfl⟩
abbrev main_call0_v0 : Ref sig .tc := ⟨.hbm, 23, rfl⟩
abbrev main_v16 : Ref sig .tc := ⟨.hbm, 24, rfl⟩

abbrev nD : Nat := 1
abbrev τ : Topo := Topo.v7x

variable {F : FTy → Type} [FloatOps F]
-- ==== MemKv.lean ====
abbrev S2x256x2048 : Shape := ⟨3, ![2, 256, 2048]⟩
abbrev S2048 : Shape := ⟨1, ![2048]⟩
abbrev S2048x512 : Shape := ⟨2, ![2048, 512]⟩
abbrev S2048x1024 : Shape := ⟨2, ![2048, 1024]⟩
abbrev S512x2048 : Shape := ⟨2, ![512, 2048]⟩
abbrev S_ : Shape := ⟨0, ![]⟩
abbrev S1024 : Shape := ⟨1, ![1024]⟩
abbrev S1x2048 : Shape := ⟨2, ![1, 2048]⟩
abbrev S1x1024 : Shape := ⟨2, ![1, 1024]⟩
abbrev S512x1024 : Shape := ⟨2, ![512, 1024]⟩
abbrev S128x2048 : Shape := ⟨2, ![128, 2048]⟩
abbrev S128 : Shape := ⟨1, ![128]⟩
abbrev S128x1 : Shape := ⟨2, ![128, 1]⟩
abbrev S128x1024 : Shape := ⟨2, ![128, 1024]⟩

abbrev nBuf : Space → Nat
  | .hbm => 12
  | .vmem => 6
  | .smem => 0
  | _ => 0

abbrev bufTy : (tb : Table) → Fin (tcTables nBuf tb) → BufTy
  | .hbm, ⟨0, _⟩ => ⟨S2x256x2048, .f32⟩
  | .hbm, ⟨1, _⟩ => ⟨S2048, .f32⟩
  | .hbm, ⟨2, _⟩ => ⟨S2048x512, .f32⟩
  | .hbm, ⟨3, _⟩ => ⟨S2048x512, .f32⟩
  | .hbm, ⟨4, _⟩ => ⟨S2048x1024, .f32⟩
  | .hbm, ⟨5, _⟩ => ⟨S2048x1024, .bf16⟩
  | .hbm, ⟨6, _⟩ => ⟨S512x2048, .f32⟩
  | .hbm, ⟨7, _⟩ => ⟨S_, .f32⟩
  | .hbm, ⟨8, _⟩ => ⟨S1024, .f32⟩
  | .hbm, ⟨9, _⟩ => ⟨S1x2048, .f32⟩
  | .hbm, ⟨10, _⟩ => ⟨S1x1024, .f32⟩
  | .hbm, ⟨11, _⟩ => ⟨S512x1024, .bf16⟩
  | .local _ .vmem, ⟨0, _⟩ => ⟨S512x2048, .f32⟩
  | .local _ .vmem, ⟨1, _⟩ => ⟨S1x2048, .f32⟩
  | .local _ .vmem, ⟨2, _⟩ => ⟨S2048x1024, .bf16⟩
  | .local _ .vmem, ⟨3, _⟩ => ⟨S1x1024, .f32⟩
  | .local _ .vmem, ⟨4, _⟩ => ⟨S512x1024, .bf16⟩
  | .local _ .vmem, ⟨5, _⟩ => ⟨S512x2048, .bf16⟩
  | _, _ => ⟨S2x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨2, ![1, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .ne arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]
-- ==== MemKvRefIdeal.lean ====
abbrev S2x256x2048 : Shape := ⟨3, ![2, 256, 2048]⟩
abbrev S2048 : Shape := ⟨1, ![2048]⟩
abbrev S2048x512 : Shape := ⟨2, ![2048, 512]⟩
abbrev S512x2048 : Shape := ⟨2, ![512, 2048]⟩
abbrev S_ : Shape := ⟨0, ![]⟩
abbrev S512 : Shape := ⟨1, ![512]⟩
abbrev S512x1 : Shape := ⟨2, ![512, 1]⟩
abbrev S1x2048 : Shape := ⟨2, ![1, 2048]⟩
abbrev S512x512 : Shape := ⟨2, ![512, 512]⟩
abbrev S512x1024 : Shape := ⟨2, ![512, 1024]⟩

abbrev nBuf : Space → Nat
  | .hbm => 25
  | .vmem => 0
  | .smem => 0
  | _ => 0

abbrev bufTy : (tb : Table) → Fin (tcTables nBuf tb) → BufTy
  | .hbm, ⟨0, _⟩ => ⟨S2x256x2048, .f32⟩
  | .hbm, ⟨1, _⟩ => ⟨S2048, .f32⟩
  | .hbm, ⟨2, _⟩ => ⟨S2048x512, .f32⟩
  | .hbm, ⟨3, _⟩ => ⟨S2048x512, .f32⟩
  | .hbm, ⟨4, _⟩ => ⟨S512x2048, .f32⟩
  | .hbm, ⟨5, _⟩ => ⟨S512x2048, .f32⟩
  | .hbm, ⟨6, _⟩ => ⟨S_, .f32⟩
  | .hbm, ⟨7, _⟩ => ⟨S512, .f32⟩
  | .hbm, ⟨8, _⟩ => ⟨S512x1, .f32⟩
  | .hbm, ⟨9, _⟩ => ⟨S_, .f32⟩
  | .hbm, ⟨10, _⟩ => ⟨S512x1, .f32⟩
  | .hbm, ⟨11, _⟩ => ⟨S512x1, .f32⟩
  | .hbm, ⟨12, _⟩ => ⟨S_, .f32⟩
  | .hbm, ⟨13, _⟩ => ⟨S512x1, .f32⟩
  | .hbm, ⟨14, _⟩ => ⟨S512x1, .f32⟩
  | .hbm, ⟨15, _⟩ => ⟨S512x1, .f32⟩
  | .hbm, ⟨16, _⟩ => ⟨S512x2048, .f32⟩
  | .hbm, ⟨17, _⟩ => ⟨S512x2048, .f32⟩
  | .hbm, ⟨18, _⟩ => ⟨S1x2048, .f32⟩
  | .hbm, ⟨19, _⟩ => ⟨S512x2048, .f32⟩
  | .hbm, ⟨20, _⟩ => ⟨S512x2048, .f32⟩
  | .hbm, ⟨21, _⟩ => ⟨S512x512, .f32⟩
  | .hbm, ⟨22, _⟩ => ⟨S512x512, .f32⟩
  | .hbm, ⟨23, _⟩ => ⟨S512x1024, .f32⟩
  | .hbm, ⟨24, _⟩ => ⟨S512x1024, .bf16⟩
  | _, _ => ⟨S2x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== MemAttn.lean ====
abbrev S2x16384x2048 : Shape := ⟨3, ![2, 16384, 2048]⟩
abbrev S2x256x512 : Shape := ⟨3, ![2, 256, 512]⟩
abbrev S2048 : Shape := ⟨1, ![2048]⟩
abbrev S2048x512 : Shape := ⟨2, ![2048, 512]⟩
abbrev S512x2048 : Shape := ⟨2, ![512, 2048]⟩
abbrev S2x256x1024 : Shape := ⟨3, ![2, 256, 1024]⟩
abbrev S32768x2048 : Shape := ⟨2, ![32768, 2048]⟩
abbrev S1x2048 : Shape := ⟨2, ![1, 2048]⟩
abbrev S1024x2048 : Shape := ⟨2, ![1024, 2048]⟩
abbrev S1x256x1024 : Shape := ⟨3, ![1, 256, 1024]⟩
abbrev S256x1024 : Shape := ⟨2, ![256, 1024]⟩
abbrev S512 : Shape := ⟨1, ![512]⟩
abbrev S512x1 : Shape := ⟨2, ![512, 1]⟩
abbrev S512x512 : Shape := ⟨2, ![512, 512]⟩
abbrev S512x128 : Shape := ⟨2, ![512, 128]⟩
abbrev S256x128 : Shape := ⟨2, ![256, 128]⟩
abbrev S512x256 : Shape := ⟨2, ![512, 256]⟩

abbrev nBuf : Space → Nat
  | .hbm => 15
  | .vmem => 10
  | .smem => 0
  | _ => 0

abbrev bufTy : (tb : Table) → Fin (tcTables nBuf tb) → BufTy
  | .hbm, ⟨0, _⟩ => ⟨S2x16384x2048, .f32⟩
  | .hbm, ⟨1, _⟩ => ⟨S2x256x512, .f32⟩
  | .hbm, ⟨2, _⟩ => ⟨S2x256x512, .f32⟩
  | .hbm, ⟨3, _⟩ => ⟨S2048, .f32⟩
  | .hbm, ⟨4, _⟩ => ⟨S2048x512, .f32⟩
  | .hbm, ⟨5, _⟩ => ⟨S512x2048, .f32⟩
  | .hbm, ⟨6, _⟩ => ⟨S2048, .f32⟩
  | .hbm, ⟨7, _⟩ => ⟨S2x256x1024, .f32⟩
  | .hbm, ⟨8, _⟩ => ⟨S2x256x1024, .bf16⟩
  | .hbm, ⟨9, _⟩ => ⟨S32768x2048, .f32⟩
  | .hbm, ⟨10, _⟩ => ⟨S2048x512, .bf16⟩
  | .hbm, ⟨11, _⟩ => ⟨S512x2048, .bf16⟩
  | .hbm, ⟨12, _⟩ => ⟨S1x2048, .f32⟩
  | .hbm, ⟨13, _⟩ => ⟨S1x2048, .f32⟩
  | .hbm, ⟨14, _⟩ => ⟨S32768x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S1x256x1024, .bf16⟩
  | .local _ .vmem, ⟨5, _⟩ => ⟨S1x256x1024, .bf16⟩
  | .local _ .vmem, ⟨6, _⟩ => ⟨S512x2048, .bf16⟩
  | .local _ .vmem, ⟨7, _⟩ => ⟨S1x2048, .f32⟩
  | .local _ .vmem, ⟨8, _⟩ => ⟨S1024x2048, .f32⟩
  | .local _ .vmem, ⟨9, _⟩ => ⟨S1024x2048, .f32⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S512x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MemAttnRefIdeal.lean ====
abbrev S2x16384x2048 : Shape := ⟨3, ![2, 16384, 2048]⟩
abbrev S2x256x512 : Shape := ⟨3, ![2, 256, 512]⟩
abbrev S2048 : Shape := ⟨1, ![2048]⟩
abbrev S2048x512 : Shape := ⟨2, ![2048, 512]⟩
abbrev S512x2048 : Shape := ⟨2, ![512, 2048]⟩
abbrev S_ : Shape := ⟨0, ![]⟩
abbrev S2x16384 : Shape := ⟨2, ![2, 16384]⟩
abbrev S2x16384x1 : Shape := ⟨3, ![2, 16384, 1]⟩
abbrev S1x1x2048 : Shape := ⟨3, ![1, 1, 2048]⟩
abbrev S2x16384x512 : Shape := ⟨3, ![2, 16384, 512]⟩
abbrev S2x16384x4x128 : Shape := ⟨4, ![2, 16384, 4, 128]⟩
abbrev S2x256x4x128 : Shape := ⟨4, ![2, 256, 4, 128]⟩
abbrev S2x4x16384x256 : Shape := ⟨4, ![2, 4, 16384, 256]⟩
abbrev S2x4x16384 : Shape := ⟨3, ![2, 4, 16384]⟩
abbrev S2x4x16384x1 : Shape := ⟨4, ![2, 4, 16384, 1]⟩
abbrev S2x4x128x16384 : Shape := ⟨4, ![2, 4, 128, 16384]⟩
abbrev S32768x2048 : Shape := ⟨2, ![32768, 2048]⟩

abbrev nBuf : Space → Nat
  | .hbm => 67
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2x256x512, .f32⟩
  | .hbm, ⟨2, _⟩ => ⟨S2x256x512, .f32⟩
  | .hbm, ⟨3, _⟩ => ⟨S2048, .f32⟩
  | .hbm, ⟨4, _⟩ => ⟨S2048x512, .f32⟩
  | .hbm, ⟨5, _⟩ => ⟨S512x2048, .f32⟩
  | .hbm, ⟨6, _⟩ => ⟨S2048, .f32⟩
  | .hbm, ⟨7, _⟩ => ⟨S2x16384x2048, .f32⟩
  | .hbm, ⟨8, _⟩ => ⟨S_, .f32⟩
  | .hbm, ⟨9, _⟩ => ⟨S2x16384, .f32⟩
  | .hbm, ⟨10, _⟩ => ⟨S2x16384x1, .f32⟩
  | .hbm, ⟨11, _⟩ => ⟨S_, .f32⟩
  | .hbm, ⟨12, _⟩ => ⟨S2x16384x1, .f32⟩
  | .hbm, ⟨13, _⟩ => ⟨S2x16384x1, .f32⟩
  | .hbm, ⟨14, _⟩ => ⟨S_, .f32⟩
  | .hbm, ⟨15, _⟩ => ⟨S2x16384x1, .f32⟩
  | .hbm, ⟨16, _⟩ => ⟨S2x16384x1, .f32⟩
  | .hbm, ⟨17, _⟩ => ⟨S2x16384x1, .f32⟩
  | .hbm, ⟨18, _⟩ => ⟨S2x16384x2048, .f32⟩
  | .hbm, ⟨19, _⟩ => ⟨S2x16384x2048, .f32⟩
  | .hbm, ⟨20, _⟩ => ⟨S1x1x2048, .f32⟩
  | .hbm, ⟨21, _⟩ => ⟨S2x16384x2048, .f32⟩
  | .hbm, ⟨22, _⟩ => ⟨S2x16384x2048, .f32⟩
  | .hbm, ⟨23, _⟩ => ⟨S2x16384x512, .f32⟩
  | .hbm, ⟨24, _⟩ => ⟨S2x16384x4x128, .f32⟩
  | .hbm, ⟨25, _⟩ => ⟨S2x256x4x128, .f32⟩
  | .hbm, ⟨26, _⟩ => ⟨S2x256x4x128, .f32⟩
  | .hbm, ⟨27, _⟩ => ⟨S2x4x16384x256, .f32⟩
  | .hbm, ⟨28, _⟩ => ⟨S_, .f32⟩
  | .hbm, ⟨29, _⟩ => ⟨S2x4x16384x256, .f32⟩
  | .hbm, ⟨30, _⟩ => ⟨S2x4x16384x256, .f32⟩
  | .hbm, ⟨31, _⟩ => ⟨S_, .f32⟩
  | .hbm, ⟨32, _⟩ => ⟨S2x4x16384, .f32⟩
  | .hbm, ⟨33, _⟩ => ⟨S_, .f32⟩
  | .hbm, ⟨34, _⟩ => ⟨S2x4x16384, .f32⟩
  | .hbm, ⟨35, _⟩ => ⟨S2x4x16384, .f32⟩
  | .hbm, ⟨36, _⟩ => ⟨S2x4x16384x1, .f32⟩
  | .hbm, ⟨37, _⟩ => ⟨S2x4x16384x256, .f32⟩
  | .hbm, ⟨38, _⟩ => ⟨S2x4x16384x256, .f32⟩
  | .hbm, ⟨39, _⟩ => ⟨S2x4x16384x256, .f32⟩
  | .hbm, ⟨40, _⟩ => ⟨S_, .f32⟩
  | .hbm, ⟨41, _⟩ => ⟨S2x4x16384, .f32⟩
  | .hbm, ⟨42, _⟩ => ⟨S2x4x16384x1, .f32⟩
  | .hbm, ⟨43, _⟩ => ⟨S2x4x16384x256, .f32⟩
  | .hbm, ⟨44, _⟩ => ⟨S2x4x16384x256, .f32⟩
  | .hbm, ⟨45, _⟩ => ⟨S2x4x128x16384, .f32⟩
  | .hbm, ⟨46, _⟩ => ⟨S2x16384x4x128, .f32⟩
  | .hbm, ⟨47, _⟩ => ⟨S2x16384x512, .f32⟩
  | .hbm, ⟨48, _⟩ => ⟨S2x16384x2048, .f32⟩
  | .hbm, ⟨49, _⟩ => ⟨S2x16384x2048, .f32⟩
  | .hbm, ⟨50, _⟩ => ⟨S_, .f32⟩
  | .hbm, ⟨51, _⟩ => ⟨S2x16384, .f32⟩
  | .hbm, ⟨52, _⟩ => ⟨S2x16384x1, .f32⟩
  | .hbm, ⟨53, _⟩ => ⟨S_, .f32⟩
  | .hbm, ⟨54, _⟩ => ⟨S2x16384x1, .f32⟩
  | .hbm, ⟨55, _⟩ => ⟨S2x16384x1, .f32⟩
  | .hbm, ⟨56, _⟩ => ⟨S_, .f32⟩
  | .hbm, ⟨57, _⟩ => ⟨S2x16384x1, .f32⟩
  | .hbm, ⟨58, _⟩ => ⟨S2x16384x1, .f32⟩
  | .hbm, ⟨59, _⟩ => ⟨S2x16384x1, .f32⟩
  | .hbm, ⟨60, _⟩ => ⟨S2x16384x2048, .f32⟩
  | .hbm, ⟨61, _⟩ => ⟨S2x16384x2048, .f32⟩
  | .hbm, ⟨62, _⟩ => ⟨S1x1x2048, .f32⟩
  | .hbm, ⟨63, _⟩ => ⟨S2x16384x2048, .f32⟩
  | .hbm, ⟨64, _⟩ => ⟨S2x16384x2048, .f32⟩
  | .hbm, ⟨65, _⟩ => ⟨S2x16384x2048, .f32⟩
  | .hbm, ⟨66, _⟩ => ⟨S32768x2048, .f32⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_6 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩

abbrev nD : Nat := 1
abbrev τ : Topo := Topo.v7x

variable {F : FTy → Type} [FloatOps F]
-- ==== Gdn.lean ====
abbrev S2x16384x1024 : Shape := ⟨3, ![2, 16384, 1024]⟩
abbrev S2x16384x8 : Shape := ⟨3, ![2, 16384, 8]⟩
abbrev S4x3072 : Shape := ⟨2, ![4, 3072]⟩
abbrev S8 : Shape := ⟨1, ![8]⟩
abbrev S128 : Shape := ⟨1, ![128]⟩
abbrev S32768x1024 : Shape := ⟨2, ![32768, 1024]⟩
abbrev S32768x4096 : Shape := ⟨2, ![32768, 4096]⟩
abbrev S32768x8 : Shape := ⟨2, ![32768, 8]⟩
abbrev S32768x16 : Shape := ⟨2, ![32768, 16]⟩
abbrev S_ : Shape := ⟨0, ![]⟩
abbrev S32768x128 : Shape := ⟨2, ![32768, 128]⟩
abbrev S1x128 : Shape := ⟨2, ![1, 128]⟩
abbrev S256x1024 : Shape := ⟨2, ![256, 1024]⟩
abbrev S256x128 : Shape := ⟨2, ![256, 128]⟩
abbrev S4x1024 : Shape := ⟨2, ![4, 1024]⟩
abbrev S8x128x128 : Shape := ⟨3, ![8, 128, 128]⟩
abbrev S3x8x1024 : Shape := ⟨3, ![3, 8, 1024]⟩
abbrev S264x1024 : Shape := ⟨2, ![264, 1024]⟩
abbrev S32x128x128 : Shape := ⟨3, ![32, 128, 128]⟩
abbrev S32x64x128 : Shape := ⟨3, ![32, 64, 128]⟩
abbrev S32x1x128 : Shape := ⟨3, ![32, 1, 128]⟩
abbrev S1x8x1024 : Shape := ⟨3, ![1, 8, 1024]⟩
abbrev S8x1024 : Shape := ⟨2, ![8, 1024]⟩
abbrev S1x1024 : Shape := ⟨2, ![1, 1024]⟩
abbrev S256 : Shape := ⟨1, ![256]⟩
abbrev S256x1 : Shape := ⟨2, ![256, 1]⟩
abbrev S64x64 : Shape := ⟨2, ![64, 64]⟩
abbrev S64x192 : Shape := ⟨2, ![64, 192]⟩
abbrev S64x128 : Shape := ⟨2, ![64, 128]⟩
abbrev S192x128 : Shape := ⟨2, ![192, 128]⟩
abbrev S192x64 : Shape := ⟨2, ![192, 64]⟩
abbrev S64x256 : Shape := ⟨2, ![64, 256]⟩
abbrev S128x256 : Shape := ⟨2, ![128, 256]⟩
abbrev S1x64x128 : Shape := ⟨3, ![1, 64, 128]⟩
abbrev S128x128 : Shape := ⟨2, ![128, 128]⟩
abbrev S1x128x128 : Shape := ⟨3, ![1, 128, 128]⟩
abbrev S1x1x128 : Shape := ⟨3, ![1, 1, 128]⟩

abbrev nBuf : Space → Nat
  | .hbm => 31
  | .vmem => 32
  | .smem => 0
  | _ => 0

abbrev bufTy : (tb : Table) → Fin (tcTables nBuf tb) → BufTy
  | .hbm, ⟨0, _⟩ => ⟨S2x16384x1024, .f32⟩
  | .hbm, ⟨1, _⟩ => ⟨S2x16384x1024, .f32⟩
  | .hbm, ⟨2, _⟩ => ⟨S2x16384x1024, .f32⟩
  | .hbm, ⟨3, _⟩ => ⟨S2x16384x1024, .f32⟩
  | .hbm, ⟨4, _⟩ => ⟨S2x16384x8, .f32⟩
  | .hbm, ⟨5, _⟩ => ⟨S2x16384x8, .f32⟩
  | .hbm, ⟨6, _⟩ => ⟨S4x3072, .f32⟩
  | .hbm, ⟨7, _⟩ => ⟨S8, .f32⟩
  | .hbm, ⟨8, _⟩ => ⟨S8, .f32⟩
  | .hbm, ⟨9, _⟩ => ⟨S128, .f32⟩
  | .hbm, ⟨10, _⟩ => ⟨S32768x1024, .f32⟩
  | .hbm, ⟨11, _⟩ => ⟨S32768x1024, .f32⟩
  | .hbm, ⟨12, _⟩ => ⟨S32768x1024, .f32⟩
  | .hbm, ⟨13, _⟩ => ⟨S32768x1024, .f32⟩
  | .hbm, ⟨14, _⟩ => ⟨S32768x4096, .f32⟩
  | .hbm, ⟨15, _⟩ => ⟨S32768x8, .f32⟩
  | .hbm, ⟨16, _⟩ => ⟨S32768x8, .f32⟩
  | .hbm, ⟨17, _⟩ => ⟨S32768x16, .f32⟩
  | .hbm, ⟨18, _⟩ => ⟨S_, .i32⟩
  | .hbm, ⟨19, _⟩ => ⟨S_, .f32⟩
  | .hbm, ⟨20, _⟩ => ⟨S32768x128, .f32⟩
  | .hbm, ⟨21, _⟩ => ⟨S_, .i32⟩
  | .hbm, ⟨22, _⟩ => ⟨S_, .f32⟩
  | .hbm, ⟨23, _⟩ => ⟨S128, .f32⟩
  | .hbm, ⟨24, _⟩ => ⟨S1x128, .f32⟩
  | .hbm, ⟨25, _⟩ => ⟨S_, .i32⟩
  | .hbm, ⟨26, _⟩ => ⟨S_, .f32⟩
  | .hbm, ⟨27, _⟩ => ⟨S128, .f32⟩
  | .hbm, ⟨28, _⟩ => ⟨S1x128, .f32⟩
  | .hbm, ⟨29, _⟩ => ⟨S1x128, .f32⟩
  | .hbm, ⟨30, _⟩ => ⟨S32768x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x128, .f32⟩
  | .local _ .vmem, ⟨9, _⟩ => ⟨S256x128, .f32⟩
  | .local _ .vmem, ⟨10, _⟩ => ⟨S4x1024, .f32⟩
  | .local _ .vmem, ⟨11, _⟩ => ⟨S4x1024, .f32⟩
  | .local _ .vmem, ⟨12, _⟩ => ⟨S4x1024, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S256x1024, .bf16⟩
  | .local _ .vmem, ⟨17, _⟩ => ⟨S256x1024, .bf16⟩
  | .local _ .vmem, ⟨18, _⟩ => ⟨S8x128x128, .f32⟩
  | .local _ .vmem, ⟨19, _⟩ => ⟨S3x8x1024, .f32⟩
  | .local _ .vmem, ⟨20, _⟩ => ⟨S264x1024, .f32⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | .local _ .vmem, ⟨24, _⟩ => ⟨S256x1024, .f32⟩
  | .local _ .vmem, ⟨25, _⟩ => ⟨S256x1024, .f32⟩
  | .local _ .vmem, ⟨26, _⟩ => ⟨S256x1024, .f32⟩
  | .local _ .vmem, ⟨27, _⟩ => ⟨S32x128x128, .bf16⟩
  | .local _ .vmem, ⟨28, _⟩ => ⟨S32x128x128, .f32⟩
  | .local _ .vmem, ⟨29, _⟩ => ⟨S32x64x128, .bf16⟩
  | .local _ .vmem, ⟨30, _⟩ => ⟨S32x64x128, .f32⟩
  | .local _ .vmem, ⟨31, _⟩ => ⟨S32x1x128, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c : Ref sig .tc := ⟨.hbm, 18, rfl⟩
abbrev main_call0_v0 : Ref sig .tc := ⟨.hbm, 19, rfl⟩
abbrev main_v8 : Ref sig .tc := ⟨.hbm, 20, rfl⟩
abbrev main_c_0 : Ref sig .tc := ⟨.hbm, 21, rfl⟩
abbrev main_call1_v0 : Ref sig .tc := ⟨.hbm, 22, rfl⟩
abbrev main_v9 : Ref sig .tc := ⟨.hbm, 23, rfl⟩
abbrev main_v10 : Ref sig .tc := ⟨.hbm, 24, rfl⟩
abbrev main_c_1 : Ref sig .tc := ⟨.hbm, 25, rfl⟩
abbrev main_call2_v0 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_scratch5 : Ref sig .tc := ⟨.vmem, 23, rfl⟩
abbrev cc0_scratch6 : Ref sig .tc := ⟨.vmem, 24, rfl⟩
abbrev cc0_scratch7 : Ref sig .tc := ⟨.vmem, 25, rfl⟩
abbrev cc0_scratch8 : Ref sig .tc := ⟨.vmem, 26, rfl⟩
abbrev cc0_scratch9 : Ref sig .tc := ⟨.vmem, 27, rfl⟩
abbrev cc0_scratch10 : Ref sig .tc := ⟨.vmem, 28, rfl⟩
abbrev cc0_scratch11 : Ref sig .tc := ⟨.vmem, 29, rfl⟩
abbrev cc0_scratch12 : Ref sig .tc := ⟨.vmem, 30, rfl⟩
abbrev cc0_scratch13 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨3, ![2, 1, 64], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let v1 : BitVec 32 := Scalar.addi v0 arg2
  let c1_i32 : BitVec 32 := 1#32
  let v2 : BitVec 32 := Scalar.addi c1_i32 arg1
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let v1 : BitVec 32 := Scalar.addi v0 arg2
  let c2_i32 : BitVec 32 := 2#32
  let v2 : BitVec 32 := Scalar.addi c2_i32 arg1
  let c0_i32 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let v1 : BitVec 32 := Scalar.addi v0 arg2
  let c3_i32 : BitVec 32 := 3#32
  let v2 : BitVec 32 := Scalar.addi c3_i32 arg1
  let c0_i32 : BitVec 32 := 0#32
  ![v1.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let v1 : BitVec 32 := Scalar.addi v0 arg2
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg1
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let v1 : BitVec 32 := Scalar.addi v0 arg2
  let c0_i32 : BitVec 32 := 0#32
  ![v1.toNat, arg1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true, false]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, false]

abbrev stage0_7 : Fin 1 → Memref sig .tc .vmem S4x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]
-- ==== Moba.lean ====
abbrev S2x16384x1024 : Shape := ⟨3, ![2, 16384, 1024]⟩
abbrev S8 : Shape := ⟨1, ![8]⟩
abbrev S_ : Shape := ⟨0, ![]⟩
abbrev S32768x1024 : Shape := ⟨2, ![32768, 1024]⟩
abbrev S32768x3072 : Shape := ⟨2, ![32768, 3072]⟩
abbrev S8x1x1 : Shape := ⟨3, ![8, 1, 1]⟩
abbrev S8x1x256 : Shape := ⟨3, ![8, 1, 256]⟩
abbrev S256x256 : Shape := ⟨2, ![256, 256]⟩
abbrev S16384x256 : Shape := ⟨2, ![16384, 256]⟩
abbrev S2x1x256 : Shape := ⟨3, ![2, 1, 256]⟩
abbrev S2x16384x256 : Shape := ⟨3, ![2, 16384, 256]⟩
abbrev S2x256x256 : Shape := ⟨3, ![2, 256, 256]⟩
abbrev S2x64x128 : Shape := ⟨3, ![2, 64, 128]⟩
abbrev S2x192x128 : Shape := ⟨3, ![2, 192, 128]⟩
abbrev S2x64x256 : Shape := ⟨3, ![2, 64, 256]⟩
abbrev S8x256x256 : Shape := ⟨3, ![8, 256, 256]⟩
abbrev S2x144x256 : Shape := ⟨3, ![2, 144, 256]⟩
abbrev S2x64x144x256 : Shape := ⟨4, ![2, 64, 144, 256]⟩
abbrev S1x1x256 : Shape := ⟨3, ![1, 1, 256]⟩
abbrev S1x256 : Shape := ⟨2, ![1, 256]⟩
abbrev S256x128 : Shape := ⟨2, ![256, 128]⟩
abbrev S16x256 : Shape := ⟨2, ![16, 256]⟩
abbrev S1x128 : Shape := ⟨2, ![1, 128]⟩
abbrev S1x256x128 : Shape := ⟨3, ![1, 256, 128]⟩
abbrev S128 : Shape := ⟨1, ![128]⟩
abbrev S1x1x128 : Shape := ⟨3, ![1, 1, 128]⟩
abbrev S128x256 : Shape := ⟨2, ![128, 256]⟩
abbrev S1x1x128x256 : Shape := ⟨4, ![1, 1, 128, 256]⟩
abbrev S1x1x16x256 : Shape := ⟨4, ![1, 1, 16, 256]⟩
abbrev S1x64x128 : Shape := ⟨3, ![1, 64, 128]⟩
abbrev S64x128 : Shape := ⟨2, ![64, 128]⟩
abbrev S64x256 : Shape := ⟨2, ![64, 256]⟩
abbrev S1x256x256 : Shape := ⟨3, ![1, 256, 256]⟩
abbrev S1x192x128 : Shape := ⟨3, ![1, 192, 128]⟩
abbrev S192x128 : Shape := ⟨2, ![192, 128]⟩
abbrev S192x256 : Shape := ⟨2, ![192, 256]⟩
abbrev S256 : Shape := ⟨1, ![256]⟩
abbrev S1x64x256 : Shape := ⟨3, ![1, 64, 256]⟩
abbrev S1x1x144x256 : Shape := ⟨4, ![1, 1, 144, 256]⟩
abbrev S144x256 : Shape := ⟨2, ![144, 256]⟩
abbrev S1x144x256 : Shape := ⟨3, ![1, 144, 256]⟩
abbrev S1x128x256 : Shape := ⟨3, ![1, 128, 256]⟩

abbrev nBuf : Space → Nat
  | .hbm => 30
  | .vmem => 19
  | .smem => 0
  | _ => 0

abbrev bufTy : (tb : Table) → Fin (tcTables nBuf tb) → BufTy
  | .hbm, ⟨0, _⟩ => ⟨S2x16384x1024, .f32⟩
  | .hbm, ⟨1, _⟩ => ⟨S2x16384x1024, .f32⟩
  | .hbm, ⟨2, _⟩ => ⟨S2x16384x1024, .f32⟩
  | .hbm, ⟨3, _⟩ => ⟨S8, .f32⟩
  | .hbm, ⟨4, _⟩ => ⟨S_, .f32⟩
  | .hbm, ⟨5, _⟩ => ⟨S8, .f32⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S8, .f32⟩
  | .hbm, ⟨17, _⟩ => ⟨S32768x1024, .f32⟩
  | .hbm, ⟨18, _⟩ => ⟨S32768x1024, .bf16⟩
  | .hbm, ⟨19, _⟩ => ⟨S32768x1024, .f32⟩
  | .hbm, ⟨20, _⟩ => ⟨S32768x1024, .bf16⟩
  | .hbm, ⟨21, _⟩ => ⟨S32768x1024, .f32⟩
  | .hbm, ⟨22, _⟩ => ⟨S32768x1024, .bf16⟩
  | .hbm, ⟨23, _⟩ => ⟨S32768x3072, .bf16⟩
  | .hbm, ⟨24, _⟩ => ⟨S_, .f32⟩
  | .hbm, ⟨25, _⟩ => ⟨S8, .f32⟩
  | .hbm, ⟨26, _⟩ => ⟨S8, .f32⟩
  | .hbm, ⟨27, _⟩ => ⟨S8x1x1, .f32⟩
  | .hbm, ⟨28, _⟩ => ⟨S8x1x256, .f32⟩
  | .hbm, ⟨29, _⟩ => ⟨S32768x1024, .bf16⟩
  | .local _ .vmem, ⟨0, _⟩ => ⟨S256x256, .bf16⟩
  | .local _ .vmem, ⟨1, _⟩ => ⟨S256x256, .bf16⟩
  | .local _ .vmem, ⟨2, _⟩ => ⟨S16384x256, .bf16⟩
  | .local _ .vmem, ⟨3, _⟩ => ⟨S16384x256, .bf16⟩
  | .local _ .vmem, ⟨4, _⟩ => ⟨S2x1x256, .f32⟩
  | .local _ .vmem, ⟨5, _⟩ => ⟨S2x1x256, .f32⟩
  | .local _ .vmem, ⟨6, _⟩ => ⟨S256x256, .bf16⟩
  | .local _ .vmem, ⟨7, _⟩ => ⟨S256x256, .bf16⟩
  | .local _ .vmem, ⟨8, _⟩ => ⟨S2x16384x256, .bf16⟩
  | .local _ .vmem, ⟨9, _⟩ => ⟨S2x256x256, .bf16⟩
  | .local _ .vmem, ⟨10, _⟩ => ⟨S2x64x128, .f32⟩
  | .local _ .vmem, ⟨11, _⟩ => ⟨S2x192x128, .bf16⟩
  | .local _ .vmem, ⟨12, _⟩ => ⟨S2x64x256, .f32⟩
  | .local _ .vmem, ⟨13, _⟩ => ⟨S8x256x256, .f32⟩
  | .local _ .vmem, ⟨14, _⟩ => ⟨S8x256x256, .f32⟩
  | .local _ .vmem, ⟨15, _⟩ => ⟨S2x144x256, .f32⟩
  | .local _ .vmem, ⟨16, _⟩ => ⟨S2x64x144x256, .bf16⟩
  | .local _ .vmem, ⟨17, _⟩ => ⟨S8x1x256, .f32⟩
  | .local _ .vmem, ⟨18, _⟩ => ⟨S8x1x256, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_scratch6 : Ref sig .tc := ⟨.vmem, 14, rfl⟩
abbrev cc0_scratch7 : Ref sig .tc := ⟨.vmem, 15, rfl⟩
abbrev cc0_scratch8 : Ref sig .tc := ⟨.vmem, 16, rfl⟩
abbrev cc0_scratch9 : Ref sig .tc := ⟨.vmem, 17, rfl⟩
abbrev cc0_scratch10 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨3, ![2, 4, 64], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_4 : BitVec 32 := 0#32
  let v6 : BitVec 1 := Scalar.cmpi .ne v5 c0_i32_4
  v6

@[reducible] def k0_t1_loop : Scf.Loop 32 :=
  let c0_i32_325 : BitVec 32 := 0#32
  let c64_i32_326 : BitVec 32 := 64#32
  let v585 : BitVec 32 := Scalar.addi c0_i32_325 c64_i32_326
  let c1_i32_327 : BitVec 32 := 1#32
  ⟨c0_i32_325, v585, c1_i32_327⟩
def k0_mult1 (k0_t1 : Fin k0_t1_loop.trips) : BitVec 32 :=
  let c0_i32_325 : BitVec 32 := 0#32
  let c1_i32_327 : BitVec 32 := 1#32
  let arg19 : BitVec 32 := Scf.iv c0_i32_325 c1_i32_327 k0_t1
  let c256_i32_352 : BitVec 32 := 256#32
  let v622 : BitVec 32 := Scalar.muli arg19 c256_i32_352
  v622
def k0_off1 (k0_t1 : Fin k0_t1_loop.trips) : Fin 2 → Nat :=
  let c0_i32_325 : BitVec 32 := 0#32
  let c1_i32_327 : BitVec 32 := 1#32
  let arg19 : BitVec 32 := Scf.iv c0_i32_325 c1_i32_327 k0_t1
  let c256_i32_352 : BitVec 32 := 256#32
  let v622 : BitVec 32 := Scalar.muli arg19 c256_i32_352
  let v623 : BitVec 32 := v622
  let v624 : Index := Scalar.indexCast v623
  let c0_353 : Index := 0#32
  ![v624.toNat, 0]
def k0_off2 (k0_t1 : Fin k0_t1_loop.trips) : Fin 3 → Nat :=
  let c0_354 : Index := 0#32
  let c0_i32_325 : BitVec 32 := 0#32
  let c1_i32_327 : BitVec 32 := 1#32
  let arg19 : BitVec 32 := Scf.iv c0_i32_325 c1_i32_327 k0_t1
  let c256_i32_352 : BitVec 32 := 256#32
  let v622 : BitVec 32 := Scalar.muli arg19 c256_i32_352
  let v623 : BitVec 32 := v622
  let v627 : Index := Scalar.indexCast v623
  let c0_355 : Index := 0#32
  ![0, v627.toNat, 0]
def k0_off3 (k0_t1 : Fin k0_t1_loop.trips) : Fin 3 → Nat :=
  let c0_356 : Index := 0#32
  let c0_i32_325 : BitVec 32 := 0#32
  let c1_i32_327 : BitVec 32 := 1#32
  let arg19 : BitVec 32 := Scf.iv c0_i32_325 c1_i32_327 k0_t1
  let c256_i32_352 : BitVec 32 := 256#32
  let v622 : BitVec 32 := Scalar.muli arg19 c256_i32_352
  let v623 : BitVec 32 := v622
  let v631 : Index := Scalar.indexCast v623
  let c128_357 : Index := 128#32
  ![0, v631.toNat, 128]
def k0_off4 (k0_t1 : Fin k0_t1_loop.trips) : Fin 3 → Nat :=
  let c0_360 : Index := 0#32
  let c0_i32_325 : BitVec 32 := 0#32
  let c1_i32_327 : BitVec 32 := 1#32
  let arg19 : BitVec 32 := Scf.iv c0_i32_325 c1_i32_327 k0_t1
  let v640 : Index := Scalar.indexCast arg19
  let c0_361 : Index := 0#32
  ![0, v640.toNat, 0]
def k0_off5 (k0_t1 : Fin k0_t1_loop.trips) : Fin 4 → Nat :=
  let c0_363 : Index := 0#32
  let c0_i32_325 : BitVec 32 := 0#32
  let c1_i32_327 : BitVec 32 := 1#32
  let arg19 : BitVec 32 := Scf.iv c0_i32_325 c1_i32_327 k0_t1
  let v650 : Index := Scalar.indexCast arg19
  let c0_364 : Index := 0#32
  let c0_365 : Index := 0#32
  ![0, v650.toNat, 0, 0]
def k0_off6 (k0_t1 : Fin k0_t1_loop.trips) : Fin 4 → Nat :=
  let c0_366 : Index := 0#32
  let c0_i32_325 : BitVec 32 := 0#32
  let c1_i32_327 : BitVec 32 := 1#32
  let arg19 : BitVec 32 := Scf.iv c0_i32_325 c1_i32_327 k0_t1
  let v654 : Index := Scalar.indexCast arg19
  let c128_367 : Index := 128#32
  let c0_368 : Index := 0#32
  ![0, v654.toNat, 128, 0]
def k0_off7 (k0_t1 : Fin k0_t1_loop.trips) : Fin 2 → Nat :=
  let c0_i32_325 : BitVec 32 := 0#32
  let c1_i32_327 : BitVec 32 := 1#32
  let arg19 : BitVec 32 := Scf.iv c0_i32_325 c1_i32_327 k0_t1
  let c256_i32_352 : BitVec 32 := 256#32
  let v622 : BitVec 32 := Scalar.muli arg19 c256_i32_352
  let v623 : BitVec 32 := v622
  let v658 : Index := Scalar.indexCast v623
  let c128_369 : Index := 128#32
  ![v658.toNat, 128]
def k0_off8 (k0_t1 : Fin k0_t1_loop.trips) : Fin 3 → Nat :=
  let c1_370 : Index := 1#32
  let c0_i32_325 : BitVec 32 := 0#32
  let c1_i32_327 : BitVec 32 := 1#32
  let arg19 : BitVec 32 := Scf.iv c0_i32_325 c1_i32_327 k0_t1
  let c256_i32_352 : BitVec 32 := 256#32
  let v622 : BitVec 32 := Scalar.muli arg19 c256_i32_352
  let v623 : BitVec 32 := v622
  let v661 : Index := Scalar.indexCast v623
  let c0_371 : Index := 0#32
  ![1, v661.toNat, 0]
def k0_off9 (k0_t1 : Fin k0_t1_loop.trips) : Fin 3 → Nat :=
  let c1_372 : Index := 1#32
  let c0_i32_325 : BitVec 32 := 0#32
  let c1_i32_327 : BitVec 32 := 1#32
  let arg19 : BitVec 32 := Scf.iv c0_i32_325 c1_i32_327 k0_t1
  let c256_i32_352 : BitVec 32 := 256#32
  let v622 : BitVec 32 := Scalar.muli arg19 c256_i32_352
  let v623 : BitVec 32 := v622
  let v665 : Index := Scalar.indexCast v623
  let c128_373 : Index := 128#32
  ![1, v665.toNat, 128]
def k0_off10 (k0_t1 : Fin k0_t1_loop.trips) : Fin 3 → Nat :=
  let c1_376 : Index := 1#32
  let c0_i32_325 : BitVec 32 := 0#32
  let c1_i32_327 : BitVec 32 := 1#32
  let arg19 : BitVec 32 := Scf.iv c0_i32_325 c1_i32_327 k0_t1
  let v674 : Index := Scalar.indexCast arg19
  let c0_377 : Index := 0#32
  ![1, v674.toNat, 0]
def k0_off11 (k0_t1 : Fin k0_t1_loop.trips) : Fin 4 → Nat :=
  let c1_379 : Index := 1#32
  let c0_i32_325 : BitVec 32 := 0#32
  let c1_i32_327 : BitVec 32 := 1#32
  let arg19 : BitVec 32 := Scf.iv c0_i32_325 c1_i32_327 k0_t1
  let v684 : Index := Scalar.indexCast arg19
  let c0_380 : Index := 0#32
  let c0_381 : Index := 0#32
  ![1, v684.toNat, 0, 0]
def k0_off12 (k0_t1 : Fin k0_t1_loop.trips) : Fin 4 → Nat :=
  let c1_382 : Index := 1#32
  let c0_i32_325 : BitVec 32 := 0#32
  let c1_i32_327 : BitVec 32 := 1#32
  let arg19 : BitVec 32 := Scf.iv c0_i32_325 c1_i32_327 k0_t1
  let v688 : Index := Scalar.indexCast arg19
  let c128_383 : Index := 128#32
  let c0_384 : Index := 0#32
  ![1, v688.toNat, 128, 0]
def k0_mult2 (i : grid0.Coords) : BitVec 32 :=
  let arg2 : BitVec 32 := BitVec.ofNat 32 (i 2).val
  let c256_i32 : BitVec 32 := 256#32
  let v10 : BitVec 32 := Scalar.muli arg2 c256_i32
  v10
def k0_off13 (i : grid0.Coords) : Fin 3 → Nat :=
  let c0_16 : Index := 0#32
  let arg2 : BitVec 32 := BitVec.ofNat 32 (i 2).val
  let c256_i32 : BitVec 32 := 256#32
  let v10 : BitVec 32 := Scalar.muli arg2 c256_i32
  let v11 : BitVec 32 := v10
  let v27 : Index := Scalar.indexCast v11
  let c0_17 : Index := 0#32
  ![0, v27.toNat, 0]
def k0_off14 (i : grid0.Coords) : Fin 3 → Nat :=
  let c1_30 : Index := 1#32
  let arg2 : BitVec 32 := BitVec.ofNat 32 (i 2).val
  let c256_i32 : BitVec 32 := 256#32
  let v10 : BitVec 32 := Scalar.muli arg2 c256_i32
  let v11 : BitVec 32 := v10
  let v46 : Index := Scalar.indexCast v11
  let c0_31 : Index := 0#32
  ![1, v46.toNat, 0]
def k0_mult3 : BitVec 32 :=
  let c0_i32_33 : BitVec 32 := 0#32
  c0_i32_33
def k0_mult4 : BitVec 32 :=
  let c256_i32_53 : BitVec 32 := 256#32
  c256_i32_53
def k0_mult5 : BitVec 32 :=
  let c512_i32 : BitVec 32 := 512#32
  c512_i32
def k0_mult6 : BitVec 32 :=
  let c768_i32 : BitVec 32 := 768#32
  c768_i32
def k0_mult7 : BitVec 32 :=
  let c1024_i32 : BitVec 32 := 1024#32
  c1024_i32
def k0_mult8 : BitVec 32 :=
  let c1280_i32 : BitVec 32 := 1280#32
  c1280_i32
def k0_mult9 : BitVec 32 :=
  let c1536_i32 : BitVec 32 := 1536#32
  c1536_i32
def k0_mult10 : BitVec 32 :=
  let c1792_i32 : BitVec 32 := 1792#32
  c1792_i32
def k0_off15 (i : grid0.Coords) : Fin 4 → Nat :=
  let c0_212 : Index := 0#32
  let arg2 : BitVec 32 := BitVec.ofNat 32 (i 2).val
  let v318 : Index := Scalar.indexCast arg2
  let c0_213 : Index := 0#32
  let c0_214 : Index := 0#32
  ![0, v318.toNat, 0, 0]
def k0_off16 (i : grid0.Coords) : Fin 4 → Nat :=
  let c1_243 : Index := 1#32
  let arg2 : BitVec 32 := BitVec.ofNat 32 (i 2).val
  let v394 : Index := Scalar.indexCast arg2
  let c0_244 : Index := 0#32
  let c0_245 : Index := 0#32
  ![1, v394.toNat, 0, 0]
@[reducible] def k0_t2_loop (i : grid0.Coords) : Scf.Loop 32 :=
  let c0_i32_265 : BitVec 32 := 0#32
  let arg2 : BitVec 32 := BitVec.ofNat 32 (i 2).val
  let c4_i32 : BitVec 32 := 4#32
  let v402 : BitVec 32 := Scalar.addi arg2 c4_i32
  let c1_i32 : BitVec 32 := 1#32
  let v403 : BitVec 32 := Scalar.subi v402 c1_i32
  let c0_i32_251 : BitVec 32 := 0#32
  let v405 : BitVec 1 := Scalar.cmpi .sgt v403 c0_i32_251
  let v406 : BitVec 32 := Scalar.extui v405
  let c0_i32_252 : BitVec 32 := 0#32
  let v407 : BitVec 1 := Scalar.cmpi .slt v403 c0_i32_252
  let v408 : BitVec 32 := Scalar.extui v407
  let v409 : BitVec 32 := Scalar.subi v406 v408
  let c4_i32_250 : BitVec 32 := 4#32
  let c0_i32_253 : BitVec 32 := 0#32
  let v410 : BitVec 1 := Scalar.cmpi .sgt c4_i32_250 c0_i32_253
  let v411 : BitVec 32 := Scalar.extui v410
  let c0_i32_254 : BitVec 32 := 0#32
  let v412 : BitVec 1 := Scalar.cmpi .slt c4_i32_250 c0_i32_254
  let v413 : BitVec 32 := Scalar.extui v412
  let v414 : BitVec 32 := Scalar.subi v411 v413
  let v415 : BitVec 1 := Scalar.cmpi .ne v409 v414
  let v416 : BitVec 32 := Scalar.remsi v403 c4_i32_250
  let c0_i32_255 : BitVec 32 := 0#32
  let v417 : BitVec 1 := Scalar.cmpi .ne v416 c0_i32_255
  let v418 : BitVec 1 := Scalar.andi v415 v417
  let v404 : BitVec 32 := Scalar.divsi v403 c4_i32_250
  let c1_i32_256 : BitVec 32 := 1#32
  let v419 : BitVec 32 := Scalar.subi v404 c1_i32_256
  let v420 : BitVec 32 := Scalar.select v418 v419 v404
  let c0_i32_257 : BitVec 32 := 0#32
  let v422 : BitVec 1 := Scalar.cmpi .sgt v420 c0_i32_257
  let v423 : BitVec 32 := Scalar.extui v422
  let c0_i32_258 : BitVec 32 := 0#32
  let v424 : BitVec 1 := Scalar.cmpi .slt v420 c0_i32_258
  let v425 : BitVec 32 := Scalar.extui v424
  let v426 : BitVec 32 := Scalar.subi v423 v425
  let c2_i32 : BitVec 32 := 2#32
  let c0_i32_259 : BitVec 32 := 0#32
  let v427 : BitVec 1 := Scalar.cmpi .sgt c2_i32 c0_i32_259
  let v428 : BitVec 32 := Scalar.extui v427
  let c0_i32_260 : BitVec 32 := 0#32
  let v429 : BitVec 1 := Scalar.cmpi .slt c2_i32 c0_i32_260
  let v430 : BitVec 32 := Scalar.extui v429
  let v431 : BitVec 32 := Scalar.subi v428 v430
  let v432 : BitVec 1 := Scalar.cmpi .ne v426 v431
  let v433 : BitVec 32 := Scalar.remsi v420 c2_i32
  let c0_i32_261 : BitVec 32 := 0#32
  let v434 : BitVec 1 := Scalar.cmpi .ne v433 c0_i32_261
  let v435 : BitVec 1 := Scalar.andi v432 v434
  let v421 : BitVec 32 := Scalar.divsi v420 c2_i32
  let c1_i32_262 : BitVec 32 := 1#32
  let v436 : BitVec 32 := Scalar.subi v421 c1_i32_262
  let v437 : BitVec 32 := Scalar.select v435 v436 v421
  let c1_i32_263 : BitVec 32 := 1#32
  let v438 : BitVec 32 := Scalar.subi v437 c1_i32_263
  let c0_i32_264 : BitVec 32 := 0#32
  let v439 : BitVec 32 := Scalar.maxsi v438 c0_i32_264
  let v440 : BitVec 32 := Scalar.subi v439 c0_i32_265
  let c1_i32_266 : BitVec 32 := 1#32
  let v442 : BitVec 32 := Scalar.divsi v440 c1_i32_266
  let v443 : BitVec 32 := Scalar.muli v442 c1_i32_266
  let v444 : BitVec 32 := Scalar.addi c0_i32_265 v443
  let c1_i32_267 : BitVec 32 := 1#32
  ⟨c0_i32_265, v444, c1_i32_267⟩
def k0_off17 (i : grid0.Coords) (k0_t2 : Fin (k0_t2_loop i).trips) (c0_i32_297 : BitVec 32) : Fin 3 → Nat :=
  let c0_298 : Index := 0#32
  let c2_i32_295 : BitVec 32 := 2#32
  let c0_i32_265 : BitVec 32 := 0#32
  let c1_i32_267 : BitVec 32 := 1#32
  let arg19 : BitVec 32 := Scf.iv c0_i32_265 c1_i32_267 k0_t2
  let v482 : BitVec 32 := Scalar.muli c2_i32_295 arg19
  let c4_i32_296 : BitVec 32 := 4#32
  let v483 : BitVec 32 := Scalar.muli v482 c4_i32_296
  let v484 : BitVec 32 := Scalar.addi v483 c0_i32_297
  let v485 : Index := Scalar.indexCast v484
  let c0_299 : Index := 0#32
  ![0, v485.toNat, 0]
def k0_off18 (i : grid0.Coords) (k0_t2 : Fin (k0_t2_loop i).trips) (c0_i32_297 : BitVec 32) : Fin 3 → Nat :=
  let c1_306 : Index := 1#32
  let c2_i32_295 : BitVec 32 := 2#32
  let c0_i32_265 : BitVec 32 := 0#32
  let c1_i32_267 : BitVec 32 := 1#32
  let arg19 : BitVec 32 := Scf.iv c0_i32_265 c1_i32_267 k0_t2
  let v482 : BitVec 32 := Scalar.muli c2_i32_295 arg19
  let c4_i32_296 : BitVec 32 := 4#32
  let v483 : BitVec 32 := Scalar.muli v482 c4_i32_296
  let v484 : BitVec 32 := Scalar.addi v483 c0_i32_297
  let v501 : Index := Scalar.indexCast v484
  let c0_307 : Index := 0#32
  ![1, v501.toNat, 0]
def k0_mult11 (i : grid0.Coords) (k0_t2 : Fin (k0_t2_loop i).trips) : BitVec 32 :=
  let c2_i32_295 : BitVec 32 := 2#32
  let c0_i32_265 : BitVec 32 := 0#32
  let c1_i32_267 : BitVec 32 := 1#32
  let arg19 : BitVec 32 := Scf.iv c0_i32_265 c1_i32_267 k0_t2
  let v482 : BitVec 32 := Scalar.muli c2_i32_295 arg19
  let c2_i32_367 : BitVec 32 := 2#32
  let v623 : BitVec 32 := Scalar.addi v482 c2_i32_367
  let c15_i32 : BitVec 32 := 15#32
  let v624 : BitVec 32 := Scalar.minsi v623 c15_i32
  let c4_i32_368 : BitVec 32 := 4#32
  let v625 : BitVec 32 := Scalar.muli v624 c4_i32_368
  let c0_i32_369 : BitVec 32 := 0#32
  let v626 : BitVec 32 := Scalar.addi v625 c0_i32_369
  let c256_i32_370 : BitVec 32 := 256#32
  let v627 : BitVec 32 := Scalar.muli v626 c256_i32_370
  v627
def k0_off19 (i : grid0.Coords) (k0_t2 : Fin (k0_t2_loop i).trips) (c0_i32_376 : BitVec 32) : Fin 4 → Nat :=
  let c0_377 : Index := 0#32
  let c2_i32_295 : BitVec 32 := 2#32
  let c0_i32_265 : BitVec 32 := 0#32
  let c1_i32_267 : BitVec 32 := 1#32
  let arg19 : BitVec 32 := Scf.iv c0_i32_265 c1_i32_267 k0_t2
  let v482 : BitVec 32 := Scalar.muli c2_i32_295 arg19
  let c4_i32_375 : BitVec 32 := 4#32
  let v638 : BitVec 32 := Scalar.muli v482 c4_i32_375
  let v639 : BitVec 32 := Scalar.addi v638 c0_i32_376
  let v640 : Index := Scalar.indexCast v639
  let c0_378 : Index := 0#32
  let c0_379 : Index := 0#32
  ![0, v640.toNat, 0, 0]
def k0_off20 (i : grid0.Coords) (k0_t2 : Fin (k0_t2_loop i).trips) (c0_i32_369 : BitVec 32) : Fin 3 → Nat :=
  let c0_381 : Index := 0#32
  let c2_i32_295 : BitVec 32 := 2#32
  let c0_i32_265 : BitVec 32 := 0#32
  let c1_i32_267 : BitVec 32 := 1#32
  let arg19 : BitVec 32 := Scf.iv c0_i32_265 c1_i32_267 k0_t2
  let v482 : BitVec 32 := Scalar.muli c2_i32_295 arg19
  let c2_i32_367 : BitVec 32 := 2#32
  let v623 : BitVec 32 := Scalar.addi v482 c2_i32_367
  let c15_i32 : BitVec 32 := 15#32
  let v624 : BitVec 32 := Scalar.minsi v623 c15_i32
  let c4_i32_368 : BitVec 32 := 4#32
  let v625 : BitVec 32 := Scalar.muli v624 c4_i32_368
  let v626 : BitVec 32 := Scalar.addi v625 c0_i32_369
  let c256_i32_370 : BitVec 32 := 256#32
  let v627 : BitVec 32 := Scalar.muli v626 c256_i32_370
  let v628 : BitVec 32 := v627
  let v644 : Index := Scalar.indexCast v628
  let c0_382 : Index := 0#32
  ![0, v644.toNat, 0]
def k0_off21 (i : grid0.Coords) (k0_t2 : Fin (k0_t2_loop i).trips) (c0_i32_396 : BitVec 32) : Fin 4 → Nat :=
  let c1_397 : Index := 1#32
  let c2_i32_295 : BitVec 32 := 2#32
  let c0_i32_265 : BitVec 32 := 0#32
  let c1_i32_267 : BitVec 32 := 1#32
  let arg19 : BitVec 32 := Scf.iv c0_i32_265 c1_i32_267 k0_t2
  let v482 : BitVec 32 := Scalar.muli c2_i32_295 arg19
  let c4_i32_395 : BitVec 32 := 4#32
  let v665 : BitVec 32 := Scalar.muli v482 c4_i32_395
  let v666 : BitVec 32 := Scalar.addi v665 c0_i32_396
  let v667 : Index := Scalar.indexCast v666
  let c0_398 : Index := 0#32
  let c0_399 : Index := 0#32
  ![1, v667.toNat, 0, 0]
def k0_off22 (i : grid0.Coords) (k0_t2 : Fin (k0_t2_loop i).trips) (c0_i32_369 : BitVec 32) : Fin 3 → Nat :=
  let c1_401 : Index := 1#32
  let c2_i32_295 : BitVec 32 := 2#32
  let c0_i32_265 : BitVec 32 := 0#32
  let c1_i32_267 : BitVec 32 := 1#32
  let arg19 : BitVec 32 := Scf.iv c0_i32_265 c1_i32_267 k0_t2
  let v482 : BitVec 32 := Scalar.muli c2_i32_295 arg19
  let c2_i32_367 : BitVec 32 := 2#32
  let v623 : BitVec 32 := Scalar.addi v482 c2_i32_367
  let c15_i32 : BitVec 32 := 15#32
  let v624 : BitVec 32 := Scalar.minsi v623 c15_i32
  let c4_i32_368 : BitVec 32 := 4#32
  let v625 : BitVec 32 := Scalar.muli v624 c4_i32_368
  let v626 : BitVec 32 := Scalar.addi v625 c0_i32_369
  let c256_i32_370 : BitVec 32 := 256#32
  let v627 : BitVec 32 := Scalar.muli v626 c256_i32_370
  let v628 : BitVec 32 := v627
  let v671 : Index := Scalar.indexCast v628
  let c0_402 : Index := 0#32
  ![1, v671.toNat, 0]
def k0_mult12 (i : grid0.Coords) (k0_t2 : Fin (k0_t2_loop i).trips) : BitVec 32 :=
  let c2_i32_295 : BitVec 32 := 2#32
  let c0_i32_265 : BitVec 32 := 0#32
  let c1_i32_267 : BitVec 32 := 1#32
  let arg19 : BitVec 32 := Scf.iv c0_i32_265 c1_i32_267 k0_t2
  let v482 : BitVec 32 := Scalar.muli c2_i32_295 arg19
  let c2_i32_367 : BitVec 32 := 2#32
  let v623 : BitVec 32 := Scalar.addi v482 c2_i32_367
  let c15_i32 : BitVec 32 := 15#32
  let v624 : BitVec 32 := Scalar.minsi v623 c15_i32
  let c4_i32_411 : BitVec 32 := 4#32
  let v683 : BitVec 32 := Scalar.muli v624 c4_i32_411
  let c1_i32_412 : BitVec 32 := 1#32
  let v684 : BitVec 32 := Scalar.addi v683 c1_i32_412
  let c256_i32_413 : BitVec 32 := 256#32
  let v685 : BitVec 32 := Scalar.muli v684 c256_i32_413
  v685
def k0_mult13 (i : grid0.Coords) (k0_t2 : Fin (k0_t2_loop i).trips) : BitVec 32 :=
  let c2_i32_295 : BitVec 32 := 2#32
  let c0_i32_265 : BitVec 32 := 0#32
  let c1_i32_267 : BitVec 32 := 1#32
  let arg19 : BitVec 32 := Scf.iv c0_i32_265 c1_i32_267 k0_t2
  let v482 : BitVec 32 := Scalar.muli c2_i32_295 arg19
  let c2_i32_367 : BitVec 32 := 2#32
  let v623 : BitVec 32 := Scalar.addi v482 c2_i32_367
  let c15_i32 : BitVec 32 := 15#32
  let v624 : BitVec 32 := Scalar.minsi v623 c15_i32
  let c4_i32_454 : BitVec 32 := 4#32
  let v743 : BitVec 32 := Scalar.muli v624 c4_i32_454
  let c2_i32_455 : BitVec 32 := 2#32
  let v744 : BitVec 32 := Scalar.addi v743 c2_i32_455
  let c256_i32_456 : BitVec 32 := 256#32
  let v745 : BitVec 32 := Scalar.muli v744 c256_i32_456
  v745
def k0_mult14 (i : grid0.Coords) (k0_t2 : Fin (k0_t2_loop i).trips) : BitVec 32 :=
  let c2_i32_295 : BitVec 32 := 2#32
  let c0_i32_265 : BitVec 32 := 0#32
  let c1_i32_267 : BitVec 32 := 1#32
  let arg19 : BitVec 32 := Scf.iv c0_i32_265 c1_i32_267 k0_t2
  let v482 : BitVec 32 := Scalar.muli c2_i32_295 arg19
  let c2_i32_367 : BitVec 32 := 2#32
  let v623 : BitVec 32 := Scalar.addi v482 c2_i32_367
  let c15_i32 : BitVec 32 := 15#32
  let v624 : BitVec 32 := Scalar.minsi v623 c15_i32
  let c4_i32_497 : BitVec 32 := 4#32
  let v803 : BitVec 32 := Scalar.muli v624 c4_i32_497
  let c3_i32_498 : BitVec 32 := 3#32
  let v804 : BitVec 32 := Scalar.addi v803 c3_i32_498
  let c256_i32_499 : BitVec 32 := 256#32
  let v805 : BitVec 32 := Scalar.muli v804 c256_i32_499
  v805
def k0_off23 (i : grid0.Coords) (k0_t2 : Fin (k0_t2_loop i).trips) (c0_i32_555 : BitVec 32) : Fin 3 → Nat :=
  let c0_556 : Index := 0#32
  let c2_i32_552 : BitVec 32 := 2#32
  let c0_i32_265 : BitVec 32 := 0#32
  let c1_i32_267 : BitVec 32 := 1#32
  let arg19 : BitVec 32 := Scf.iv c0_i32_265 c1_i32_267 k0_t2
  let v879 : BitVec 32 := Scalar.muli c2_i32_552 arg19
  let c1_i32_553 : BitVec 32 := 1#32
  let v880 : BitVec 32 := Scalar.addi v879 c1_i32_553
  let c4_i32_554 : BitVec 32 := 4#32
  let v881 : BitVec 32 := Scalar.muli v880 c4_i32_554
  let v882 : BitVec 32 := Scalar.addi v881 c0_i32_555
  let v883 : Index := Scalar.indexCast v882
  let c0_557 : Index := 0#32
  ![0, v883.toNat, 0]
def k0_off24 (i : grid0.Coords) (k0_t2 : Fin (k0_t2_loop i).trips) (c0_i32_555 : BitVec 32) : Fin 3 → Nat :=
  let c1_564 : Index := 1#32
  let c2_i32_552 : BitVec 32 := 2#32
  let c0_i32_265 : BitVec 32 := 0#32
  let c1_i32_267 : BitVec 32 := 1#32
  let arg19 : BitVec 32 := Scf.iv c0_i32_265 c1_i32_267 k0_t2
  let v879 : BitVec 32 := Scalar.muli c2_i32_552 arg19
  let c1_i32_553 : BitVec 32 := 1#32
  let v880 : BitVec 32 := Scalar.addi v879 c1_i32_553
  let c4_i32_554 : BitVec 32 := 4#32
  let v881 : BitVec 32 := Scalar.muli v880 c4_i32_554
  let v882 : BitVec 32 := Scalar.addi v881 c0_i32_555
  let v899 : Index := Scalar.indexCast v882
  let c0_565 : Index := 0#32
  ![1, v899.toNat, 0]
def k0_mult15 (i : grid0.Coords) (k0_t2 : Fin (k0_t2_loop i).trips) : BitVec 32 :=
  let c2_i32_552 : BitVec 32 := 2#32
  let c0_i32_265 : BitVec 32 := 0#32
  let c1_i32_267 : BitVec 32 := 1#32
  let arg19 : BitVec 32 := Scf.iv c0_i32_265 c1_i32_267 k0_t2
  let v879 : BitVec 32 := Scalar.muli c2_i32_552 arg19
  let c1_i32_553 : BitVec 32 := 1#32
  let v880 : BitVec 32 := Scalar.addi v879 c1_i32_553
  let c2_i32_626 : BitVec 32 := 2#32
  let v1021 : BitVec 32 := Scalar.addi v880 c2_i32_626
  let c15_i32_627 : BitVec 32 := 15#32
  let v1022 : BitVec 32 := Scalar.minsi v1021 c15_i32_627
  let c4_i32_628 : BitVec 32 := 4#32
  let v1023 : BitVec 32 := Scalar.muli v1022 c4_i32_628
  let c0_i32_629 : BitVec 32 := 0#32
  let v1024 : BitVec 32 := Scalar.addi v1023 c0_i32_629
  let c256_i32_630 : BitVec 32 := 256#32
  let v1025 : BitVec 32 := Scalar.muli v1024 c256_i32_630
  v1025
def k0_off25 (i : grid0.Coords) (k0_t2 : Fin (k0_t2_loop i).trips) (c0_i32_636 : BitVec 32) : Fin 4 → Nat :=
  let c0_637 : Index := 0#32
  let c2_i32_552 : BitVec 32 := 2#32
  let c0_i32_265 : BitVec 32 := 0#32
  let c1_i32_267 : BitVec 32 := 1#32
  let arg19 : BitVec 32 := Scf.iv c0_i32_265 c1_i32_267 k0_t2
  let v879 : BitVec 32 := Scalar.muli c2_i32_552 arg19
  let c1_i32_553 : BitVec 32 := 1#32
  let v880 : BitVec 32 := Scalar.addi v879 c1_i32_553
  let c4_i32_635 : BitVec 32 := 4#32
  let v1036 : BitVec 32 := Scalar.muli v880 c4_i32_635
  let v1037 : BitVec 32 := Scalar.addi v1036 c0_i32_636
  let v1038 : Index := Scalar.indexCast v1037
  let c0_638 : Index := 0#32
  let c0_639 : Index := 0#32
  ![0, v1038.toNat, 0, 0]
def k0_off26 (i : grid0.Coords) (k0_t2 : Fin (k0_t2_loop i).trips) (c0_i32_629 : BitVec 32) : Fin 3 → Nat :=
  let c0_641 : Index := 0#32
  let c2_i32_552 : BitVec 32 := 2#32
  let c0_i32_265 : BitVec 32 := 0#32
  let c1_i32_267 : BitVec 32 := 1#32
  let arg19 : BitVec 32 := Scf.iv c0_i32_265 c1_i32_267 k0_t2
  let v879 : BitVec 32 := Scalar.muli c2_i32_552 arg19
  let c1_i32_553 : BitVec 32 := 1#32
  let v880 : BitVec 32 := Scalar.addi v879 c1_i32_553
  let c2_i32_626 : BitVec 32 := 2#32
  let v1021 : BitVec 32 := Scalar.addi v880 c2_i32_626
  let c15_i32_627 : BitVec 32 := 15#32
  let v1022 : BitVec 32 := Scalar.minsi v1021 c15_i32_627
  let c4_i32_628 : BitVec 32 := 4#32
  let v1023 : BitVec 32 := Scalar.muli v1022 c4_i32_628
  let v1024 : BitVec 32 := Scalar.addi v1023 c0_i32_629
  let c256_i32_630 : BitVec 32 := 256#32
  let v1025 : BitVec 32 := Scalar.muli v1024 c256_i32_630
  let v1026 : BitVec 32 := v1025
  let v1042 : Index := Scalar.indexCast v1026
  let c0_642 : Index := 0#32
  ![0, v1042.toNat, 0]
def k0_off27 (i : grid0.Coords) (k0_t2 : Fin (k0_t2_loop i).trips) (c0_i32_656 : BitVec 32) : Fin 4 → Nat :=
  let c1_657 : Index := 1#32
  let c2_i32_552 : BitVec 32 := 2#32
  let c0_i32_265 : BitVec 32 := 0#32
  let c1_i32_267 : BitVec 32 := 1#32
  let arg19 : BitVec 32 := Scf.iv c0_i32_265 c1_i32_267 k0_t2
  let v879 : BitVec 32 := Scalar.muli c2_i32_552 arg19
  let c1_i32_553 : BitVec 32 := 1#32
  let v880 : BitVec 32 := Scalar.addi v879 c1_i32_553
  let c4_i32_655 : BitVec 32 := 4#32
  let v1063 : BitVec 32 := Scalar.muli v880 c4_i32_655
  let v1064 : BitVec 32 := Scalar.addi v1063 c0_i32_656
  let v1065 : Index := Scalar.indexCast v1064
  let c0_658 : Index := 0#32
  let c0_659 : Index := 0#32
  ![1, v1065.toNat, 0, 0]
def k0_off28 (i : grid0.Coords) (k0_t2 : Fin (k0_t2_loop i).trips) (c0_i32_629 : BitVec 32) : Fin 3 → Nat :=
  let c1_661 : Index := 1#32
  let c2_i32_552 : BitVec 32 := 2#32
  let c0_i32_265 : BitVec 32 := 0#32
  let c1_i32_267 : BitVec 32 := 1#32
  let arg19 : BitVec 32 := Scf.iv c0_i32_265 c1_i32_267 k0_t2
  let v879 : BitVec 32 := Scalar.muli c2_i32_552 arg19
  let c1_i32_553 : BitVec 32 := 1#32
  let v880 : BitVec 32 := Scalar.addi v879 c1_i32_553
  let c2_i32_626 : BitVec 32 := 2#32
  let v1021 : BitVec 32 := Scalar.addi v880 c2_i32_626
  let c15_i32_627 : BitVec 32 := 15#32
  let v1022 : BitVec 32 := Scalar.minsi v1021 c15_i32_627
  let c4_i32_628 : BitVec 32 := 4#32
  let v1023 : BitVec 32 := Scalar.muli v1022 c4_i32_628
  let v1024 : BitVec 32 := Scalar.addi v1023 c0_i32_629
  let c256_i32_630 : BitVec 32 := 256#32
  let v1025 : BitVec 32 := Scalar.muli v1024 c256_i32_630
  let v1026 : BitVec 32 := v1025
  let v1069 : Index := Scalar.indexCast v1026
  let c0_662 : Index := 0#32
  ![1, v1069.toNat, 0]
def k0_mult16 (i : grid0.Coords) (k0_t2 : Fin (k0_t2_loop i).trips) : BitVec 32 :=
  let c2_i32_552 : BitVec 32 := 2#32
  let c0_i32_265 : BitVec 32 := 0#32
  let c1_i32_267 : BitVec 32 := 1#32
  let arg19 : BitVec 32 := Scf.iv c0_i32_265 c1_i32_267 k0_t2
  let v879 : BitVec 32 := Scalar.muli c2_i32_552 arg19
  let c1_i32_553 : BitVec 32 := 1#32
  let v880 : BitVec 32 := Scalar.addi v879 c1_i32_553
  let c2_i32_626 : BitVec 32 := 2#32
  let v1021 : BitVec 32 := Scalar.addi v880 c2_i32_626
  let c15_i32_627 : BitVec 32 := 15#32
  let v1022 : BitVec 32 := Scalar.minsi v1021 c15_i32_627
  let c4_i32_671 : BitVec 32 := 4#32
  let v1081 : BitVec 32 := Scalar.muli v1022 c4_i32_671
  let c1_i32_672 : BitVec 32 := 1#32
  let v1082 : BitVec 32 := Scalar.addi v1081 c1_i32_672
  let c256_i32_673 : BitVec 32 := 256#32
  let v1083 : BitVec 32 := Scalar.muli v1082 c256_i32_673
  v1083
def k0_mult17 (i : grid0.Coords) (k0_t2 : Fin (k0_t2_loop i).trips) : BitVec 32 :=
  let c2_i32_552 : BitVec 32 := 2#32
  let c0_i32_265 : BitVec 32 := 0#32
  let c1_i32_267 : BitVec 32 := 1#32
  let arg19 : BitVec 32 := Scf.iv c0_i32_265 c1_i32_267 k0_t2
  let v879 : BitVec 32 := Scalar.muli c2_i32_552 arg19
  let c1_i32_553 : BitVec 32 := 1#32
  let v880 : BitVec 32 := Scalar.addi v879 c1_i32_553
  let c2_i32_626 : BitVec 32 := 2#32
  let v1021 : BitVec 32 := Scalar.addi v880 c2_i32_626
  let c15_i32_627 : BitVec 32 := 15#32
  let v1022 : BitVec 32 := Scalar.minsi v1021 c15_i32_627
  let c4_i32_714 : BitVec 32 := 4#32
  let v1141 : BitVec 32 := Scalar.muli v1022 c4_i32_714
  let c2_i32_715 : BitVec 32 := 2#32
  let v1142 : BitVec 32 := Scalar.addi v1141 c2_i32_715
  let c256_i32_716 : BitVec 32 := 256#32
  let v1143 : BitVec 32 := Scalar.muli v1142 c256_i32_716
  v1143
def k0_mult18 (i : grid0.Coords) (k0_t2 : Fin (k0_t2_loop i).trips) : BitVec 32 :=
  let c2_i32_552 : BitVec 32 := 2#32
  let c0_i32_265 : BitVec 32 := 0#32
  let c1_i32_267 : BitVec 32 := 1#32
  let arg19 : BitVec 32 := Scf.iv c0_i32_265 c1_i32_267 k0_t2
  let v879 : BitVec 32 := Scalar.muli c2_i32_552 arg19
  let c1_i32_553 : BitVec 32 := 1#32
  let v880 : BitVec 32 := Scalar.addi v879 c1_i32_553
  let c2_i32_626 : BitVec 32 := 2#32
  let v1021 : BitVec 32 := Scalar.addi v880 c2_i32_626
  let c15_i32_627 : BitVec 32 := 15#32
  let v1022 : BitVec 32 := Scalar.minsi v1021 c15_i32_627
  let c4_i32_757 : BitVec 32 := 4#32
  let v1201 : BitVec 32 := Scalar.muli v1022 c4_i32_757
  let c3_i32_758 : BitVec 32 := 3#32
  let v1202 : BitVec 32 := Scalar.addi v1201 c3_i32_758
  let c256_i32_759 : BitVec 32 := 256#32
  let v1203 : BitVec 32 := Scalar.muli v1202 c256_i32_759
  v1203
@[reducible] def k0_t3_loop (i : grid0.Coords) : Scf.Loop 32 :=
  let c0_i32_265 : BitVec 32 := 0#32
  let arg2 : BitVec 32 := BitVec.ofNat 32 (i 2).val
  let c4_i32 : BitVec 32 := 4#32
  let v402 : BitVec 32 := Scalar.addi arg2 c4_i32
  let c1_i32 : BitVec 32 := 1#32
  let v403 : BitVec 32 := Scalar.subi v402 c1_i32
  let c0_i32_251 : BitVec 32 := 0#32
  let v405 : BitVec 1 := Scalar.cmpi .sgt v403 c0_i32_251
  let v406 : BitVec 32 := Scalar.extui v405
  let c0_i32_252 : BitVec 32 := 0#32
  let v407 : BitVec 1 := Scalar.cmpi .slt v403 c0_i32_252
  let v408 : BitVec 32 := Scalar.extui v407
  let v409 : BitVec 32 := Scalar.subi v406 v408
  let c4_i32_250 : BitVec 32 := 4#32
  let c0_i32_253 : BitVec 32 := 0#32
  let v410 : BitVec 1 := Scalar.cmpi .sgt c4_i32_250 c0_i32_253
  let v411 : BitVec 32 := Scalar.extui v410
  let c0_i32_254 : BitVec 32 := 0#32
  let v412 : BitVec 1 := Scalar.cmpi .slt c4_i32_250 c0_i32_254
  let v413 : BitVec 32 := Scalar.extui v412
  let v414 : BitVec 32 := Scalar.subi v411 v413
  let v415 : BitVec 1 := Scalar.cmpi .ne v409 v414
  let v416 : BitVec 32 := Scalar.remsi v403 c4_i32_250
  let c0_i32_255 : BitVec 32 := 0#32
  let v417 : BitVec 1 := Scalar.cmpi .ne v416 c0_i32_255
  let v418 : BitVec 1 := Scalar.andi v415 v417
  let v404 : BitVec 32 := Scalar.divsi v403 c4_i32_250
  let c1_i32_256 : BitVec 32 := 1#32
  let v419 : BitVec 32 := Scalar.subi v404 c1_i32_256
  let v420 : BitVec 32 := Scalar.select v418 v419 v404
  let c0_i32_257 : BitVec 32 := 0#32
  let v422 : BitVec 1 := Scalar.cmpi .sgt v420 c0_i32_257
  let v423 : BitVec 32 := Scalar.extui v422
  let c0_i32_258 : BitVec 32 := 0#32
  let v424 : BitVec 1 := Scalar.cmpi .slt v420 c0_i32_258
  let v425 : BitVec 32 := Scalar.extui v424
  let v426 : BitVec 32 := Scalar.subi v423 v425
  let c2_i32 : BitVec 32 := 2#32
  let c0_i32_259 : BitVec 32 := 0#32
  let v427 : BitVec 1 := Scalar.cmpi .sgt c2_i32 c0_i32_259
  let v428 : BitVec 32 := Scalar.extui v427
  let c0_i32_260 : BitVec 32 := 0#32
  let v429 : BitVec 1 := Scalar.cmpi .slt c2_i32 c0_i32_260
  let v430 : BitVec 32 := Scalar.extui v429
  let v431 : BitVec 32 := Scalar.subi v428 v430
  let v432 : BitVec 1 := Scalar.cmpi .ne v426 v431
  let v433 : BitVec 32 := Scalar.remsi v420 c2_i32
  let c0_i32_261 : BitVec 32 := 0#32
  let v434 : BitVec 1 := Scalar.cmpi .ne v433 c0_i32_261
  let v435 : BitVec 1 := Scalar.andi v432 v434
  let v421 : BitVec 32 := Scalar.divsi v420 c2_i32
  let c1_i32_262 : BitVec 32 := 1#32
  let v436 : BitVec 32 := Scalar.subi v421 c1_i32_262
  let v437 : BitVec 32 := Scalar.select v435 v436 v421
  let c1_i32_263 : BitVec 32 := 1#32
  let v438 : BitVec 32 := Scalar.subi v437 c1_i32_263
  let c0_i32_264 : BitVec 32 := 0#32
  let v439 : BitVec 32 := Scalar.maxsi v438 c0_i32_264
  let v440 : BitVec 32 := Scalar.subi v439 c0_i32_265
  let c1_i32_266 : BitVec 32 := 1#32
  let v442 : BitVec 32 := Scalar.divsi v440 c1_i32_266
  let v443 : BitVec 32 := Scalar.muli v442 c1_i32_266
  let v444 : BitVec 32 := Scalar.addi c0_i32_265 v443
  let v441 : BitVec 32 := Scalar.addi c0_i32_265 v440
  let c1_i32_268 : BitVec 32 := 1#32
  ⟨v444, v441, c1_i32_268⟩
def k0_off29 (i : grid0.Coords) (k0_t3 : Fin (k0_t3_loop i).trips) (c0_i32_297 : BitVec 32) : Fin 3 → Nat :=
  let c0_298 : Index := 0#32
  let c2_i32_295 : BitVec 32 := 2#32
  let c0_i32_265 : BitVec 32 := 0#32
  let arg2 : BitVec 32 := BitVec.ofNat 32 (i 2).val
  let c4_i32 : BitVec 32 := 4#32
  let v402 : BitVec 32 := Scalar.addi arg2 c4_i32
  let c1_i32 : BitVec 32 := 1#32
  let v403 : BitVec 32 := Scalar.subi v402 c1_i32
  let c0_i32_251 : BitVec 32 := 0#32
  let v405 : BitVec 1 := Scalar.cmpi .sgt v403 c0_i32_251
  let v406 : BitVec 32 := Scalar.extui v405
  let c0_i32_252 : BitVec 32 := 0#32
  let v407 : BitVec 1 := Scalar.cmpi .slt v403 c0_i32_252
  let v408 : BitVec 32 := Scalar.extui v407
  let v409 : BitVec 32 := Scalar.subi v406 v408
  let c4_i32_250 : BitVec 32 := 4#32
  let c0_i32_253 : BitVec 32 := 0#32
  let v410 : BitVec 1 := Scalar.cmpi .sgt c4_i32_250 c0_i32_253
  let v411 : BitVec 32 := Scalar.extui v410
  let c0_i32_254 : BitVec 32 := 0#32
  let v412 : BitVec 1 := Scalar.cmpi .slt c4_i32_250 c0_i32_254
  let v413 : BitVec 32 := Scalar.extui v412
  let v414 : BitVec 32 := Scalar.subi v411 v413
  let v415 : BitVec 1 := Scalar.cmpi .ne v409 v414
  let v416 : BitVec 32 := Scalar.remsi v403 c4_i32_250
  let c0_i32_255 : BitVec 32 := 0#32
  let v417 : BitVec 1 := Scalar.cmpi .ne v416 c0_i32_255
  let v418 : BitVec 1 := Scalar.andi v415 v417
  let v404 : BitVec 32 := Scalar.divsi v403 c4_i32_250
  let c1_i32_256 : BitVec 32 := 1#32
  let v419 : BitVec 32 := Scalar.subi v404 c1_i32_256
  let v420 : BitVec 32 := Scalar.select v418 v419 v404
  let c0_i32_257 : BitVec 32 := 0#32
  let v422 : BitVec 1 := Scalar.cmpi .sgt v420 c0_i32_257
  let v423 : BitVec 32 := Scalar.extui v422
  let c0_i32_258 : BitVec 32 := 0#32
  let v424 : BitVec 1 := Scalar.cmpi .slt v420 c0_i32_258
  let v425 : BitVec 32 := Scalar.extui v424
  let v426 : BitVec 32 := Scalar.subi v423 v425
  let c2_i32 : BitVec 32 := 2#32
  let c0_i32_259 : BitVec 32 := 0#32
  let v427 : BitVec 1 := Scalar.cmpi .sgt c2_i32 c0_i32_259
  let v428 : BitVec 32 := Scalar.extui v427
  let c0_i32_260 : BitVec 32 := 0#32
  let v429 : BitVec 1 := Scalar.cmpi .slt c2_i32 c0_i32_260
  let v430 : BitVec 32 := Scalar.extui v429
  let v431 : BitVec 32 := Scalar.subi v428 v430
  let v432 : BitVec 1 := Scalar.cmpi .ne v426 v431
  let v433 : BitVec 32 := Scalar.remsi v420 c2_i32
  let c0_i32_261 : BitVec 32 := 0#32
  let v434 : BitVec 1 := Scalar.cmpi .ne v433 c0_i32_261
  let v435 : BitVec 1 := Scalar.andi v432 v434
  let v421 : BitVec 32 := Scalar.divsi v420 c2_i32
  let c1_i32_262 : BitVec 32 := 1#32
  let v436 : BitVec 32 := Scalar.subi v421 c1_i32_262
  let v437 : BitVec 32 := Scalar.select v435 v436 v421
  let c1_i32_263 : BitVec 32 := 1#32
  let v438 : BitVec 32 := Scalar.subi v437 c1_i32_263
  let c0_i32_264 : BitVec 32 := 0#32
  let v439 : BitVec 32 := Scalar.maxsi v438 c0_i32_264
  let v440 : BitVec 32 := Scalar.subi v439 c0_i32_265
  let c1_i32_266 : BitVec 32 := 1#32
  let v442 : BitVec 32 := Scalar.divsi v440 c1_i32_266
  let v443 : BitVec 32 := Scalar.muli v442 c1_i32_266
  let v444 : BitVec 32 := Scalar.addi c0_i32_265 v443
  let c1_i32_268 : BitVec 32 := 1#32
  let arg19 : BitVec 32 := Scf.iv v444 c1_i32_268 k0_t3
  let v482 : BitVec 32 := Scalar.muli c2_i32_295 arg19
  let c4_i32_296 : BitVec 32 := 4#32
  let v483 : BitVec 32 := Scalar.muli v482 c4_i32_296
  let v484 : BitVec 32 := Scalar.addi v483 c0_i32_297
  let v485 : Index := Scalar.indexCast v484
  let c0_299 : Index := 0#32
  ![0, v485.toNat, 0]
def k0_off30 (i : grid0.Coords) (k0_t3 : Fin (k0_t3_loop i).trips) (c0_i32_297 : BitVec 32) : Fin 3 → Nat :=
  let c1_306 : Index := 1#32
  let c2_i32_295 : BitVec 32 := 2#32
  let c0_i32_265 : BitVec 32 := 0#32
  let arg2 : BitVec 32 := BitVec.ofNat 32 (i 2).val
  let c4_i32 : BitVec 32 := 4#32
  let v402 : BitVec 32 := Scalar.addi arg2 c4_i32
  let c1_i32 : BitVec 32 := 1#32
  let v403 : BitVec 32 := Scalar.subi v402 c1_i32
  let c0_i32_251 : BitVec 32 := 0#32
  let v405 : BitVec 1 := Scalar.cmpi .sgt v403 c0_i32_251
  let v406 : BitVec 32 := Scalar.extui v405
  let c0_i32_252 : BitVec 32 := 0#32
  let v407 : BitVec 1 := Scalar.cmpi .slt v403 c0_i32_252
  let v408 : BitVec 32 := Scalar.extui v407
  let v409 : BitVec 32 := Scalar.subi v406 v408
  let c4_i32_250 : BitVec 32 := 4#32
  let c0_i32_253 : BitVec 32 := 0#32
  let v410 : BitVec 1 := Scalar.cmpi .sgt c4_i32_250 c0_i32_253
  let v411 : BitVec 32 := Scalar.extui v410
  let c0_i32_254 : BitVec 32 := 0#32
  let v412 : BitVec 1 := Scalar.cmpi .slt c4_i32_250 c0_i32_254
  let v413 : BitVec 32 := Scalar.extui v412
  let v414 : BitVec 32 := Scalar.subi v411 v413
  let v415 : BitVec 1 := Scalar.cmpi .ne v409 v414
  let v416 : BitVec 32 := Scalar.remsi v403 c4_i32_250
  let c0_i32_255 : BitVec 32 := 0#32
  let v417 : BitVec 1 := Scalar.cmpi .ne v416 c0_i32_255
  let v418 : BitVec 1 := Scalar.andi v415 v417
  let v404 : BitVec 32 := Scalar.divsi v403 c4_i32_250
  let c1_i32_256 : BitVec 32 := 1#32
  let v419 : BitVec 32 := Scalar.subi v404 c1_i32_256
  let v420 : BitVec 32 := Scalar.select v418 v419 v404
  let c0_i32_257 : BitVec 32 := 0#32
  let v422 : BitVec 1 := Scalar.cmpi .sgt v420 c0_i32_257
  let v423 : BitVec 32 := Scalar.extui v422
  let c0_i32_258 : BitVec 32 := 0#32
  let v424 : BitVec 1 := Scalar.cmpi .slt v420 c0_i32_258
  let v425 : BitVec 32 := Scalar.extui v424
  let v426 : BitVec 32 := Scalar.subi v423 v425
  let c2_i32 : BitVec 32 := 2#32
  let c0_i32_259 : BitVec 32 := 0#32
  let v427 : BitVec 1 := Scalar.cmpi .sgt c2_i32 c0_i32_259
  let v428 : BitVec 32 := Scalar.extui v427
  let c0_i32_260 : BitVec 32 := 0#32
  let v429 : BitVec 1 := Scalar.cmpi .slt c2_i32 c0_i32_260
  let v430 : BitVec 32 := Scalar.extui v429
  let v431 : BitVec 32 := Scalar.subi v428 v430
  let v432 : BitVec 1 := Scalar.cmpi .ne v426 v431
  let v433 : BitVec 32 := Scalar.remsi v420 c2_i32
  let c0_i32_261 : BitVec 32 := 0#32
  let v434 : BitVec 1 := Scalar.cmpi .ne v433 c0_i32_261
  let v435 : BitVec 1 := Scalar.andi v432 v434
  let v421 : BitVec 32 := Scalar.divsi v420 c2_i32
  let c1_i32_262 : BitVec 32 := 1#32
  let v436 : BitVec 32 := Scalar.subi v421 c1_i32_262
  let v437 : BitVec 32 := Scalar.select v435 v436 v421
  let c1_i32_263 : BitVec 32 := 1#32
  let v438 : BitVec 32 := Scalar.subi v437 c1_i32_263
  let c0_i32_264 : BitVec 32 := 0#32
  let v439 : BitVec 32 := Scalar.maxsi v438 c0_i32_264
  let v440 : BitVec 32 := Scalar.subi v439 c0_i32_265
  let c1_i32_266 : BitVec 32 := 1#32
  let v442 : BitVec 32 := Scalar.divsi v440 c1_i32_266
  let v443 : BitVec 32 := Scalar.muli v442 c1_i32_266
  let v444 : BitVec 32 := Scalar.addi c0_i32_265 v443
  let c1_i32_268 : BitVec 32 := 1#32
  let arg19 : BitVec 32 := Scf.iv v444 c1_i32_268 k0_t3
  let v482 : BitVec 32 := Scalar.muli c2_i32_295 arg19
  let c4_i32_296 : BitVec 32 := 4#32
  let v483 : BitVec 32 := Scalar.muli v482 c4_i32_296
  let v484 : BitVec 32 := Scalar.addi v483 c0_i32_297
  let v501 : Index := Scalar.indexCast v484
  let c0_307 : Index := 0#32
  ![1, v501.toNat, 0]
def k0_mult19 (i : grid0.Coords) (k0_t3 : Fin (k0_t3_loop i).trips) : BitVec 32 :=
  let c2_i32_295 : BitVec 32 := 2#32
  let c0_i32_265 : BitVec 32 := 0#32
  let arg2 : BitVec 32 := BitVec.ofNat 32 (i 2).val
  let c4_i32 : BitVec 32 := 4#32
  let v402 : BitVec 32 := Scalar.addi arg2 c4_i32
  let c1_i32 : BitVec 32 := 1#32
  let v403 : BitVec 32 := Scalar.subi v402 c1_i32
  let c0_i32_251 : BitVec 32 := 0#32
  let v405 : BitVec 1 := Scalar.cmpi .sgt v403 c0_i32_251
  let v406 : BitVec 32 := Scalar.extui v405
  let c0_i32_252 : BitVec 32 := 0#32
  let v407 : BitVec 1 := Scalar.cmpi .slt v403 c0_i32_252
  let v408 : BitVec 32 := Scalar.extui v407
  let v409 : BitVec 32 := Scalar.subi v406 v408
  let c4_i32_250 : BitVec 32 := 4#32
  let c0_i32_253 : BitVec 32 := 0#32
  let v410 : BitVec 1 := Scalar.cmpi .sgt c4_i32_250 c0_i32_253
  let v411 : BitVec 32 := Scalar.extui v410
  let c0_i32_254 : BitVec 32 := 0#32
  let v412 : BitVec 1 := Scalar.cmpi .slt c4_i32_250 c0_i32_254
  let v413 : BitVec 32 := Scalar.extui v412
  let v414 : BitVec 32 := Scalar.subi v411 v413
  let v415 : BitVec 1 := Scalar.cmpi .ne v409 v414
  let v416 : BitVec 32 := Scalar.remsi v403 c4_i32_250
  let c0_i32_255 : BitVec 32 := 0#32
  let v417 : BitVec 1 := Scalar.cmpi .ne v416 c0_i32_255
  let v418 : BitVec 1 := Scalar.andi v415 v417
  let v404 : BitVec 32 := Scalar.divsi v403 c4_i32_250
  let c1_i32_256 : BitVec 32 := 1#32
  let v419 : BitVec 32 := Scalar.subi v404 c1_i32_256
  let v420 : BitVec 32 := Scalar.select v418 v419 v404
  let c0_i32_257 : BitVec 32 := 0#32
  let v422 : BitVec 1 := Scalar.cmpi .sgt v420 c0_i32_257
  let v423 : BitVec 32 := Scalar.extui v422
  let c0_i32_258 : BitVec 32 := 0#32
  let v424 : BitVec 1 := Scalar.cmpi .slt v420 c0_i32_258
  let v425 : BitVec 32 := Scalar.extui v424
  let v426 : BitVec 32 := Scalar.subi v423 v425
  let c2_i32 : BitVec 32 := 2#32
  let c0_i32_259 : BitVec 32 := 0#32
  let v427 : BitVec 1 := Scalar.cmpi .sgt c2_i32 c0_i32_259
  let v428 : BitVec 32 := Scalar.extui v427
  let c0_i32_260 : BitVec 32 := 0#32
  let v429 : BitVec 1 := Scalar.cmpi .slt c2_i32 c0_i32_260
  let v430 : BitVec 32 := Scalar.extui v429
  let v431 : BitVec 32 := Scalar.subi v428 v430
  let v432 : BitVec 1 := Scalar.cmpi .ne v426 v431
  let v433 : BitVec 32 := Scalar.remsi v420 c2_i32
  let c0_i32_261 : BitVec 32 := 0#32
  let v434 : BitVec 1 := Scalar.cmpi .ne v433 c0_i32_261
  let v435 : BitVec 1 := Scalar.andi v432 v434
  let v421 : BitVec 32 := Scalar.divsi v420 c2_i32
  let c1_i32_262 : BitVec 32 := 1#32
  let v436 : BitVec 32 := Scalar.subi v421 c1_i32_262
  let v437 : BitVec 32 := Scalar.select v435 v436 v421
  let c1_i32_263 : BitVec 32 := 1#32
  let v438 : BitVec 32 := Scalar.subi v437 c1_i32_263
  let c0_i32_264 : BitVec 32 := 0#32
  let v439 : BitVec 32 := Scalar.maxsi v438 c0_i32_264
  let v440 : BitVec 32 := Scalar.subi v439 c0_i32_265
  let c1_i32_266 : BitVec 32 := 1#32
  let v442 : BitVec 32 := Scalar.divsi v440 c1_i32_266
  let v443 : BitVec 32 := Scalar.muli v442 c1_i32_266
  let v444 : BitVec 32 := Scalar.addi c0_i32_265 v443
  let c1_i32_268 : BitVec 32 := 1#32
  let arg19 : BitVec 32 := Scf.iv v444 c1_i32_268 k0_t3
  let v482 : BitVec 32 := Scalar.muli c2_i32_295 arg19
  let c2_i32_367 : BitVec 32 := 2#32
  let v623 : BitVec 32 := Scalar.addi v482 c2_i32_367
  let c15_i32 : BitVec 32 := 15#32
  let v624 : BitVec 32 := Scalar.minsi v623 c15_i32
  let c4_i32_368 : BitVec 32 := 4#32
  let v625 : BitVec 32 := Scalar.muli v624 c4_i32_368
  let c0_i32_369 : BitVec 32 := 0#32
  let v626 : BitVec 32 := Scalar.addi v625 c0_i32_369
  let c256_i32_370 : BitVec 32 := 256#32
  let v627 : BitVec 32 := Scalar.muli v626 c256_i32_370
  v627
def k0_off31 (i : grid0.Coords) (k0_t3 : Fin (k0_t3_loop i).trips) (c0_i32_376 : BitVec 32) : Fin 4 → Nat :=
  let c0_377 : Index := 0#32
  let c2_i32_295 : BitVec 32 := 2#32
  let c0_i32_265 : BitVec 32 := 0#32
  let arg2 : BitVec 32 := BitVec.ofNat 32 (i 2).val
  let c4_i32 : BitVec 32 := 4#32
  let v402 : BitVec 32 := Scalar.addi arg2 c4_i32
  let c1_i32 : BitVec 32 := 1#32
  let v403 : BitVec 32 := Scalar.subi v402 c1_i32
  let c0_i32_251 : BitVec 32 := 0#32
  let v405 : BitVec 1 := Scalar.cmpi .sgt v403 c0_i32_251
  let v406 : BitVec 32 := Scalar.extui v405
  let c0_i32_252 : BitVec 32 := 0#32
  let v407 : BitVec 1 := Scalar.cmpi .slt v403 c0_i32_252
  let v408 : BitVec 32 := Scalar.extui v407
  let v409 : BitVec 32 := Scalar.subi v406 v408
  let c4_i32_250 : BitVec 32 := 4#32
  let c0_i32_253 : BitVec 32 := 0#32
  let v410 : BitVec 1 := Scalar.cmpi .sgt c4_i32_250 c0_i32_253
  let v411 : BitVec 32 := Scalar.extui v410
  let c0_i32_254 : BitVec 32 := 0#32
  let v412 : BitVec 1 := Scalar.cmpi .slt c4_i32_250 c0_i32_254
  let v413 : BitVec 32 := Scalar.extui v412
  let v414 : BitVec 32 := Scalar.subi v411 v413
  let v415 : BitVec 1 := Scalar.cmpi .ne v409 v414
  let v416 : BitVec 32 := Scalar.remsi v403 c4_i32_250
  let c0_i32_255 : BitVec 32 := 0#32
  let v417 : BitVec 1 := Scalar.cmpi .ne v416 c0_i32_255
  let v418 : BitVec 1 := Scalar.andi v415 v417
  let v404 : BitVec 32 := Scalar.divsi v403 c4_i32_250
  let c1_i32_256 : BitVec 32 := 1#32
  let v419 : BitVec 32 := Scalar.subi v404 c1_i32_256
  let v420 : BitVec 32 := Scalar.select v418 v419 v404
  let c0_i32_257 : BitVec 32 := 0#32
  let v422 : BitVec 1 := Scalar.cmpi .sgt v420 c0_i32_257
  let v423 : BitVec 32 := Scalar.extui v422
  let c0_i32_258 : BitVec 32 := 0#32
  let v424 : BitVec 1 := Scalar.cmpi .slt v420 c0_i32_258
  let v425 : BitVec 32 := Scalar.extui v424
  let v426 : BitVec 32 := Scalar.subi v423 v425
  let c2_i32 : BitVec 32 := 2#32
  let c0_i32_259 : BitVec 32 := 0#32
  let v427 : BitVec 1 := Scalar.cmpi .sgt c2_i32 c0_i32_259
  let v428 : BitVec 32 := Scalar.extui v427
  let c0_i32_260 : BitVec 32 := 0#32
  let v429 : BitVec 1 := Scalar.cmpi .slt c2_i32 c0_i32_260
  let v430 : BitVec 32 := Scalar.extui v429
  let v431 : BitVec 32 := Scalar.subi v428 v430
  let v432 : BitVec 1 := Scalar.cmpi .ne v426 v431
  let v433 : BitVec 32 := Scalar.remsi v420 c2_i32
  let c0_i32_261 : BitVec 32 := 0#32
  let v434 : BitVec 1 := Scalar.cmpi .ne v433 c0_i32_261
  let v435 : BitVec 1 := Scalar.andi v432 v434
  let v421 : BitVec 32 := Scalar.divsi v420 c2_i32
  let c1_i32_262 : BitVec 32 := 1#32
  let v436 : BitVec 32 := Scalar.subi v421 c1_i32_262
  let v437 : BitVec 32 := Scalar.select v435 v436 v421
  let c1_i32_263 : BitVec 32 := 1#32
  let v438 : BitVec 32 := Scalar.subi v437 c1_i32_263
  let c0_i32_264 : BitVec 32 := 0#32
  let v439 : BitVec 32 := Scalar.maxsi v438 c0_i32_264
  let v440 : BitVec 32 := Scalar.subi v439 c0_i32_265
  let c1_i32_266 : BitVec 32 := 1#32
  let v442 : BitVec 32 := Scalar.divsi v440 c1_i32_266
  let v443 : BitVec 32 := Scalar.muli v442 c1_i32_266
  let v444 : BitVec 32 := Scalar.addi c0_i32_265 v443
  let c1_i32_268 : BitVec 32 := 1#32
  let arg19 : BitVec 32 := Scf.iv v444 c1_i32_268 k0_t3
  let v482 : BitVec 32 := Scalar.muli c2_i32_295 arg19
  let c4_i32_375 : BitVec 32 := 4#32
  let v638 : BitVec 32 := Scalar.muli v482 c4_i32_375
  let v639 : BitVec 32 := Scalar.addi v638 c0_i32_376
  let v640 : Index := Scalar.indexCast v639
  let c0_378 : Index := 0#32
  let c0_379 : Index := 0#32
  ![0, v640.toNat, 0, 0]
def k0_off32 (i : grid0.Coords) (k0_t3 : Fin (k0_t3_loop i).trips) (c0_i32_369 : BitVec 32) : Fin 3 → Nat :=
  let c0_381 : Index := 0#32
  let c2_i32_295 : BitVec 32 := 2#32
  let c0_i32_265 : BitVec 32 := 0#32
  let arg2 : BitVec 32 := BitVec.ofNat 32 (i 2).val
  let c4_i32 : BitVec 32 := 4#32
  let v402 : BitVec 32 := Scalar.addi arg2 c4_i32
  let c1_i32 : BitVec 32 := 1#32
  let v403 : BitVec 32 := Scalar.subi v402 c1_i32
  let c0_i32_251 : BitVec 32 := 0#32
  let v405 : BitVec 1 := Scalar.cmpi .sgt v403 c0_i32_251
  let v406 : BitVec 32 := Scalar.extui v405
  let c0_i32_252 : BitVec 32 := 0#32
  let v407 : BitVec 1 := Scalar.cmpi .slt v403 c0_i32_252
  let v408 : BitVec 32 := Scalar.extui v407
  let v409 : BitVec 32 := Scalar.subi v406 v408
  let c4_i32_250 : BitVec 32 := 4#32
  let c0_i32_253 : BitVec 32 := 0#32
  let v410 : BitVec 1 := Scalar.cmpi .sgt c4_i32_250 c0_i32_253
  let v411 : BitVec 32 := Scalar.extui v410
  let c0_i32_254 : BitVec 32 := 0#32
  let v412 : BitVec 1 := Scalar.cmpi .slt c4_i32_250 c0_i32_254
  let v413 : BitVec 32 := Scalar.extui v412
  let v414 : BitVec 32 := Scalar.subi v411 v413
  let v415 : BitVec 1 := Scalar.cmpi .ne v409 v414
  let v416 : BitVec 32 := Scalar.remsi v403 c4_i32_250
  let c0_i32_255 : BitVec 32 := 0#32
  let v417 : BitVec 1 := Scalar.cmpi .ne v416 c0_i32_255
  let v418 : BitVec 1 := Scalar.andi v415 v417
  let v404 : BitVec 32 := Scalar.divsi v403 c4_i32_250
  let c1_i32_256 : BitVec 32 := 1#32
  let v419 : BitVec 32 := Scalar.subi v404 c1_i32_256
  let v420 : BitVec 32 := Scalar.select v418 v419 v404
  let c0_i32_257 : BitVec 32 := 0#32
  let v422 : BitVec 1 := Scalar.cmpi .sgt v420 c0_i32_257
  let v423 : BitVec 32 := Scalar.extui v422
  let c0_i32_258 : BitVec 32 := 0#32
  let v424 : BitVec 1 := Scalar.cmpi .slt v420 c0_i32_258
  let v425 : BitVec 32 := Scalar.extui v424
  let v426 : BitVec 32 := Scalar.subi v423 v425
  let c2_i32 : BitVec 32 := 2#32
  let c0_i32_259 : BitVec 32 := 0#32
  let v427 : BitVec 1 := Scalar.cmpi .sgt c2_i32 c0_i32_259
  let v428 : BitVec 32 := Scalar.extui v427
  let c0_i32_260 : BitVec 32 := 0#32
  let v429 : BitVec 1 := Scalar.cmpi .slt c2_i32 c0_i32_260
  let v430 : BitVec 32 := Scalar.extui v429
  let v431 : BitVec 32 := Scalar.subi v428 v430
  let v432 : BitVec 1 := Scalar.cmpi .ne v426 v431
  let v433 : BitVec 32 := Scalar.remsi v420 c2_i32
  let c0_i32_261 : BitVec 32 := 0#32
  let v434 : BitVec 1 := Scalar.cmpi .ne v433 c0_i32_261
  let v435 : BitVec 1 := Scalar.andi v432 v434
  let v421 : BitVec 32 := Scalar.divsi v420 c2_i32
  let c1_i32_262 : BitVec 32 := 1#32
  let v436 : BitVec 32 := Scalar.subi v421 c1_i32_262
  let v437 : BitVec 32 := Scalar.select v435 v436 v421
  let c1_i32_263 : BitVec 32 := 1#32
  let v438 : BitVec 32 := Scalar.subi v437 c1_i32_263
  let c0_i32_264 : BitVec 32 := 0#32
  let v439 : BitVec 32 := Scalar.maxsi v438 c0_i32_264
  let v440 : BitVec 32 := Scalar.subi v439 c0_i32_265
  let c1_i32_266 : BitVec 32 := 1#32
  let v442 : BitVec 32 := Scalar.divsi v440 c1_i32_266
  let v443 : BitVec 32 := Scalar.muli v442 c1_i32_266
  let v444 : BitVec 32 := Scalar.addi c0_i32_265 v443
  let c1_i32_268 : BitVec 32 := 1#32
  let arg19 : BitVec 32 := Scf.iv v444 c1_i32_268 k0_t3
  let v482 : BitVec 32 := Scalar.muli c2_i32_295 arg19
  let c2_i32_367 : BitVec 32 := 2#32
  let v623 : BitVec 32 := Scalar.addi v482 c2_i32_367
  let c15_i32 : BitVec 32 := 15#32
  let v624 : BitVec 32 := Scalar.minsi v623 c15_i32
  let c4_i32_368 : BitVec 32 := 4#32
  let v625 : BitVec 32 := Scalar.muli v624 c4_i32_368
  let v626 : BitVec 32 := Scalar.addi v625 c0_i32_369
  let c256_i32_370 : BitVec 32 := 256#32
  let v627 : BitVec 32 := Scalar.muli v626 c256_i32_370
  let v628 : BitVec 32 := v627
  let v644 : Index := Scalar.indexCast v628
  let c0_382 : Index := 0#32
  ![0, v644.toNat, 0]
def k0_off33 (i : grid0.Coords) (k0_t3 : Fin (k0_t3_loop i).trips) (c0_i32_396 : BitVec 32) : Fin 4 → Nat :=
  let c1_397 : Index := 1#32
  let c2_i32_295 : BitVec 32 := 2#32
  let c0_i32_265 : BitVec 32 := 0#32
  let arg2 : BitVec 32 := BitVec.ofNat 32 (i 2).val
  let c4_i32 : BitVec 32 := 4#32
  let v402 : BitVec 32 := Scalar.addi arg2 c4_i32
  let c1_i32 : BitVec 32 := 1#32
  let v403 : BitVec 32 := Scalar.subi v402 c1_i32
  let c0_i32_251 : BitVec 32 := 0#32
  let v405 : BitVec 1 := Scalar.cmpi .sgt v403 c0_i32_251
  let v406 : BitVec 32 := Scalar.extui v405
  let c0_i32_252 : BitVec 32 := 0#32
  let v407 : BitVec 1 := Scalar.cmpi .slt v403 c0_i32_252
  let v408 : BitVec 32 := Scalar.extui v407
  let v409 : BitVec 32 := Scalar.subi v406 v408
  let c4_i32_250 : BitVec 32 := 4#32
  let c0_i32_253 : BitVec 32 := 0#32
  let v410 : BitVec 1 := Scalar.cmpi .sgt c4_i32_250 c0_i32_253
  let v411 : BitVec 32 := Scalar.extui v410
  let c0_i32_254 : BitVec 32 := 0#32
  let v412 : BitVec 1 := Scalar.cmpi .slt c4_i32_250 c0_i32_254
  let v413 : BitVec 32 := Scalar.extui v412
  let v414 : BitVec 32 := Scalar.subi v411 v413
  let v415 : BitVec 1 := Scalar.cmpi .ne v409 v414
  let v416 : BitVec 32 := Scalar.remsi v403 c4_i32_250
  let c0_i32_255 : BitVec 32 := 0#32
  let v417 : BitVec 1 := Scalar.cmpi .ne v416 c0_i32_255
  let v418 : BitVec 1 := Scalar.andi v415 v417
  let v404 : BitVec 32 := Scalar.divsi v403 c4_i32_250
  let c1_i32_256 : BitVec 32 := 1#32
  let v419 : BitVec 32 := Scalar.subi v404 c1_i32_256
  let v420 : BitVec 32 := Scalar.select v418 v419 v404
  let c0_i32_257 : BitVec 32 := 0#32
  let v422 : BitVec 1 := Scalar.cmpi .sgt v420 c0_i32_257
  let v423 : BitVec 32 := Scalar.extui v422
  let c0_i32_258 : BitVec 32 := 0#32
  let v424 : BitVec 1 := Scalar.cmpi .slt v420 c0_i32_258
  let v425 : BitVec 32 := Scalar.extui v424
  let v426 : BitVec 32 := Scalar.subi v423 v425
  let c2_i32 : BitVec 32 := 2#32
  let c0_i32_259 : BitVec 32 := 0#32
  let v427 : BitVec 1 := Scalar.cmpi .sgt c2_i32 c0_i32_259
  let v428 : BitVec 32 := Scalar.extui v427
  let c0_i32_260 : BitVec 32 := 0#32
  let v429 : BitVec 1 := Scalar.cmpi .slt c2_i32 c0_i32_260
  let v430 : BitVec 32 := Scalar.extui v429
  let v431 : BitVec 32 := Scalar.subi v428 v430
  let v432 : BitVec 1 := Scalar.cmpi .ne v426 v431
  let v433 : BitVec 32 := Scalar.remsi v420 c2_i32
  let c0_i32_261 : BitVec 32 := 0#32
  let v434 : BitVec 1 := Scalar.cmpi .ne v433 c0_i32_261
  let v435 : BitVec 1 := Scalar.andi v432 v434
  let v421 : BitVec 32 := Scalar.divsi v420 c2_i32
  let c1_i32_262 : BitVec 32 := 1#32
  let v436 : BitVec 32 := Scalar.subi v421 c1_i32_262
  let v437 : BitVec 32 := Scalar.select v435 v436 v421
  let c1_i32_263 : BitVec 32 := 1#32
  let v438 : BitVec 32 := Scalar.subi v437 c1_i32_263
  let c0_i32_264 : BitVec 32 := 0#32
  let v439 : BitVec 32 := Scalar.maxsi v438 c0_i32_264
  let v440 : BitVec 32 := Scalar.subi v439 c0_i32_265
  let c1_i32_266 : BitVec 32 := 1#32
  let v442 : BitVec 32 := Scalar.divsi v440 c1_i32_266
  let v443 : BitVec 32 := Scalar.muli v442 c1_i32_266
  let v444 : BitVec 32 := Scalar.addi c0_i32_265 v443
  let c1_i32_268 : BitVec 32 := 1#32
  let arg19 : BitVec 32 := Scf.iv v444 c1_i32_268 k0_t3
  let v482 : BitVec 32 := Scalar.muli c2_i32_295 arg19
  let c4_i32_395 : BitVec 32 := 4#32
  let v665 : BitVec 32 := Scalar.muli v482 c4_i32_395
  let v666 : BitVec 32 := Scalar.addi v665 c0_i32_396
  let v667 : Index := Scalar.indexCast v666
  let c0_398 : Index := 0#32
  let c0_399 : Index := 0#32
  ![1, v667.toNat, 0, 0]
def k0_off34 (i : grid0.Coords) (k0_t3 : Fin (k0_t3_loop i).trips) (c0_i32_369 : BitVec 32) : Fin 3 → Nat :=
  let c1_401 : Index := 1#32
  let c2_i32_295 : BitVec 32 := 2#32
  let c0_i32_265 : BitVec 32 := 0#32
  let arg2 : BitVec 32 := BitVec.ofNat 32 (i 2).val
  let c4_i32 : BitVec 32 := 4#32
  let v402 : BitVec 32 := Scalar.addi arg2 c4_i32
  let c1_i32 : BitVec 32 := 1#32
  let v403 : BitVec 32 := Scalar.subi v402 c1_i32
  let c0_i32_251 : BitVec 32 := 0#32
  let v405 : BitVec 1 := Scalar.cmpi .sgt v403 c0_i32_251
  let v406 : BitVec 32 := Scalar.extui v405
  let c0_i32_252 : BitVec 32 := 0#32
  let v407 : BitVec 1 := Scalar.cmpi .slt v403 c0_i32_252
  let v408 : BitVec 32 := Scalar.extui v407
  let v409 : BitVec 32 := Scalar.subi v406 v408
  let c4_i32_250 : BitVec 32 := 4#32
  let c0_i32_253 : BitVec 32 := 0#32
  let v410 : BitVec 1 := Scalar.cmpi .sgt c4_i32_250 c0_i32_253
  let v411 : BitVec 32 := Scalar.extui v410
  let c0_i32_254 : BitVec 32 := 0#32
  let v412 : BitVec 1 := Scalar.cmpi .slt c4_i32_250 c0_i32_254
  let v413 : BitVec 32 := Scalar.extui v412
  let v414 : BitVec 32 := Scalar.subi v411 v413
  let v415 : BitVec 1 := Scalar.cmpi .ne v409 v414
  let v416 : BitVec 32 := Scalar.remsi v403 c4_i32_250
  let c0_i32_255 : BitVec 32 := 0#32
  let v417 : BitVec 1 := Scalar.cmpi .ne v416 c0_i32_255
  let v418 : BitVec 1 := Scalar.andi v415 v417
  let v404 : BitVec 32 := Scalar.divsi v403 c4_i32_250
  let c1_i32_256 : BitVec 32 := 1#32
  let v419 : BitVec 32 := Scalar.subi v404 c1_i32_256
  let v420 : BitVec 32 := Scalar.select v418 v419 v404
  let c0_i32_257 : BitVec 32 := 0#32
  let v422 : BitVec 1 := Scalar.cmpi .sgt v420 c0_i32_257
  let v423 : BitVec 32 := Scalar.extui v422
  let c0_i32_258 : BitVec 32 := 0#32
  let v424 : BitVec 1 := Scalar.cmpi .slt v420 c0_i32_258
  let v425 : BitVec 32 := Scalar.extui v424
  let v426 : BitVec 32 := Scalar.subi v423 v425
  let c2_i32 : BitVec 32 := 2#32
  let c0_i32_259 : BitVec 32 := 0#32
  let v427 : BitVec 1 := Scalar.cmpi .sgt c2_i32 c0_i32_259
  let v428 : BitVec 32 := Scalar.extui v427
  let c0_i32_260 : BitVec 32 := 0#32
  let v429 : BitVec 1 := Scalar.cmpi .slt c2_i32 c0_i32_260
  let v430 : BitVec 32 := Scalar.extui v429
  let v431 : BitVec 32 := Scalar.subi v428 v430
  let v432 : BitVec 1 := Scalar.cmpi .ne v426 v431
  let v433 : BitVec 32 := Scalar.remsi v420 c2_i32
  let c0_i32_261 : BitVec 32 := 0#32
  let v434 : BitVec 1 := Scalar.cmpi .ne v433 c0_i32_261
  let v435 : BitVec 1 := Scalar.andi v432 v434
  let v421 : BitVec 32 := Scalar.divsi v420 c2_i32
  let c1_i32_262 : BitVec 32 := 1#32
  let v436 : BitVec 32 := Scalar.subi v421 c1_i32_262
  let v437 : BitVec 32 := Scalar.select v435 v436 v421
  let c1_i32_263 : BitVec 32 := 1#32
  let v438 : BitVec 32 := Scalar.subi v437 c1_i32_263
  let c0_i32_264 : BitVec 32 := 0#32
  let v439 : BitVec 32 := Scalar.maxsi v438 c0_i32_264
  let v440 : BitVec 32 := Scalar.subi v439 c0_i32_265
  let c1_i32_266 : BitVec 32 := 1#32
  let v442 : BitVec 32 := Scalar.divsi v440 c1_i32_266
  let v443 : BitVec 32 := Scalar.muli v442 c1_i32_266
  let v444 : BitVec 32 := Scalar.addi c0_i32_265 v443
  let c1_i32_268 : BitVec 32 := 1#32
  let arg19 : BitVec 32 := Scf.iv v444 c1_i32_268 k0_t3
  let v482 : BitVec 32 := Scalar.muli c2_i32_295 arg19
  let c2_i32_367 : BitVec 32 := 2#32
  let v623 : BitVec 32 := Scalar.addi v482 c2_i32_367
  let c15_i32 : BitVec 32 := 15#32
  let v624 : BitVec 32 := Scalar.minsi v623 c15_i32
  let c4_i32_368 : BitVec 32 := 4#32
  let v625 : BitVec 32 := Scalar.muli v624 c4_i32_368
  let v626 : BitVec 32 := Scalar.addi v625 c0_i32_369
  let c256_i32_370 : BitVec 32 := 256#32
  let v627 : BitVec 32 := Scalar.muli v626 c256_i32_370
  let v628 : BitVec 32 := v627
  let v671 : Index := Scalar.indexCast v628
  let c0_402 : Index := 0#32
  ![1, v671.toNat, 0]
def k0_mult20 (i : grid0.Coords) (k0_t3 : Fin (k0_t3_loop i).trips) : BitVec 32 :=
  let c2_i32_295 : BitVec 32 := 2#32
  let c0_i32_265 : BitVec 32 := 0#32
  let arg2 : BitVec 32 := BitVec.ofNat 32 (i 2).val
  let c4_i32 : BitVec 32 := 4#32
  let v402 : BitVec 32 := Scalar.addi arg2 c4_i32
  let c1_i32 : BitVec 32 := 1#32
  let v403 : BitVec 32 := Scalar.subi v402 c1_i32
  let c0_i32_251 : BitVec 32 := 0#32
  let v405 : BitVec 1 := Scalar.cmpi .sgt v403 c0_i32_251
  let v406 : BitVec 32 := Scalar.extui v405
  let c0_i32_252 : BitVec 32 := 0#32
  let v407 : BitVec 1 := Scalar.cmpi .slt v403 c0_i32_252
  let v408 : BitVec 32 := Scalar.extui v407
  let v409 : BitVec 32 := Scalar.subi v406 v408
  let c4_i32_250 : BitVec 32 := 4#32
  let c0_i32_253 : BitVec 32 := 0#32
  let v410 : BitVec 1 := Scalar.cmpi .sgt c4_i32_250 c0_i32_253
  let v411 : BitVec 32 := Scalar.extui v410
  let c0_i32_254 : BitVec 32 := 0#32
  let v412 : BitVec 1 := Scalar.cmpi .slt c4_i32_250 c0_i32_254
  let v413 : BitVec 32 := Scalar.extui v412
  let v414 : BitVec 32 := Scalar.subi v411 v413
  let v415 : BitVec 1 := Scalar.cmpi .ne v409 v414
  let v416 : BitVec 32 := Scalar.remsi v403 c4_i32_250
  let c0_i32_255 : BitVec 32 := 0#32
  let v417 : BitVec 1 := Scalar.cmpi .ne v416 c0_i32_255
  let v418 : BitVec 1 := Scalar.andi v415 v417
  let v404 : BitVec 32 := Scalar.divsi v403 c4_i32_250
  let c1_i32_256 : BitVec 32 := 1#32
  let v419 : BitVec 32 := Scalar.subi v404 c1_i32_256
  let v420 : BitVec 32 := Scalar.select v418 v419 v404
  let c0_i32_257 : BitVec 32 := 0#32
  let v422 : BitVec 1 := Scalar.cmpi .sgt v420 c0_i32_257
  let v423 : BitVec 32 := Scalar.extui v422
  let c0_i32_258 : BitVec 32 := 0#32
  let v424 : BitVec 1 := Scalar.cmpi .slt v420 c0_i32_258
  let v425 : BitVec 32 := Scalar.extui v424
  let v426 : BitVec 32 := Scalar.subi v423 v425
  let c2_i32 : BitVec 32 := 2#32
  let c0_i32_259 : BitVec 32 := 0#32
  let v427 : BitVec 1 := Scalar.cmpi .sgt c2_i32 c0_i32_259
  let v428 : BitVec 32 := Scalar.extui v427
  let c0_i32_260 : BitVec 32 := 0#32
  let v429 : BitVec 1 := Scalar.cmpi .slt c2_i32 c0_i32_260
  let v430 : BitVec 32 := Scalar.extui v429
  let v431 : BitVec 32 := Scalar.subi v428 v430
  let v432 : BitVec 1 := Scalar.cmpi .ne v426 v431
  let v433 : BitVec 32 := Scalar.remsi v420 c2_i32
  let c0_i32_261 : BitVec 32 := 0#32
  let v434 : BitVec 1 := Scalar.cmpi .ne v433 c0_i32_261
  let v435 : BitVec 1 := Scalar.andi v432 v434
  let v421 : BitVec 32 := Scalar.divsi v420 c2_i32
  let c1_i32_262 : BitVec 32 := 1#32
  let v436 : BitVec 32 := Scalar.subi v421 c1_i32_262
  let v437 : BitVec 32 := Scalar.select v435 v436 v421
  let c1_i32_263 : BitVec 32 := 1#32
  let v438 : BitVec 32 := Scalar.subi v437 c1_i32_263
  let c0_i32_264 : BitVec 32 := 0#32
  let v439 : BitVec 32 := Scalar.maxsi v438 c0_i32_264
  let v440 : BitVec 32 := Scalar.subi v439 c0_i32_265
  let c1_i32_266 : BitVec 32 := 1#32
  let v442 : BitVec 32 := Scalar.divsi v440 c1_i32_266
  let v443 : BitVec 32 := Scalar.muli v442 c1_i32_266
  let v444 : BitVec 32 := Scalar.addi c0_i32_265 v443
  let c1_i32_268 : BitVec 32 := 1#32
  let arg19 : BitVec 32 := Scf.iv v444 c1_i32_268 k0_t3
  let v482 : BitVec 32 := Scalar.muli c2_i32_295 arg19
  let c2_i32_367 : BitVec 32 := 2#32
  let v623 : BitVec 32 := Scalar.addi v482 c2_i32_367
  let c15_i32 : BitVec 32 := 15#32
  let v624 : BitVec 32 := Scalar.minsi v623 c15_i32
  let c4_i32_411 : BitVec 32 := 4#32
  let v683 : BitVec 32 := Scalar.muli v624 c4_i32_411
  let c1_i32_412 : BitVec 32 := 1#32
  let v684 : BitVec 32 := Scalar.addi v683 c1_i32_412
  let c256_i32_413 : BitVec 32 := 256#32
  let v685 : BitVec 32 := Scalar.muli v684 c256_i32_413
  v685
def k0_mult21 (i : grid0.Coords) (k0_t3 : Fin (k0_t3_loop i).trips) : BitVec 32 :=
  let c2_i32_295 : BitVec 32 := 2#32
  let c0_i32_265 : BitVec 32 := 0#32
  let arg2 : BitVec 32 := BitVec.ofNat 32 (i 2).val
  let c4_i32 : BitVec 32 := 4#32
  let v402 : BitVec 32 := Scalar.addi arg2 c4_i32
  let c1_i32 : BitVec 32 := 1#32
  let v403 : BitVec 32 := Scalar.subi v402 c1_i32
  let c0_i32_251 : BitVec 32 := 0#32
  let v405 : BitVec 1 := Scalar.cmpi .sgt v403 c0_i32_251
  let v406 : BitVec 32 := Scalar.extui v405
  let c0_i32_252 : BitVec 32 := 0#32
  let v407 : BitVec 1 := Scalar.cmpi .slt v403 c0_i32_252
  let v408 : BitVec 32 := Scalar.extui v407
  let v409 : BitVec 32 := Scalar.subi v406 v408
  let c4_i32_250 : BitVec 32 := 4#32
  let c0_i32_253 : BitVec 32 := 0#32
  let v410 : BitVec 1 := Scalar.cmpi .sgt c4_i32_250 c0_i32_253
  let v411 : BitVec 32 := Scalar.extui v410
  let c0_i32_254 : BitVec 32 := 0#32
  let v412 : BitVec 1 := Scalar.cmpi .slt c4_i32_250 c0_i32_254
  let v413 : BitVec 32 := Scalar.extui v412
  let v414 : BitVec 32 := Scalar.subi v411 v413
  let v415 : BitVec 1 := Scalar.cmpi .ne v409 v414
  let v416 : BitVec 32 := Scalar.remsi v403 c4_i32_250
  let c0_i32_255 : BitVec 32 := 0#32
  let v417 : BitVec 1 := Scalar.cmpi .ne v416 c0_i32_255
  let v418 : BitVec 1 := Scalar.andi v415 v417
  let v404 : BitVec 32 := Scalar.divsi v403 c4_i32_250
  let c1_i32_256 : BitVec 32 := 1#32
  let v419 : BitVec 32 := Scalar.subi v404 c1_i32_256
  let v420 : BitVec 32 := Scalar.select v418 v419 v404
  let c0_i32_257 : BitVec 32 := 0#32
  let v422 : BitVec 1 := Scalar.cmpi .sgt v420 c0_i32_257
  let v423 : BitVec 32 := Scalar.extui v422
  let c0_i32_258 : BitVec 32 := 0#32
  let v424 : BitVec 1 := Scalar.cmpi .slt v420 c0_i32_258
  let v425 : BitVec 32 := Scalar.extui v424
  let v426 : BitVec 32 := Scalar.subi v423 v425
  let c2_i32 : BitVec 32 := 2#32
  let c0_i32_259 : BitVec 32 := 0#32
  let v427 : BitVec 1 := Scalar.cmpi .sgt c2_i32 c0_i32_259
  let v428 : BitVec 32 := Scalar.extui v427
  let c0_i32_260 : BitVec 32 := 0#32
  let v429 : BitVec 1 := Scalar.cmpi .slt c2_i32 c0_i32_260
  let v430 : BitVec 32 := Scalar.extui v429
  let v431 : BitVec 32 := Scalar.subi v428 v430
  let v432 : BitVec 1 := Scalar.cmpi .ne v426 v431
  let v433 : BitVec 32 := Scalar.remsi v420 c2_i32
  let c0_i32_261 : BitVec 32 := 0#32
  let v434 : BitVec 1 := Scalar.cmpi .ne v433 c0_i32_261
  let v435 : BitVec 1 := Scalar.andi v432 v434
  let v421 : BitVec 32 := Scalar.divsi v420 c2_i32
  let c1_i32_262 : BitVec 32 := 1#32
  let v436 : BitVec 32 := Scalar.subi v421 c1_i32_262
  let v437 : BitVec 32 := Scalar.select v435 v436 v421
  let c1_i32_263 : BitVec 32 := 1#32
  let v438 : BitVec 32 := Scalar.subi v437 c1_i32_263
  let c0_i32_264 : BitVec 32 := 0#32
  let v439 : BitVec 32 := Scalar.maxsi v438 c0_i32_264
  let v440 : BitVec 32 := Scalar.subi v439 c0_i32_265
  let c1_i32_266 : BitVec 32 := 1#32
  let v442 : BitVec 32 := Scalar.divsi v440 c1_i32_266
  let v443 : BitVec 32 := Scalar.muli v442 c1_i32_266
  let v444 : BitVec 32 := Scalar.addi c0_i32_265 v443
  let c1_i32_268 : BitVec 32 := 1#32
  let arg19 : BitVec 32 := Scf.iv v444 c1_i32_268 k0_t3
  let v482 : BitVec 32 := Scalar.muli c2_i32_295 arg19
  let c2_i32_367 : BitVec 32 := 2#32
  let v623 : BitVec 32 := Scalar.addi v482 c2_i32_367
  let c15_i32 : BitVec 32 := 15#32
  let v624 : BitVec 32 := Scalar.minsi v623 c15_i32
  let c4_i32_454 : BitVec 32 := 4#32
  let v743 : BitVec 32 := Scalar.muli v624 c4_i32_454
  let c2_i32_455 : BitVec 32 := 2#32
  let v744 : BitVec 32 := Scalar.addi v743 c2_i32_455
  let c256_i32_456 : BitVec 32 := 256#32
  let v745 : BitVec 32 := Scalar.muli v744 c256_i32_456
  v745
def k0_mult22 (i : grid0.Coords) (k0_t3 : Fin (k0_t3_loop i).trips) : BitVec 32 :=
  let c2_i32_295 : BitVec 32 := 2#32
  let c0_i32_265 : BitVec 32 := 0#32
  let arg2 : BitVec 32 := BitVec.ofNat 32 (i 2).val
  let c4_i32 : BitVec 32 := 4#32
  let v402 : BitVec 32 := Scalar.addi arg2 c4_i32
  let c1_i32 : BitVec 32 := 1#32
  let v403 : BitVec 32 := Scalar.subi v402 c1_i32
  let c0_i32_251 : BitVec 32 := 0#32
  let v405 : BitVec 1 := Scalar.cmpi .sgt v403 c0_i32_251
  let v406 : BitVec 32 := Scalar.extui v405
  let c0_i32_252 : BitVec 32 := 0#32
  let v407 : BitVec 1 := Scalar.cmpi .slt v403 c0_i32_252
  let v408 : BitVec 32 := Scalar.extui v407
  let v409 : BitVec 32 := Scalar.subi v406 v408
  let c4_i32_250 : BitVec 32 := 4#32
  let c0_i32_253 : BitVec 32 := 0#32
  let v410 : BitVec 1 := Scalar.cmpi .sgt c4_i32_250 c0_i32_253
  let v411 : BitVec 32 := Scalar.extui v410
  let c0_i32_254 : BitVec 32 := 0#32
  let v412 : BitVec 1 := Scalar.cmpi .slt c4_i32_250 c0_i32_254
  let v413 : BitVec 32 := Scalar.extui v412
  let v414 : BitVec 32 := Scalar.subi v411 v413
  let v415 : BitVec 1 := Scalar.cmpi .ne v409 v414
  let v416 : BitVec 32 := Scalar.remsi v403 c4_i32_250
  let c0_i32_255 : BitVec 32 := 0#32
  let v417 : BitVec 1 := Scalar.cmpi .ne v416 c0_i32_255
  let v418 : BitVec 1 := Scalar.andi v415 v417
  let v404 : BitVec 32 := Scalar.divsi v403 c4_i32_250
  let c1_i32_256 : BitVec 32 := 1#32
  let v419 : BitVec 32 := Scalar.subi v404 c1_i32_256
  let v420 : BitVec 32 := Scalar.select v418 v419 v404
  let c0_i32_257 : BitVec 32 := 0#32
  let v422 : BitVec 1 := Scalar.cmpi .sgt v420 c0_i32_257
  let v423 : BitVec 32 := Scalar.extui v422
  let c0_i32_258 : BitVec 32 := 0#32
  let v424 : BitVec 1 := Scalar.cmpi .slt v420 c0_i32_258
  let v425 : BitVec 32 := Scalar.extui v424
  let v426 : BitVec 32 := Scalar.subi v423 v425
  let c2_i32 : BitVec 32 := 2#32
  let c0_i32_259 : BitVec 32 := 0#32
  let v427 : BitVec 1 := Scalar.cmpi .sgt c2_i32 c0_i32_259
  let v428 : BitVec 32 := Scalar.extui v427
  let c0_i32_260 : BitVec 32 := 0#32
  let v429 : BitVec 1 := Scalar.cmpi .slt c2_i32 c0_i32_260
  let v430 : BitVec 32 := Scalar.extui v429
  let v431 : BitVec 32 := Scalar.subi v428 v430
  let v432 : BitVec 1 := Scalar.cmpi .ne v426 v431
  let v433 : BitVec 32 := Scalar.remsi v420 c2_i32
  let c0_i32_261 : BitVec 32 := 0#32
  let v434 : BitVec 1 := Scalar.cmpi .ne v433 c0_i32_261
  let v435 : BitVec 1 := Scalar.andi v432 v434
  let v421 : BitVec 32 := Scalar.divsi v420 c2_i32
  let c1_i32_262 : BitVec 32 := 1#32
  let v436 : BitVec 32 := Scalar.subi v421 c1_i32_262
  let v437 : BitVec 32 := Scalar.select v435 v436 v421
  let c1_i32_263 : BitVec 32 := 1#32
  let v438 : BitVec 32 := Scalar.subi v437 c1_i32_263
  let c0_i32_264 : BitVec 32 := 0#32
  let v439 : BitVec 32 := Scalar.maxsi v438 c0_i32_264
  let v440 : BitVec 32 := Scalar.subi v439 c0_i32_265
  let c1_i32_266 : BitVec 32 := 1#32
  let v442 : BitVec 32 := Scalar.divsi v440 c1_i32_266
  let v443 : BitVec 32 := Scalar.muli v442 c1_i32_266
  let v444 : BitVec 32 := Scalar.addi c0_i32_265 v443
  let c1_i32_268 : BitVec 32 := 1#32
  let arg19 : BitVec 32 := Scf.iv v444 c1_i32_268 k0_t3
  let v482 : BitVec 32 := Scalar.muli c2_i32_295 arg19
  let c2_i32_367 : BitVec 32 := 2#32
  let v623 : BitVec 32 := Scalar.addi v482 c2_i32_367
  let c15_i32 : BitVec 32 := 15#32
  let v624 : BitVec 32 := Scalar.minsi v623 c15_i32
  let c4_i32_497 : BitVec 32 := 4#32
  let v803 : BitVec 32 := Scalar.muli v624 c4_i32_497
  let c3_i32_498 : BitVec 32 := 3#32
  let v804 : BitVec 32 := Scalar.addi v803 c3_i32_498
  let c256_i32_499 : BitVec 32 := 256#32
  let v805 : BitVec 32 := Scalar.muli v804 c256_i32_499
  v805
def k0_off35 (i : grid0.Coords) (k0_t3 : Fin (k0_t3_loop i).trips) (c0_i32_555 : BitVec 32) : Fin 3 → Nat :=
  let c0_556 : Index := 0#32
  let c2_i32_552 : BitVec 32 := 2#32
  let c0_i32_265 : BitVec 32 := 0#32
  let arg2 : BitVec 32 := BitVec.ofNat 32 (i 2).val
  let c4_i32 : BitVec 32 := 4#32
  let v402 : BitVec 32 := Scalar.addi arg2 c4_i32
  let c1_i32 : BitVec 32 := 1#32
  let v403 : BitVec 32 := Scalar.subi v402 c1_i32
  let c0_i32_251 : BitVec 32 := 0#32
  let v405 : BitVec 1 := Scalar.cmpi .sgt v403 c0_i32_251
  let v406 : BitVec 32 := Scalar.extui v405
  let c0_i32_252 : BitVec 32 := 0#32
  let v407 : BitVec 1 := Scalar.cmpi .slt v403 c0_i32_252
  let v408 : BitVec 32 := Scalar.extui v407
  let v409 : BitVec 32 := Scalar.subi v406 v408
  let c4_i32_250 : BitVec 32 := 4#32
  let c0_i32_253 : BitVec 32 := 0#32
  let v410 : BitVec 1 := Scalar.cmpi .sgt c4_i32_250 c0_i32_253
  let v411 : BitVec 32 := Scalar.extui v410
  let c0_i32_254 : BitVec 32 := 0#32
  let v412 : BitVec 1 := Scalar.cmpi .slt c4_i32_250 c0_i32_254
  let v413 : BitVec 32 := Scalar.extui v412
  let v414 : BitVec 32 := Scalar.subi v411 v413
  let v415 : BitVec 1 := Scalar.cmpi .ne v409 v414
  let v416 : BitVec 32 := Scalar.remsi v403 c4_i32_250
  let c0_i32_255 : BitVec 32 := 0#32
  let v417 : BitVec 1 := Scalar.cmpi .ne v416 c0_i32_255
  let v418 : BitVec 1 := Scalar.andi v415 v417
  let v404 : BitVec 32 := Scalar.divsi v403 c4_i32_250
  let c1_i32_256 : BitVec 32 := 1#32
  let v419 : BitVec 32 := Scalar.subi v404 c1_i32_256
  let v420 : BitVec 32 := Scalar.select v418 v419 v404
  let c0_i32_257 : BitVec 32 := 0#32
  let v422 : BitVec 1 := Scalar.cmpi .sgt v420 c0_i32_257
  let v423 : BitVec 32 := Scalar.extui v422
  let c0_i32_258 : BitVec 32 := 0#32
  let v424 : BitVec 1 := Scalar.cmpi .slt v420 c0_i32_258
  let v425 : BitVec 32 := Scalar.extui v424
  let v426 : BitVec 32 := Scalar.subi v423 v425
  let c2_i32 : BitVec 32 := 2#32
  let c0_i32_259 : BitVec 32 := 0#32
  let v427 : BitVec 1 := Scalar.cmpi .sgt c2_i32 c0_i32_259
  let v428 : BitVec 32 := Scalar.extui v427
  let c0_i32_260 : BitVec 32 := 0#32
  let v429 : BitVec 1 := Scalar.cmpi .slt c2_i32 c0_i32_260
  let v430 : BitVec 32 := Scalar.extui v429
  let v431 : BitVec 32 := Scalar.subi v428 v430
  let v432 : BitVec 1 := Scalar.cmpi .ne v426 v431
  let v433 : BitVec 32 := Scalar.remsi v420 c2_i32
  let c0_i32_261 : BitVec 32 := 0#32
  let v434 : BitVec 1 := Scalar.cmpi .ne v433 c0_i32_261
  let v435 : BitVec 1 := Scalar.andi v432 v434
  let v421 : BitVec 32 := Scalar.divsi v420 c2_i32
  let c1_i32_262 : BitVec 32 := 1#32
  let v436 : BitVec 32 := Scalar.subi v421 c1_i32_262
  let v437 : BitVec 32 := Scalar.select v435 v436 v421
  let c1_i32_263 : BitVec 32 := 1#32
  let v438 : BitVec 32 := Scalar.subi v437 c1_i32_263
  let c0_i32_264 : BitVec 32 := 0#32
  let v439 : BitVec 32 := Scalar.maxsi v438 c0_i32_264
  let v440 : BitVec 32 := Scalar.subi v439 c0_i32_265
  let c1_i32_266 : BitVec 32 := 1#32
  let v442 : BitVec 32 := Scalar.divsi v440 c1_i32_266
  let v443 : BitVec 32 := Scalar.muli v442 c1_i32_266
  let v444 : BitVec 32 := Scalar.addi c0_i32_265 v443
  let c1_i32_268 : BitVec 32 := 1#32
  let arg19 : BitVec 32 := Scf.iv v444 c1_i32_268 k0_t3
  let v879 : BitVec 32 := Scalar.muli c2_i32_552 arg19
  let c1_i32_553 : BitVec 32 := 1#32
  let v880 : BitVec 32 := Scalar.addi v879 c1_i32_553
  let c4_i32_554 : BitVec 32 := 4#32
  let v881 : BitVec 32 := Scalar.muli v880 c4_i32_554
  let v882 : BitVec 32 := Scalar.addi v881 c0_i32_555
  let v883 : Index := Scalar.indexCast v882
  let c0_557 : Index := 0#32
  ![0, v883.toNat, 0]
def k0_off36 (i : grid0.Coords) (k0_t3 : Fin (k0_t3_loop i).trips) (c0_i32_555 : BitVec 32) : Fin 3 → Nat :=
  let c1_564 : Index := 1#32
  let c2_i32_552 : BitVec 32 := 2#32
  let c0_i32_265 : BitVec 32 := 0#32
  let arg2 : BitVec 32 := BitVec.ofNat 32 (i 2).val
  let c4_i32 : BitVec 32 := 4#32
  let v402 : BitVec 32 := Scalar.addi arg2 c4_i32
  let c1_i32 : BitVec 32 := 1#32
  let v403 : BitVec 32 := Scalar.subi v402 c1_i32
  let c0_i32_251 : BitVec 32 := 0#32
  let v405 : BitVec 1 := Scalar.cmpi .sgt v403 c0_i32_251
  let v406 : BitVec 32 := Scalar.extui v405
  let c0_i32_252 : BitVec 32 := 0#32
  let v407 : BitVec 1 := Scalar.cmpi .slt v403 c0_i32_252
  let v408 : BitVec 32 := Scalar.extui v407
  let v409 : BitVec 32 := Scalar.subi v406 v408
  let c4_i32_250 : BitVec 32 := 4#32
  let c0_i32_253 : BitVec 32 := 0#32
  let v410 : BitVec 1 := Scalar.cmpi .sgt c4_i32_250 c0_i32_253
  let v411 : BitVec 32 := Scalar.extui v410
  let c0_i32_254 : BitVec 32 := 0#32
  let v412 : BitVec 1 := Scalar.cmpi .slt c4_i32_250 c0_i32_254
  let v413 : BitVec 32 := Scalar.extui v412
  let v414 : BitVec 32 := Scalar.subi v411 v413
  let v415 : BitVec 1 := Scalar.cmpi .ne v409 v414
  let v416 : BitVec 32 := Scalar.remsi v403 c4_i32_250
  let c0_i32_255 : BitVec 32 := 0#32
  let v417 : BitVec 1 := Scalar.cmpi .ne v416 c0_i32_255
  let v418 : BitVec 1 := Scalar.andi v415 v417
  let v404 : BitVec 32 := Scalar.divsi v403 c4_i32_250
  let c1_i32_256 : BitVec 32 := 1#32
  let v419 : BitVec 32 := Scalar.subi v404 c1_i32_256
  let v420 : BitVec 32 := Scalar.select v418 v419 v404
  let c0_i32_257 : BitVec 32 := 0#32
  let v422 : BitVec 1 := Scalar.cmpi .sgt v420 c0_i32_257
  let v423 : BitVec 32 := Scalar.extui v422
  let c0_i32_258 : BitVec 32 := 0#32
  let v424 : BitVec 1 := Scalar.cmpi .slt v420 c0_i32_258
  let v425 : BitVec 32 := Scalar.extui v424
  let v426 : BitVec 32 := Scalar.subi v423 v425
  let c2_i32 : BitVec 32 := 2#32
  let c0_i32_259 : BitVec 32 := 0#32
  let v427 : BitVec 1 := Scalar.cmpi .sgt c2_i32 c0_i32_259
  let v428 : BitVec 32 := Scalar.extui v427
  let c0_i32_260 : BitVec 32 := 0#32
  let v429 : BitVec 1 := Scalar.cmpi .slt c2_i32 c0_i32_260
  let v430 : BitVec 32 := Scalar.extui v429
  let v431 : BitVec 32 := Scalar.subi v428 v430
  let v432 : BitVec 1 := Scalar.cmpi .ne v426 v431
  let v433 : BitVec 32 := Scalar.remsi v420 c2_i32
  let c0_i32_261 : BitVec 32 := 0#32
  let v434 : BitVec 1 := Scalar.cmpi .ne v433 c0_i32_261
  let v435 : BitVec 1 := Scalar.andi v432 v434
  let v421 : BitVec 32 := Scalar.divsi v420 c2_i32
  let c1_i32_262 : BitVec 32 := 1#32
  let v436 : BitVec 32 := Scalar.subi v421 c1_i32_262
  let v437 : BitVec 32 := Scalar.select v435 v436 v421
  let c1_i32_263 : BitVec 32 := 1#32
  let v438 : BitVec 32 := Scalar.subi v437 c1_i32_263
  let c0_i32_264 : BitVec 32 := 0#32
  let v439 : BitVec 32 := Scalar.maxsi v438 c0_i32_264
  let v440 : BitVec 32 := Scalar.subi v439 c0_i32_265
  let c1_i32_266 : BitVec 32 := 1#32
  let v442 : BitVec 32 := Scalar.divsi v440 c1_i32_266
  let v443 : BitVec 32 := Scalar.muli v442 c1_i32_266
  let v444 : BitVec 32 := Scalar.addi c0_i32_265 v443
  let c1_i32_268 : BitVec 32 := 1#32
  let arg19 : BitVec 32 := Scf.iv v444 c1_i32_268 k0_t3
  let v879 : BitVec 32 := Scalar.muli c2_i32_552 arg19
  let c1_i32_553 : BitVec 32 := 1#32
  let v880 : BitVec 32 := Scalar.addi v879 c1_i32_553
  let c4_i32_554 : BitVec 32 := 4#32
  let v881 : BitVec 32 := Scalar.muli v880 c4_i32_554
  let v882 : BitVec 32 := Scalar.addi v881 c0_i32_555
  let v899 : Index := Scalar.indexCast v882
  let c0_565 : Index := 0#32
  ![1, v899.toNat, 0]
def k0_mult23 (i : grid0.Coords) (k0_t3 : Fin (k0_t3_loop i).trips) : BitVec 32 :=
  let c2_i32_552 : BitVec 32 := 2#32
  let c0_i32_265 : BitVec 32 := 0#32
  let arg2 : BitVec 32 := BitVec.ofNat 32 (i 2).val
  let c4_i32 : BitVec 32 := 4#32
  let v402 : BitVec 32 := Scalar.addi arg2 c4_i32
  let c1_i32 : BitVec 32 := 1#32
  let v403 : BitVec 32 := Scalar.subi v402 c1_i32
  let c0_i32_251 : BitVec 32 := 0#32
  let v405 : BitVec 1 := Scalar.cmpi .sgt v403 c0_i32_251
  let v406 : BitVec 32 := Scalar.extui v405
  let c0_i32_252 : BitVec 32 := 0#32
  let v407 : BitVec 1 := Scalar.cmpi .slt v403 c0_i32_252
  let v408 : BitVec 32 := Scalar.extui v407
  let v409 : BitVec 32 := Scalar.subi v406 v408
  let c4_i32_250 : BitVec 32 := 4#32
  let c0_i32_253 : BitVec 32 := 0#32
  let v410 : BitVec 1 := Scalar.cmpi .sgt c4_i32_250 c0_i32_253
  let v411 : BitVec 32 := Scalar.extui v410
  let c0_i32_254 : BitVec 32 := 0#32
  let v412 : BitVec 1 := Scalar.cmpi .slt c4_i32_250 c0_i32_254
  let v413 : BitVec 32 := Scalar.extui v412
  let v414 : BitVec 32 := Scalar.subi v411 v413
  let v415 : BitVec 1 := Scalar.cmpi .ne v409 v414
  let v416 : BitVec 32 := Scalar.remsi v403 c4_i32_250
  let c0_i32_255 : BitVec 32 := 0#32
  let v417 : BitVec 1 := Scalar.cmpi .ne v416 c0_i32_255
  let v418 : BitVec 1 := Scalar.andi v415 v417
  let v404 : BitVec 32 := Scalar.divsi v403 c4_i32_250
  let c1_i32_256 : BitVec 32 := 1#32
  let v419 : BitVec 32 := Scalar.subi v404 c1_i32_256
  let v420 : BitVec 32 := Scalar.select v418 v419 v404
  let c0_i32_257 : BitVec 32 := 0#32
  let v422 : BitVec 1 := Scalar.cmpi .sgt v420 c0_i32_257
  let v423 : BitVec 32 := Scalar.extui v422
  let c0_i32_258 : BitVec 32 := 0#32
  let v424 : BitVec 1 := Scalar.cmpi .slt v420 c0_i32_258
  let v425 : BitVec 32 := Scalar.extui v424
  let v426 : BitVec 32 := Scalar.subi v423 v425
  let c2_i32 : BitVec 32 := 2#32
  let c0_i32_259 : BitVec 32 := 0#32
  let v427 : BitVec 1 := Scalar.cmpi .sgt c2_i32 c0_i32_259
  let v428 : BitVec 32 := Scalar.extui v427
  let c0_i32_260 : BitVec 32 := 0#32
  let v429 : BitVec 1 := Scalar.cmpi .slt c2_i32 c0_i32_260
  let v430 : BitVec 32 := Scalar.extui v429
  let v431 : BitVec 32 := Scalar.subi v428 v430
  let v432 : BitVec 1 := Scalar.cmpi .ne v426 v431
  let v433 : BitVec 32 := Scalar.remsi v420 c2_i32
  let c0_i32_261 : BitVec 32 := 0#32
  let v434 : BitVec 1 := Scalar.cmpi .ne v433 c0_i32_261
  let v435 : BitVec 1 := Scalar.andi v432 v434
  let v421 : BitVec 32 := Scalar.divsi v420 c2_i32
  let c1_i32_262 : BitVec 32 := 1#32
  let v436 : BitVec 32 := Scalar.subi v421 c1_i32_262
  let v437 : BitVec 32 := Scalar.select v435 v436 v421
  let c1_i32_263 : BitVec 32 := 1#32
  let v438 : BitVec 32 := Scalar.subi v437 c1_i32_263
  let c0_i32_264 : BitVec 32 := 0#32
  let v439 : BitVec 32 := Scalar.maxsi v438 c0_i32_264
  let v440 : BitVec 32 := Scalar.subi v439 c0_i32_265
  let c1_i32_266 : BitVec 32 := 1#32
  let v442 : BitVec 32 := Scalar.divsi v440 c1_i32_266
  let v443 : BitVec 32 := Scalar.muli v442 c1_i32_266
  let v444 : BitVec 32 := Scalar.addi c0_i32_265 v443
  let c1_i32_268 : BitVec 32 := 1#32
  let arg19 : BitVec 32 := Scf.iv v444 c1_i32_268 k0_t3
  let v879 : BitVec 32 := Scalar.muli c2_i32_552 arg19
  let c1_i32_553 : BitVec 32 := 1#32
  let v880 : BitVec 32 := Scalar.addi v879 c1_i32_553
  let c2_i32_626 : BitVec 32 := 2#32
  let v1021 : BitVec 32 := Scalar.addi v880 c2_i32_626
  let c15_i32_627 : BitVec 32 := 15#32
  let v1022 : BitVec 32 := Scalar.minsi v1021 c15_i32_627
  let c4_i32_628 : BitVec 32 := 4#32
  let v1023 : BitVec 32 := Scalar.muli v1022 c4_i32_628
  let c0_i32_629 : BitVec 32 := 0#32
  let v1024 : BitVec 32 := Scalar.addi v1023 c0_i32_629
  let c256_i32_630 : BitVec 32 := 256#32
  let v1025 : BitVec 32 := Scalar.muli v1024 c256_i32_630
  v1025
def k0_off37 (i : grid0.Coords) (k0_t3 : Fin (k0_t3_loop i).trips) (c0_i32_636 : BitVec 32) : Fin 4 → Nat :=
  let c0_637 : Index := 0#32
  let c2_i32_552 : BitVec 32 := 2#32
  let c0_i32_265 : BitVec 32 := 0#32
  let arg2 : BitVec 32 := BitVec.ofNat 32 (i 2).val
  let c4_i32 : BitVec 32 := 4#32
  let v402 : BitVec 32 := Scalar.addi arg2 c4_i32
  let c1_i32 : BitVec 32 := 1#32
  let v403 : BitVec 32 := Scalar.subi v402 c1_i32
  let c0_i32_251 : BitVec 32 := 0#32
  let v405 : BitVec 1 := Scalar.cmpi .sgt v403 c0_i32_251
  let v406 : BitVec 32 := Scalar.extui v405
  let c0_i32_252 : BitVec 32 := 0#32
  let v407 : BitVec 1 := Scalar.cmpi .slt v403 c0_i32_252
  let v408 : BitVec 32 := Scalar.extui v407
  let v409 : BitVec 32 := Scalar.subi v406 v408
  let c4_i32_250 : BitVec 32 := 4#32
  let c0_i32_253 : BitVec 32 := 0#32
  let v410 : BitVec 1 := Scalar.cmpi .sgt c4_i32_250 c0_i32_253
  let v411 : BitVec 32 := Scalar.extui v410
  let c0_i32_254 : BitVec 32 := 0#32
  let v412 : BitVec 1 := Scalar.cmpi .slt c4_i32_250 c0_i32_254
  let v413 : BitVec 32 := Scalar.extui v412
  let v414 : BitVec 32 := Scalar.subi v411 v413
  let v415 : BitVec 1 := Scalar.cmpi .ne v409 v414
  let v416 : BitVec 32 := Scalar.remsi v403 c4_i32_250
  let c0_i32_255 : BitVec 32 := 0#32
  let v417 : BitVec 1 := Scalar.cmpi .ne v416 c0_i32_255
  let v418 : BitVec 1 := Scalar.andi v415 v417
  let v404 : BitVec 32 := Scalar.divsi v403 c4_i32_250
  let c1_i32_256 : BitVec 32 := 1#32
  let v419 : BitVec 32 := Scalar.subi v404 c1_i32_256
  let v420 : BitVec 32 := Scalar.select v418 v419 v404
  let c0_i32_257 : BitVec 32 := 0#32
  let v422 : BitVec 1 := Scalar.cmpi .sgt v420 c0_i32_257
  let v423 : BitVec 32 := Scalar.extui v422
  let c0_i32_258 : BitVec 32 := 0#32
  let v424 : BitVec 1 := Scalar.cmpi .slt v420 c0_i32_258
  let v425 : BitVec 32 := Scalar.extui v424
  let v426 : BitVec 32 := Scalar.subi v423 v425
  let c2_i32 : BitVec 32 := 2#32
  let c0_i32_259 : BitVec 32 := 0#32
  let v427 : BitVec 1 := Scalar.cmpi .sgt c2_i32 c0_i32_259
  let v428 : BitVec 32 := Scalar.extui v427
  let c0_i32_260 : BitVec 32 := 0#32
  let v429 : BitVec 1 := Scalar.cmpi .slt c2_i32 c0_i32_260
  let v430 : BitVec 32 := Scalar.extui v429
  let v431 : BitVec 32 := Scalar.subi v428 v430
  let v432 : BitVec 1 := Scalar.cmpi .ne v426 v431
  let v433 : BitVec 32 := Scalar.remsi v420 c2_i32
  let c0_i32_261 : BitVec 32 := 0#32
  let v434 : BitVec 1 := Scalar.cmpi .ne v433 c0_i32_261
  let v435 : BitVec 1 := Scalar.andi v432 v434
  let v421 : BitVec 32 := Scalar.divsi v420 c2_i32
  let c1_i32_262 : BitVec 32 := 1#32
  let v436 : BitVec 32 := Scalar.subi v421 c1_i32_262
  let v437 : BitVec 32 := Scalar.select v435 v436 v421
  let c1_i32_263 : BitVec 32 := 1#32
  let v438 : BitVec 32 := Scalar.subi v437 c1_i32_263
  let c0_i32_264 : BitVec 32 := 0#32
  let v439 : BitVec 32 := Scalar.maxsi v438 c0_i32_264
  let v440 : BitVec 32 := Scalar.subi v439 c0_i32_265
  let c1_i32_266 : BitVec 32 := 1#32
  let v442 : BitVec 32 := Scalar.divsi v440 c1_i32_266
  let v443 : BitVec 32 := Scalar.muli v442 c1_i32_266
  let v444 : BitVec 32 := Scalar.addi c0_i32_265 v443
  let c1_i32_268 : BitVec 32 := 1#32
  let arg19 : BitVec 32 := Scf.iv v444 c1_i32_268 k0_t3
  let v879 : BitVec 32 := Scalar.muli c2_i32_552 arg19
  let c1_i32_553 : BitVec 32 := 1#32
  let v880 : BitVec 32 := Scalar.addi v879 c1_i32_553
  let c4_i32_635 : BitVec 32 := 4#32
  let v1036 : BitVec 32 := Scalar.muli v880 c4_i32_635
  let v1037 : BitVec 32 := Scalar.addi v1036 c0_i32_636
  let v1038 : Index := Scalar.indexCast v1037
  let c0_638 : Index := 0#32
  let c0_639 : Index := 0#32
  ![0, v1038.toNat, 0, 0]
def k0_off38 (i : grid0.Coords) (k0_t3 : Fin (k0_t3_loop i).trips) (c0_i32_629 : BitVec 32) : Fin 3 → Nat :=
  let c0_641 : Index := 0#32
  let c2_i32_552 : BitVec 32 := 2#32
  let c0_i32_265 : BitVec 32 := 0#32
  let arg2 : BitVec 32 := BitVec.ofNat 32 (i 2).val
  let c4_i32 : BitVec 32 := 4#32
  let v402 : BitVec 32 := Scalar.addi arg2 c4_i32
  let c1_i32 : BitVec 32 := 1#32
  let v403 : BitVec 32 := Scalar.subi v402 c1_i32
  let c0_i32_251 : BitVec 32 := 0#32
  let v405 : BitVec 1 := Scalar.cmpi .sgt v403 c0_i32_251
  let v406 : BitVec 32 := Scalar.extui v405
  let c0_i32_252 : BitVec 32 := 0#32
  let v407 : BitVec 1 := Scalar.cmpi .slt v403 c0_i32_252
  let v408 : BitVec 32 := Scalar.extui v407
  let v409 : BitVec 32 := Scalar.subi v406 v408
  let c4_i32_250 : BitVec 32 := 4#32
  let c0_i32_253 : BitVec 32 := 0#32
  let v410 : BitVec 1 := Scalar.cmpi .sgt c4_i32_250 c0_i32_253
  let v411 : BitVec 32 := Scalar.extui v410
  let c0_i32_254 : BitVec 32 := 0#32
  let v412 : BitVec 1 := Scalar.cmpi .slt c4_i32_250 c0_i32_254
  let v413 : BitVec 32 := Scalar.extui v412
  let v414 : BitVec 32 := Scalar.subi v411 v413
  let v415 : BitVec 1 := Scalar.cmpi .ne v409 v414
  let v416 : BitVec 32 := Scalar.remsi v403 c4_i32_250
  let c0_i32_255 : BitVec 32 := 0#32
  let v417 : BitVec 1 := Scalar.cmpi .ne v416 c0_i32_255
  let v418 : BitVec 1 := Scalar.andi v415 v417
  let v404 : BitVec 32 := Scalar.divsi v403 c4_i32_250
  let c1_i32_256 : BitVec 32 := 1#32
  let v419 : BitVec 32 := Scalar.subi v404 c1_i32_256
  let v420 : BitVec 32 := Scalar.select v418 v419 v404
  let c0_i32_257 : BitVec 32 := 0#32
  let v422 : BitVec 1 := Scalar.cmpi .sgt v420 c0_i32_257
  let v423 : BitVec 32 := Scalar.extui v422
  let c0_i32_258 : BitVec 32 := 0#32
  let v424 : BitVec 1 := Scalar.cmpi .slt v420 c0_i32_258
  let v425 : BitVec 32 := Scalar.extui v424
  let v426 : BitVec 32 := Scalar.subi v423 v425
  let c2_i32 : BitVec 32 := 2#32
  let c0_i32_259 : BitVec 32 := 0#32
  let v427 : BitVec 1 := Scalar.cmpi .sgt c2_i32 c0_i32_259
  let v428 : BitVec 32 := Scalar.extui v427
  let c0_i32_260 : BitVec 32 := 0#32
  let v429 : BitVec 1 := Scalar.cmpi .slt c2_i32 c0_i32_260
  let v430 : BitVec 32 := Scalar.extui v429
  let v431 : BitVec 32 := Scalar.subi v428 v430
  let v432 : BitVec 1 := Scalar.cmpi .ne v426 v431
  let v433 : BitVec 32 := Scalar.remsi v420 c2_i32
  let c0_i32_261 : BitVec 32 := 0#32
  let v434 : BitVec 1 := Scalar.cmpi .ne v433 c0_i32_261
  let v435 : BitVec 1 := Scalar.andi v432 v434
  let v421 : BitVec 32 := Scalar.divsi v420 c2_i32
  let c1_i32_262 : BitVec 32 := 1#32
  let v436 : BitVec 32 := Scalar.subi v421 c1_i32_262
  let v437 : BitVec 32 := Scalar.select v435 v436 v421
  let c1_i32_263 : BitVec 32 := 1#32
  let v438 : BitVec 32 := Scalar.subi v437 c1_i32_263
  let c0_i32_264 : BitVec 32 := 0#32
  let v439 : BitVec 32 := Scalar.maxsi v438 c0_i32_264
  let v440 : BitVec 32 := Scalar.subi v439 c0_i32_265
  let c1_i32_266 : BitVec 32 := 1#32
  let v442 : BitVec 32 := Scalar.divsi v440 c1_i32_266
  let v443 : BitVec 32 := Scalar.muli v442 c1_i32_266
  let v444 : BitVec 32 := Scalar.addi c0_i32_265 v443
  let c1_i32_268 : BitVec 32 := 1#32
  let arg19 : BitVec 32 := Scf.iv v444 c1_i32_268 k0_t3
  let v879 : BitVec 32 := Scalar.muli c2_i32_552 arg19
  let c1_i32_553 : BitVec 32 := 1#32
  let v880 : BitVec 32 := Scalar.addi v879 c1_i32_553
  let c2_i32_626 : BitVec 32 := 2#32
  let v1021 : BitVec 32 := Scalar.addi v880 c2_i32_626
  let c15_i32_627 : BitVec 32 := 15#32
  let v1022 : BitVec 32 := Scalar.minsi v1021 c15_i32_627
  let c4_i32_628 : BitVec 32 := 4#32
  let v1023 : BitVec 32 := Scalar.muli v1022 c4_i32_628
  let v1024 : BitVec 32 := Scalar.addi v1023 c0_i32_629
  let c256_i32_630 : BitVec 32 := 256#32
  let v1025 : BitVec 32 := Scalar.muli v1024 c256_i32_630
  let v1026 : BitVec 32 := v1025
  let v1042 : Index := Scalar.indexCast v1026
  let c0_642 : Index := 0#32
  ![0, v1042.toNat, 0]
def k0_off39 (i : grid0.Coords) (k0_t3 : Fin (k0_t3_loop i).trips) (c0_i32_656 : BitVec 32) : Fin 4 → Nat :=
  let c1_657 : Index := 1#32
  let c2_i32_552 : BitVec 32 := 2#32
  let c0_i32_265 : BitVec 32 := 0#32
  let arg2 : BitVec 32 := BitVec.ofNat 32 (i 2).val
  let c4_i32 : BitVec 32 := 4#32
  let v402 : BitVec 32 := Scalar.addi arg2 c4_i32
  let c1_i32 : BitVec 32 := 1#32
  let v403 : BitVec 32 := Scalar.subi v402 c1_i32
  let c0_i32_251 : BitVec 32 := 0#32
  let v405 : BitVec 1 := Scalar.cmpi .sgt v403 c0_i32_251
  let v406 : BitVec 32 := Scalar.extui v405
  let c0_i32_252 : BitVec 32 := 0#32
  let v407 : BitVec 1 := Scalar.cmpi .slt v403 c0_i32_252
  let v408 : BitVec 32 := Scalar.extui v407
  let v409 : BitVec 32 := Scalar.subi v406 v408
  let c4_i32_250 : BitVec 32 := 4#32
  let c0_i32_253 : BitVec 32 := 0#32
  let v410 : BitVec 1 := Scalar.cmpi .sgt c4_i32_250 c0_i32_253
  let v411 : BitVec 32 := Scalar.extui v410
  let c0_i32_254 : BitVec 32 := 0#32
  let v412 : BitVec 1 := Scalar.cmpi .slt c4_i32_250 c0_i32_254
  let v413 : BitVec 32 := Scalar.extui v412
  let v414 : BitVec 32 := Scalar.subi v411 v413
  let v415 : BitVec 1 := Scalar.cmpi .ne v409 v414
  let v416 : BitVec 32 := Scalar.remsi v403 c4_i32_250
  let c0_i32_255 : BitVec 32 := 0#32
  let v417 : BitVec 1 := Scalar.cmpi .ne v416 c0_i32_255
  let v418 : BitVec 1 := Scalar.andi v415 v417
  let v404 : BitVec 32 := Scalar.divsi v403 c4_i32_250
  let c1_i32_256 : BitVec 32 := 1#32
  let v419 : BitVec 32 := Scalar.subi v404 c1_i32_256
  let v420 : BitVec 32 := Scalar.select v418 v419 v404
  let c0_i32_257 : BitVec 32 := 0#32
  let v422 : BitVec 1 := Scalar.cmpi .sgt v420 c0_i32_257
  let v423 : BitVec 32 := Scalar.extui v422
  let c0_i32_258 : BitVec 32 := 0#32
  let v424 : BitVec 1 := Scalar.cmpi .slt v420 c0_i32_258
  let v425 : BitVec 32 := Scalar.extui v424
  let v426 : BitVec 32 := Scalar.subi v423 v425
  let c2_i32 : BitVec 32 := 2#32
  let c0_i32_259 : BitVec 32 := 0#32
  let v427 : BitVec 1 := Scalar.cmpi .sgt c2_i32 c0_i32_259
  let v428 : BitVec 32 := Scalar.extui v427
  let c0_i32_260 : BitVec 32 := 0#32
  let v429 : BitVec 1 := Scalar.cmpi .slt c2_i32 c0_i32_260
  let v430 : BitVec 32 := Scalar.extui v429
  let v431 : BitVec 32 := Scalar.subi v428 v430
  let v432 : BitVec 1 := Scalar.cmpi .ne v426 v431
  let v433 : BitVec 32 := Scalar.remsi v420 c2_i32
  let c0_i32_261 : BitVec 32 := 0#32
  let v434 : BitVec 1 := Scalar.cmpi .ne v433 c0_i32_261
  let v435 : BitVec 1 := Scalar.andi v432 v434
  let v421 : BitVec 32 := Scalar.divsi v420 c2_i32
  let c1_i32_262 : BitVec 32 := 1#32
  let v436 : BitVec 32 := Scalar.subi v421 c1_i32_262
  let v437 : BitVec 32 := Scalar.select v435 v436 v421
  let c1_i32_263 : BitVec 32 := 1#32
  let v438 : BitVec 32 := Scalar.subi v437 c1_i32_263
  let c0_i32_264 : BitVec 32 := 0#32
  let v439 : BitVec 32 := Scalar.maxsi v438 c0_i32_264
  let v440 : BitVec 32 := Scalar.subi v439 c0_i32_265
  let c1_i32_266 : BitVec 32 := 1#32
  let v442 : BitVec 32 := Scalar.divsi v440 c1_i32_266
  let v443 : BitVec 32 := Scalar.muli v442 c1_i32_266
  let v444 : BitVec 32 := Scalar.addi c0_i32_265 v443
  let c1_i32_268 : BitVec 32 := 1#32
  let arg19 : BitVec 32 := Scf.iv v444 c1_i32_268 k0_t3
  let v879 : BitVec 32 := Scalar.muli c2_i32_552 arg19
  let c1_i32_553 : BitVec 32 := 1#32
  let v880 : BitVec 32 := Scalar.addi v879 c1_i32_553
  let c4_i32_655 : BitVec 32 := 4#32
  let v1063 : BitVec 32 := Scalar.muli v880 c4_i32_655
  let v1064 : BitVec 32 := Scalar.addi v1063 c0_i32_656
  let v1065 : Index := Scalar.indexCast v1064
  let c0_658 : Index := 0#32
  let c0_659 : Index := 0#32
  ![1, v1065.toNat, 0, 0]
def k0_off40 (i : grid0.Coords) (k0_t3 : Fin (k0_t3_loop i).trips) (c0_i32_629 : BitVec 32) : Fin 3 → Nat :=
  let c1_661 : Index := 1#32
  let c2_i32_552 : BitVec 32 := 2#32
  let c0_i32_265 : BitVec 32 := 0#32
  let arg2 : BitVec 32 := BitVec.ofNat 32 (i 2).val
  let c4_i32 : BitVec 32 := 4#32
  let v402 : BitVec 32 := Scalar.addi arg2 c4_i32
  let c1_i32 : BitVec 32 := 1#32
  let v403 : BitVec 32 := Scalar.subi v402 c1_i32
  let c0_i32_251 : BitVec 32 := 0#32
  let v405 : BitVec 1 := Scalar.cmpi .sgt v403 c0_i32_251
  let v406 : BitVec 32 := Scalar.extui v405
  let c0_i32_252 : BitVec 32 := 0#32
  let v407 : BitVec 1 := Scalar.cmpi .slt v403 c0_i32_252
  let v408 : BitVec 32 := Scalar.extui v407
  let v409 : BitVec 32 := Scalar.subi v406 v408
  let c4_i32_250 : BitVec 32 := 4#32
  let c0_i32_253 : BitVec 32 := 0#32
  let v410 : BitVec 1 := Scalar.cmpi .sgt c4_i32_250 c0_i32_253
  let v411 : BitVec 32 := Scalar.extui v410
  let c0_i32_254 : BitVec 32 := 0#32
  let v412 : BitVec 1 := Scalar.cmpi .slt c4_i32_250 c0_i32_254
  let v413 : BitVec 32 := Scalar.extui v412
  let v414 : BitVec 32 := Scalar.subi v411 v413
  let v415 : BitVec 1 := Scalar.cmpi .ne v409 v414
  let v416 : BitVec 32 := Scalar.remsi v403 c4_i32_250
  let c0_i32_255 : BitVec 32 := 0#32
  let v417 : BitVec 1 := Scalar.cmpi .ne v416 c0_i32_255
  let v418 : BitVec 1 := Scalar.andi v415 v417
  let v404 : BitVec 32 := Scalar.divsi v403 c4_i32_250
  let c1_i32_256 : BitVec 32 := 1#32
  let v419 : BitVec 32 := Scalar.subi v404 c1_i32_256
  let v420 : BitVec 32 := Scalar.select v418 v419 v404
  let c0_i32_257 : BitVec 32 := 0#32
  let v422 : BitVec 1 := Scalar.cmpi .sgt v420 c0_i32_257
  let v423 : BitVec 32 := Scalar.extui v422
  let c0_i32_258 : BitVec 32 := 0#32
  let v424 : BitVec 1 := Scalar.cmpi .slt v420 c0_i32_258
  let v425 : BitVec 32 := Scalar.extui v424
  let v426 : BitVec 32 := Scalar.subi v423 v425
  let c2_i32 : BitVec 32 := 2#32
  let c0_i32_259 : BitVec 32 := 0#32
  let v427 : BitVec 1 := Scalar.cmpi .sgt c2_i32 c0_i32_259
  let v428 : BitVec 32 := Scalar.extui v427
  let c0_i32_260 : BitVec 32 := 0#32
  let v429 : BitVec 1 := Scalar.cmpi .slt c2_i32 c0_i32_260
  let v430 : BitVec 32 := Scalar.extui v429
  let v431 : BitVec 32 := Scalar.subi v428 v430
  let v432 : BitVec 1 := Scalar.cmpi .ne v426 v431
  let v433 : BitVec 32 := Scalar.remsi v420 c2_i32
  let c0_i32_261 : BitVec 32 := 0#32
  let v434 : BitVec 1 := Scalar.cmpi .ne v433 c0_i32_261
  let v435 : BitVec 1 := Scalar.andi v432 v434
  let v421 : BitVec 32 := Scalar.divsi v420 c2_i32
  let c1_i32_262 : BitVec 32 := 1#32
  let v436 : BitVec 32 := Scalar.subi v421 c1_i32_262
  let v437 : BitVec 32 := Scalar.select v435 v436 v421
  let c1_i32_263 : BitVec 32 := 1#32
  let v438 : BitVec 32 := Scalar.subi v437 c1_i32_263
  let c0_i32_264 : BitVec 32 := 0#32
  let v439 : BitVec 32 := Scalar.maxsi v438 c0_i32_264
  let v440 : BitVec 32 := Scalar.subi v439 c0_i32_265
  let c1_i32_266 : BitVec 32 := 1#32
  let v442 : BitVec 32 := Scalar.divsi v440 c1_i32_266
  let v443 : BitVec 32 := Scalar.muli v442 c1_i32_266
  let v444 : BitVec 32 := Scalar.addi c0_i32_265 v443
  let c1_i32_268 : BitVec 32 := 1#32
  let arg19 : BitVec 32 := Scf.iv v444 c1_i32_268 k0_t3
  let v879 : BitVec 32 := Scalar.muli c2_i32_552 arg19
  let c1_i32_553 : BitVec 32 := 1#32
  let v880 : BitVec 32 := Scalar.addi v879 c1_i32_553
  let c2_i32_626 : BitVec 32 := 2#32
  let v1021 : BitVec 32 := Scalar.addi v880 c2_i32_626
  let c15_i32_627 : BitVec 32 := 15#32
  let v1022 : BitVec 32 := Scalar.minsi v1021 c15_i32_627
  let c4_i32_628 : BitVec 32 := 4#32
  let v1023 : BitVec 32 := Scalar.muli v1022 c4_i32_628
  let v1024 : BitVec 32 := Scalar.addi v1023 c0_i32_629
  let c256_i32_630 : BitVec 32 := 256#32
  let v1025 : BitVec 32 := Scalar.muli v1024 c256_i32_630
  let v1026 : BitVec 32 := v1025
  let v1069 : Index := Scalar.indexCast v1026
  let c0_662 : Index := 0#32
  ![1, v1069.toNat, 0]
def k0_mult24 (i : grid0.Coords) (k0_t3 : Fin (k0_t3_loop i).trips) : BitVec 32 :=
  let c2_i32_552 : BitVec 32 := 2#32
  let c0_i32_265 : BitVec 32 := 0#32
  let arg2 : BitVec 32 := BitVec.ofNat 32 (i 2).val
  let c4_i32 : BitVec 32 := 4#32
  let v402 : BitVec 32 := Scalar.addi arg2 c4_i32
  let c1_i32 : BitVec 32 := 1#32
  let v403 : BitVec 32 := Scalar.subi v402 c1_i32
  let c0_i32_251 : BitVec 32 := 0#32
  let v405 : BitVec 1 := Scalar.cmpi .sgt v403 c0_i32_251
  let v406 : BitVec 32 := Scalar.extui v405
  let c0_i32_252 : BitVec 32 := 0#32
  let v407 : BitVec 1 := Scalar.cmpi .slt v403 c0_i32_252
  let v408 : BitVec 32 := Scalar.extui v407
  let v409 : BitVec 32 := Scalar.subi v406 v408
  let c4_i32_250 : BitVec 32 := 4#32
  let c0_i32_253 : BitVec 32 := 0#32
  let v410 : BitVec 1 := Scalar.cmpi .sgt c4_i32_250 c0_i32_253
  let v411 : BitVec 32 := Scalar.extui v410
  let c0_i32_254 : BitVec 32 := 0#32
  let v412 : BitVec 1 := Scalar.cmpi .slt c4_i32_250 c0_i32_254
  let v413 : BitVec 32 := Scalar.extui v412
  let v414 : BitVec 32 := Scalar.subi v411 v413
  let v415 : BitVec 1 := Scalar.cmpi .ne v409 v414
  let v416 : BitVec 32 := Scalar.remsi v403 c4_i32_250
  let c0_i32_255 : BitVec 32 := 0#32
  let v417 : BitVec 1 := Scalar.cmpi .ne v416 c0_i32_255
  let v418 : BitVec 1 := Scalar.andi v415 v417
  let v404 : BitVec 32 := Scalar.divsi v403 c4_i32_250
  let c1_i32_256 : BitVec 32 := 1#32
  let v419 : BitVec 32 := Scalar.subi v404 c1_i32_256
  let v420 : BitVec 32 := Scalar.select v418 v419 v404
  let c0_i32_257 : BitVec 32 := 0#32
  let v422 : BitVec 1 := Scalar.cmpi .sgt v420 c0_i32_257
  let v423 : BitVec 32 := Scalar.extui v422
  let c0_i32_258 : BitVec 32 := 0#32
  let v424 : BitVec 1 := Scalar.cmpi .slt v420 c0_i32_258
  let v425 : BitVec 32 := Scalar.extui v424
  let v426 : BitVec 32 := Scalar.subi v423 v425
  let c2_i32 : BitVec 32 := 2#32
  let c0_i32_259 : BitVec 32 := 0#32
  let v427 : BitVec 1 := Scalar.cmpi .sgt c2_i32 c0_i32_259
  let v428 : BitVec 32 := Scalar.extui v427
  let c0_i32_260 : BitVec 32 := 0#32
  let v429 : BitVec 1 := Scalar.cmpi .slt c2_i32 c0_i32_260
  let v430 : BitVec 32 := Scalar.extui v429
  let v431 : BitVec 32 := Scalar.subi v428 v430
  let v432 : BitVec 1 := Scalar.cmpi .ne v426 v431
  let v433 : BitVec 32 := Scalar.remsi v420 c2_i32
  let c0_i32_261 : BitVec 32 := 0#32
  let v434 : BitVec 1 := Scalar.cmpi .ne v433 c0_i32_261
  let v435 : BitVec 1 := Scalar.andi v432 v434
  let v421 : BitVec 32 := Scalar.divsi v420 c2_i32
  let c1_i32_262 : BitVec 32 := 1#32
  let v436 : BitVec 32 := Scalar.subi v421 c1_i32_262
  let v437 : BitVec 32 := Scalar.select v435 v436 v421
  let c1_i32_263 : BitVec 32 := 1#32
  let v438 : BitVec 32 := Scalar.subi v437 c1_i32_263
  let c0_i32_264 : BitVec 32 := 0#32
  let v439 : BitVec 32 := Scalar.maxsi v438 c0_i32_264
  let v440 : BitVec 32 := Scalar.subi v439 c0_i32_265
  let c1_i32_266 : BitVec 32 := 1#32
  let v442 : BitVec 32 := Scalar.divsi v440 c1_i32_266
  let v443 : BitVec 32 := Scalar.muli v442 c1_i32_266
  let v444 : BitVec 32 := Scalar.addi c0_i32_265 v443
  let c1_i32_268 : BitVec 32 := 1#32
  let arg19 : BitVec 32 := Scf.iv v444 c1_i32_268 k0_t3
  let v879 : BitVec 32 := Scalar.muli c2_i32_552 arg19
  let c1_i32_553 : BitVec 32 := 1#32
  let v880 : BitVec 32 := Scalar.addi v879 c1_i32_553
  let c2_i32_626 : BitVec 32 := 2#32
  let v1021 : BitVec 32 := Scalar.addi v880 c2_i32_626
  let c15_i32_627 : BitVec 32 := 15#32
  let v1022 : BitVec 32 := Scalar.minsi v1021 c15_i32_627
  let c4_i32_671 : BitVec 32 := 4#32
  let v1081 : BitVec 32 := Scalar.muli v1022 c4_i32_671
  let c1_i32_672 : BitVec 32 := 1#32
  let v1082 : BitVec 32 := Scalar.addi v1081 c1_i32_672
  let c256_i32_673 : BitVec 32 := 256#32
  let v1083 : BitVec 32 := Scalar.muli v1082 c256_i32_673
  v1083
def k0_mult25 (i : grid0.Coords) (k0_t3 : Fin (k0_t3_loop i).trips) : BitVec 32 :=
  let c2_i32_552 : BitVec 32 := 2#32
  let c0_i32_265 : BitVec 32 := 0#32
  let arg2 : BitVec 32 := BitVec.ofNat 32 (i 2).val
  let c4_i32 : BitVec 32 := 4#32
  let v402 : BitVec 32 := Scalar.addi arg2 c4_i32
  let c1_i32 : BitVec 32 := 1#32
  let v403 : BitVec 32 := Scalar.subi v402 c1_i32
  let c0_i32_251 : BitVec 32 := 0#32
  let v405 : BitVec 1 := Scalar.cmpi .sgt v403 c0_i32_251
  let v406 : BitVec 32 := Scalar.extui v405
  let c0_i32_252 : BitVec 32 := 0#32
  let v407 : BitVec 1 := Scalar.cmpi .slt v403 c0_i32_252
  let v408 : BitVec 32 := Scalar.extui v407
  let v409 : BitVec 32 := Scalar.subi v406 v408
  let c4_i32_250 : BitVec 32 := 4#32
  let c0_i32_253 : BitVec 32 := 0#32
  let v410 : BitVec 1 := Scalar.cmpi .sgt c4_i32_250 c0_i32_253
  let v411 : BitVec 32 := Scalar.extui v410
  let c0_i32_254 : BitVec 32 := 0#32
  let v412 : BitVec 1 := Scalar.cmpi .slt c4_i32_250 c0_i32_254
  let v413 : BitVec 32 := Scalar.extui v412
  let v414 : BitVec 32 := Scalar.subi v411 v413
  let v415 : BitVec 1 := Scalar.cmpi .ne v409 v414
  let v416 : BitVec 32 := Scalar.remsi v403 c4_i32_250
  let c0_i32_255 : BitVec 32 := 0#32
  let v417 : BitVec 1 := Scalar.cmpi .ne v416 c0_i32_255
  let v418 : BitVec 1 := Scalar.andi v415 v417
  let v404 : BitVec 32 := Scalar.divsi v403 c4_i32_250
  let c1_i32_256 : BitVec 32 := 1#32
  let v419 : BitVec 32 := Scalar.subi v404 c1_i32_256
  let v420 : BitVec 32 := Scalar.select v418 v419 v404
  let c0_i32_257 : BitVec 32 := 0#32
  let v422 : BitVec 1 := Scalar.cmpi .sgt v420 c0_i32_257
  let v423 : BitVec 32 := Scalar.extui v422
  let c0_i32_258 : BitVec 32 := 0#32
  let v424 : BitVec 1 := Scalar.cmpi .slt v420 c0_i32_258
  let v425 : BitVec 32 := Scalar.extui v424
  let v426 : BitVec 32 := Scalar.subi v423 v425
  let c2_i32 : BitVec 32 := 2#32
  let c0_i32_259 : BitVec 32 := 0#32
  let v427 : BitVec 1 := Scalar.cmpi .sgt c2_i32 c0_i32_259
  let v428 : BitVec 32 := Scalar.extui v427
  let c0_i32_260 : BitVec 32 := 0#32
  let v429 : BitVec 1 := Scalar.cmpi .slt c2_i32 c0_i32_260
  let v430 : BitVec 32 := Scalar.extui v429
  let v431 : BitVec 32 := Scalar.subi v428 v430
  let v432 : BitVec 1 := Scalar.cmpi .ne v426 v431
  let v433 : BitVec 32 := Scalar.remsi v420 c2_i32
  let c0_i32_261 : BitVec 32 := 0#32
  let v434 : BitVec 1 := Scalar.cmpi .ne v433 c0_i32_261
  let v435 : BitVec 1 := Scalar.andi v432 v434
  let v421 : BitVec 32 := Scalar.divsi v420 c2_i32
  let c1_i32_262 : BitVec 32 := 1#32
  let v436 : BitVec 32 := Scalar.subi v421 c1_i32_262
  let v437 : BitVec 32 := Scalar.select v435 v436 v421
  let c1_i32_263 : BitVec 32 := 1#32
  let v438 : BitVec 32 := Scalar.subi v437 c1_i32_263
  let c0_i32_264 : BitVec 32 := 0#32
  let v439 : BitVec 32 := Scalar.maxsi v438 c0_i32_264
  let v440 : BitVec 32 := Scalar.subi v439 c0_i32_265
  let c1_i32_266 : BitVec 32 := 1#32
  let v442 : BitVec 32 := Scalar.divsi v440 c1_i32_266
  let v443 : BitVec 32 := Scalar.muli v442 c1_i32_266
  let v444 : BitVec 32 := Scalar.addi c0_i32_265 v443
  let c1_i32_268 : BitVec 32 := 1#32
  let arg19 : BitVec 32 := Scf.iv v444 c1_i32_268 k0_t3
  let v879 : BitVec 32 := Scalar.muli c2_i32_552 arg19
  let c1_i32_553 : BitVec 32 := 1#32
  let v880 : BitVec 32 := Scalar.addi v879 c1_i32_553
  let c2_i32_626 : BitVec 32 := 2#32
  let v1021 : BitVec 32 := Scalar.addi v880 c2_i32_626
  let c15_i32_627 : BitVec 32 := 15#32
  let v1022 : BitVec 32 := Scalar.minsi v1021 c15_i32_627
  let c4_i32_714 : BitVec 32 := 4#32
  let v1141 : BitVec 32 := Scalar.muli v1022 c4_i32_714
  let c2_i32_715 : BitVec 32 := 2#32
  let v1142 : BitVec 32 := Scalar.addi v1141 c2_i32_715
  let c256_i32_716 : BitVec 32 := 256#32
  let v1143 : BitVec 32 := Scalar.muli v1142 c256_i32_716
  v1143
def k0_mult26 (i : grid0.Coords) (k0_t3 : Fin (k0_t3_loop i).trips) : BitVec 32 :=
  let c2_i32_552 : BitVec 32 := 2#32
  let c0_i32_265 : BitVec 32 := 0#32
  let arg2 : BitVec 32 := BitVec.ofNat 32 (i 2).val
  let c4_i32 : BitVec 32 := 4#32
  let v402 : BitVec 32 := Scalar.addi arg2 c4_i32
  let c1_i32 : BitVec 32 := 1#32
  let v403 : BitVec 32 := Scalar.subi v402 c1_i32
  let c0_i32_251 : BitVec 32 := 0#32
  let v405 : BitVec 1 := Scalar.cmpi .sgt v403 c0_i32_251
  let v406 : BitVec 32 := Scalar.extui v405
  let c0_i32_252 : BitVec 32 := 0#32
  let v407 : BitVec 1 := Scalar.cmpi .slt v403 c0_i32_252
  let v408 : BitVec 32 := Scalar.extui v407
  let v409 : BitVec 32 := Scalar.subi v406 v408
  let c4_i32_250 : BitVec 32 := 4#32
  let c0_i32_253 : BitVec 32 := 0#32
  let v410 : BitVec 1 := Scalar.cmpi .sgt c4_i32_250 c0_i32_253
  let v411 : BitVec 32 := Scalar.extui v410
  let c0_i32_254 : BitVec 32 := 0#32
  let v412 : BitVec 1 := Scalar.cmpi .slt c4_i32_250 c0_i32_254
  let v413 : BitVec 32 := Scalar.extui v412
  let v414 : BitVec 32 := Scalar.subi v411 v413
  let v415 : BitVec 1 := Scalar.cmpi .ne v409 v414
  let v416 : BitVec 32 := Scalar.remsi v403 c4_i32_250
  let c0_i32_255 : BitVec 32 := 0#32
  let v417 : BitVec 1 := Scalar.cmpi .ne v416 c0_i32_255
  let v418 : BitVec 1 := Scalar.andi v415 v417
  let v404 : BitVec 32 := Scalar.divsi v403 c4_i32_250
  let c1_i32_256 : BitVec 32 := 1#32
  let v419 : BitVec 32 := Scalar.subi v404 c1_i32_256
  let v420 : BitVec 32 := Scalar.select v418 v419 v404
  let c0_i32_257 : BitVec 32 := 0#32
  let v422 : BitVec 1 := Scalar.cmpi .sgt v420 c0_i32_257
  let v423 : BitVec 32 := Scalar.extui v422
  let c0_i32_258 : BitVec 32 := 0#32
  let v424 : BitVec 1 := Scalar.cmpi .slt v420 c0_i32_258
  let v425 : BitVec 32 := Scalar.extui v424
  let v426 : BitVec 32 := Scalar.subi v423 v425
  let c2_i32 : BitVec 32 := 2#32
  let c0_i32_259 : BitVec 32 := 0#32
  let v427 : BitVec 1 := Scalar.cmpi .sgt c2_i32 c0_i32_259
  let v428 : BitVec 32 := Scalar.extui v427
  let c0_i32_260 : BitVec 32 := 0#32
  let v429 : BitVec 1 := Scalar.cmpi .slt c2_i32 c0_i32_260
  let v430 : BitVec 32 := Scalar.extui v429
  let v431 : BitVec 32 := Scalar.subi v428 v430
  let v432 : BitVec 1 := Scalar.cmpi .ne v426 v431
  let v433 : BitVec 32 := Scalar.remsi v420 c2_i32
  let c0_i32_261 : BitVec 32 := 0#32
  let v434 : BitVec 1 := Scalar.cmpi .ne v433 c0_i32_261
  let v435 : BitVec 1 := Scalar.andi v432 v434
  let v421 : BitVec 32 := Scalar.divsi v420 c2_i32
  let c1_i32_262 : BitVec 32 := 1#32
  let v436 : BitVec 32 := Scalar.subi v421 c1_i32_262
  let v437 : BitVec 32 := Scalar.select v435 v436 v421
  let c1_i32_263 : BitVec 32 := 1#32
  let v438 : BitVec 32 := Scalar.subi v437 c1_i32_263
  let c0_i32_264 : BitVec 32 := 0#32
  let v439 : BitVec 32 := Scalar.maxsi v438 c0_i32_264
  let v440 : BitVec 32 := Scalar.subi v439 c0_i32_265
  let c1_i32_266 : BitVec 32 := 1#32
  let v442 : BitVec 32 := Scalar.divsi v440 c1_i32_266
  let v443 : BitVec 32 := Scalar.muli v442 c1_i32_266
  let v444 : BitVec 32 := Scalar.addi c0_i32_265 v443
  let c1_i32_268 : BitVec 32 := 1#32
  let arg19 : BitVec 32 := Scf.iv v444 c1_i32_268 k0_t3
  let v879 : BitVec 32 := Scalar.muli c2_i32_552 arg19
  let c1_i32_553 : BitVec 32 := 1#32
  let v880 : BitVec 32 := Scalar.addi v879 c1_i32_553
  let c2_i32_626 : BitVec 32 := 2#32
  let v1021 : BitVec 32 := Scalar.addi v880 c2_i32_626
  let c15_i32_627 : BitVec 32 := 15#32
  let v1022 : BitVec 32 := Scalar.minsi v1021 c15_i32_627
  let c4_i32_757 : BitVec 32 := 4#32
  let v1201 : BitVec 32 := Scalar.muli v1022 c4_i32_757
  let c3_i32_758 : BitVec 32 := 3#32
  let v1202 : BitVec 32 := Scalar.addi v1201 c3_i32_758
  let c256_i32_759 : BitVec 32 := 256#32
  let v1203 : BitVec 32 := Scalar.muli v1202 c256_i32_759
  v1203
def k0_cond2 (i : grid0.Coords) : BitVec 1 :=
  let arg2 : BitVec 32 := BitVec.ofNat 32 (i 2).val
  let c4_i32 : BitVec 32 := 4#32
  let v402 : BitVec 32 := Scalar.addi arg2 c4_i32
  let c1_i32 : BitVec 32 := 1#32
  let v403 : BitVec 32 := Scalar.subi v402 c1_i32
  let c0_i32_251 : BitVec 32 := 0#32
  let v405 : BitVec 1 := Scalar.cmpi .sgt v403 c0_i32_251
  let v406 : BitVec 32 := Scalar.extui v405
  let c0_i32_252 : BitVec 32 := 0#32
  let v407 : BitVec 1 := Scalar.cmpi .slt v403 c0_i32_252
  let v408 : BitVec 32 := Scalar.extui v407
  let v409 : BitVec 32 := Scalar.subi v406 v408
  let c4_i32_250 : BitVec 32 := 4#32
  let c0_i32_253 : BitVec 32 := 0#32
  let v410 : BitVec 1 := Scalar.cmpi .sgt c4_i32_250 c0_i32_253
  let v411 : BitVec 32 := Scalar.extui v410
  let c0_i32_254 : BitVec 32 := 0#32
  let v412 : BitVec 1 := Scalar.cmpi .slt c4_i32_250 c0_i32_254
  let v413 : BitVec 32 := Scalar.extui v412
  let v414 : BitVec 32 := Scalar.subi v411 v413
  let v415 : BitVec 1 := Scalar.cmpi .ne v409 v414
  let v416 : BitVec 32 := Scalar.remsi v403 c4_i32_250
  let c0_i32_255 : BitVec 32 := 0#32
  let v417 : BitVec 1 := Scalar.cmpi .ne v416 c0_i32_255
  let v418 : BitVec 1 := Scalar.andi v415 v417
  let v404 : BitVec 32 := Scalar.divsi v403 c4_i32_250
  let c1_i32_256 : BitVec 32 := 1#32
  let v419 : BitVec 32 := Scalar.subi v404 c1_i32_256
  let v420 : BitVec 32 := Scalar.select v418 v419 v404
  let c0_i32_257 : BitVec 32 := 0#32
  let v422 : BitVec 1 := Scalar.cmpi .sgt v420 c0_i32_257
  let v423 : BitVec 32 := Scalar.extui v422
  let c0_i32_258 : BitVec 32 := 0#32
  let v424 : BitVec 1 := Scalar.cmpi .slt v420 c0_i32_258
  let v425 : BitVec 32 := Scalar.extui v424
  let v426 : BitVec 32 := Scalar.subi v423 v425
  let c2_i32 : BitVec 32 := 2#32
  let c0_i32_259 : BitVec 32 := 0#32
  let v427 : BitVec 1 := Scalar.cmpi .sgt c2_i32 c0_i32_259
  let v428 : BitVec 32 := Scalar.extui v427
  let c0_i32_260 : BitVec 32 := 0#32
  let v429 : BitVec 1 := Scalar.cmpi .slt c2_i32 c0_i32_260
  let v430 : BitVec 32 := Scalar.extui v429
  let v431 : BitVec 32 := Scalar.subi v428 v430
  let v432 : BitVec 1 := Scalar.cmpi .ne v426 v431
  let v433 : BitVec 32 := Scalar.remsi v420 c2_i32
  let c0_i32_261 : BitVec 32 := 0#32
  let v434 : BitVec 1 := Scalar.cmpi .ne v433 c0_i32_261
  let v435 : BitVec 1 := Scalar.andi v432 v434
  let v421 : BitVec 32 := Scalar.divsi v420 c2_i32
  let c1_i32_262 : BitVec 32 := 1#32
  let v436 : BitVec 32 := Scalar.subi v421 c1_i32_262
  let v437 : BitVec 32 := Scalar.select v435 v436 v421
  let c0_i32_269 : BitVec 32 := 0#32
  let v447 : BitVec 1 := Scalar.cmpi .sgt v437 c0_i32_269
  let v448 : BitVec 32 := Scalar.extui v447
  let c0_i32_270 : BitVec 32 := 0#32
  let v449 : BitVec 1 := Scalar.cmpi .ne v448 c0_i32_270
  v449

def k0_off41 (i : grid0.Coords) (c0_i32_298 : BitVec 32) : Fin 3 → Nat :=
  let c0_299 : Index := 0#32
  let c2_i32_296 : BitVec 32 := 2#32
  let arg2 : BitVec 32 := BitVec.ofNat 32 (i 2).val
  let c4_i32 : BitVec 32 := 4#32
  let v402 : BitVec 32 := Scalar.addi arg2 c4_i32
  let c1_i32 : BitVec 32 := 1#32
  let v403 : BitVec 32 := Scalar.subi v402 c1_i32
  let c0_i32_251 : BitVec 32 := 0#32
  let v405 : BitVec 1 := Scalar.cmpi .sgt v403 c0_i32_251
  let v406 : BitVec 32 := Scalar.extui v405
  let c0_i32_252 : BitVec 32 := 0#32
  let v407 : BitVec 1 := Scalar.cmpi .slt v403 c0_i32_252
  let v408 : BitVec 32 := Scalar.extui v407
  let v409 : BitVec 32 := Scalar.subi v406 v408
  let c4_i32_250 : BitVec 32 := 4#32
  let c0_i32_253 : BitVec 32 := 0#32
  let v410 : BitVec 1 := Scalar.cmpi .sgt c4_i32_250 c0_i32_253
  let v411 : BitVec 32 := Scalar.extui v410
  let c0_i32_254 : BitVec 32 := 0#32
  let v412 : BitVec 1 := Scalar.cmpi .slt c4_i32_250 c0_i32_254
  let v413 : BitVec 32 := Scalar.extui v412
  let v414 : BitVec 32 := Scalar.subi v411 v413
  let v415 : BitVec 1 := Scalar.cmpi .ne v409 v414
  let v416 : BitVec 32 := Scalar.remsi v403 c4_i32_250
  let c0_i32_255 : BitVec 32 := 0#32
  let v417 : BitVec 1 := Scalar.cmpi .ne v416 c0_i32_255
  let v418 : BitVec 1 := Scalar.andi v415 v417
  let v404 : BitVec 32 := Scalar.divsi v403 c4_i32_250
  let c1_i32_256 : BitVec 32 := 1#32
  let v419 : BitVec 32 := Scalar.subi v404 c1_i32_256
  let v420 : BitVec 32 := Scalar.select v418 v419 v404
  let c0_i32_257 : BitVec 32 := 0#32
  let v422 : BitVec 1 := Scalar.cmpi .sgt v420 c0_i32_257
  let v423 : BitVec 32 := Scalar.extui v422
  let c0_i32_258 : BitVec 32 := 0#32
  let v424 : BitVec 1 := Scalar.cmpi .slt v420 c0_i32_258
  let v425 : BitVec 32 := Scalar.extui v424
  let v426 : BitVec 32 := Scalar.subi v423 v425
  let c2_i32 : BitVec 32 := 2#32
  let c0_i32_259 : BitVec 32 := 0#32
  let v427 : BitVec 1 := Scalar.cmpi .sgt c2_i32 c0_i32_259
  let v428 : BitVec 32 := Scalar.extui v427
  let c0_i32_260 : BitVec 32 := 0#32
  let v429 : BitVec 1 := Scalar.cmpi .slt c2_i32 c0_i32_260
  let v430 : BitVec 32 := Scalar.extui v429
  let v431 : BitVec 32 := Scalar.subi v428 v430
  let v432 : BitVec 1 := Scalar.cmpi .ne v426 v431
  let v433 : BitVec 32 := Scalar.remsi v420 c2_i32
  let c0_i32_261 : BitVec 32 := 0#32
  let v434 : BitVec 1 := Scalar.cmpi .ne v433 c0_i32_261
  let v435 : BitVec 1 := Scalar.andi v432 v434
  let v421 : BitVec 32 := Scalar.divsi v420 c2_i32
  let c1_i32_262 : BitVec 32 := 1#32
  let v436 : BitVec 32 := Scalar.subi v421 c1_i32_262
  let v437 : BitVec 32 := Scalar.select v435 v436 v421
  let c1_i32_295 : BitVec 32 := 1#32
  let v482 : BitVec 32 := Scalar.subi v437 c1_i32_295
  let v483 : BitVec 32 := Scalar.muli c2_i32_296 v482
  let c4_i32_297 : BitVec 32 := 4#32
  let v484 : BitVec 32 := Scalar.muli v483 c4_i32_297
  let v485 : BitVec 32 := Scalar.addi v484 c0_i32_298
  let v486 : Index := Scalar.indexCast v485
  let c0_300 : Index := 0#32
  ![0, v486.toNat, 0]
def k0_off42 (i : grid0.Coords) (c0_i32_298 : BitVec 32) : Fin 3 → Nat :=
  let c1_307 : Index := 1#32
  let c2_i32_296 : BitVec 32 := 2#32
  let arg2 : BitVec 32 := BitVec.ofNat 32 (i 2).val
  let c4_i32 : BitVec 32 := 4#32
  let v402 : BitVec 32 := Scalar.addi arg2 c4_i32
  let c1_i32 : BitVec 32 := 1#32
  let v403 : BitVec 32 := Scalar.subi v402 c1_i32
  let c0_i32_251 : BitVec 32 := 0#32
  let v405 : BitVec 1 := Scalar.cmpi .sgt v403 c0_i32_251
  let v406 : BitVec 32 := Scalar.extui v405
  let c0_i32_252 : BitVec 32 := 0#32
  let v407 : BitVec 1 := Scalar.cmpi .slt v403 c0_i32_252
  let v408 : BitVec 32 := Scalar.extui v407
  let v409 : BitVec 32 := Scalar.subi v406 v408
  let c4_i32_250 : BitVec 32 := 4#32
  let c0_i32_253 : BitVec 32 := 0#32
  let v410 : BitVec 1 := Scalar.cmpi .sgt c4_i32_250 c0_i32_253
  let v411 : BitVec 32 := Scalar.extui v410
  let c0_i32_254 : BitVec 32 := 0#32
  let v412 : BitVec 1 := Scalar.cmpi .slt c4_i32_250 c0_i32_254
  let v413 : BitVec 32 := Scalar.extui v412
  let v414 : BitVec 32 := Scalar.subi v411 v413
  let v415 : BitVec 1 := Scalar.cmpi .ne v409 v414
  let v416 : BitVec 32 := Scalar.remsi v403 c4_i32_250
  let c0_i32_255 : BitVec 32 := 0#32
  let v417 : BitVec 1 := Scalar.cmpi .ne v416 c0_i32_255
  let v418 : BitVec 1 := Scalar.andi v415 v417
  let v404 : BitVec 32 := Scalar.divsi v403 c4_i32_250
  let c1_i32_256 : BitVec 32 := 1#32
  let v419 : BitVec 32 := Scalar.subi v404 c1_i32_256
  let v420 : BitVec 32 := Scalar.select v418 v419 v404
  let c0_i32_257 : BitVec 32 := 0#32
  let v422 : BitVec 1 := Scalar.cmpi .sgt v420 c0_i32_257
  let v423 : BitVec 32 := Scalar.extui v422
  let c0_i32_258 : BitVec 32 := 0#32
  let v424 : BitVec 1 := Scalar.cmpi .slt v420 c0_i32_258
  let v425 : BitVec 32 := Scalar.extui v424
  let v426 : BitVec 32 := Scalar.subi v423 v425
  let c2_i32 : BitVec 32 := 2#32
  let c0_i32_259 : BitVec 32 := 0#32
  let v427 : BitVec 1 := Scalar.cmpi .sgt c2_i32 c0_i32_259
  let v428 : BitVec 32 := Scalar.extui v427
  let c0_i32_260 : BitVec 32 := 0#32
  let v429 : BitVec 1 := Scalar.cmpi .slt c2_i32 c0_i32_260
  let v430 : BitVec 32 := Scalar.extui v429
  let v431 : BitVec 32 := Scalar.subi v428 v430
  let v432 : BitVec 1 := Scalar.cmpi .ne v426 v431
  let v433 : BitVec 32 := Scalar.remsi v420 c2_i32
  let c0_i32_261 : BitVec 32 := 0#32
  let v434 : BitVec 1 := Scalar.cmpi .ne v433 c0_i32_261
  let v435 : BitVec 1 := Scalar.andi v432 v434
  let v421 : BitVec 32 := Scalar.divsi v420 c2_i32
  let c1_i32_262 : BitVec 32 := 1#32
  let v436 : BitVec 32 := Scalar.subi v421 c1_i32_262
  let v437 : BitVec 32 := Scalar.select v435 v436 v421
  let c1_i32_295 : BitVec 32 := 1#32
  let v482 : BitVec 32 := Scalar.subi v437 c1_i32_295
  let v483 : BitVec 32 := Scalar.muli c2_i32_296 v482
  let c4_i32_297 : BitVec 32 := 4#32
  let v484 : BitVec 32 := Scalar.muli v483 c4_i32_297
  let v485 : BitVec 32 := Scalar.addi v484 c0_i32_298
  let v502 : Index := Scalar.indexCast v485
  let c0_308 : Index := 0#32
  ![1, v502.toNat, 0]
def k0_mult27 (i : grid0.Coords) : BitVec 32 :=
  let c2_i32_296 : BitVec 32 := 2#32
  let arg2 : BitVec 32 := BitVec.ofNat 32 (i 2).val
  let c4_i32 : BitVec 32 := 4#32
  let v402 : BitVec 32 := Scalar.addi arg2 c4_i32
  let c1_i32 : BitVec 32 := 1#32
  let v403 : BitVec 32 := Scalar.subi v402 c1_i32
  let c0_i32_251 : BitVec 32 := 0#32
  let v405 : BitVec 1 := Scalar.cmpi .sgt v403 c0_i32_251
  let v406 : BitVec 32 := Scalar.extui v405
  let c0_i32_252 : BitVec 32 := 0#32
  let v407 : BitVec 1 := Scalar.cmpi .slt v403 c0_i32_252
  let v408 : BitVec 32 := Scalar.extui v407
  let v409 : BitVec 32 := Scalar.subi v406 v408
  let c4_i32_250 : BitVec 32 := 4#32
  let c0_i32_253 : BitVec 32 := 0#32
  let v410 : BitVec 1 := Scalar.cmpi .sgt c4_i32_250 c0_i32_253
  let v411 : BitVec 32 := Scalar.extui v410
  let c0_i32_254 : BitVec 32 := 0#32
  let v412 : BitVec 1 := Scalar.cmpi .slt c4_i32_250 c0_i32_254
  let v413 : BitVec 32 := Scalar.extui v412
  let v414 : BitVec 32 := Scalar.subi v411 v413
  let v415 : BitVec 1 := Scalar.cmpi .ne v409 v414
  let v416 : BitVec 32 := Scalar.remsi v403 c4_i32_250
  let c0_i32_255 : BitVec 32 := 0#32
  let v417 : BitVec 1 := Scalar.cmpi .ne v416 c0_i32_255
  let v418 : BitVec 1 := Scalar.andi v415 v417
  let v404 : BitVec 32 := Scalar.divsi v403 c4_i32_250
  let c1_i32_256 : BitVec 32 := 1#32
  let v419 : BitVec 32 := Scalar.subi v404 c1_i32_256
  let v420 : BitVec 32 := Scalar.select v418 v419 v404
  let c0_i32_257 : BitVec 32 := 0#32
  let v422 : BitVec 1 := Scalar.cmpi .sgt v420 c0_i32_257
  let v423 : BitVec 32 := Scalar.extui v422
  let c0_i32_258 : BitVec 32 := 0#32
  let v424 : BitVec 1 := Scalar.cmpi .slt v420 c0_i32_258
  let v425 : BitVec 32 := Scalar.extui v424
  let v426 : BitVec 32 := Scalar.subi v423 v425
  let c2_i32 : BitVec 32 := 2#32
  let c0_i32_259 : BitVec 32 := 0#32
  let v427 : BitVec 1 := Scalar.cmpi .sgt c2_i32 c0_i32_259
  let v428 : BitVec 32 := Scalar.extui v427
  let c0_i32_260 : BitVec 32 := 0#32
  let v429 : BitVec 1 := Scalar.cmpi .slt c2_i32 c0_i32_260
  let v430 : BitVec 32 := Scalar.extui v429
  let v431 : BitVec 32 := Scalar.subi v428 v430
  let v432 : BitVec 1 := Scalar.cmpi .ne v426 v431
  let v433 : BitVec 32 := Scalar.remsi v420 c2_i32
  let c0_i32_261 : BitVec 32 := 0#32
  let v434 : BitVec 1 := Scalar.cmpi .ne v433 c0_i32_261
  let v435 : BitVec 1 := Scalar.andi v432 v434
  let v421 : BitVec 32 := Scalar.divsi v420 c2_i32
  let c1_i32_262 : BitVec 32 := 1#32
  let v436 : BitVec 32 := Scalar.subi v421 c1_i32_262
  let v437 : BitVec 32 := Scalar.select v435 v436 v421
  let c1_i32_295 : BitVec 32 := 1#32
  let v482 : BitVec 32 := Scalar.subi v437 c1_i32_295
  let v483 : BitVec 32 := Scalar.muli c2_i32_296 v482
  let c2_i32_368 : BitVec 32 := 2#32
  let v624 : BitVec 32 := Scalar.addi v483 c2_i32_368
  let c15_i32 : BitVec 32 := 15#32
  let v625 : BitVec 32 := Scalar.minsi v624 c15_i32
  let c4_i32_369 : BitVec 32 := 4#32
  let v626 : BitVec 32 := Scalar.muli v625 c4_i32_369
  let c0_i32_370 : BitVec 32 := 0#32
  let v627 : BitVec 32 := Scalar.addi v626 c0_i32_370
  let c256_i32_371 : BitVec 32 := 256#32
  let v628 : BitVec 32 := Scalar.muli v627 c256_i32_371
  v628
def k0_off43 (i : grid0.Coords) (c0_i32_377 : BitVec 32) : Fin 4 → Nat :=
  let c0_378 : Index := 0#32
  let c2_i32_296 : BitVec 32 := 2#32
  let arg2 : BitVec 32 := BitVec.ofNat 32 (i 2).val
  let c4_i32 : BitVec 32 := 4#32
  let v402 : BitVec 32 := Scalar.addi arg2 c4_i32
  let c1_i32 : BitVec 32 := 1#32
  let v403 : BitVec 32 := Scalar.subi v402 c1_i32
  let c0_i32_251 : BitVec 32 := 0#32
  let v405 : BitVec 1 := Scalar.cmpi .sgt v403 c0_i32_251
  let v406 : BitVec 32 := Scalar.extui v405
  let c0_i32_252 : BitVec 32 := 0#32
  let v407 : BitVec 1 := Scalar.cmpi .slt v403 c0_i32_252
  let v408 : BitVec 32 := Scalar.extui v407
  let v409 : BitVec 32 := Scalar.subi v406 v408
  let c4_i32_250 : BitVec 32 := 4#32
  let c0_i32_253 : BitVec 32 := 0#32
  let v410 : BitVec 1 := Scalar.cmpi .sgt c4_i32_250 c0_i32_253
  let v411 : BitVec 32 := Scalar.extui v410
  let c0_i32_254 : BitVec 32 := 0#32
  let v412 : BitVec 1 := Scalar.cmpi .slt c4_i32_250 c0_i32_254
  let v413 : BitVec 32 := Scalar.extui v412
  let v414 : BitVec 32 := Scalar.subi v411 v413
  let v415 : BitVec 1 := Scalar.cmpi .ne v409 v414
  let v416 : BitVec 32 := Scalar.remsi v403 c4_i32_250
  let c0_i32_255 : BitVec 32 := 0#32
  let v417 : BitVec 1 := Scalar.cmpi .ne v416 c0_i32_255
  let v418 : BitVec 1 := Scalar.andi v415 v417
  let v404 : BitVec 32 := Scalar.divsi v403 c4_i32_250
  let c1_i32_256 : BitVec 32 := 1#32
  let v419 : BitVec 32 := Scalar.subi v404 c1_i32_256
  let v420 : BitVec 32 := Scalar.select v418 v419 v404
  let c0_i32_257 : BitVec 32 := 0#32
  let v422 : BitVec 1 := Scalar.cmpi .sgt v420 c0_i32_257
  let v423 : BitVec 32 := Scalar.extui v422
  let c0_i32_258 : BitVec 32 := 0#32
  let v424 : BitVec 1 := Scalar.cmpi .slt v420 c0_i32_258
  let v425 : BitVec 32 := Scalar.extui v424
  let v426 : BitVec 32 := Scalar.subi v423 v425
  let c2_i32 : BitVec 32 := 2#32
  let c0_i32_259 : BitVec 32 := 0#32
  let v427 : BitVec 1 := Scalar.cmpi .sgt c2_i32 c0_i32_259
  let v428 : BitVec 32 := Scalar.extui v427
  let c0_i32_260 : BitVec 32 := 0#32
  let v429 : BitVec 1 := Scalar.cmpi .slt c2_i32 c0_i32_260
  let v430 : BitVec 32 := Scalar.extui v429
  let v431 : BitVec 32 := Scalar.subi v428 v430
  let v432 : BitVec 1 := Scalar.cmpi .ne v426 v431
  let v433 : BitVec 32 := Scalar.remsi v420 c2_i32
  let c0_i32_261 : BitVec 32 := 0#32
  let v434 : BitVec 1 := Scalar.cmpi .ne v433 c0_i32_261
  let v435 : BitVec 1 := Scalar.andi v432 v434
  let v421 : BitVec 32 := Scalar.divsi v420 c2_i32
  let c1_i32_262 : BitVec 32 := 1#32
  let v436 : BitVec 32 := Scalar.subi v421 c1_i32_262
  let v437 : BitVec 32 := Scalar.select v435 v436 v421
  let c1_i32_295 : BitVec 32 := 1#32
  let v482 : BitVec 32 := Scalar.subi v437 c1_i32_295
  let v483 : BitVec 32 := Scalar.muli c2_i32_296 v482
  let c4_i32_376 : BitVec 32 := 4#32
  let v639 : BitVec 32 := Scalar.muli v483 c4_i32_376
  let v640 : BitVec 32 := Scalar.addi v639 c0_i32_377
  let v641 : Index := Scalar.indexCast v640
  let c0_379 : Index := 0#32
  let c0_380 : Index := 0#32
  ![0, v641.toNat, 0, 0]
def k0_off44 (i : grid0.Coords) (c0_i32_370 : BitVec 32) : Fin 3 → Nat :=
  let c0_382 : Index := 0#32
  let c2_i32_296 : BitVec 32 := 2#32
  let arg2 : BitVec 32 := BitVec.ofNat 32 (i 2).val
  let c4_i32 : BitVec 32 := 4#32
  let v402 : BitVec 32 := Scalar.addi arg2 c4_i32
  let c1_i32 : BitVec 32 := 1#32
  let v403 : BitVec 32 := Scalar.subi v402 c1_i32
  let c0_i32_251 : BitVec 32 := 0#32
  let v405 : BitVec 1 := Scalar.cmpi .sgt v403 c0_i32_251
  let v406 : BitVec 32 := Scalar.extui v405
  let c0_i32_252 : BitVec 32 := 0#32
  let v407 : BitVec 1 := Scalar.cmpi .slt v403 c0_i32_252
  let v408 : BitVec 32 := Scalar.extui v407
  let v409 : BitVec 32 := Scalar.subi v406 v408
  let c4_i32_250 : BitVec 32 := 4#32
  let c0_i32_253 : BitVec 32 := 0#32
  let v410 : BitVec 1 := Scalar.cmpi .sgt c4_i32_250 c0_i32_253
  let v411 : BitVec 32 := Scalar.extui v410
  let c0_i32_254 : BitVec 32 := 0#32
  let v412 : BitVec 1 := Scalar.cmpi .slt c4_i32_250 c0_i32_254
  let v413 : BitVec 32 := Scalar.extui v412
  let v414 : BitVec 32 := Scalar.subi v411 v413
  let v415 : BitVec 1 := Scalar.cmpi .ne v409 v414
  let v416 : BitVec 32 := Scalar.remsi v403 c4_i32_250
  let c0_i32_255 : BitVec 32 := 0#32
  let v417 : BitVec 1 := Scalar.cmpi .ne v416 c0_i32_255
  let v418 : BitVec 1 := Scalar.andi v415 v417
  let v404 : BitVec 32 := Scalar.divsi v403 c4_i32_250
  let c1_i32_256 : BitVec 32 := 1#32
  let v419 : BitVec 32 := Scalar.subi v404 c1_i32_256
  let v420 : BitVec 32 := Scalar.select v418 v419 v404
  let c0_i32_257 : BitVec 32 := 0#32
  let v422 : BitVec 1 := Scalar.cmpi .sgt v420 c0_i32_257
  let v423 : BitVec 32 := Scalar.extui v422
  let c0_i32_258 : BitVec 32 := 0#32
  let v424 : BitVec 1 := Scalar.cmpi .slt v420 c0_i32_258
  let v425 : BitVec 32 := Scalar.extui v424
  let v426 : BitVec 32 := Scalar.subi v423 v425
  let c2_i32 : BitVec 32 := 2#32
  let c0_i32_259 : BitVec 32 := 0#32
  let v427 : BitVec 1 := Scalar.cmpi .sgt c2_i32 c0_i32_259
  let v428 : BitVec 32 := Scalar.extui v427
  let c0_i32_260 : BitVec 32 := 0#32
  let v429 : BitVec 1 := Scalar.cmpi .slt c2_i32 c0_i32_260
  let v430 : BitVec 32 := Scalar.extui v429
  let v431 : BitVec 32 := Scalar.subi v428 v430
  let v432 : BitVec 1 := Scalar.cmpi .ne v426 v431
  let v433 : BitVec 32 := Scalar.remsi v420 c2_i32
  let c0_i32_261 : BitVec 32 := 0#32
  let v434 : BitVec 1 := Scalar.cmpi .ne v433 c0_i32_261
  let v435 : BitVec 1 := Scalar.andi v432 v434
  let v421 : BitVec 32 := Scalar.divsi v420 c2_i32
  let c1_i32_262 : BitVec 32 := 1#32
  let v436 : BitVec 32 := Scalar.subi v421 c1_i32_262
  let v437 : BitVec 32 := Scalar.select v435 v436 v421
  let c1_i32_295 : BitVec 32 := 1#32
  let v482 : BitVec 32 := Scalar.subi v437 c1_i32_295
  let v483 : BitVec 32 := Scalar.muli c2_i32_296 v482
  let c2_i32_368 : BitVec 32 := 2#32
  let v624 : BitVec 32 := Scalar.addi v483 c2_i32_368
  let c15_i32 : BitVec 32 := 15#32
  let v625 : BitVec 32 := Scalar.minsi v624 c15_i32
  let c4_i32_369 : BitVec 32 := 4#32
  let v626 : BitVec 32 := Scalar.muli v625 c4_i32_369
  let v627 : BitVec 32 := Scalar.addi v626 c0_i32_370
  let c256_i32_371 : BitVec 32 := 256#32
  let v628 : BitVec 32 := Scalar.muli v627 c256_i32_371
  let v629 : BitVec 32 := v628
  let v645 : Index := Scalar.indexCast v629
  let c0_383 : Index := 0#32
  ![0, v645.toNat, 0]
def k0_off45 (i : grid0.Coords) (c0_i32_397 : BitVec 32) : Fin 4 → Nat :=
  let c1_398 : Index := 1#32
  let c2_i32_296 : BitVec 32 := 2#32
  let arg2 : BitVec 32 := BitVec.ofNat 32 (i 2).val
  let c4_i32 : BitVec 32 := 4#32
  let v402 : BitVec 32 := Scalar.addi arg2 c4_i32
  let c1_i32 : BitVec 32 := 1#32
  let v403 : BitVec 32 := Scalar.subi v402 c1_i32
  let c0_i32_251 : BitVec 32 := 0#32
  let v405 : BitVec 1 := Scalar.cmpi .sgt v403 c0_i32_251
  let v406 : BitVec 32 := Scalar.extui v405
  let c0_i32_252 : BitVec 32 := 0#32
  let v407 : BitVec 1 := Scalar.cmpi .slt v403 c0_i32_252
  let v408 : BitVec 32 := Scalar.extui v407
  let v409 : BitVec 32 := Scalar.subi v406 v408
  let c4_i32_250 : BitVec 32 := 4#32
  let c0_i32_253 : BitVec 32 := 0#32
  let v410 : BitVec 1 := Scalar.cmpi .sgt c4_i32_250 c0_i32_253
  let v411 : BitVec 32 := Scalar.extui v410
  let c0_i32_254 : BitVec 32 := 0#32
  let v412 : BitVec 1 := Scalar.cmpi .slt c4_i32_250 c0_i32_254
  let v413 : BitVec 32 := Scalar.extui v412
  let v414 : BitVec 32 := Scalar.subi v411 v413
  let v415 : BitVec 1 := Scalar.cmpi .ne v409 v414
  let v416 : BitVec 32 := Scalar.remsi v403 c4_i32_250
  let c0_i32_255 : BitVec 32 := 0#32
  let v417 : BitVec 1 := Scalar.cmpi .ne v416 c0_i32_255
  let v418 : BitVec 1 := Scalar.andi v415 v417
  let v404 : BitVec 32 := Scalar.divsi v403 c4_i32_250
  let c1_i32_256 : BitVec 32 := 1#32
  let v419 : BitVec 32 := Scalar.subi v404 c1_i32_256
  let v420 : BitVec 32 := Scalar.select v418 v419 v404
  let c0_i32_257 : BitVec 32 := 0#32
  let v422 : BitVec 1 := Scalar.cmpi .sgt v420 c0_i32_257
  let v423 : BitVec 32 := Scalar.extui v422
  let c0_i32_258 : BitVec 32 := 0#32
  let v424 : BitVec 1 := Scalar.cmpi .slt v420 c0_i32_258
  let v425 : BitVec 32 := Scalar.extui v424
  let v426 : BitVec 32 := Scalar.subi v423 v425
  let c2_i32 : BitVec 32 := 2#32
  let c0_i32_259 : BitVec 32 := 0#32
  let v427 : BitVec 1 := Scalar.cmpi .sgt c2_i32 c0_i32_259
  let v428 : BitVec 32 := Scalar.extui v427
  let c0_i32_260 : BitVec 32 := 0#32
  let v429 : BitVec 1 := Scalar.cmpi .slt c2_i32 c0_i32_260
  let v430 : BitVec 32 := Scalar.extui v429
  let v431 : BitVec 32 := Scalar.subi v428 v430
  let v432 : BitVec 1 := Scalar.cmpi .ne v426 v431
  let v433 : BitVec 32 := Scalar.remsi v420 c2_i32
  let c0_i32_261 : BitVec 32 := 0#32
  let v434 : BitVec 1 := Scalar.cmpi .ne v433 c0_i32_261
  let v435 : BitVec 1 := Scalar.andi v432 v434
  let v421 : BitVec 32 := Scalar.divsi v420 c2_i32
  let c1_i32_262 : BitVec 32 := 1#32
  let v436 : BitVec 32 := Scalar.subi v421 c1_i32_262
  let v437 : BitVec 32 := Scalar.select v435 v436 v421
  let c1_i32_295 : BitVec 32 := 1#32
  let v482 : BitVec 32 := Scalar.subi v437 c1_i32_295
  let v483 : BitVec 32 := Scalar.muli c2_i32_296 v482
  let c4_i32_396 : BitVec 32 := 4#32
  let v666 : BitVec 32 := Scalar.muli v483 c4_i32_396
  let v667 : BitVec 32 := Scalar.addi v666 c0_i32_397
  let v668 : Index := Scalar.indexCast v667
  let c0_399 : Index := 0#32
  let c0_400 : Index := 0#32
  ![1, v668.toNat, 0, 0]
def k0_off46 (i : grid0.Coords) (c0_i32_370 : BitVec 32) : Fin 3 → Nat :=
  let c1_402 : Index := 1#32
  let c2_i32_296 : BitVec 32 := 2#32
  let arg2 : BitVec 32 := BitVec.ofNat 32 (i 2).val
  let c4_i32 : BitVec 32 := 4#32
  let v402 : BitVec 32 := Scalar.addi arg2 c4_i32
  let c1_i32 : BitVec 32 := 1#32
  let v403 : BitVec 32 := Scalar.subi v402 c1_i32
  let c0_i32_251 : BitVec 32 := 0#32
  let v405 : BitVec 1 := Scalar.cmpi .sgt v403 c0_i32_251
  let v406 : BitVec 32 := Scalar.extui v405
  let c0_i32_252 : BitVec 32 := 0#32
  let v407 : BitVec 1 := Scalar.cmpi .slt v403 c0_i32_252
  let v408 : BitVec 32 := Scalar.extui v407
  let v409 : BitVec 32 := Scalar.subi v406 v408
  let c4_i32_250 : BitVec 32 := 4#32
  let c0_i32_253 : BitVec 32 := 0#32
  let v410 : BitVec 1 := Scalar.cmpi .sgt c4_i32_250 c0_i32_253
  let v411 : BitVec 32 := Scalar.extui v410
  let c0_i32_254 : BitVec 32 := 0#32
  let v412 : BitVec 1 := Scalar.cmpi .slt c4_i32_250 c0_i32_254
  let v413 : BitVec 32 := Scalar.extui v412
  let v414 : BitVec 32 := Scalar.subi v411 v413
  let v415 : BitVec 1 := Scalar.cmpi .ne v409 v414
  let v416 : BitVec 32 := Scalar.remsi v403 c4_i32_250
  let c0_i32_255 : BitVec 32 := 0#32
  let v417 : BitVec 1 := Scalar.cmpi .ne v416 c0_i32_255
  let v418 : BitVec 1 := Scalar.andi v415 v417
  let v404 : BitVec 32 := Scalar.divsi v403 c4_i32_250
  let c1_i32_256 : BitVec 32 := 1#32
  let v419 : BitVec 32 := Scalar.subi v404 c1_i32_256
  let v420 : BitVec 32 := Scalar.select v418 v419 v404
  let c0_i32_257 : BitVec 32 := 0#32
  let v422 : BitVec 1 := Scalar.cmpi .sgt v420 c0_i32_257
  let v423 : BitVec 32 := Scalar.extui v422
  let c0_i32_258 : BitVec 32 := 0#32
  let v424 : BitVec 1 := Scalar.cmpi .slt v420 c0_i32_258
  let v425 : BitVec 32 := Scalar.extui v424
  let v426 : BitVec 32 := Scalar.subi v423 v425
  let c2_i32 : BitVec 32 := 2#32
  let c0_i32_259 : BitVec 32 := 0#32
  let v427 : BitVec 1 := Scalar.cmpi .sgt c2_i32 c0_i32_259
  let v428 : BitVec 32 := Scalar.extui v427
  let c0_i32_260 : BitVec 32 := 0#32
  let v429 : BitVec 1 := Scalar.cmpi .slt c2_i32 c0_i32_260
  let v430 : BitVec 32 := Scalar.extui v429
  let v431 : BitVec 32 := Scalar.subi v428 v430
  let v432 : BitVec 1 := Scalar.cmpi .ne v426 v431
  let v433 : BitVec 32 := Scalar.remsi v420 c2_i32
  let c0_i32_261 : BitVec 32 := 0#32
  let v434 : BitVec 1 := Scalar.cmpi .ne v433 c0_i32_261
  let v435 : BitVec 1 := Scalar.andi v432 v434
  let v421 : BitVec 32 := Scalar.divsi v420 c2_i32
  let c1_i32_262 : BitVec 32 := 1#32
  let v436 : BitVec 32 := Scalar.subi v421 c1_i32_262
  let v437 : BitVec 32 := Scalar.select v435 v436 v421
  let c1_i32_295 : BitVec 32 := 1#32
  let v482 : BitVec 32 := Scalar.subi v437 c1_i32_295
  let v483 : BitVec 32 := Scalar.muli c2_i32_296 v482
  let c2_i32_368 : BitVec 32 := 2#32
  let v624 : BitVec 32 := Scalar.addi v483 c2_i32_368
  let c15_i32 : BitVec 32 := 15#32
  let v625 : BitVec 32 := Scalar.minsi v624 c15_i32
  let c4_i32_369 : BitVec 32 := 4#32
  let v626 : BitVec 32 := Scalar.muli v625 c4_i32_369
  let v627 : BitVec 32 := Scalar.addi v626 c0_i32_370
  let c256_i32_371 : BitVec 32 := 256#32
  let v628 : BitVec 32 := Scalar.muli v627 c256_i32_371
  let v629 : BitVec 32 := v628
  let v672 : Index := Scalar.indexCast v629
  let c0_403 : Index := 0#32
  ![1, v672.toNat, 0]
def k0_mult28 (i : grid0.Coords) : BitVec 32 :=
  let c2_i32_296 : BitVec 32 := 2#32
  let arg2 : BitVec 32 := BitVec.ofNat 32 (i 2).val
  let c4_i32 : BitVec 32 := 4#32
  let v402 : BitVec 32 := Scalar.addi arg2 c4_i32
  let c1_i32 : BitVec 32 := 1#32
  let v403 : BitVec 32 := Scalar.subi v402 c1_i32
  let c0_i32_251 : BitVec 32 := 0#32
  let v405 : BitVec 1 := Scalar.cmpi .sgt v403 c0_i32_251
  let v406 : BitVec 32 := Scalar.extui v405
  let c0_i32_252 : BitVec 32 := 0#32
  let v407 : BitVec 1 := Scalar.cmpi .slt v403 c0_i32_252
  let v408 : BitVec 32 := Scalar.extui v407
  let v409 : BitVec 32 := Scalar.subi v406 v408
  let c4_i32_250 : BitVec 32 := 4#32
  let c0_i32_253 : BitVec 32 := 0#32
  let v410 : BitVec 1 := Scalar.cmpi .sgt c4_i32_250 c0_i32_253
  let v411 : BitVec 32 := Scalar.extui v410
  let c0_i32_254 : BitVec 32 := 0#32
  let v412 : BitVec 1 := Scalar.cmpi .slt c4_i32_250 c0_i32_254
  let v413 : BitVec 32 := Scalar.extui v412
  let v414 : BitVec 32 := Scalar.subi v411 v413
  let v415 : BitVec 1 := Scalar.cmpi .ne v409 v414
  let v416 : BitVec 32 := Scalar.remsi v403 c4_i32_250
  let c0_i32_255 : BitVec 32 := 0#32
  let v417 : BitVec 1 := Scalar.cmpi .ne v416 c0_i32_255
  let v418 : BitVec 1 := Scalar.andi v415 v417
  let v404 : BitVec 32 := Scalar.divsi v403 c4_i32_250
  let c1_i32_256 : BitVec 32 := 1#32
  let v419 : BitVec 32 := Scalar.subi v404 c1_i32_256
  let v420 : BitVec 32 := Scalar.select v418 v419 v404
  let c0_i32_257 : BitVec 32 := 0#32
  let v422 : BitVec 1 := Scalar.cmpi .sgt v420 c0_i32_257
  let v423 : BitVec 32 := Scalar.extui v422
  let c0_i32_258 : BitVec 32 := 0#32
  let v424 : BitVec 1 := Scalar.cmpi .slt v420 c0_i32_258
  let v425 : BitVec 32 := Scalar.extui v424
  let v426 : BitVec 32 := Scalar.subi v423 v425
  let c2_i32 : BitVec 32 := 2#32
  let c0_i32_259 : BitVec 32 := 0#32
  let v427 : BitVec 1 := Scalar.cmpi .sgt c2_i32 c0_i32_259
  let v428 : BitVec 32 := Scalar.extui v427
  let c0_i32_260 : BitVec 32 := 0#32
  let v429 : BitVec 1 := Scalar.cmpi .slt c2_i32 c0_i32_260
  let v430 : BitVec 32 := Scalar.extui v429
  let v431 : BitVec 32 := Scalar.subi v428 v430
  let v432 : BitVec 1 := Scalar.cmpi .ne v426 v431
  let v433 : BitVec 32 := Scalar.remsi v420 c2_i32
  let c0_i32_261 : BitVec 32 := 0#32
  let v434 : BitVec 1 := Scalar.cmpi .ne v433 c0_i32_261
  let v435 : BitVec 1 := Scalar.andi v432 v434
  let v421 : BitVec 32 := Scalar.divsi v420 c2_i32
  let c1_i32_262 : BitVec 32 := 1#32
  let v436 : BitVec 32 := Scalar.subi v421 c1_i32_262
  let v437 : BitVec 32 := Scalar.select v435 v436 v421
  let c1_i32_295 : BitVec 32 := 1#32
  let v482 : BitVec 32 := Scalar.subi v437 c1_i32_295
  let v483 : BitVec 32 := Scalar.muli c2_i32_296 v482
  let c2_i32_368 : BitVec 32 := 2#32
  let v624 : BitVec 32 := Scalar.addi v483 c2_i32_368
  let c15_i32 : BitVec 32 := 15#32
  let v625 : BitVec 32 := Scalar.minsi v624 c15_i32
  let c4_i32_412 : BitVec 32 := 4#32
  let v684 : BitVec 32 := Scalar.muli v625 c4_i32_412
  let c1_i32_413 : BitVec 32 := 1#32
  let v685 : BitVec 32 := Scalar.addi v684 c1_i32_413
  let c256_i32_414 : BitVec 32 := 256#32
  let v686 : BitVec 32 := Scalar.muli v685 c256_i32_414
  v686
def k0_mult29 (i : grid0.Coords) : BitVec 32 :=
  let c2_i32_296 : BitVec 32 := 2#32
  let arg2 : BitVec 32 := BitVec.ofNat 32 (i 2).val
  let c4_i32 : BitVec 32 := 4#32
  let v402 : BitVec 32 := Scalar.addi arg2 c4_i32
  let c1_i32 : BitVec 32 := 1#32
  let v403 : BitVec 32 := Scalar.subi v402 c1_i32
  let c0_i32_251 : BitVec 32 := 0#32
  let v405 : BitVec 1 := Scalar.cmpi .sgt v403 c0_i32_251
  let v406 : BitVec 32 := Scalar.extui v405
  let c0_i32_252 : BitVec 32 := 0#32
  let v407 : BitVec 1 := Scalar.cmpi .slt v403 c0_i32_252
  let v408 : BitVec 32 := Scalar.extui v407
  let v409 : BitVec 32 := Scalar.subi v406 v408
  let c4_i32_250 : BitVec 32 := 4#32
  let c0_i32_253 : BitVec 32 := 0#32
  let v410 : BitVec 1 := Scalar.cmpi .sgt c4_i32_250 c0_i32_253
  let v411 : BitVec 32 := Scalar.extui v410
  let c0_i32_254 : BitVec 32 := 0#32
  let v412 : BitVec 1 := Scalar.cmpi .slt c4_i32_250 c0_i32_254
  let v413 : BitVec 32 := Scalar.extui v412
  let v414 : BitVec 32 := Scalar.subi v411 v413
  let v415 : BitVec 1 := Scalar.cmpi .ne v409 v414
  let v416 : BitVec 32 := Scalar.remsi v403 c4_i32_250
  let c0_i32_255 : BitVec 32 := 0#32
  let v417 : BitVec 1 := Scalar.cmpi .ne v416 c0_i32_255
  let v418 : BitVec 1 := Scalar.andi v415 v417
  let v404 : BitVec 32 := Scalar.divsi v403 c4_i32_250
  let c1_i32_256 : BitVec 32 := 1#32
  let v419 : BitVec 32 := Scalar.subi v404 c1_i32_256
  let v420 : BitVec 32 := Scalar.select v418 v419 v404
  let c0_i32_257 : BitVec 32 := 0#32
  let v422 : BitVec 1 := Scalar.cmpi .sgt v420 c0_i32_257
  let v423 : BitVec 32 := Scalar.extui v422
  let c0_i32_258 : BitVec 32 := 0#32
  let v424 : BitVec 1 := Scalar.cmpi .slt v420 c0_i32_258
  let v425 : BitVec 32 := Scalar.extui v424
  let v426 : BitVec 32 := Scalar.subi v423 v425
  let c2_i32 : BitVec 32 := 2#32
  let c0_i32_259 : BitVec 32 := 0#32
  let v427 : BitVec 1 := Scalar.cmpi .sgt c2_i32 c0_i32_259
  let v428 : BitVec 32 := Scalar.extui v427
  let c0_i32_260 : BitVec 32 := 0#32
  let v429 : BitVec 1 := Scalar.cmpi .slt c2_i32 c0_i32_260
  let v430 : BitVec 32 := Scalar.extui v429
  let v431 : BitVec 32 := Scalar.subi v428 v430
  let v432 : BitVec 1 := Scalar.cmpi .ne v426 v431
  let v433 : BitVec 32 := Scalar.remsi v420 c2_i32
  let c0_i32_261 : BitVec 32 := 0#32
  let v434 : BitVec 1 := Scalar.cmpi .ne v433 c0_i32_261
  let v435 : BitVec 1 := Scalar.andi v432 v434
  let v421 : BitVec 32 := Scalar.divsi v420 c2_i32
  let c1_i32_262 : BitVec 32 := 1#32
  let v436 : BitVec 32 := Scalar.subi v421 c1_i32_262
  let v437 : BitVec 32 := Scalar.select v435 v436 v421
  let c1_i32_295 : BitVec 32 := 1#32
  let v482 : BitVec 32 := Scalar.subi v437 c1_i32_295
  let v483 : BitVec 32 := Scalar.muli c2_i32_296 v482
  let c2_i32_368 : BitVec 32 := 2#32
  let v624 : BitVec 32 := Scalar.addi v483 c2_i32_368
  let c15_i32 : BitVec 32 := 15#32
  let v625 : BitVec 32 := Scalar.minsi v624 c15_i32
  let c4_i32_455 : BitVec 32 := 4#32
  let v744 : BitVec 32 := Scalar.muli v625 c4_i32_455
  let c2_i32_456 : BitVec 32 := 2#32
  let v745 : BitVec 32 := Scalar.addi v744 c2_i32_456
  let c256_i32_457 : BitVec 32 := 256#32
  let v746 : BitVec 32 := Scalar.muli v745 c256_i32_457
  v746
def k0_mult30 (i : grid0.Coords) : BitVec 32 :=
  let c2_i32_296 : BitVec 32 := 2#32
  let arg2 : BitVec 32 := BitVec.ofNat 32 (i 2).val
  let c4_i32 : BitVec 32 := 4#32
  let v402 : BitVec 32 := Scalar.addi arg2 c4_i32
  let c1_i32 : BitVec 32 := 1#32
  let v403 : BitVec 32 := Scalar.subi v402 c1_i32
  let c0_i32_251 : BitVec 32 := 0#32
  let v405 : BitVec 1 := Scalar.cmpi .sgt v403 c0_i32_251
  let v406 : BitVec 32 := Scalar.extui v405
  let c0_i32_252 : BitVec 32 := 0#32
  let v407 : BitVec 1 := Scalar.cmpi .slt v403 c0_i32_252
  let v408 : BitVec 32 := Scalar.extui v407
  let v409 : BitVec 32 := Scalar.subi v406 v408
  let c4_i32_250 : BitVec 32 := 4#32
  let c0_i32_253 : BitVec 32 := 0#32
  let v410 : BitVec 1 := Scalar.cmpi .sgt c4_i32_250 c0_i32_253
  let v411 : BitVec 32 := Scalar.extui v410
  let c0_i32_254 : BitVec 32 := 0#32
  let v412 : BitVec 1 := Scalar.cmpi .slt c4_i32_250 c0_i32_254
  let v413 : BitVec 32 := Scalar.extui v412
  let v414 : BitVec 32 := Scalar.subi v411 v413
  let v415 : BitVec 1 := Scalar.cmpi .ne v409 v414
  let v416 : BitVec 32 := Scalar.remsi v403 c4_i32_250
  let c0_i32_255 : BitVec 32 := 0#32
  let v417 : BitVec 1 := Scalar.cmpi .ne v416 c0_i32_255
  let v418 : BitVec 1 := Scalar.andi v415 v417
  let v404 : BitVec 32 := Scalar.divsi v403 c4_i32_250
  let c1_i32_256 : BitVec 32 := 1#32
  let v419 : BitVec 32 := Scalar.subi v404 c1_i32_256
  let v420 : BitVec 32 := Scalar.select v418 v419 v404
  let c0_i32_257 : BitVec 32 := 0#32
  let v422 : BitVec 1 := Scalar.cmpi .sgt v420 c0_i32_257
  let v423 : BitVec 32 := Scalar.extui v422
  let c0_i32_258 : BitVec 32 := 0#32
  let v424 : BitVec 1 := Scalar.cmpi .slt v420 c0_i32_258
  let v425 : BitVec 32 := Scalar.extui v424
  let v426 : BitVec 32 := Scalar.subi v423 v425
  let c2_i32 : BitVec 32 := 2#32
  let c0_i32_259 : BitVec 32 := 0#32
  let v427 : BitVec 1 := Scalar.cmpi .sgt c2_i32 c0_i32_259
  let v428 : BitVec 32 := Scalar.extui v427
  let c0_i32_260 : BitVec 32 := 0#32
  let v429 : BitVec 1 := Scalar.cmpi .slt c2_i32 c0_i32_260
  let v430 : BitVec 32 := Scalar.extui v429
  let v431 : BitVec 32 := Scalar.subi v428 v430
  let v432 : BitVec 1 := Scalar.cmpi .ne v426 v431
  let v433 : BitVec 32 := Scalar.remsi v420 c2_i32
  let c0_i32_261 : BitVec 32 := 0#32
  let v434 : BitVec 1 := Scalar.cmpi .ne v433 c0_i32_261
  let v435 : BitVec 1 := Scalar.andi v432 v434
  let v421 : BitVec 32 := Scalar.divsi v420 c2_i32
  let c1_i32_262 : BitVec 32 := 1#32
  let v436 : BitVec 32 := Scalar.subi v421 c1_i32_262
  let v437 : BitVec 32 := Scalar.select v435 v436 v421
  let c1_i32_295 : BitVec 32 := 1#32
  let v482 : BitVec 32 := Scalar.subi v437 c1_i32_295
  let v483 : BitVec 32 := Scalar.muli c2_i32_296 v482
  let c2_i32_368 : BitVec 32 := 2#32
  let v624 : BitVec 32 := Scalar.addi v483 c2_i32_368
  let c15_i32 : BitVec 32 := 15#32
  let v625 : BitVec 32 := Scalar.minsi v624 c15_i32
  let c4_i32_498 : BitVec 32 := 4#32
  let v804 : BitVec 32 := Scalar.muli v625 c4_i32_498
  let c3_i32_499 : BitVec 32 := 3#32
  let v805 : BitVec 32 := Scalar.addi v804 c3_i32_499
  let c256_i32_500 : BitVec 32 := 256#32
  let v806 : BitVec 32 := Scalar.muli v805 c256_i32_500
  v806
def k0_off47 (i : grid0.Coords) (c0_i32_556 : BitVec 32) : Fin 3 → Nat :=
  let c0_557 : Index := 0#32
  let c2_i32_553 : BitVec 32 := 2#32
  let arg2 : BitVec 32 := BitVec.ofNat 32 (i 2).val
  let c4_i32 : BitVec 32 := 4#32
  let v402 : BitVec 32 := Scalar.addi arg2 c4_i32
  let c1_i32 : BitVec 32 := 1#32
  let v403 : BitVec 32 := Scalar.subi v402 c1_i32
  let c0_i32_251 : BitVec 32 := 0#32
  let v405 : BitVec 1 := Scalar.cmpi .sgt v403 c0_i32_251
  let v406 : BitVec 32 := Scalar.extui v405
  let c0_i32_252 : BitVec 32 := 0#32
  let v407 : BitVec 1 := Scalar.cmpi .slt v403 c0_i32_252
  let v408 : BitVec 32 := Scalar.extui v407
  let v409 : BitVec 32 := Scalar.subi v406 v408
  let c4_i32_250 : BitVec 32 := 4#32
  let c0_i32_253 : BitVec 32 := 0#32
  let v410 : BitVec 1 := Scalar.cmpi .sgt c4_i32_250 c0_i32_253
  let v411 : BitVec 32 := Scalar.extui v410
  let c0_i32_254 : BitVec 32 := 0#32
  let v412 : BitVec 1 := Scalar.cmpi .slt c4_i32_250 c0_i32_254
  let v413 : BitVec 32 := Scalar.extui v412
  let v414 : BitVec 32 := Scalar.subi v411 v413
  let v415 : BitVec 1 := Scalar.cmpi .ne v409 v414
  let v416 : BitVec 32 := Scalar.remsi v403 c4_i32_250
  let c0_i32_255 : BitVec 32 := 0#32
  let v417 : BitVec 1 := Scalar.cmpi .ne v416 c0_i32_255
  let v418 : BitVec 1 := Scalar.andi v415 v417
  let v404 : BitVec 32 := Scalar.divsi v403 c4_i32_250
  let c1_i32_256 : BitVec 32 := 1#32
  let v419 : BitVec 32 := Scalar.subi v404 c1_i32_256
  let v420 : BitVec 32 := Scalar.select v418 v419 v404
  let c0_i32_257 : BitVec 32 := 0#32
  let v422 : BitVec 1 := Scalar.cmpi .sgt v420 c0_i32_257
  let v423 : BitVec 32 := Scalar.extui v422
  let c0_i32_258 : BitVec 32 := 0#32
  let v424 : BitVec 1 := Scalar.cmpi .slt v420 c0_i32_258
  let v425 : BitVec 32 := Scalar.extui v424
  let v426 : BitVec 32 := Scalar.subi v423 v425
  let c2_i32 : BitVec 32 := 2#32
  let c0_i32_259 : BitVec 32 := 0#32
  let v427 : BitVec 1 := Scalar.cmpi .sgt c2_i32 c0_i32_259
  let v428 : BitVec 32 := Scalar.extui v427
  let c0_i32_260 : BitVec 32 := 0#32
  let v429 : BitVec 1 := Scalar.cmpi .slt c2_i32 c0_i32_260
  let v430 : BitVec 32 := Scalar.extui v429
  let v431 : BitVec 32 := Scalar.subi v428 v430
  let v432 : BitVec 1 := Scalar.cmpi .ne v426 v431
  let v433 : BitVec 32 := Scalar.remsi v420 c2_i32
  let c0_i32_261 : BitVec 32 := 0#32
  let v434 : BitVec 1 := Scalar.cmpi .ne v433 c0_i32_261
  let v435 : BitVec 1 := Scalar.andi v432 v434
  let v421 : BitVec 32 := Scalar.divsi v420 c2_i32
  let c1_i32_262 : BitVec 32 := 1#32
  let v436 : BitVec 32 := Scalar.subi v421 c1_i32_262
  let v437 : BitVec 32 := Scalar.select v435 v436 v421
  let c1_i32_295 : BitVec 32 := 1#32
  let v482 : BitVec 32 := Scalar.subi v437 c1_i32_295
  let v880 : BitVec 32 := Scalar.muli c2_i32_553 v482
  let c1_i32_554 : BitVec 32 := 1#32
  let v881 : BitVec 32 := Scalar.addi v880 c1_i32_554
  let c4_i32_555 : BitVec 32 := 4#32
  let v882 : BitVec 32 := Scalar.muli v881 c4_i32_555
  let v883 : BitVec 32 := Scalar.addi v882 c0_i32_556
  let v884 : Index := Scalar.indexCast v883
  let c0_558 : Index := 0#32
  ![0, v884.toNat, 0]
def k0_off48 (i : grid0.Coords) (c0_i32_556 : BitVec 32) : Fin 3 → Nat :=
  let c1_565 : Index := 1#32
  let c2_i32_553 : BitVec 32 := 2#32
  let arg2 : BitVec 32 := BitVec.ofNat 32 (i 2).val
  let c4_i32 : BitVec 32 := 4#32
  let v402 : BitVec 32 := Scalar.addi arg2 c4_i32
  let c1_i32 : BitVec 32 := 1#32
  let v403 : BitVec 32 := Scalar.subi v402 c1_i32
  let c0_i32_251 : BitVec 32 := 0#32
  let v405 : BitVec 1 := Scalar.cmpi .sgt v403 c0_i32_251
  let v406 : BitVec 32 := Scalar.extui v405
  let c0_i32_252 : BitVec 32 := 0#32
  let v407 : BitVec 1 := Scalar.cmpi .slt v403 c0_i32_252
  let v408 : BitVec 32 := Scalar.extui v407
  let v409 : BitVec 32 := Scalar.subi v406 v408
  let c4_i32_250 : BitVec 32 := 4#32
  let c0_i32_253 : BitVec 32 := 0#32
  let v410 : BitVec 1 := Scalar.cmpi .sgt c4_i32_250 c0_i32_253
  let v411 : BitVec 32 := Scalar.extui v410
  let c0_i32_254 : BitVec 32 := 0#32
  let v412 : BitVec 1 := Scalar.cmpi .slt c4_i32_250 c0_i32_254
  let v413 : BitVec 32 := Scalar.extui v412
  let v414 : BitVec 32 := Scalar.subi v411 v413
  let v415 : BitVec 1 := Scalar.cmpi .ne v409 v414
  let v416 : BitVec 32 := Scalar.remsi v403 c4_i32_250
  let c0_i32_255 : BitVec 32 := 0#32
  let v417 : BitVec 1 := Scalar.cmpi .ne v416 c0_i32_255
  let v418 : BitVec 1 := Scalar.andi v415 v417
  let v404 : BitVec 32 := Scalar.divsi v403 c4_i32_250
  let c1_i32_256 : BitVec 32 := 1#32
  let v419 : BitVec 32 := Scalar.subi v404 c1_i32_256
  let v420 : BitVec 32 := Scalar.select v418 v419 v404
  let c0_i32_257 : BitVec 32 := 0#32
  let v422 : BitVec 1 := Scalar.cmpi .sgt v420 c0_i32_257
  let v423 : BitVec 32 := Scalar.extui v422
  let c0_i32_258 : BitVec 32 := 0#32
  let v424 : BitVec 1 := Scalar.cmpi .slt v420 c0_i32_258
  let v425 : BitVec 32 := Scalar.extui v424
  let v426 : BitVec 32 := Scalar.subi v423 v425
  let c2_i32 : BitVec 32 := 2#32
  let c0_i32_259 : BitVec 32 := 0#32
  let v427 : BitVec 1 := Scalar.cmpi .sgt c2_i32 c0_i32_259
  let v428 : BitVec 32 := Scalar.extui v427
  let c0_i32_260 : BitVec 32 := 0#32
  let v429 : BitVec 1 := Scalar.cmpi .slt c2_i32 c0_i32_260
  let v430 : BitVec 32 := Scalar.extui v429
  let v431 : BitVec 32 := Scalar.subi v428 v430
  let v432 : BitVec 1 := Scalar.cmpi .ne v426 v431
  let v433 : BitVec 32 := Scalar.remsi v420 c2_i32
  let c0_i32_261 : BitVec 32 := 0#32
  let v434 : BitVec 1 := Scalar.cmpi .ne v433 c0_i32_261
  let v435 : BitVec 1 := Scalar.andi v432 v434
  let v421 : BitVec 32 := Scalar.divsi v420 c2_i32
  let c1_i32_262 : BitVec 32 := 1#32
  let v436 : BitVec 32 := Scalar.subi v421 c1_i32_262
  let v437 : BitVec 32 := Scalar.select v435 v436 v421
  let c1_i32_295 : BitVec 32 := 1#32
  let v482 : BitVec 32 := Scalar.subi v437 c1_i32_295
  let v880 : BitVec 32 := Scalar.muli c2_i32_553 v482
  let c1_i32_554 : BitVec 32 := 1#32
  let v881 : BitVec 32 := Scalar.addi v880 c1_i32_554
  let c4_i32_555 : BitVec 32 := 4#32
  let v882 : BitVec 32 := Scalar.muli v881 c4_i32_555
  let v883 : BitVec 32 := Scalar.addi v882 c0_i32_556
  let v900 : Index := Scalar.indexCast v883
  let c0_566 : Index := 0#32
  ![1, v900.toNat, 0]
def k0_off49 (i : grid0.Coords) (c0_i32_632 : BitVec 32) : Fin 4 → Nat :=
  let c0_633 : Index := 0#32
  let c2_i32_553 : BitVec 32 := 2#32
  let arg2 : BitVec 32 := BitVec.ofNat 32 (i 2).val
  let c4_i32 : BitVec 32 := 4#32
  let v402 : BitVec 32 := Scalar.addi arg2 c4_i32
  let c1_i32 : BitVec 32 := 1#32
  let v403 : BitVec 32 := Scalar.subi v402 c1_i32
  let c0_i32_251 : BitVec 32 := 0#32
  let v405 : BitVec 1 := Scalar.cmpi .sgt v403 c0_i32_251
  let v406 : BitVec 32 := Scalar.extui v405
  let c0_i32_252 : BitVec 32 := 0#32
  let v407 : BitVec 1 := Scalar.cmpi .slt v403 c0_i32_252
  let v408 : BitVec 32 := Scalar.extui v407
  let v409 : BitVec 32 := Scalar.subi v406 v408
  let c4_i32_250 : BitVec 32 := 4#32
  let c0_i32_253 : BitVec 32 := 0#32
  let v410 : BitVec 1 := Scalar.cmpi .sgt c4_i32_250 c0_i32_253
  let v411 : BitVec 32 := Scalar.extui v410
  let c0_i32_254 : BitVec 32 := 0#32
  let v412 : BitVec 1 := Scalar.cmpi .slt c4_i32_250 c0_i32_254
  let v413 : BitVec 32 := Scalar.extui v412
  let v414 : BitVec 32 := Scalar.subi v411 v413
  let v415 : BitVec 1 := Scalar.cmpi .ne v409 v414
  let v416 : BitVec 32 := Scalar.remsi v403 c4_i32_250
  let c0_i32_255 : BitVec 32 := 0#32
  let v417 : BitVec 1 := Scalar.cmpi .ne v416 c0_i32_255
  let v418 : BitVec 1 := Scalar.andi v415 v417
  let v404 : BitVec 32 := Scalar.divsi v403 c4_i32_250
  let c1_i32_256 : BitVec 32 := 1#32
  let v419 : BitVec 32 := Scalar.subi v404 c1_i32_256
  let v420 : BitVec 32 := Scalar.select v418 v419 v404
  let c0_i32_257 : BitVec 32 := 0#32
  let v422 : BitVec 1 := Scalar.cmpi .sgt v420 c0_i32_257
  let v423 : BitVec 32 := Scalar.extui v422
  let c0_i32_258 : BitVec 32 := 0#32
  let v424 : BitVec 1 := Scalar.cmpi .slt v420 c0_i32_258
  let v425 : BitVec 32 := Scalar.extui v424
  let v426 : BitVec 32 := Scalar.subi v423 v425
  let c2_i32 : BitVec 32 := 2#32
  let c0_i32_259 : BitVec 32 := 0#32
  let v427 : BitVec 1 := Scalar.cmpi .sgt c2_i32 c0_i32_259
  let v428 : BitVec 32 := Scalar.extui v427
  let c0_i32_260 : BitVec 32 := 0#32
  let v429 : BitVec 1 := Scalar.cmpi .slt c2_i32 c0_i32_260
  let v430 : BitVec 32 := Scalar.extui v429
  let v431 : BitVec 32 := Scalar.subi v428 v430
  let v432 : BitVec 1 := Scalar.cmpi .ne v426 v431
  let v433 : BitVec 32 := Scalar.remsi v420 c2_i32
  let c0_i32_261 : BitVec 32 := 0#32
  let v434 : BitVec 1 := Scalar.cmpi .ne v433 c0_i32_261
  let v435 : BitVec 1 := Scalar.andi v432 v434
  let v421 : BitVec 32 := Scalar.divsi v420 c2_i32
  let c1_i32_262 : BitVec 32 := 1#32
  let v436 : BitVec 32 := Scalar.subi v421 c1_i32_262
  let v437 : BitVec 32 := Scalar.select v435 v436 v421
  let c1_i32_295 : BitVec 32 := 1#32
  let v482 : BitVec 32 := Scalar.subi v437 c1_i32_295
  let v880 : BitVec 32 := Scalar.muli c2_i32_553 v482
  let c1_i32_554 : BitVec 32 := 1#32
  let v881 : BitVec 32 := Scalar.addi v880 c1_i32_554
  let c4_i32_631 : BitVec 32 := 4#32
  let v1031 : BitVec 32 := Scalar.muli v881 c4_i32_631
  let v1032 : BitVec 32 := Scalar.addi v1031 c0_i32_632
  let v1033 : Index := Scalar.indexCast v1032
  let c0_634 : Index := 0#32
  let c0_635 : Index := 0#32
  ![0, v1033.toNat, 0, 0]
def k0_off50 (i : grid0.Coords) (c0_i32_642 : BitVec 32) : Fin 4 → Nat :=
  let c1_643 : Index := 1#32
  let c2_i32_553 : BitVec 32 := 2#32
  let arg2 : BitVec 32 := BitVec.ofNat 32 (i 2).val
  let c4_i32 : BitVec 32 := 4#32
  let v402 : BitVec 32 := Scalar.addi arg2 c4_i32
  let c1_i32 : BitVec 32 := 1#32
  let v403 : BitVec 32 := Scalar.subi v402 c1_i32
  let c0_i32_251 : BitVec 32 := 0#32
  let v405 : BitVec 1 := Scalar.cmpi .sgt v403 c0_i32_251
  let v406 : BitVec 32 := Scalar.extui v405
  let c0_i32_252 : BitVec 32 := 0#32
  let v407 : BitVec 1 := Scalar.cmpi .slt v403 c0_i32_252
  let v408 : BitVec 32 := Scalar.extui v407
  let v409 : BitVec 32 := Scalar.subi v406 v408
  let c4_i32_250 : BitVec 32 := 4#32
  let c0_i32_253 : BitVec 32 := 0#32
  let v410 : BitVec 1 := Scalar.cmpi .sgt c4_i32_250 c0_i32_253
  let v411 : BitVec 32 := Scalar.extui v410
  let c0_i32_254 : BitVec 32 := 0#32
  let v412 : BitVec 1 := Scalar.cmpi .slt c4_i32_250 c0_i32_254
  let v413 : BitVec 32 := Scalar.extui v412
  let v414 : BitVec 32 := Scalar.subi v411 v413
  let v415 : BitVec 1 := Scalar.cmpi .ne v409 v414
  let v416 : BitVec 32 := Scalar.remsi v403 c4_i32_250
  let c0_i32_255 : BitVec 32 := 0#32
  let v417 : BitVec 1 := Scalar.cmpi .ne v416 c0_i32_255
  let v418 : BitVec 1 := Scalar.andi v415 v417
  let v404 : BitVec 32 := Scalar.divsi v403 c4_i32_250
  let c1_i32_256 : BitVec 32 := 1#32
  let v419 : BitVec 32 := Scalar.subi v404 c1_i32_256
  let v420 : BitVec 32 := Scalar.select v418 v419 v404
  let c0_i32_257 : BitVec 32 := 0#32
  let v422 : BitVec 1 := Scalar.cmpi .sgt v420 c0_i32_257
  let v423 : BitVec 32 := Scalar.extui v422
  let c0_i32_258 : BitVec 32 := 0#32
  let v424 : BitVec 1 := Scalar.cmpi .slt v420 c0_i32_258
  let v425 : BitVec 32 := Scalar.extui v424
  let v426 : BitVec 32 := Scalar.subi v423 v425
  let c2_i32 : BitVec 32 := 2#32
  let c0_i32_259 : BitVec 32 := 0#32
  let v427 : BitVec 1 := Scalar.cmpi .sgt c2_i32 c0_i32_259
  let v428 : BitVec 32 := Scalar.extui v427
  let c0_i32_260 : BitVec 32 := 0#32
  let v429 : BitVec 1 := Scalar.cmpi .slt c2_i32 c0_i32_260
  let v430 : BitVec 32 := Scalar.extui v429
  let v431 : BitVec 32 := Scalar.subi v428 v430
  let v432 : BitVec 1 := Scalar.cmpi .ne v426 v431
  let v433 : BitVec 32 := Scalar.remsi v420 c2_i32
  let c0_i32_261 : BitVec 32 := 0#32
  let v434 : BitVec 1 := Scalar.cmpi .ne v433 c0_i32_261
  let v435 : BitVec 1 := Scalar.andi v432 v434
  let v421 : BitVec 32 := Scalar.divsi v420 c2_i32
  let c1_i32_262 : BitVec 32 := 1#32
  let v436 : BitVec 32 := Scalar.subi v421 c1_i32_262
  let v437 : BitVec 32 := Scalar.select v435 v436 v421
  let c1_i32_295 : BitVec 32 := 1#32
  let v482 : BitVec 32 := Scalar.subi v437 c1_i32_295
  let v880 : BitVec 32 := Scalar.muli c2_i32_553 v482
  let c1_i32_554 : BitVec 32 := 1#32
  let v881 : BitVec 32 := Scalar.addi v880 c1_i32_554
  let c4_i32_641 : BitVec 32 := 4#32
  let v1046 : BitVec 32 := Scalar.muli v881 c4_i32_641
  let v1047 : BitVec 32 := Scalar.addi v1046 c0_i32_642
  let v1048 : Index := Scalar.indexCast v1047
  let c0_644 : Index := 0#32
  let c0_645 : Index := 0#32
  ![1, v1048.toNat, 0, 0]
def k0_cond3 (i : grid0.Coords) : BitVec 1 :=
  let arg2 : BitVec 32 := BitVec.ofNat 32 (i 2).val
  let c4_i32 : BitVec 32 := 4#32
  let v402 : BitVec 32 := Scalar.addi arg2 c4_i32
  let c1_i32 : BitVec 32 := 1#32
  let v403 : BitVec 32 := Scalar.subi v402 c1_i32
  let c0_i32_251 : BitVec 32 := 0#32
  let v405 : BitVec 1 := Scalar.cmpi .sgt v403 c0_i32_251
  let v406 : BitVec 32 := Scalar.extui v405
  let c0_i32_252 : BitVec 32 := 0#32
  let v407 : BitVec 1 := Scalar.cmpi .slt v403 c0_i32_252
  let v408 : BitVec 32 := Scalar.extui v407
  let v409 : BitVec 32 := Scalar.subi v406 v408
  let c4_i32_250 : BitVec 32 := 4#32
  let c0_i32_253 : BitVec 32 := 0#32
  let v410 : BitVec 1 := Scalar.cmpi .sgt c4_i32_250 c0_i32_253
  let v411 : BitVec 32 := Scalar.extui v410
  let c0_i32_254 : BitVec 32 := 0#32
  let v412 : BitVec 1 := Scalar.cmpi .slt c4_i32_250 c0_i32_254
  let v413 : BitVec 32 := Scalar.extui v412
  let v414 : BitVec 32 := Scalar.subi v411 v413
  let v415 : BitVec 1 := Scalar.cmpi .ne v409 v414
  let v416 : BitVec 32 := Scalar.remsi v403 c4_i32_250
  let c0_i32_255 : BitVec 32 := 0#32
  let v417 : BitVec 1 := Scalar.cmpi .ne v416 c0_i32_255
  let v418 : BitVec 1 := Scalar.andi v415 v417
  let v404 : BitVec 32 := Scalar.divsi v403 c4_i32_250
  let c1_i32_256 : BitVec 32 := 1#32
  let v419 : BitVec 32 := Scalar.subi v404 c1_i32_256
  let v420 : BitVec 32 := Scalar.select v418 v419 v404
  let c2_i32_271 : BitVec 32 := 2#32
  let c0_i32_272 : BitVec 32 := 0#32
  let v451 : BitVec 1 := Scalar.cmpi .eq c2_i32_271 c0_i32_272
  let c1_i32_273 : BitVec 32 := 1#32
  let v452 : BitVec 32 := Scalar.select v451 c1_i32_273 c2_i32_271
  let v453 : BitVec 32 := Scalar.remsi v420 v452
  let c0_i32_275 : BitVec 32 := 0#32
  let v455 : BitVec 1 := Scalar.cmpi .slt v453 c0_i32_275
  let c0_i32_276 : BitVec 32 := 0#32
  let v456 : BitVec 1 := Scalar.cmpi .slt v452 c0_i32_276
  let v457 : BitVec 1 := Scalar.xori v455 v456
  let c0_i32_274 : BitVec 32 := 0#32
  let v454 : BitVec 1 := Scalar.cmpi .ne v453 c0_i32_274
  let v458 : BitVec 1 := Scalar.andi v457 v454
  let v459 : BitVec 32 := Scalar.addi v453 v452
  let v460 : BitVec 32 := Scalar.select v458 v459 v453
  let c1_i32_277 : BitVec 32 := 1#32
  let v461 : BitVec 1 := Scalar.cmpi .eq v460 c1_i32_277
  let v462 : BitVec 32 := Scalar.extui v461
  let c0_i32_278 : BitVec 32 := 0#32
  let v463 : BitVec 1 := Scalar.cmpi .ne v462 c0_i32_278
  v463

def k0_off51 (i : grid0.Coords) (c0_i32_297 : BitVec 32) : Fin 3 → Nat :=
  let c0_298 : Index := 0#32
  let arg2 : BitVec 32 := BitVec.ofNat 32 (i 2).val
  let c4_i32 : BitVec 32 := 4#32
  let v402 : BitVec 32 := Scalar.addi arg2 c4_i32
  let c1_i32 : BitVec 32 := 1#32
  let v403 : BitVec 32 := Scalar.subi v402 c1_i32
  let c0_i32_251 : BitVec 32 := 0#32
  let v405 : BitVec 1 := Scalar.cmpi .sgt v403 c0_i32_251
  let v406 : BitVec 32 := Scalar.extui v405
  let c0_i32_252 : BitVec 32 := 0#32
  let v407 : BitVec 1 := Scalar.cmpi .slt v403 c0_i32_252
  let v408 : BitVec 32 := Scalar.extui v407
  let v409 : BitVec 32 := Scalar.subi v406 v408
  let c4_i32_250 : BitVec 32 := 4#32
  let c0_i32_253 : BitVec 32 := 0#32
  let v410 : BitVec 1 := Scalar.cmpi .sgt c4_i32_250 c0_i32_253
  let v411 : BitVec 32 := Scalar.extui v410
  let c0_i32_254 : BitVec 32 := 0#32
  let v412 : BitVec 1 := Scalar.cmpi .slt c4_i32_250 c0_i32_254
  let v413 : BitVec 32 := Scalar.extui v412
  let v414 : BitVec 32 := Scalar.subi v411 v413
  let v415 : BitVec 1 := Scalar.cmpi .ne v409 v414
  let v416 : BitVec 32 := Scalar.remsi v403 c4_i32_250
  let c0_i32_255 : BitVec 32 := 0#32
  let v417 : BitVec 1 := Scalar.cmpi .ne v416 c0_i32_255
  let v418 : BitVec 1 := Scalar.andi v415 v417
  let v404 : BitVec 32 := Scalar.divsi v403 c4_i32_250
  let c1_i32_256 : BitVec 32 := 1#32
  let v419 : BitVec 32 := Scalar.subi v404 c1_i32_256
  let v420 : BitVec 32 := Scalar.select v418 v419 v404
  let c1_i32_295 : BitVec 32 := 1#32
  let v482 : BitVec 32 := Scalar.subi v420 c1_i32_295
  let c4_i32_296 : BitVec 32 := 4#32
  let v483 : BitVec 32 := Scalar.muli v482 c4_i32_296
  let v484 : BitVec 32 := Scalar.addi v483 c0_i32_297
  let v485 : Index := Scalar.indexCast v484
  let c0_299 : Index := 0#32
  ![0, v485.toNat, 0]
def k0_off52 (i : grid0.Coords) (c0_i32_297 : BitVec 32) : Fin 3 → Nat :=
  let c1_306 : Index := 1#32
  let arg2 : BitVec 32 := BitVec.ofNat 32 (i 2).val
  let c4_i32 : BitVec 32 := 4#32
  let v402 : BitVec 32 := Scalar.addi arg2 c4_i32
  let c1_i32 : BitVec 32 := 1#32
  let v403 : BitVec 32 := Scalar.subi v402 c1_i32
  let c0_i32_251 : BitVec 32 := 0#32
  let v405 : BitVec 1 := Scalar.cmpi .sgt v403 c0_i32_251
  let v406 : BitVec 32 := Scalar.extui v405
  let c0_i32_252 : BitVec 32 := 0#32
  let v407 : BitVec 1 := Scalar.cmpi .slt v403 c0_i32_252
  let v408 : BitVec 32 := Scalar.extui v407
  let v409 : BitVec 32 := Scalar.subi v406 v408
  let c4_i32_250 : BitVec 32 := 4#32
  let c0_i32_253 : BitVec 32 := 0#32
  let v410 : BitVec 1 := Scalar.cmpi .sgt c4_i32_250 c0_i32_253
  let v411 : BitVec 32 := Scalar.extui v410
  let c0_i32_254 : BitVec 32 := 0#32
  let v412 : BitVec 1 := Scalar.cmpi .slt c4_i32_250 c0_i32_254
  let v413 : BitVec 32 := Scalar.extui v412
  let v414 : BitVec 32 := Scalar.subi v411 v413
  let v415 : BitVec 1 := Scalar.cmpi .ne v409 v414
  let v416 : BitVec 32 := Scalar.remsi v403 c4_i32_250
  let c0_i32_255 : BitVec 32 := 0#32
  let v417 : BitVec 1 := Scalar.cmpi .ne v416 c0_i32_255
  let v418 : BitVec 1 := Scalar.andi v415 v417
  let v404 : BitVec 32 := Scalar.divsi v403 c4_i32_250
  let c1_i32_256 : BitVec 32 := 1#32
  let v419 : BitVec 32 := Scalar.subi v404 c1_i32_256
  let v420 : BitVec 32 := Scalar.select v418 v419 v404
  let c1_i32_295 : BitVec 32 := 1#32
  let v482 : BitVec 32 := Scalar.subi v420 c1_i32_295
  let c4_i32_296 : BitVec 32 := 4#32
  let v483 : BitVec 32 := Scalar.muli v482 c4_i32_296
  let v484 : BitVec 32 := Scalar.addi v483 c0_i32_297
  let v501 : Index := Scalar.indexCast v484
  let c0_307 : Index := 0#32
  ![1, v501.toNat, 0]
def k0_off53 (i : grid0.Coords) (c0_i32_372 : BitVec 32) : Fin 4 → Nat :=
  let c0_373 : Index := 0#32
  let arg2 : BitVec 32 := BitVec.ofNat 32 (i 2).val
  let c4_i32 : BitVec 32 := 4#32
  let v402 : BitVec 32 := Scalar.addi arg2 c4_i32
  let c1_i32 : BitVec 32 := 1#32
  let v403 : BitVec 32 := Scalar.subi v402 c1_i32
  let c0_i32_251 : BitVec 32 := 0#32
  let v405 : BitVec 1 := Scalar.cmpi .sgt v403 c0_i32_251
  let v406 : BitVec 32 := Scalar.extui v405
  let c0_i32_252 : BitVec 32 := 0#32
  let v407 : BitVec 1 := Scalar.cmpi .slt v403 c0_i32_252
  let v408 : BitVec 32 := Scalar.extui v407
  let v409 : BitVec 32 := Scalar.subi v406 v408
  let c4_i32_250 : BitVec 32 := 4#32
  let c0_i32_253 : BitVec 32 := 0#32
  let v410 : BitVec 1 := Scalar.cmpi .sgt c4_i32_250 c0_i32_253
  let v411 : BitVec 32 := Scalar.extui v410
  let c0_i32_254 : BitVec 32 := 0#32
  let v412 : BitVec 1 := Scalar.cmpi .slt c4_i32_250 c0_i32_254
  let v413 : BitVec 32 := Scalar.extui v412
  let v414 : BitVec 32 := Scalar.subi v411 v413
  let v415 : BitVec 1 := Scalar.cmpi .ne v409 v414
  let v416 : BitVec 32 := Scalar.remsi v403 c4_i32_250
  let c0_i32_255 : BitVec 32 := 0#32
  let v417 : BitVec 1 := Scalar.cmpi .ne v416 c0_i32_255
  let v418 : BitVec 1 := Scalar.andi v415 v417
  let v404 : BitVec 32 := Scalar.divsi v403 c4_i32_250
  let c1_i32_256 : BitVec 32 := 1#32
  let v419 : BitVec 32 := Scalar.subi v404 c1_i32_256
  let v420 : BitVec 32 := Scalar.select v418 v419 v404
  let c1_i32_295 : BitVec 32 := 1#32
  let v482 : BitVec 32 := Scalar.subi v420 c1_i32_295
  let c4_i32_371 : BitVec 32 := 4#32
  let v632 : BitVec 32 := Scalar.muli v482 c4_i32_371
  let v633 : BitVec 32 := Scalar.addi v632 c0_i32_372
  let v634 : Index := Scalar.indexCast v633
  let c0_374 : Index := 0#32
  let c0_375 : Index := 0#32
  ![0, v634.toNat, 0, 0]
def k0_off54 (i : grid0.Coords) (c0_i32_382 : BitVec 32) : Fin 4 → Nat :=
  let c1_383 : Index := 1#32
  let arg2 : BitVec 32 := BitVec.ofNat 32 (i 2).val
  let c4_i32 : BitVec 32 := 4#32
  let v402 : BitVec 32 := Scalar.addi arg2 c4_i32
  let c1_i32 : BitVec 32 := 1#32
  let v403 : BitVec 32 := Scalar.subi v402 c1_i32
  let c0_i32_251 : BitVec 32 := 0#32
  let v405 : BitVec 1 := Scalar.cmpi .sgt v403 c0_i32_251
  let v406 : BitVec 32 := Scalar.extui v405
  let c0_i32_252 : BitVec 32 := 0#32
  let v407 : BitVec 1 := Scalar.cmpi .slt v403 c0_i32_252
  let v408 : BitVec 32 := Scalar.extui v407
  let v409 : BitVec 32 := Scalar.subi v406 v408
  let c4_i32_250 : BitVec 32 := 4#32
  let c0_i32_253 : BitVec 32 := 0#32
  let v410 : BitVec 1 := Scalar.cmpi .sgt c4_i32_250 c0_i32_253
  let v411 : BitVec 32 := Scalar.extui v410
  let c0_i32_254 : BitVec 32 := 0#32
  let v412 : BitVec 1 := Scalar.cmpi .slt c4_i32_250 c0_i32_254
  let v413 : BitVec 32 := Scalar.extui v412
  let v414 : BitVec 32 := Scalar.subi v411 v413
  let v415 : BitVec 1 := Scalar.cmpi .ne v409 v414
  let v416 : BitVec 32 := Scalar.remsi v403 c4_i32_250
  let c0_i32_255 : BitVec 32 := 0#32
  let v417 : BitVec 1 := Scalar.cmpi .ne v416 c0_i32_255
  let v418 : BitVec 1 := Scalar.andi v415 v417
  let v404 : BitVec 32 := Scalar.divsi v403 c4_i32_250
  let c1_i32_256 : BitVec 32 := 1#32
  let v419 : BitVec 32 := Scalar.subi v404 c1_i32_256
  let v420 : BitVec 32 := Scalar.select v418 v419 v404
  let c1_i32_295 : BitVec 32 := 1#32
  let v482 : BitVec 32 := Scalar.subi v420 c1_i32_295
  let c4_i32_381 : BitVec 32 := 4#32
  let v647 : BitVec 32 := Scalar.muli v482 c4_i32_381
  let v648 : BitVec 32 := Scalar.addi v647 c0_i32_382
  let v649 : Index := Scalar.indexCast v648
  let c0_384 : Index := 0#32
  let c0_385 : Index := 0#32
  ![1, v649.toNat, 0, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let v1 : BitVec 32 := Scalar.addi v0 arg2
  let c0_i32 : BitVec 32 := 0#32
  ![v1.toNat, arg1.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 1 → Memref sig .tc .vmem S16384x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true, false]

abbrev stage0_2 : Fin 1 → Memref sig .tc .vmem S16384x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev stage0_3 : Fin 2 → Memref sig .tc .vmem S2x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Proof.Rows.lean ====
module

public import Idealize.ShloMosaic.Lib.Pointwise

/-!
# The root-mean-square norm of one row

Every call proved here normalises rows of 2048 numbers. `rms y g l` is element `l` of the normalised row `y` under the gain `g`, in
the order of operations that both the kernels and reference.py use: the row times the inverse root of (mean of squares + 1e-6), times
the gain. The two numbers are the f32 words of 2048 and of 1e-6.
-/

@[expose] public section

noncomputable section

namespace Cert.Rows

open Idealize.ShloMosaic

/-- Element `l` of the row `y`, normalised by its root mean square and scaled by the gain `g`. -/
def rms (y g : Fin 2048 → EReal) (l : Fin 2048) : EReal :=
  y l * Ideal.rsqrt (Ideal.div (∑ k, y k * y k) (Ideal.ofBits .f32 0x45000000#32) + Ideal.ofBits .f32 0x358637BD#32) * g l

/-- The offset of a store or load at the start of a two-axis buffer. -/
theorem off0 : (![0, 0] : Fin 2 → Nat) = fun _ => 0 := funext fun a => by fin_cases a <;> rfl

/-- A block of `n` whole rows from row `o` on: its element `(x, y)` is the array's element `(o + x, y)`. -/
theorem emb_rows {N L n o : Nat} (inb : ∀ a, (![o, 0] : Fin 2 → Nat) a + (![n, L] : Fin 2 → Nat) a ≤ (![N, L] : Fin 2 → Nat) a)
    (x : Fin n) (y : Fin L) :
    (Rect.unit (s := ⟨2, ![N, L]⟩) ![o, 0] ![n, L] inb).emb (ix2 x y)
      = ix2 (⟨o + x.val, lt_of_lt_of_le (Nat.add_lt_add_left x.isLt o) (inb 0)⟩ : Fin N) y := by
  funext a; apply Fin.ext
  match a with
  | ⟨0, _⟩ => show o + 1 * x.val = o + x.val; omega
  | ⟨1, _⟩ => show 0 + 1 * y.val = y.val; omega

end Cert.Rows

end
-- ==== Proof.InMoba.lean ====
module

public import proofs.«01_k».proof.Defs
public import proofs.«01_k».proof.Proof.Gen.InMobaIdeal.Value
public import proofs.«01_k».proof.Proof.Gen.InMobaRefIdeal.Read
public import proofs.«01_k».proof.Proof.Rows
public import Idealize.ShloMosaic.Lib.Pipeline.Value
public import Idealize.ShloMosaic.Lib.Pointwise
public import Idealize.ShloMosaic.Lib.StableHlo.ReadAt

/-!
# The block-attention half of the input projection: `rms_norm(x) @ w_in[:, 4112:]`, its first 1024 columns scaled

At the first of a row tile's two grid points the kernel normalises the tile's 1024 rows, four chunks of 256, and keeps them in a
scratch buffer; the second point reuses them (`scratch`). Both multiply the normalised rows by their 1536 columns of the weights and
by a row of column scales: `log2(e) / sqrt(128)`, as the f32 word both programs hold, on the query columns, and one on the key and
value columns. The reference multiplies the whole arrays and scales the query columns of the product.
-/

@[expose] public section

set_option maxRecDepth 16384

noncomputable section

namespace Cert.InMobaIdeal.Hand

open Cert.InMobaIdeal Cert.InMobaIdeal.Gen Cert.Rows Idealize.ShloMosaic Idealize.ShloMosaic.TcCoe Idealize.SL.Sem
open Idealize.ShloMosaic.Pipeline (Dat)

/-- Rows of 2048 normalised: element `(r, k)`. -/
def nrm (x0 : Vec Ideal S1024x2048 .f32) (x1 : Vec Ideal S1x2048 .f32) (r : Fin 1024) (k : Fin 2048) : EReal :=
  rms (fun k => x0 (ix2 r k)) (fun k => x1 (ix2 0 k)) k

section
variable (c : Dev nD) (i : grid0.Coords) (a2 : Memref sig .tc .vmem S1024x2048 .f32) (h2 : a2.IsWhole)
  (a3 : Memref sig .tc .vmem S1x2048 .f32) (h3 : a3.IsWhole) (a4 : Memref sig .tc .vmem S2048x1536 .bf16) (h4 : a4.IsWhole)
  (a5 : Memref sig .tc .vmem S1x1536 .f32) (h5 : a5.IsWhole) (a6 : Memref sig .tc .vmem S1024x1536 .bf16) (h6 : a6.IsWhole)
  (a7 : Memref sig .tc .vmem S1024x2048 .bf16) (h7 : a7.IsWhole)
  (x0 : Vec Ideal S1024x2048 .f32) (x1 : Vec Ideal S1x2048 .f32) (x2 : Vec Ideal S2048x1536 .bf16) (x3 : Vec Ideal S1x1536 .f32)

theorem scratch_A (hc0 : cond0_0 i) (hc1 : ¬cond0_1 i) (r : Fin 1024) (l : Fin 2048) :
    sout0_A_0 c i a2 h2 a3 h3 a4 h4 a5 h5 a6 h6 a7 h7 hc0 hc1 x0 x1 x2 x3 (ix2 r l) = nrm x0 x1 r l := by
  unfold sout0_A_0
  rw [View.read_writes_eq_canon _ _ _ (scover0_A_0 c i a2 h2 a3 h3 a4 h4 a5 h5 a6 h6 a7 h7 hc0 hc1 x0 x1 x2 x3)]
  refine (View.canon_apply_of_pieces (fun y : S1024x2048.Idx => nrm x0 x1 (y 0) (y 1)) _ ?_ _
    (scover0_A_0 c i a2 h2 a3 h3 a4 h4 a5 h5 a6 h6 a7 h7 hc0 hc1 x0 x1 x2 x3 _)).trans ?_
  · unfold kernelRun0_A
    dsimp only
    sl_unfold_words
    simp only [View.readAt_eq_ld, h2.read_unread, h3.read_unread, h4.read_unread, h5.read_unread]
    simp only [List.forall_mem_cons]
    refine ⟨fun x => ?_, fun x => ?_, fun x => ?_, fun x => ?_, fun p hp => absurd hp List.not_mem_nil⟩
    all_goals
      idx_vars x
      rw [emb_rows]
    · pointwise [k0_pay14, k0_pay13]; rfl
    · pointwise [k0_pay11, k0_pay10]; rfl
    · pointwise [k0_pay8, k0_pay7, k0_pay6, k0_pay5]; rfl
    · pointwise [k0_pay3, k0_pay2]; rfl
  · rfl

/-- What every point stores at row `r` and column `l`: the normalised row times the column, scaled. -/
def act (h w : Fin 2048 → EReal) (s : EReal) : EReal := (∑ k, h k * w k) * s

/-- A point that reuses the normalised rows `xs`. -/
theorem out_B (hc0 : ¬cond0_0 i) (hc1 : cond0_1 i) (xs : Vec Ideal S1024x2048 .bf16) (r : Fin 1024) (l : Fin 1536) :
    out0_B_4 c i a2 h2 a3 h3 a4 h4 a5 h5 a6 h6 a7 h7 hc0 hc1 x0 x1 x2 x3 xs (ix2 r l)
      = act (fun k => xs (ix2 r k)) (fun k => x2 (ix2 k l)) (x3 (ix2 0 l)) := by
  unfold out0_B_4
  rw [View.read_writes_eq_canon _ _ _ (cover0_B_4 c i a2 h2 a3 h3 a4 h4 a5 h5 a6 h6 a7 h7 hc0 hc1 x0 x1 x2 x3 xs)]
  unfold kernelRun0_B
  dsimp only
  rw [View.canon_unit_zero off0]
  simp only [View.readAt_eq_ld, h4.read_unread, h5.read_unread, h7.read_unread]
  pointwise [k0_pay1]
  rfl

/-- A point that normalises the rows. -/
theorem out_A (hc0 : cond0_0 i) (hc1 : ¬cond0_1 i) (r : Fin 1024) (l : Fin 1536) :
    out0_A_4 c i a2 h2 a3 h3 a4 h4 a5 h5 a6 h6 a7 h7 hc0 hc1 x0 x1 x2 x3 (ix2 r l)
      = act (nrm x0 x1 r) (fun k => x2 (ix2 k l)) (x3 (ix2 0 l)) := by
  unfold out0_A_4
  rw [View.read_writes_eq_canon _ _ _ (cover0_A_4 c i a2 h2 a3 h3 a4 h4 a5 h5 a6 h6 a7 h7 hc0 hc1 x0 x1 x2 x3)]
  refine (View.canon_apply_of_pieces
    (fun y : S1024x1536.Idx => act (nrm x0 x1 (y 0)) (fun k => x2 (ix2 k (y 1))) (x3 (ix2 0 (y 1)))) _ ?_ _
    (cover0_A_4 c i a2 h2 a3 h3 a4 h4 a5 h5 a6 h6 a7 h7 hc0 hc1 x0 x1 x2 x3 _)).trans ?_
  · unfold kernelRun0_A
    dsimp only
    sl_unfold_words
    simp only [View.readAt_eq_ld, h2.read_unread, h3.read_unread, h4.read_unread, h5.read_unread]
    simp only [List.forall_mem_cons]
    refine ⟨fun x => ?_, fun x => ?_, fun x => ?_, fun x => ?_, fun p hp => absurd hp List.not_mem_nil⟩
    all_goals
      idx_vars x
      rw [emb_rows]
    · pointwise [k0_pay15, k0_pay14, k0_pay13]; rfl
    · pointwise [k0_pay12, k0_pay11, k0_pay10]; rfl
    · pointwise [k0_pay9, k0_pay8, k0_pay7, k0_pay6, k0_pay5]; rfl
    · pointwise [k0_pay4, k0_pay3, k0_pay2]; rfl
  · rfl

end

/-- The scale of column `l`. -/
def scale (l : Fin 3072) : EReal := if l.val < 1024 then Ideal.ofBits .f32 0x3E0293EE#32 else 1

/-- Column `l` of the weights' block-attention half. -/
def wcol (l : Fin 3072) : Fin 7184 := ⟨4112 + l.val, by omega⟩

/-- The reference's result at row `r` and column `l`. -/
theorem ref_apply (x0 : (⟨S32768x2048, .f32⟩ : BufTy).Contents (Elt Ideal)) (x1 : (⟨S2048, .f32⟩ : BufTy).Contents (Elt Ideal))
    (x2 : (⟨S2048x7184, .f32⟩ : BufTy).Contents (Elt Ideal)) (r : Fin 32768) (l : Fin 3072) :
    InMobaRefIdeal.Read.val_main_v20 (F := Ideal) x0 x1 x2 (ix2 r l)
      = act (fun k => rms (fun k => x0 (ix2 r k)) (fun k => x1 (ix1 k)) k) (fun k => x2 (ix2 k (wcol l))) (scale l) := by
  unfold act scale wcol
  by_cases hl : l.val < 1024
  · rw [if_pos hl]
    pointwise [InMobaRefIdeal.Read.val_main_v20, InMobaRefIdeal.Read.val_main_v19]
    rw [dif_pos hl]
    pointwise [InMobaRefIdeal.Read.val_main_v18, InMobaRefIdeal.Read.val_main_v17, InMobaRefIdeal.Read.val_main_v16,
      InMobaRefIdeal.Read.val_main_v15, InMobaRefIdeal.Read.val_main_v14, InMobaRefIdeal.Read.val_main_v13,
      InMobaRefIdeal.Read.val_main_v12, InMobaRefIdeal.Read.val_main_v11, InMobaRefIdeal.Read.val_main_v10,
      InMobaRefIdeal.Read.val_main_v9, InMobaRefIdeal.Read.val_main_v8, InMobaRefIdeal.Read.val_main_v7,
      InMobaRefIdeal.Read.val_main_v6, InMobaRefIdeal.Read.val_main_v5, InMobaRefIdeal.Read.val_main_v4,
      InMobaRefIdeal.Read.val_main_v3, InMobaRefIdeal.Read.val_main_v2, InMobaRefIdeal.Read.val_main_v1,
      InMobaRefIdeal.Read.val_main_v0, InMobaRefIdeal.Read.val_main_cst, InMobaRefIdeal.Read.val_main_cst_0,
      InMobaRefIdeal.Read.val_main_cst_1, InMobaRefIdeal.Read.val_main_cst_2]
    rfl
  · rw [if_neg hl, mul_one]
    pointwise [InMobaRefIdeal.Read.val_main_v20, InMobaRefIdeal.Read.val_main_v19]
    rw [dif_neg hl]
    pointwise [InMobaRefIdeal.Read.val_main_v18, InMobaRefIdeal.Read.val_main_v17, InMobaRefIdeal.Read.val_main_v16,
      InMobaRefIdeal.Read.val_main_v15, InMobaRefIdeal.Read.val_main_v14, InMobaRefIdeal.Read.val_main_v13,
      InMobaRefIdeal.Read.val_main_v12, InMobaRefIdeal.Read.val_main_v11, InMobaRefIdeal.Read.val_main_v10,
      InMobaRefIdeal.Read.val_main_v9, InMobaRefIdeal.Read.val_main_v8, InMobaRefIdeal.Read.val_main_v7,
      InMobaRefIdeal.Read.val_main_v6, InMobaRefIdeal.Read.val_main_v5, InMobaRefIdeal.Read.val_main_v4,
      InMobaRefIdeal.Read.val_main_v3, InMobaRefIdeal.Read.val_main_v2, InMobaRefIdeal.Read.val_main_v1,
      InMobaRefIdeal.Read.val_main_v0, InMobaRefIdeal.Read.val_main_cst, InMobaRefIdeal.Read.val_main_cst_0,
      InMobaRefIdeal.Read.val_main_cst_1, InMobaRefIdeal.Read.val_main_cst_2]
    have e (h) : (⟨4112 + (1024 + (l.val - 1024)), h⟩ : Fin 7184) = ⟨4112 + l.val, by omega⟩ := Fin.ext (by dsimp only; omega)
    simp only [e]
    rfl

variable (m : (ℓ : Loc nD τ sig) → Buf (Elt Ideal) ℓ)

/-! ## The arguments, and what the kernel's windows read of them -/

abbrev A0 (c : Dev nD) : Vec Ideal S32768x2048 .f32 := m ((c : Thread nD τ).loc main_arg0)
abbrev A1 (c : Dev nD) : Vec Ideal S2048 .f32 := m ((c : Thread nD τ).loc main_arg1)
abbrev A2 (c : Dev nD) : Vec Ideal S2048x7184 .f32 := m ((c : Thread nD τ).loc main_arg2)

theorem V0 (c : Dev nD) (j : S32768x2048.Idx) : (V m c main_arg0 : Vec Ideal S32768x2048 .f32) j = A0 m c j :=
  congrFun (V_main_arg0 m c) j
theorem V1 (c : Dev nD) (l : Fin 2048) : (V m c main_v5 : Vec Ideal S1x2048 .f32) (ix2 0 l) = A1 m c (ix1 l) := by
  unfold V; after_reads_at
theorem V2 (c : Dev nD) (k : Fin 2048) (l : Fin 3072) :
    (V m c main_v1 : Vec Ideal S2048x3072 .bf16) (ix2 k l) = A2 m c (ix2 k (wcol l)) := by
  unfold V; after_reads_at; rfl
/-- The column scales. -/
theorem V3 (c : Dev nD) (l : Fin 3072) : (V m c main_v6 : Vec Ideal S1x3072 .f32) (ix2 0 l) = scale l := by
  unfold scale
  by_cases hl : l.val < 1024
  · rw [if_pos hl]
    unfold V; after_reads_at
    rw [dif_pos hl]
    after_reads_at
  · rw [if_neg hl]
    unfold V; after_reads_at
    rw [dif_neg hl]
    after_reads_at

/-- Row `r` of the tile of point `t` is row `1024 (t / 2) + r` of the array; column `l` of its columns is column `1536 (t % 2) + l`. -/
def row (t : Fin cfg0.N) (r : Fin 1024) : Fin 32768 :=
  ⟨1024 * (t.val / 2) + r.val, by have := t.isLt; have : cfg0.N = 64 := N_0; omega⟩
def col (t : Fin cfg0.N) (l : Fin 1536) : Fin 3072 := ⟨1536 * (t.val % 2) + l.val, by omega⟩

/-- The index maps of the windows, decided over the grid. -/
theorem idx : ∀ t : Fin grid0.N, (win0_0.index t 0 = t.val / 2 ∧ win0_0.index t 1 = 0) ∧ (win0_1.index t 0 = 0 ∧ win0_1.index t 1 = 0)
    ∧ (win0_2.index t 0 = 0 ∧ win0_2.index t 1 = t.val % 2) ∧ (win0_3.index t 0 = 0 ∧ win0_3.index t 1 = t.val % 2)
    ∧ (win0_4.index t 0 = t.val / 2 ∧ win0_4.index t 1 = t.val % 2) ∧ win0_4.flush t = true := by decide +kernel

theorem blk0 (c : Dev nD) (t : Fin cfg0.N) (r : Fin 1024) (l : Fin 2048) :
    (iblk m c 0 t : Vec Ideal S1024x2048 .f32) (ix2 r l) = A0 m c (ix2 (row t r) l) := by
  refine Eq.trans ?_ (V0 m c _)
  unfold iblk
  rw [View.read_apply]
  show V m c main_arg0 _ = V m c main_arg0 _
  congr 1; funext a; apply Fin.ext
  match a with
  | ⟨0, _⟩ => show win0_0.index t 0 * 1024 + 1 * r.val = 1024 * (t.val / 2) + r.val; rw [(idx t).1.1]; omega
  | ⟨1, _⟩ => show win0_0.index t 1 * 2048 + 1 * l.val = l.val; rw [(idx t).1.2]; omega

theorem blk1 (c : Dev nD) (t : Fin cfg0.N) (l : Fin 2048) :
    (iblk m c 1 t : Vec Ideal S1x2048 .f32) (ix2 0 l) = A1 m c (ix1 l) := by
  refine Eq.trans ?_ (V1 m c _)
  unfold iblk
  rw [View.read_apply]
  show V m c main_v5 _ = V m c main_v5 _
  congr 1; funext a; apply Fin.ext
  match a with
  | ⟨0, _⟩ => show win0_1.index t 0 * 1 + 1 * 0 = 0; rw [(idx t).2.1.1]
  | ⟨1, _⟩ => show win0_1.index t 1 * 2048 + 1 * l.val = l.val; rw [(idx t).2.1.2]; omega

theorem blk2 (c : Dev nD) (t : Fin cfg0.N) (k : Fin 2048) (l : Fin 1536) :
    (iblk m c 2 t : Vec Ideal S2048x1536 .bf16) (ix2 k l) = A2 m c (ix2 k (wcol (col t l))) := by
  refine Eq.trans ?_ (V2 m c k (col t l))
  unfold iblk
  rw [View.read_apply]
  show V m c main_v1 _ = V m c main_v1 _
  congr 1; funext a; apply Fin.ext
  match a with
  | ⟨0, _⟩ => show win0_2.index t 0 * 2048 + 1 * k.val = k.val; rw [(idx t).2.2.1.1]; omega
  | ⟨1, _⟩ => show win0_2.index t 1 * 1536 + 1 * l.val = 1536 * (t.val % 2) + l.val; rw [(idx t).2.2.1.2]; omega

theorem blk3 (c : Dev nD) (t : Fin cfg0.N) (l : Fin 1536) :
    (iblk m c 3 t : Vec Ideal S1x1536 .f32) (ix2 0 l) = scale (col t l) := by
  refine Eq.trans ?_ (V3 m c (col t l))
  unfold iblk
  rw [View.read_apply]
  show V m c main_v6 _ = V m c main_v6 _
  congr 1; funext a; apply Fin.ext
  match a with
  | ⟨0, _⟩ => show win0_3.index t 0 * 1 + 1 * 0 = 0; rw [(idx t).2.2.2.1.1]
  | ⟨1, _⟩ => show win0_3.index t 1 * 1536 + 1 * l.val = 1536 * (t.val % 2) + l.val; rw [(idx t).2.2.2.1.2]; omega

/-! ## The scratch and the whole result -/

/-- Row `R` of `x`, normalised. -/
def nx (c : Dev nD) (R : Fin 32768) (k : Fin 2048) : EReal := rms (fun k => A0 m c (ix2 R k)) (fun k => A1 m c (ix1 k)) k

/-- After point `n` the scratch holds the normalised rows of the tile of `n`. -/
theorem scratch (c : Dev nD) : ∀ (n : ℕ) (hn : n < cfg0.N) (r : Fin 1024) (l : Fin 2048),
    (outsAt0 m c n hn).2 (ix2 r l) = nx m c (row ⟨n, hn⟩ r) l
  | n, hn, r, l => by
    by_cases h0 : n % 2 = 0
    · rw [outsAt0_A m c ⟨n, hn⟩ h0 (by dsimp only; omega)]
      dsimp only
      rw [scratch_A]
      unfold nrm nx
      simp only [blk0, blk1]
    · rw [outsAt0_B m c ⟨n, hn⟩ h0 (by dsimp only; omega)]
      dsimp only
      unfold sout0_B_0
      rw [scratch c (n - 1) (by omega) r l]
      congr 1
      apply Fin.ext
      show 1024 * ((n - 1) / 2) + r.val = 1024 * (n / 2) + r.val
      omega

/-- The reference's result from the arguments of device `c`. -/
def res (c : Dev nD) : Vec Ideal S32768x3072 .bf16 := InMobaRefIdeal.Read.val_main_v20 (F := Ideal) (A0 m c) (A1 m c) (A2 m c)

/-- What grid point `t` writes back is its block of the reference's result. -/
theorem flushed_eq (c : Dev nD) (t : Fin cfg0.N) :
    (dats m 0 c).flushed 4 t = ((cfg0.win 4).blk t).view.read (Elt Ideal) (res m c) := by
  funext y
  rw [View.read_apply]
  obtain ⟨r, l, rfl⟩ : ∃ (r : Fin 1024) (l : Fin 1536), y = ix2 r l := ⟨y 0, y 1, eq_ix2 y⟩
  have e : ((cfg0.win 4).blk t).view.emb (ix2 r l) = (ix2 (row t r) (col t l) : S32768x3072.Idx) := by
    funext a; apply Fin.ext
    match a with
    | ⟨0, _⟩ => show win0_4.index t 0 * 1024 + 1 * r.val = 1024 * (t.val / 2) + r.val; rw [(idx t).2.2.2.2.1.1]; omega
    | ⟨1, _⟩ => show win0_4.index t 1 * 1536 + 1 * l.val = 1536 * (t.val % 2) + l.val; rw [(idx t).2.2.2.2.1.2]; omega
  rw [e]
  show _ = InMobaRefIdeal.Read.val_main_v20 (F := Ideal) (A0 m c) (A1 m c) (A2 m c) (ix2 (row t r) (col t l))
  rw [ref_apply]
  by_cases h0 : t.val % 2 = 0
  · rw [Value.flushed4_A m c t h0 (by omega)]
    refine (out_A c _ _ _ _ _ _ _ _ _ _ _ _ _ _ _ _ _ _ _ r l).trans ?_
    rw [show nrm (iblk m c 0 t) (iblk m c 1 t) r = nx m c (row t r) from by unfold nrm nx; simp only [blk0, blk1]]
    simp only [blk2, blk3]
    rfl
  · rw [Value.flushed4_B m c t h0 (by omega)]
    refine (out_B c _ _ _ _ _ _ _ _ _ _ _ _ _ _ _ _ _ _ _ _ r l).trans ?_
    simp only [scratch, blk2, blk3]
    have hr (h) : row ⟨t.val - 1, h⟩ r = row t r := Fin.ext (by
      show 1024 * ((t.val - 1) / 2) + r.val = 1024 * (t.val / 2) + r.val
      omega)
    rw [hr]
    rfl

theorem final (c : Dev nD) : (dats m 0 c).arrAt 4 cfg0.N = res m c :=
  (dats m 0 c).arrAt_eq_of_cover 4 (res m c) (fun t _ => flushed_eq m c t) fun i => (Value.covered_iff4 i).2 (by
    have h0 : (i 0).val < 32768 := (i 0).isLt
    have h1 : (i 1).val < 3072 := (i 1).isLt
    omega)

end Cert.InMobaIdeal.Hand

namespace Cert.Proof

open Idealize.ShloMosaic Idealize.ShloMosaic.TcCoe Idealize.SL.Sem

/-- The kernel's result is the reference's, at every index, for every input. -/
theorem in_moba : Cert.algebraic_InMobaIdeal_InMobaRefIdeal := by
  intro m ρ m' ρ' _ hagree
  refine ⟨fun c => InMobaIdeal.Hand.res m c,
    (θ_run _ _ _).mono (fun _ h c => ⟨(h c).1.trans (InMobaIdeal.Hand.final m c), (h c).2⟩) (InMobaIdeal.Value.run_blocks (F := Ideal) m ρ),
    (θ_run _ _ _).mono (fun _ h c => ⟨?_, (h c).2⟩) (InMobaRefIdeal.Value.run (F := Ideal) m' ρ')⟩
  rw [(h c).1, InMobaRefIdeal.Read.val_main_v20_eq, (hagree c).1, (hagree c).2.1, (hagree c).2.2]
  rfl

end Cert.Proof

end
-- ==== Proof.MlpDown.lean ====
module

public import proofs.«01_k».proof.Defs
public import proofs.«01_k».proof.Proof.Gen.MlpDownIdeal.Value
public import proofs.«01_k».proof.Proof.Gen.MlpDownRefIdeal.Read
public import proofs.«01_k».proof.Proof.Rows
public import Idealize.ShloMosaic.Lib.Pipeline.Value
public import Idealize.ShloMosaic.Lib.Pointwise
public import Idealize.ShloMosaic.Lib.StableHlo.ReadAt

/-!
# The MLP's down projection: `x + rms_norm(h @ w_down)`

The kernel sums the 8192 hidden columns in four steps of 2048, one grid point each: the first stores its partial product in a scratch
buffer, the next two add theirs to it (`scratch`), and the last adds the fourth, normalises and adds the residual, four chunks of 128
rows. The reference multiplies the whole arrays.
-/

@[expose] public section

set_option maxRecDepth 16384

noncomputable section

namespace Cert.MlpDownIdeal.Hand

open Cert.MlpDownIdeal Cert.MlpDownIdeal.Gen Cert.Rows Idealize.ShloMosaic Idealize.ShloMosaic.TcCoe Idealize.SL.Sem
open Idealize.ShloMosaic.Pipeline (Dat)

/-- One step's product at row `r` and column `l`: 2048 of the hidden columns. -/
def part (x0 : Vec Ideal S512x2048 .bf16) (x1 : Vec Ideal S2048x2048 .bf16) (r : Fin 512) (l : Fin 2048) : EReal :=
  ∑ k : Fin 2048, x0 (ix2 r k) * x1 (ix2 k l)

section
variable (c : Dev nD) (i : grid0.Coords) (a2 : Memref sig .tc .vmem S512x2048 .bf16) (h2 : a2.IsWhole)
  (a3 : Memref sig .tc .vmem S2048x2048 .bf16) (h3 : a3.IsWhole) (a4 : Memref sig .tc .vmem S1x2048 .f32) (h4 : a4.IsWhole)
  (a5 : Memref sig .tc .vmem S512x2048 .f32) (h5 : a5.IsWhole) (a6 : Memref sig .tc .vmem S512x2048 .f32) (h6 : a6.IsWhole)
  (a7 : Memref sig .tc .vmem S512x2048 .f32) (h7 : a7.IsWhole)
  (x0 : Vec Ideal S512x2048 .bf16) (x1 : Vec Ideal S2048x2048 .bf16) (x2 : Vec Ideal S1x2048 .f32) (x3 : Vec Ideal S512x2048 .f32)

/-- The first step stores its product. -/
theorem scratch_A (hc0 : cond0_0 i) (hc1 : ¬cond0_1 i) (hc2 : ¬cond0_2 i) (r : Fin 512) (l : Fin 2048) :
    sout0_A_0 c i a2 h2 a3 h3 a4 h4 a5 h5 a6 h6 a7 h7 hc0 hc1 hc2 x0 x1 x2 x3 (ix2 r l) = part x0 x1 r l := by
  unfold sout0_A_0
  rw [View.read_writes_eq_canon _ _ _ (scover0_A_0 c i a2 h2 a3 h3 a4 h4 a5 h5 a6 h6 a7 h7 hc0 hc1 hc2 x0 x1 x2 x3)]
  unfold kernelRun0_A
  dsimp only
  rw [View.canon_unit_zero off0]
  simp only [View.readAt_eq_ld, h2.read_unread, h3.read_unread]
  pointwise [k0_pay1]
  rfl

/-- The second and third add theirs. -/
theorem scratch_B (hc0 : ¬cond0_0 i) (hc1 : cond0_1 i) (hc2 : ¬cond0_2 i) (xs : Vec Ideal S512x2048 .f32) (r : Fin 512) (l : Fin 2048) :
    sout0_B_0 c i a2 h2 a3 h3 a4 h4 a5 h5 a6 h6 a7 h7 hc0 hc1 hc2 x0 x1 x2 x3 xs (ix2 r l) = xs (ix2 r l) + part x0 x1 r l := by
  unfold sout0_B_0
  rw [View.read_writes_eq_canon _ _ _ (scover0_B_0 c i a2 h2 a3 h3 a4 h4 a5 h5 a6 h6 a7 h7 hc0 hc1 hc2 x0 x1 x2 x3 xs)]
  unfold kernelRun0_B
  dsimp only
  rw [View.canon_unit_zero off0]
  simp only [View.readAt_eq_ld, h2.read_unread, h3.read_unread, h7.read_unread]
  pointwise [k0_pay2]
  rfl

/-- The last finishes the row: its own product added, normalised, over the residual. -/
theorem out_C (hc0 : ¬cond0_0 i) (hc1 : ¬cond0_1 i) (hc2 : cond0_2 i) (xs : Vec Ideal S512x2048 .f32) (r : Fin 512) (l : Fin 2048) :
    out0_C_4 c i a2 h2 a3 h3 a4 h4 a5 h5 a6 h6 a7 h7 hc0 hc1 hc2 x0 x1 x2 x3 xs (ix2 r l)
      = x3 (ix2 r l) + rms (fun l => part x0 x1 r l + xs (ix2 r l)) (fun l => x2 (ix2 0 l)) l := by
  unfold out0_C_4
  rw [View.read_writes_eq_canon _ _ _ (cover0_C_4 c i a2 h2 a3 h3 a4 h4 a5 h5 a6 h6 a7 h7 hc0 hc1 hc2 x0 x1 x2 x3 xs)]
  refine (View.canon_apply_of_pieces
    (fun y : S512x2048.Idx => x3 (ix2 (y 0) (y 1)) + rms (fun l => part x0 x1 (y 0) l + xs (ix2 (y 0) l)) (fun l => x2 (ix2 0 l)) (y 1)) _ ?_ _
    (cover0_C_4 c i a2 h2 a3 h3 a4 h4 a5 h5 a6 h6 a7 h7 hc0 hc1 hc2 x0 x1 x2 x3 xs _)).trans ?_
  · unfold kernelRun0_C
    dsimp only
    sl_unfold_words
    simp only [View.readAt_eq_ld, h2.read_unread, h3.read_unread, h4.read_unread, h5.read_unread, h7.read_unread]
    simp only [List.forall_mem_cons]
    refine ⟨fun x => ?_, fun x => ?_, fun x => ?_, fun x => ?_, fun p hp => absurd hp List.not_mem_nil⟩
    all_goals
      idx_vars x
      rw [emb_rows]
    · pointwise [k0_pay3]; rfl
    · pointwise [k0_pay7]; rfl
    · pointwise [k0_pay6, k0_pay5]; rfl
    · pointwise [k0_pay4]; rfl
  · rfl

end

/-- The reference's result at row `r` and column `l`. -/
theorem ref_apply (x0 : (⟨S32768x8192, .f32⟩ : BufTy).Contents (Elt Ideal)) (x1 : (⟨S8192x2048, .f32⟩ : BufTy).Contents (Elt Ideal))
    (x2 : (⟨S2048, .f32⟩ : BufTy).Contents (Elt Ideal)) (x3 : (⟨S32768x2048, .f32⟩ : BufTy).Contents (Elt Ideal))
    (r : Fin 32768) (l : Fin 2048) : MlpDownRefIdeal.Read.val_main_v14 (F := Ideal) x0 x1 x2 x3 (ix2 r l)
      = x3 (ix2 r l) + rms (fun l => ∑ k : Fin 8192, x0 (ix2 r k) * x1 (ix2 k l)) (fun l => x2 (ix1 l)) l := by
  pointwise [MlpDownRefIdeal.Read.val_main_v14, MlpDownRefIdeal.Read.val_main_v13, MlpDownRefIdeal.Read.val_main_v12,
    MlpDownRefIdeal.Read.val_main_v11, MlpDownRefIdeal.Read.val_main_v10, MlpDownRefIdeal.Read.val_main_v9,
    MlpDownRefIdeal.Read.val_main_v8, MlpDownRefIdeal.Read.val_main_v7, MlpDownRefIdeal.Read.val_main_v6,
    MlpDownRefIdeal.Read.val_main_v5, MlpDownRefIdeal.Read.val_main_v4, MlpDownRefIdeal.Read.val_main_v3,
    MlpDownRefIdeal.Read.val_main_v2, MlpDownRefIdeal.Read.val_main_v1, MlpDownRefIdeal.Read.val_main_v0,
    MlpDownRefIdeal.Read.val_main_cst, MlpDownRefIdeal.Read.val_main_cst_0, MlpDownRefIdeal.Read.val_main_cst_1]
  rfl

variable (m : (ℓ : Loc nD τ sig) → Buf (Elt Ideal) ℓ)

/-! ## The arguments, and what the kernel's windows read of them -/

abbrev A0 (c : Dev nD) : Vec Ideal S32768x8192 .f32 := m ((c : Thread nD τ).loc main_arg0)
abbrev A1 (c : Dev nD) : Vec Ideal S8192x2048 .f32 := m ((c : Thread nD τ).loc main_arg1)
abbrev A2 (c : Dev nD) : Vec Ideal S2048 .f32 := m ((c : Thread nD τ).loc main_arg2)
abbrev A3 (c : Dev nD) : Vec Ideal S32768x2048 .f32 := m ((c : Thread nD τ).loc main_arg3)

theorem V0 (c : Dev nD) (j : S32768x8192.Idx) : (V m c main_v0 : Vec Ideal S32768x8192 .bf16) j = A0 m c j := by
  unfold V; after_reads_at
theorem V1 (c : Dev nD) (j : S8192x2048.Idx) : (V m c main_v1 : Vec Ideal S8192x2048 .bf16) j = A1 m c j := by
  unfold V; after_reads_at
theorem V2 (c : Dev nD) (l : Fin 2048) : (V m c main_v2 : Vec Ideal S1x2048 .f32) (ix2 0 l) = A2 m c (ix1 l) := by
  unfold V; after_reads_at
theorem V3 (c : Dev nD) (j : S32768x2048.Idx) : (V m c main_arg3 : Vec Ideal S32768x2048 .f32) j = A3 m c j :=
  congrFun (V_main_arg3 m c) j

/-- Row `r` of the tile of point `t` is row `512 (t / 4) + r`; hidden column `k` of its step is column `2048 (t % 4) + k`. -/
def row (t : Fin cfg0.N) (r : Fin 512) : Fin 32768 :=
  ⟨512 * (t.val / 4) + r.val, by have := t.isLt; have : cfg0.N = 256 := N_0; omega⟩
def hcol (t : Fin cfg0.N) (k : Fin 2048) : Fin 8192 := ⟨2048 * (t.val % 4) + k.val, by omega⟩

/-- The index maps of the windows, decided over the grid. -/
theorem idx : ∀ t : Fin grid0.N, (win0_0.index t 0 = t.val / 4 ∧ win0_0.index t 1 = t.val % 4)
    ∧ (win0_1.index t 0 = t.val % 4 ∧ win0_1.index t 1 = 0) ∧ (win0_2.index t 0 = 0 ∧ win0_2.index t 1 = 0)
    ∧ (win0_3.index t 0 = t.val / 4 ∧ win0_3.index t 1 = 0) ∧ (win0_4.index t 0 = t.val / 4 ∧ win0_4.index t 1 = 0)
    ∧ (win0_4.flush t = true → t.val % 4 = 3) := by decide +kernel

theorem blk0 (c : Dev nD) (t : Fin cfg0.N) (r : Fin 512) (k : Fin 2048) :
    (iblk m c 0 t : Vec Ideal S512x2048 .bf16) (ix2 r k) = A0 m c (ix2 (row t r) (hcol t k)) := by
  refine Eq.trans ?_ (V0 m c _)
  unfold iblk
  rw [View.read_apply]
  show V m c main_v0 _ = V m c main_v0 _
  congr 1; funext a; apply Fin.ext
  match a with
  | ⟨0, _⟩ => show win0_0.index t 0 * 512 + 1 * r.val = 512 * (t.val / 4) + r.val; rw [(idx t).1.1]; omega
  | ⟨1, _⟩ => show win0_0.index t 1 * 2048 + 1 * k.val = 2048 * (t.val % 4) + k.val; rw [(idx t).1.2]; omega

theorem blk1 (c : Dev nD) (t : Fin cfg0.N) (k l : Fin 2048) :
    (iblk m c 1 t : Vec Ideal S2048x2048 .bf16) (ix2 k l) = A1 m c (ix2 (hcol t k) l) := by
  refine Eq.trans ?_ (V1 m c _)
  unfold iblk
  rw [View.read_apply]
  show V m c main_v1 _ = V m c main_v1 _
  congr 1; funext a; apply Fin.ext
  match a with
  | ⟨0, _⟩ => show win0_1.index t 0 * 2048 + 1 * k.val = 2048 * (t.val % 4) + k.val; rw [(idx t).2.1.1]; omega
  | ⟨1, _⟩ => show win0_1.index t 1 * 2048 + 1 * l.val = l.val; rw [(idx t).2.1.2]; omega

theorem blk2 (c : Dev nD) (t : Fin cfg0.N) (l : Fin 2048) :
    (iblk m c 2 t : Vec Ideal S1x2048 .f32) (ix2 0 l) = A2 m c (ix1 l) := by
  refine Eq.trans ?_ (V2 m c _)
  unfold iblk
  rw [View.read_apply]
  show V m c main_v2 _ = V m c main_v2 _
  congr 1; funext a; apply Fin.ext
  match a with
  | ⟨0, _⟩ => show win0_2.index t 0 * 1 + 1 * 0 = 0; rw [(idx t).2.2.1.1]
  | ⟨1, _⟩ => show win0_2.index t 1 * 2048 + 1 * l.val = l.val; rw [(idx t).2.2.1.2]; omega

theorem blk3 (c : Dev nD) (t : Fin cfg0.N) (r : Fin 512) (l : Fin 2048) :
    (iblk m c 3 t : Vec Ideal S512x2048 .f32) (ix2 r l) = A3 m c (ix2 (row t r) l) := by
  refine Eq.trans ?_ (V3 m c _)
  unfold iblk
  rw [View.read_apply]
  show V m c main_arg3 _ = V m c main_arg3 _
  congr 1; funext a; apply Fin.ext
  match a with
  | ⟨0, _⟩ => show win0_3.index t 0 * 512 + 1 * r.val = 512 * (t.val / 4) + r.val; rw [(idx t).2.2.2.1.1]; omega
  | ⟨1, _⟩ => show win0_3.index t 1 * 2048 + 1 * l.val = l.val; rw [(idx t).2.2.2.1.2]; omega

/-! ## The sum over the hidden columns, step by step -/

/-- Term `k` of the product at row `R` and column `l`, for any natural `k`. -/
def term (c : Dev nD) (R : Fin 32768) (l : Fin 2048) (k : ℕ) : EReal :=
  if h : k < 8192 then A0 m c (ix2 R ⟨k, h⟩) * A1 m c (ix2 ⟨k, h⟩ l) else 0

/-- The product's first `2048 q` terms. -/
def upto (c : Dev nD) (R : Fin 32768) (l : Fin 2048) (q : ℕ) : EReal := ∑ k ∈ Finset.range (2048 * q), term m c R l k

/-- A point's own product is the 2048 terms of its step. -/
theorem part_eq (c : Dev nD) (t : Fin cfg0.N) (r : Fin 512) (l : Fin 2048) :
    part (iblk m c 0 t) (iblk m c 1 t) r l = ∑ k ∈ Finset.range 2048, term m c (row t r) l (2048 * (t.val % 4) + k) := by
  rw [← Fin.sum_univ_eq_sum_range (fun k => term m c (row t r) l (2048 * (t.val % 4) + k))]
  unfold part
  refine Finset.sum_congr rfl fun k _ => ?_
  unfold term
  rw [blk0, blk1, dif_pos (show 2048 * (t.val % 4) + k.val < 8192 from (hcol t k).isLt)]
  rfl

theorem upto_succ (c : Dev nD) (R : Fin 32768) (l : Fin 2048) (q : ℕ) :
    upto m c R l (q + 1) = upto m c R l q + ∑ k ∈ Finset.range 2048, term m c R l (2048 * q + k) := by
  unfold upto
  rw [Nat.mul_succ, Finset.sum_range_add]

theorem upto_zero (c : Dev nD) (R : Fin 32768) (l : Fin 2048) : upto m c R l 0 = 0 := by simp [upto]

theorem upto_four (c : Dev nD) (R : Fin 32768) (l : Fin 2048) :
    upto m c R l 4 = ∑ k : Fin 8192, A0 m c (ix2 R k) * A1 m c (ix2 k l) := by
  unfold upto
  rw [show 2048 * 4 = 8192 from rfl, ← Fin.sum_univ_eq_sum_range (fun k => term m c R l k)]
  refine Finset.sum_congr rfl fun k _ => ?_
  unfold term
  rw [dif_pos k.isLt]

/-! ## The scratch and the whole result -/

/-- After a tile's first three points the scratch holds the terms up to the point's step. -/
theorem scratch (c : Dev nD) : ∀ (n : ℕ) (hn : n < cfg0.N) (_ : n % 4 < 3) (r : Fin 512) (l : Fin 2048),
    (outsAt0 m c n hn).2 (ix2 r l) = upto m c (row ⟨n, hn⟩ r) l (n % 4 + 1)
  | n, hn, h3, r, l => by
    by_cases h0 : n % 4 = 0
    · rw [outsAt0_A m c ⟨n, hn⟩ h0 (by dsimp only; omega) (by dsimp only; omega)]
      dsimp only
      rw [scratch_A, part_eq, upto_succ, h0, upto_zero, zero_add]
    · rw [outsAt0_B m c ⟨n, hn⟩ h0 (by dsimp only; omega) (by dsimp only; omega)]
      dsimp only
      rw [scratch_B, scratch c (n - 1) (by omega) (by omega) r l, part_eq, upto_succ _ _ _ _ (n % 4)]
      have hr (h) : row ⟨n - 1, h⟩ r = row ⟨n, hn⟩ r := Fin.ext (by
        show 512 * ((n - 1) / 4) + r.val = 512 * (n / 4) + r.val
        omega)
      rw [hr, show (n - 1) % 4 + 1 = n % 4 by omega]

/-- The reference's result from the arguments of device `c`. -/
def res (c : Dev nD) : Vec Ideal S32768x2048 .f32 :=
  MlpDownRefIdeal.Read.val_main_v14 (F := Ideal) (A0 m c) (A1 m c) (A2 m c) (A3 m c)

/-- What a point writes back, at the points that write back, is its block of the reference's result. -/
theorem flushed_eq (c : Dev nD) (t : Fin cfg0.N) (hf : (cfg0.win 4).flush t = true) :
    (dats m 0 c).flushed 4 t = ((cfg0.win 4).blk t).view.read (Elt Ideal) (res m c) := by
  have h3 : t.val % 4 = 3 := (idx t).2.2.2.2.2 hf
  funext y
  rw [View.read_apply]
  obtain ⟨r, l, rfl⟩ : ∃ (r : Fin 512) (l : Fin 2048), y = ix2 r l := ⟨y 0, y 1, eq_ix2 y⟩
  have e : ((cfg0.win 4).blk t).view.emb (ix2 r l) = (ix2 (row t r) l : S32768x2048.Idx) := by
    funext a; apply Fin.ext
    match a with
    | ⟨0, _⟩ => show win0_4.index t 0 * 512 + 1 * r.val = 512 * (t.val / 4) + r.val; rw [(idx t).2.2.2.2.1.1]; omega
    | ⟨1, _⟩ => show win0_4.index t 1 * 2048 + 1 * l.val = l.val; rw [(idx t).2.2.2.2.1.2]; omega
  rw [e]
  show _ = MlpDownRefIdeal.Read.val_main_v14 (F := Ideal) (A0 m c) (A1 m c) (A2 m c) (A3 m c) (ix2 (row t r) l)
  rw [ref_apply, Value.flushed4_C m c t (by omega) (by omega) h3]
  refine (out_C c _ _ _ _ _ _ _ _ _ _ _ _ _ _ _ _ _ _ _ _ _ r l).trans ?_
  have hs (l : Fin 2048) (h) : part (iblk m c 0 t) (iblk m c 1 t) r l + (outsAt0 m c (t.val - 1) h).2 (ix2 r l)
      = ∑ k : Fin 8192, A0 m c (ix2 (row t r) k) * A1 m c (ix2 k l) := by
    have hr (h) : row ⟨t.val - 1, h⟩ r = row t r := Fin.ext (by
      show 512 * ((t.val - 1) / 4) + r.val = 512 * (t.val / 4) + r.val
      omega)
    rw [add_comm, scratch m c _ h (by omega), part_eq, hr, ← upto_four, upto_succ m c _ l 3, h3, show (t.val - 1) % 4 + 1 = 3 by omega]
  simp only [hs, blk2, blk3]

theorem final (c : Dev nD) : (dats m 0 c).arrAt 4 cfg0.N = res m c :=
  (dats m 0 c).arrAt_eq_of_cover 4 (res m c) (fun t hf => flushed_eq m c t hf) fun i => (Value.covered_iff4 i).2 (by
    have h0 : (i 0).val < 32768 := (i 0).isLt
    have h1 : (i 1).val < 2048 := (i 1).isLt
    omega)

end Cert.MlpDownIdeal.Hand

namespace Cert.Proof

open Idealize.ShloMosaic Idealize.ShloMosaic.TcCoe Idealize.SL.Sem

/-- The kernel's result is the reference's, at every index, for every input. -/
theorem mlp_down : Cert.algebraic_MlpDownIdeal_MlpDownRefIdeal := by
  intro m ρ m' ρ' _ hagree
  refine ⟨fun c => MlpDownIdeal.Hand.res m c,
    (θ_run _ _ _).mono (fun _ h c => ⟨(h c).1.trans (MlpDownIdeal.Hand.final m c), (h c).2⟩) (MlpDownIdeal.Value.run_blocks (F := Ideal) m ρ),
    (θ_run _ _ _).mono (fun _ h c => ⟨?_, (h c).2⟩) (MlpDownRefIdeal.Value.run (F := Ideal) m' ρ')⟩
  rw [(h c).1, MlpDownRefIdeal.Read.val_main_v14_eq, (hagree c).1, (hagree c).2.1, (hagree c).2.2.1, (hagree c).2.2.2]
  rfl

end Cert.Proof

end
-- ==== Proof.MlpUp.lean ====
module

public import proofs.«01_k».proof.Defs
public import proofs.«01_k».proof.Proof.Gen.MlpUpIdeal.Value
public import proofs.«01_k».proof.Proof.Gen.MlpUpRefIdeal.Read
public import proofs.«01_k».proof.Proof.Rows
public import Idealize.ShloMosaic.Lib.Pipeline.Value
public import Idealize.ShloMosaic.Lib.Pointwise
public import Idealize.ShloMosaic.Lib.StableHlo.ReadAt

/-!
# The MLP's up projection: `max(rms_norm(x) @ w_up, 0)²`

At the first of a row tile's four grid points the kernel normalises the tile's 1024 rows, four chunks of 256, and keeps them in a
scratch buffer; the other three points reuse them (`scratch`). Every point multiplies the normalised rows by its 2048 columns of
`w_up`, times a row of column scales that are all one, and stores the square of the positive part. The reference normalises and
multiplies the whole arrays.
-/

@[expose] public section

set_option maxRecDepth 16384

noncomputable section

namespace Cert.MlpUpIdeal.Hand

open Cert.MlpUpIdeal Cert.MlpUpIdeal.Gen Cert.Rows Idealize.ShloMosaic Idealize.ShloMosaic.TcCoe Idealize.SL.Sem
open Idealize.ShloMosaic.Pipeline (Dat)

/-- Rows of 2048 normalised: element `(r, k)`. -/
def nrm (x0 : Vec Ideal S1024x2048 .f32) (x1 : Vec Ideal S1x2048 .f32) (r : Fin 1024) (k : Fin 2048) : EReal :=
  rms (fun k => x0 (ix2 r k)) (fun k => x1 (ix2 0 k)) k

section
variable (c : Dev nD) (i : grid0.Coords) (a2 : Memref sig .tc .vmem S1024x2048 .f32) (h2 : a2.IsWhole)
  (a3 : Memref sig .tc .vmem S1x2048 .f32) (h3 : a3.IsWhole) (a4 : Memref sig .tc .vmem S2048x2048 .bf16) (h4 : a4.IsWhole)
  (a5 : Memref sig .tc .vmem S1x2048 .f32) (h5 : a5.IsWhole) (a6 : Memref sig .tc .vmem S1024x2048 .bf16) (h6 : a6.IsWhole)
  (a7 : Memref sig .tc .vmem S1024x2048 .bf16) (h7 : a7.IsWhole)
  (x0 : Vec Ideal S1024x2048 .f32) (x1 : Vec Ideal S1x2048 .f32) (x2 : Vec Ideal S2048x2048 .bf16) (x3 : Vec Ideal S1x2048 .f32)

theorem scratch_A (hc0 : cond0_0 i) (hc1 : ¬cond0_1 i) (r : Fin 1024) (l : Fin 2048) :
    sout0_A_0 c i a2 h2 a3 h3 a4 h4 a5 h5 a6 h6 a7 h7 hc0 hc1 x0 x1 x2 x3 (ix2 r l) = nrm x0 x1 r l := by
  unfold sout0_A_0
  rw [View.read_writes_eq_canon _ _ _ (scover0_A_0 c i a2 h2 a3 h3 a4 h4 a5 h5 a6 h6 a7 h7 hc0 hc1 x0 x1 x2 x3)]
  refine (View.canon_apply_of_pieces (fun y : S1024x2048.Idx => nrm x0 x1 (y 0) (y 1)) _ ?_ _
    (scover0_A_0 c i a2 h2 a3 h3 a4 h4 a5 h5 a6 h6 a7 h7 hc0 hc1 x0 x1 x2 x3 _)).trans ?_
  · unfold kernelRun0_A
    dsimp only
    sl_unfold_words
    simp only [View.readAt_eq_ld, h2.read_unread, h3.read_unread, h4.read_unread, h5.read_unread]
    simp only [List.forall_mem_cons]
    refine ⟨fun x => ?_, fun x => ?_, fun x => ?_, fun x => ?_, fun p hp => absurd hp List.not_mem_nil⟩
    all_goals
      idx_vars x
      rw [emb_rows]
    · pointwise [k0_pay17, k0_pay16]; rfl
    · pointwise [k0_pay14, k0_pay13, k0_pay12, k0_pay11]; rfl
    · pointwise [k0_pay9, k0_pay8, k0_pay7, k0_pay6]; rfl
    · pointwise [k0_pay4, k0_pay3]; rfl
  · rfl

/-- What every point stores at row `r` and column `l`: the square of the positive part of the normalised row times the column, scaled. -/
def act (h w : Fin 2048 → EReal) (s : EReal) : EReal := max ((∑ k, h k * w k) * s) 0 * max ((∑ k, h k * w k) * s) 0

/-- A point that reuses the normalised rows `xs`. -/
theorem out_B (hc0 : ¬cond0_0 i) (hc1 : cond0_1 i) (xs : Vec Ideal S1024x2048 .bf16) (r : Fin 1024) (l : Fin 2048) :
    out0_B_4 c i a2 h2 a3 h3 a4 h4 a5 h5 a6 h6 a7 h7 hc0 hc1 x0 x1 x2 x3 xs (ix2 r l)
      = act (fun k => xs (ix2 r k)) (fun k => x2 (ix2 k l)) (x3 (ix2 0 l)) := by
  unfold out0_B_4
  rw [View.read_writes_eq_canon _ _ _ (cover0_B_4 c i a2 h2 a3 h3 a4 h4 a5 h5 a6 h6 a7 h7 hc0 hc1 x0 x1 x2 x3 xs)]
  unfold kernelRun0_B
  dsimp only
  rw [View.canon_unit_zero off0]
  simp only [View.readAt_eq_ld, h4.read_unread, h5.read_unread, h7.read_unread]
  pointwise [k0_pay2]
  rfl

/-- A point that normalises the rows. -/
theorem out_A (hc0 : cond0_0 i) (hc1 : ¬cond0_1 i) (r : Fin 1024) (l : Fin 2048) :
    out0_A_4 c i a2 h2 a3 h3 a4 h4 a5 h5 a6 h6 a7 h7 hc0 hc1 x0 x1 x2 x3 (ix2 r l)
      = act (nrm x0 x1 r) (fun k => x2 (ix2 k l)) (x3 (ix2 0 l)) := by
  unfold out0_A_4
  rw [View.read_writes_eq_canon _ _ _ (cover0_A_4 c i a2 h2 a3 h3 a4 h4 a5 h5 a6 h6 a7 h7 hc0 hc1 x0 x1 x2 x3)]
  refine (View.canon_apply_of_pieces
    (fun y : S1024x2048.Idx => act (nrm x0 x1 (y 0)) (fun k => x2 (ix2 k (y 1))) (x3 (ix2 0 (y 1)))) _ ?_ _
    (cover0_A_4 c i a2 h2 a3 h3 a4 h4 a5 h5 a6 h6 a7 h7 hc0 hc1 x0 x1 x2 x3 _)).trans ?_
  · unfold kernelRun0_A
    dsimp only
    sl_unfold_words
    simp only [View.readAt_eq_ld, h2.read_unread, h3.read_unread, h4.read_unread, h5.read_unread]
    simp only [List.forall_mem_cons]
    refine ⟨fun x => ?_, fun x => ?_, fun x => ?_, fun x => ?_, fun p hp => absurd hp List.not_mem_nil⟩
    all_goals
      idx_vars x
      rw [emb_rows]
    · pointwise [k0_pay1, k0_pay17, k0_pay16]; rfl
    · pointwise [k0_pay15, k0_pay14, k0_pay13, k0_pay12, k0_pay11]; rfl
    · pointwise [k0_pay10, k0_pay9, k0_pay8, k0_pay7, k0_pay6]; rfl
    · pointwise [k0_pay5, k0_pay4, k0_pay3]; rfl
  · rfl

end

/-- The reference's result at row `r` and column `l`. -/
theorem ref_apply (x0 : (⟨S32768x2048, .f32⟩ : BufTy).Contents (Elt Ideal)) (x1 : (⟨S2048, .f32⟩ : BufTy).Contents (Elt Ideal))
    (x2 : (⟨S2048x8192, .f32⟩ : BufTy).Contents (Elt Ideal)) (r : Fin 32768) (l : Fin 8192) :
    MlpUpRefIdeal.Read.val_main_v17 (F := Ideal) x0 x1 x2 (ix2 r l)
      = act (fun k => rms (fun k => x0 (ix2 r k)) (fun k => x1 (ix1 k)) k) (fun k => x2 (ix2 k l)) 1 := by
  unfold act
  rw [mul_one]
  pointwise [MlpUpRefIdeal.Read.val_main_v17, MlpUpRefIdeal.Read.val_main_v16, MlpUpRefIdeal.Read.val_main_v15,
    MlpUpRefIdeal.Read.val_main_v14, MlpUpRefIdeal.Read.val_main_v13, MlpUpRefIdeal.Read.val_main_v12,
    MlpUpRefIdeal.Read.val_main_v11, MlpUpRefIdeal.Read.val_main_v10, MlpUpRefIdeal.Read.val_main_v9,
    MlpUpRefIdeal.Read.val_main_v8, MlpUpRefIdeal.Read.val_main_v7, MlpUpRefIdeal.Read.val_main_v6,
    MlpUpRefIdeal.Read.val_main_v5, MlpUpRefIdeal.Read.val_main_v4, MlpUpRefIdeal.Read.val_main_v3,
    MlpUpRefIdeal.Read.val_main_v2, MlpUpRefIdeal.Read.val_main_v1, MlpUpRefIdeal.Read.val_main_v0,
    MlpUpRefIdeal.Read.val_main_cst, MlpUpRefIdeal.Read.val_main_cst_0, MlpUpRefIdeal.Read.val_main_cst_1,
    MlpUpRefIdeal.Read.val_main_cst_2]
  rfl

variable (m : (ℓ : Loc nD τ sig) → Buf (Elt Ideal) ℓ)

/-! ## The arguments, and what the kernel's windows read of them -/

abbrev A0 (c : Dev nD) : Vec Ideal S32768x2048 .f32 := m ((c : Thread nD τ).loc main_arg0)
abbrev A1 (c : Dev nD) : Vec Ideal S2048 .f32 := m ((c : Thread nD τ).loc main_arg1)
abbrev A2 (c : Dev nD) : Vec Ideal S2048x8192 .f32 := m ((c : Thread nD τ).loc main_arg2)

theorem V0 (c : Dev nD) (j : S32768x2048.Idx) : (V m c main_arg0 : Vec Ideal S32768x2048 .f32) j = A0 m c j :=
  congrFun (V_main_arg0 m c) j
theorem V1 (c : Dev nD) (l : Fin 2048) : (V m c main_v2 : Vec Ideal S1x2048 .f32) (ix2 0 l) = A1 m c (ix1 l) := by
  unfold V; after_reads_at
theorem V2 (c : Dev nD) (j : S2048x8192.Idx) : (V m c main_v0 : Vec Ideal S2048x8192 .bf16) j = A2 m c j := by
  unfold V; after_reads_at
/-- The column scales are all one. -/
theorem V3 (c : Dev nD) (l : Fin 8192) : (V m c main_v3 : Vec Ideal S1x8192 .f32) (ix2 0 l) = (1 : EReal) := by
  unfold V; after_reads_at

/-- Row `r` of the tile of point `t` is row `1024 (t / 4) + r` of the array; column `l` of its columns is column `2048 (t % 4) + l`. -/
def row (t : Fin cfg0.N) (r : Fin 1024) : Fin 32768 :=
  ⟨1024 * (t.val / 4) + r.val, by have := t.isLt; have : cfg0.N = 128 := N_0; omega⟩
def col (t : Fin cfg0.N) (l : Fin 2048) : Fin 8192 := ⟨2048 * (t.val % 4) + l.val, by omega⟩

/-- The index maps of the windows, decided over the grid. -/
theorem idx : ∀ t : Fin grid0.N, (win0_0.index t 0 = t.val / 4 ∧ win0_0.index t 1 = 0) ∧ (win0_1.index t 0 = 0 ∧ win0_1.index t 1 = 0)
    ∧ (win0_2.index t 0 = 0 ∧ win0_2.index t 1 = t.val % 4) ∧ (win0_3.index t 0 = 0 ∧ win0_3.index t 1 = t.val % 4)
    ∧ (win0_4.index t 0 = t.val / 4 ∧ win0_4.index t 1 = t.val % 4) ∧ win0_4.flush t = true := by decide +kernel

theorem blk0 (c : Dev nD) (t : Fin cfg0.N) (r : Fin 1024) (l : Fin 2048) :
    (iblk m c 0 t : Vec Ideal S1024x2048 .f32) (ix2 r l) = A0 m c (ix2 (row t r) l) := by
  refine Eq.trans ?_ (V0 m c _)
  unfold iblk
  rw [View.read_apply]
  show V m c main_arg0 _ = V m c main_arg0 _
  congr 1; funext a; apply Fin.ext
  match a with
  | ⟨0, _⟩ => show win0_0.index t 0 * 1024 + 1 * r.val = 1024 * (t.val / 4) + r.val; rw [(idx t).1.1]; omega
  | ⟨1, _⟩ => show win0_0.index t 1 * 2048 + 1 * l.val = l.val; rw [(idx t).1.2]; omega

theorem blk1 (c : Dev nD) (t : Fin cfg0.N) (l : Fin 2048) :
    (iblk m c 1 t : Vec Ideal S1x2048 .f32) (ix2 0 l) = A1 m c (ix1 l) := by
  refine Eq.trans ?_ (V1 m c _)
  unfold iblk
  rw [View.read_apply]
  show V m c main_v2 _ = V m c main_v2 _
  congr 1; funext a; apply Fin.ext
  match a with
  | ⟨0, _⟩ => show win0_1.index t 0 * 1 + 1 * 0 = 0; rw [(idx t).2.1.1]
  | ⟨1, _⟩ => show win0_1.index t 1 * 2048 + 1 * l.val = l.val; rw [(idx t).2.1.2]; omega

theorem blk2 (c : Dev nD) (t : Fin cfg0.N) (k l : Fin 2048) :
    (iblk m c 2 t : Vec Ideal S2048x2048 .bf16) (ix2 k l) = A2 m c (ix2 k (col t l)) := by
  refine Eq.trans ?_ (V2 m c _)
  unfold iblk
  rw [View.read_apply]
  show V m c main_v0 _ = V m c main_v0 _
  congr 1; funext a; apply Fin.ext
  match a with
  | ⟨0, _⟩ => show win0_2.index t 0 * 2048 + 1 * k.val = k.val; rw [(idx t).2.2.1.1]; omega
  | ⟨1, _⟩ => show win0_2.index t 1 * 2048 + 1 * l.val = 2048 * (t.val % 4) + l.val; rw [(idx t).2.2.1.2]; omega

theorem blk3 (c : Dev nD) (t : Fin cfg0.N) (l : Fin 2048) :
    (iblk m c 3 t : Vec Ideal S1x2048 .f32) (ix2 0 l) = (1 : EReal) := by
  refine Eq.trans ?_ (V3 m c (col t l))
  unfold iblk
  rw [View.read_apply]
  show V m c main_v3 _ = V m c main_v3 _
  congr 1; funext a; apply Fin.ext
  match a with
  | ⟨0, _⟩ => show win0_3.index t 0 * 1 + 1 * 0 = 0; rw [(idx t).2.2.2.1.1]
  | ⟨1, _⟩ => show win0_3.index t 1 * 2048 + 1 * l.val = 2048 * (t.val % 4) + l.val; rw [(idx t).2.2.2.1.2]; omega

/-! ## The scratch and the whole result -/

/-- Row `R` of `x`, normalised. -/
def nx (c : Dev nD) (R : Fin 32768) (k : Fin 2048) : EReal := rms (fun k => A0 m c (ix2 R k)) (fun k => A1 m c (ix1 k)) k

/-- After point `n` the scratch holds the normalised rows of the tile of `n`. -/
theorem scratch (c : Dev nD) : ∀ (n : ℕ) (hn : n < cfg0.N) (r : Fin 1024) (l : Fin 2048),
    (outsAt0 m c n hn).2 (ix2 r l) = nx m c (row ⟨n, hn⟩ r) l
  | n, hn, r, l => by
    by_cases h0 : n % 4 = 0
    · rw [outsAt0_A m c ⟨n, hn⟩ h0 (by dsimp only; omega)]
      dsimp only
      rw [scratch_A]
      unfold nrm nx
      simp only [blk0, blk1]
    · rw [outsAt0_B m c ⟨n, hn⟩ h0 (by dsimp only; omega)]
      dsimp only
      unfold sout0_B_0
      rw [scratch c (n - 1) (by omega) r l]
      congr 1
      apply Fin.ext
      show 1024 * ((n - 1) / 4) + r.val = 1024 * (n / 4) + r.val
      omega

/-- The reference's result from the arguments of device `c`. -/
def res (c : Dev nD) : Vec Ideal S32768x8192 .bf16 := MlpUpRefIdeal.Read.val_main_v17 (F := Ideal) (A0 m c) (A1 m c) (A2 m c)

/-- What grid point `t` writes back is its block of the reference's result. -/
theorem flushed_eq (c : Dev nD) (t : Fin cfg0.N) :
    (dats m 0 c).flushed 4 t = ((cfg0.win 4).blk t).view.read (Elt Ideal) (res m c) := by
  funext y
  rw [View.read_apply]
  obtain ⟨r, l, rfl⟩ : ∃ (r : Fin 1024) (l : Fin 2048), y = ix2 r l := ⟨y 0, y 1, eq_ix2 y⟩
  have e : ((cfg0.win 4).blk t).view.emb (ix2 r l) = (ix2 (row t r) (col t l) : S32768x8192.Idx) := by
    funext a; apply Fin.ext
    match a with
    | ⟨0, _⟩ => show win0_4.index t 0 * 1024 + 1 * r.val = 1024 * (t.val / 4) + r.val; rw [(idx t).2.2.2.2.1.1]; omega
    | ⟨1, _⟩ => show win0_4.index t 1 * 2048 + 1 * l.val = 2048 * (t.val % 4) + l.val; rw [(idx t).2.2.2.2.1.2]; omega
  rw [e]
  show _ = MlpUpRefIdeal.Read.val_main_v17 (F := Ideal) (A0 m c) (A1 m c) (A2 m c) (ix2 (row t r) (col t l))
  rw [ref_apply]
  by_cases h0 : t.val % 4 = 0
  · rw [Value.flushed4_A m c t h0 (by omega)]
    refine (out_A c _ _ _ _ _ _ _ _ _ _ _ _ _ _ _ _ _ _ _ r l).trans ?_
    rw [show nrm (iblk m c 0 t) (iblk m c 1 t) r = nx m c (row t r) from by unfold nrm nx; simp only [blk0, blk1]]
    simp only [blk2, blk3]
    rfl
  · rw [Value.flushed4_B m c t h0 (by omega)]
    refine (out_B c _ _ _ _ _ _ _ _ _ _ _ _ _ _ _ _ _ _ _ _ r l).trans ?_
    simp only [scratch, blk2, blk3]
    have hr (h) : row ⟨t.val - 1, h⟩ r = row t r := Fin.ext (by
      show 1024 * ((t.val - 1) / 4) + r.val = 1024 * (t.val / 4) + r.val
      omega)
    rw [hr]
    rfl

theorem final (c : Dev nD) : (dats m 0 c).arrAt 4 cfg0.N = res m c :=
  (dats m 0 c).arrAt_eq_of_cover 4 (res m c) (fun t _ => flushed_eq m c t) fun i => (Value.covered_iff4 i).2 (by
    have h0 : (i 0).val < 32768 := (i 0).isLt
    have h1 : (i 1).val < 8192 := (i 1).isLt
    omega)

end Cert.MlpUpIdeal.Hand

namespace Cert.Proof

open Idealize.ShloMosaic Idealize.ShloMosaic.TcCoe Idealize.SL.Sem

/-- The kernel's result is the reference's, at every index, for every input. -/
theorem mlp_up : Cert.algebraic_MlpUpIdeal_MlpUpRefIdeal := by
  intro m ρ m' ρ' _ hagree
  refine ⟨fun c => MlpUpIdeal.Hand.res m c,
    (θ_run _ _ _).mono (fun _ h c => ⟨(h c).1.trans (MlpUpIdeal.Hand.final m c), (h c).2⟩) (MlpUpIdeal.Value.run_blocks (F := Ideal) m ρ),
    (θ_run _ _ _).mono (fun _ h c => ⟨?_, (h c).2⟩) (MlpUpRefIdeal.Value.run (F := Ideal) m' ρ')⟩
  rw [(h c).1, MlpUpRefIdeal.Read.val_main_v17_eq, (hagree c).1, (hagree c).2.1, (hagree c).2.2]
  rfl

end Cert.Proof

end
-- ==== Proof.OutProj.lean ====
module

public import proofs.«01_k».proof.Defs
public import proofs.«01_k».proof.Proof.Gen.OutProjIdeal.Value
public import proofs.«01_k».proof.Proof.Gen.OutProjRefIdeal.Read
public import proofs.«01_k».proof.Proof.Rows
public import Idealize.ShloMosaic.Lib.Pipeline.Value
public import Idealize.ShloMosaic.Lib.Pointwise
public import Idealize.ShloMosaic.Lib.StableHlo.ReadAt

/-!
# The output projection: `x + rms_norm([y_gdn, y_moba] @ w_out)`

The kernel multiplies a tile of 512 rows of each mixer's output by that mixer's half of `w_out`, adds the two products, normalises and
adds the residual. The reference multiplies the two outputs side by side by the whole of `w_out`. Read at an index, both are the same
number: the sum over 2048 columns is the sum over the first 1024 plus the sum over the last 1024.
-/

@[expose] public section

set_option maxRecDepth 16384

noncomputable section

namespace Cert.OutProjIdeal.Hand

open Cert.OutProjIdeal Cert.OutProjIdeal.Gen Cert.Rows Idealize.ShloMosaic Idealize.ShloMosaic.TcCoe Idealize.SL.Sem
open Idealize.ShloMosaic.Pipeline (Dat)

/-- Row `a` of one mixer's output beside row `b` of the other's, times column `l` of the output weights. -/
def prod (a b : Fin 1024 → EReal) (w : Fin 2048 → Fin 2048 → EReal) (l : Fin 2048) : EReal :=
  ∑ k : Fin 1024, a k * w ⟨k.val, by omega⟩ l + ∑ k : Fin 1024, b k * w ⟨1024 + k.val, by omega⟩ l

/-- The tile a grid point leaves, at row `r` and column `l`, from the five tiles it loads. -/
theorem out_apply (x0 x1 : Vec Ideal S512x1024 .bf16) (x2 : Vec Ideal S2048x2048 .bf16) (x3 : Vec Ideal S1x2048 .f32)
    (x4 : Vec Ideal S512x2048 .f32) (r : Fin 512) (l : Fin 2048) :
    out0_5 x0 x1 x2 x3 x4 (ix2 r l) = x4 (ix2 r l)
      + rms (prod (fun k => x0 (ix2 r k)) (fun k => x1 (ix2 r k)) fun k l => x2 (ix2 k l)) (fun l => x3 (ix2 0 l)) l := by
  unfold out0_5 r0_0 r0_1 r0_4
  rw [View.canon_unit_zero off0]
  pointwise [k0_pay1, r0_2, r0_3]
  rfl

/-- The reference's result at row `r` and column `l`. -/
theorem ref_apply (x0 x1 : (⟨S32768x1024, .f32⟩ : BufTy).Contents (Elt Ideal)) (x2 : (⟨S2048x2048, .f32⟩ : BufTy).Contents (Elt Ideal))
    (x3 : (⟨S2048, .f32⟩ : BufTy).Contents (Elt Ideal)) (x4 : (⟨S32768x2048, .f32⟩ : BufTy).Contents (Elt Ideal))
    (r : Fin 32768) (l : Fin 2048) : OutProjRefIdeal.Read.val_main_v15 (F := Ideal) x0 x1 x2 x3 x4 (ix2 r l) = x4 (ix2 r l)
      + rms (prod (fun k => x0 (ix2 r k)) (fun k => x1 (ix2 r k)) fun k l => x2 (ix2 k l)) (fun l => x3 (ix1 l)) l := by
  pointwise [OutProjRefIdeal.Read.val_main_v15, OutProjRefIdeal.Read.val_main_v14, OutProjRefIdeal.Read.val_main_v13,
    OutProjRefIdeal.Read.val_main_v12, OutProjRefIdeal.Read.val_main_v11, OutProjRefIdeal.Read.val_main_v10,
    OutProjRefIdeal.Read.val_main_v9, OutProjRefIdeal.Read.val_main_v8, OutProjRefIdeal.Read.val_main_v7,
    OutProjRefIdeal.Read.val_main_v6, OutProjRefIdeal.Read.val_main_v5, OutProjRefIdeal.Read.val_main_v4,
    OutProjRefIdeal.Read.val_main_v3, OutProjRefIdeal.Read.val_main_v2, OutProjRefIdeal.Read.val_main_v1,
    OutProjRefIdeal.Read.val_main_v0, OutProjRefIdeal.Read.val_main_cst, OutProjRefIdeal.Read.val_main_cst_0,
    OutProjRefIdeal.Read.val_main_cst_1]
  rfl

variable (m : (ℓ : Loc nD τ sig) → Buf (Elt Ideal) ℓ)

/-! ## The arguments, and what the kernel's windows read of them -/

abbrev A0 (c : Dev nD) : Vec Ideal S32768x1024 .f32 := m ((c : Thread nD τ).loc main_arg0)
abbrev A1 (c : Dev nD) : Vec Ideal S32768x1024 .f32 := m ((c : Thread nD τ).loc main_arg1)
abbrev A2 (c : Dev nD) : Vec Ideal S2048x2048 .f32 := m ((c : Thread nD τ).loc main_arg2)
abbrev A3 (c : Dev nD) : Vec Ideal S2048 .f32 := m ((c : Thread nD τ).loc main_arg3)
abbrev A4 (c : Dev nD) : Vec Ideal S32768x2048 .f32 := m ((c : Thread nD τ).loc main_arg4)

theorem V0 (c : Dev nD) (j : S32768x1024.Idx) : (V m c main_v0 : Vec Ideal S32768x1024 .bf16) j = A0 m c j := by
  unfold V; after_reads_at
theorem V1 (c : Dev nD) (j : S32768x1024.Idx) : (V m c main_v1 : Vec Ideal S32768x1024 .bf16) j = A1 m c j := by
  unfold V; after_reads_at
theorem V2 (c : Dev nD) (j : S2048x2048.Idx) : (V m c main_v2 : Vec Ideal S2048x2048 .bf16) j = A2 m c j := by
  unfold V; after_reads_at
theorem V3 (c : Dev nD) (l : Fin 2048) : (V m c main_v3 : Vec Ideal S1x2048 .f32) (ix2 0 l) = A3 m c (ix1 l) := by
  unfold V; after_reads_at
theorem V4 (c : Dev nD) (j : S32768x2048.Idx) : (V m c main_arg4 : Vec Ideal S32768x2048 .f32) j = A4 m c j :=
  congrFun (V_main_arg4 m c) j

/-- Row `r` of tile `t` is row `512 t + r` of the array. -/
def row (t : Fin cfg0.N) (r : Fin 512) : Fin 32768 := ⟨512 * t.val + r.val, by have := t.isLt; have : cfg0.N = 64 := N_0; omega⟩

/-- The index maps of the windows, decided over the grid: tiles of rows for the mixers' outputs, the residual and the result; the
    whole array for the weights and the gain. -/
theorem idx : ∀ t : Fin grid0.N, (win0_0.index t 0 = t.val ∧ win0_0.index t 1 = 0) ∧ (win0_1.index t 0 = t.val ∧ win0_1.index t 1 = 0)
    ∧ (win0_2.index t 0 = 0 ∧ win0_2.index t 1 = 0) ∧ (win0_3.index t 0 = 0 ∧ win0_3.index t 1 = 0)
    ∧ (win0_4.index t 0 = t.val ∧ win0_4.index t 1 = 0) ∧ (win0_5.index t 0 = t.val ∧ win0_5.index t 1 = 0) := by decide +kernel

theorem blk0 (c : Dev nD) (t : Fin cfg0.N) (r : Fin 512) (l : Fin 1024) :
    (iblk m c 0 t : Vec Ideal S512x1024 .bf16) (ix2 r l) = A0 m c (ix2 (row t r) l) := by
  refine Eq.trans ?_ (V0 m c _)
  unfold iblk
  rw [View.read_apply]
  show V m c main_v0 _ = V m c main_v0 _
  congr 1; funext a; apply Fin.ext
  match a with
  | ⟨0, _⟩ => show win0_0.index t 0 * 512 + 1 * r.val = 512 * t.val + r.val; rw [(idx t).1.1]; omega
  | ⟨1, _⟩ => show win0_0.index t 1 * 1024 + 1 * l.val = l.val; rw [(idx t).1.2]; omega

theorem blk1 (c : Dev nD) (t : Fin cfg0.N) (r : Fin 512) (l : Fin 1024) :
    (iblk m c 1 t : Vec Ideal S512x1024 .bf16) (ix2 r l) = A1 m c (ix2 (row t r) l) := by
  refine Eq.trans ?_ (V1 m c _)
  unfold iblk
  rw [View.read_apply]
  show V m c main_v1 _ = V m c main_v1 _
  congr 1; funext a; apply Fin.ext
  match a with
  | ⟨0, _⟩ => show win0_1.index t 0 * 512 + 1 * r.val = 512 * t.val + r.val; rw [(idx t).2.1.1]; omega
  | ⟨1, _⟩ => show win0_1.index t 1 * 1024 + 1 * l.val = l.val; rw [(idx t).2.1.2]; omega

theorem blk2 (c : Dev nD) (t : Fin cfg0.N) (k l : Fin 2048) :
    (iblk m c 2 t : Vec Ideal S2048x2048 .bf16) (ix2 k l) = A2 m c (ix2 k l) := by
  refine Eq.trans ?_ (V2 m c _)
  unfold iblk
  rw [View.read_apply]
  show V m c main_v2 _ = V m c main_v2 _
  congr 1; funext a; apply Fin.ext
  match a with
  | ⟨0, _⟩ => show win0_2.index t 0 * 2048 + 1 * k.val = k.val; rw [(idx t).2.2.1.1]; omega
  | ⟨1, _⟩ => show win0_2.index t 1 * 2048 + 1 * l.val = l.val; rw [(idx t).2.2.1.2]; omega

theorem blk3 (c : Dev nD) (t : Fin cfg0.N) (l : Fin 2048) :
    (iblk m c 3 t : Vec Ideal S1x2048 .f32) (ix2 0 l) = A3 m c (ix1 l) := by
  refine Eq.trans ?_ (V3 m c _)
  unfold iblk
  rw [View.read_apply]
  show V m c main_v3 _ = V m c main_v3 _
  congr 1; funext a; apply Fin.ext
  match a with
  | ⟨0, _⟩ => show win0_3.index t 0 * 1 + 1 * 0 = 0; rw [(idx t).2.2.2.1.1]
  | ⟨1, _⟩ => show win0_3.index t 1 * 2048 + 1 * l.val = l.val; rw [(idx t).2.2.2.1.2]; omega

theorem blk4 (c : Dev nD) (t : Fin cfg0.N) (r : Fin 512) (l : Fin 2048) :
    (iblk m c 4 t : Vec Ideal S512x2048 .f32) (ix2 r l) = A4 m c (ix2 (row t r) l) := by
  refine Eq.trans ?_ (V4 m c _)
  unfold iblk
  rw [View.read_apply]
  show V m c main_arg4 _ = V m c main_arg4 _
  congr 1; funext a; apply Fin.ext
  match a with
  | ⟨0, _⟩ => show win0_4.index t 0 * 512 + 1 * r.val = 512 * t.val + r.val; rw [(idx t).2.2.2.2.1.1]; omega
  | ⟨1, _⟩ => show win0_4.index t 1 * 2048 + 1 * l.val = l.val; rw [(idx t).2.2.2.2.1.2]; omega

/-! ## The whole result -/

/-- The reference's result from the arguments of device `c`. -/
def res (c : Dev nD) : Vec Ideal S32768x2048 .f32 :=
  OutProjRefIdeal.Read.val_main_v15 (F := Ideal) (A0 m c) (A1 m c) (A2 m c) (A3 m c) (A4 m c)

/-- What grid point `t` writes back is tile `t` of the reference's result. -/
theorem flushed_eq (c : Dev nD) (t : Fin cfg0.N) :
    (dats m 0 c).flushed 5 t = ((cfg0.win 5).blk t).view.read (Elt Ideal) (res m c) := by
  rw [Value.flushed5]
  funext y
  rw [View.read_apply]
  obtain ⟨r, l, rfl⟩ : ∃ (r : Fin 512) (l : Fin 2048), y = ix2 r l := ⟨y 0, y 1, eq_ix2 y⟩
  have e : ((cfg0.win 5).blk t).view.emb (ix2 r l) = (ix2 (row t r) l : S32768x2048.Idx) := by
    funext a; apply Fin.ext
    match a with
    | ⟨0, _⟩ => show win0_5.index t 0 * 512 + 1 * r.val = 512 * t.val + r.val; rw [(idx t).2.2.2.2.2.1]; omega
    | ⟨1, _⟩ => show win0_5.index t 1 * 2048 + 1 * l.val = l.val; rw [(idx t).2.2.2.2.2.2]; omega
  show out0_5 _ _ _ _ _ (ix2 r l) = res m c (((cfg0.win 5).blk t).view.emb (ix2 r l))
  rw [e, out_apply]
  unfold res
  rw [ref_apply]
  simp only [blk0, blk1, blk2, blk3, blk4]

/-- An index of the result is in tile `t` where its row is. -/
theorem mem_blk (t : Fin cfg0.N) (i : S32768x2048.Idx) :
    i ∈ ((cfg0.win 5).blk t).view.set ↔ t.val * 512 ≤ (i 0 : Nat) ∧ (i 0 : Nat) < t.val * 512 + 512 := by
  show i ∈ ((View.whole main_v4).slice (win0_5.rect t)).set ↔ _
  rw [View.set_slice_whole, Rect.mem_set_unit]
  have h1 : (i 1 : Nat) < 2048 := (i 1).isLt
  obtain ⟨e0, e1⟩ := (idx t).2.2.2.2.2
  refine ⟨fun h => ?_, fun h a => ?_⟩
  · have : win0_5.index t 0 * 512 ≤ (i 0 : Nat) ∧ (i 0 : Nat) < win0_5.index t 0 * 512 + 512 := h 0
    rw [e0] at this; exact this
  · match a with
    | ⟨0, _⟩ =>
      show win0_5.index t 0 * 512 ≤ (i 0 : Nat) ∧ (i 0 : Nat) < win0_5.index t 0 * 512 + 512
      rw [e0]; exact h
    | ⟨1, _⟩ =>
      show win0_5.index t 1 * 2048 ≤ (i 1 : Nat) ∧ (i 1 : Nat) < win0_5.index t 1 * 2048 + 2048
      rw [e1]; exact ⟨Nat.zero_le _, h1⟩

/-- Every index of the result is in some tile. -/
theorem cover (i : S32768x2048.Idx) : ∃ t : Fin cfg0.N, (cfg0.win 5).flush t = true ∧ i ∈ ((cfg0.win 5).blk t).view.set := by
  have h0 : (i 0 : Nat) < 32768 := (i 0).isLt
  have hN : cfg0.N = 64 := N_0
  have ht : (i 0 : Nat) / 512 < cfg0.N := by omega
  refine ⟨⟨(i 0 : Nat) / 512, ht⟩, flush0_5 _, ?_⟩
  rw [mem_blk]
  dsimp only
  omega

theorem final (c : Dev nD) : (dats m 0 c).arrAt 5 cfg0.N = res m c :=
  (dats m 0 c).arrAt_eq_of_cover 5 (res m c) (fun t _ => flushed_eq m c t) cover

end Cert.OutProjIdeal.Hand

namespace Cert.Proof

open Idealize.ShloMosaic Idealize.ShloMosaic.TcCoe Idealize.SL.Sem

/-- The kernel's result is the reference's, at every index, for every input. -/
theorem out_proj : Cert.algebraic_OutProjIdeal_OutProjRefIdeal := by
  intro m ρ m' ρ' _ hagree
  refine ⟨fun c => OutProjIdeal.Hand.res m c,
    (θ_run _ _ _).mono (fun _ h c => ⟨(h c).1.trans (OutProjIdeal.Hand.final m c), (h c).2⟩) (OutProjIdeal.Value.run_blocks (F := Ideal) m ρ),
    (θ_run _ _ _).mono (fun _ h c => ⟨?_, (h c).2⟩) (OutProjRefIdeal.Value.run (F := Ideal) m' ρ')⟩
  rw [(h c).1, OutProjRefIdeal.Read.val_main_v15_eq, (hagree c).1, (hagree c).2.1, (hagree c).2.2.1, (hagree c).2.2.2.1, (hagree c).2.2.2.2]
  rfl

end Cert.Proof

end
-- ==== Proof.Softmax.lean ====
module

public import proofs.«01_k».proof.Proof.Rows
public import Idealize.ShloMosaic.Lib.Pointwise

/-!
# One head's softmax attention over 256 memory slots, as a real number

`att c q k v` is one element of one head's output: the scores are the products of the query with the keys times the scale `c`, their
softmax (with the greatest score subtracted) weighs the values. `att_pre` says that scaling the query before the product changes
nothing, for a scale that is not negative and not infinite: that is how the kernel scales.
-/

@[expose] public section

noncomputable section

namespace Cert.Softmax

open Cert.Rows Idealize.ShloMosaic

/-- Minus infinity, the least score, which a maximum starts from. -/
def low : EReal := Ideal.ofBits .f32 0xFF800000#32

/-- Weights `exp (s - max s) / ∑ exp (s - max s)` of the scores `s`, summed against the values `v`. -/
def weigh (s v : Fin 256 → EReal) : EReal :=
  ∑ j, Ideal.div (Ideal.exp (s j - Finset.univ.fold max low s)) (∑ i, Ideal.exp (s i - Finset.univ.fold max low s)) * v j

/-- One element of one head: query `q`, keys `k`, the column `v` of the values, scale `c`. -/
def att (c : EReal) (q : Fin 128 → EReal) (k : Fin 256 → Fin 128 → EReal) (v : Fin 256 → EReal) : EReal :=
  weigh (fun j => (∑ d, q d * k j d) * c) v

/-- A finite factor that is not negative distributes over a sum of extended reals. -/
theorem sum_mul {ι : Type} (s : Finset ι) (f : ι → EReal) {c : EReal} (h0 : 0 ≤ c) (ht : c ≠ ⊤) : (∑ d ∈ s, f d) * c = ∑ d ∈ s, f d * c := by
  classical
  induction s using Finset.induction_on with
  | empty => simp
  | insert a s ha ih => rw [Finset.sum_insert ha, Finset.sum_insert ha, EReal.right_distrib_of_nonneg_of_ne_top h0 ht, ih]

/-- The scale `1/√128` as the programs hold it, an f32 number. -/
theorem scale_eq : Ideal.ofBits .f32 0x3DB504F3#32 = ((11863283 / 134217728 : ℝ) : EReal) := by
  simp [Ideal.ofBits, Ideal.ieee, -EReal.coe_mul]; norm_num

theorem scale_nonneg : 0 ≤ Ideal.ofBits .f32 0x3DB504F3#32 := by
  rw [scale_eq]; exact EReal.coe_nonneg.mpr (by norm_num)

theorem scale_ne_top : Ideal.ofBits .f32 0x3DB504F3#32 ≠ ⊤ := by
  rw [scale_eq]; exact EReal.coe_ne_top _

/-- Scaled queries give the scaled scores. -/
theorem att_pre (q : Fin 128 → EReal) (k : Fin 256 → Fin 128 → EReal) (v : Fin 256 → EReal) :
    weigh (fun j => ∑ d, q d * Ideal.ofBits .f32 0x3DB504F3#32 * k j d) v = att (Ideal.ofBits .f32 0x3DB504F3#32) q k v := by
  unfold att
  congr 1
  funext j
  rw [sum_mul _ _ scale_nonneg scale_ne_top]
  exact Finset.sum_congr rfl fun d _ => mul_right_comm _ _ _

/-- Element `e` of head `h`, from a row of 512 queries and keys of 512 columns, of which head `h` reads columns `128 h` and on, and the
    head's values. -/
def head (q : Fin 512 → EReal) (k : Fin 256 → Fin 512 → EReal) (v : Fin 4 → Fin 128 → Fin 256 → EReal) (h : Fin 4) (e : Fin 128) : EReal :=
  att (Ideal.ofBits .f32 0x3DB504F3#32) (fun d => q ⟨h.val * 128 + d.val, by omega⟩) (fun j d => k j ⟨h.val * 128 + d.val, by omega⟩) (v h e)

/-- The four heads' outputs side by side. -/
def heads (q : Fin 512 → EReal) (k : Fin 256 → Fin 512 → EReal) (v : Fin 4 → Fin 128 → Fin 256 → EReal) (l : Fin 512) : EReal :=
  head q k v ⟨l.val / 128, by omega⟩ ⟨l.val % 128, Nat.mod_lt _ (by decide)⟩

/-- Column `128 h + e` is element `e` of head `h`. -/
theorem heads_at (q : Fin 512 → EReal) (k : Fin 256 → Fin 512 → EReal) (v : Fin 4 → Fin 128 → Fin 256 → EReal) (l : Fin 512) (h : Fin 4)
    (e : Fin 128) (hl : l.val = h.val * 128 + e.val) : heads q k v l = head q k v h e := by
  unfold heads
  congr 1 <;> apply Fin.ext <;> dsimp only <;> omega

/-- A row of queries, before the scale. -/
def query (x g : Fin 2048 → EReal) (w : Fin 2048 → Fin 512 → EReal) (d : Fin 512) : EReal := ∑ k, rms x g k * w k d

/-- One row of the result: the row `x`, plus the normalised projection of its attention over the memory. -/
def memRow (x g : Fin 2048 → EReal) (wq : Fin 2048 → Fin 512 → EReal) (k : Fin 256 → Fin 512 → EReal) (v : Fin 4 → Fin 128 → Fin 256 → EReal)
    (wo : Fin 512 → Fin 2048 → EReal) (g' : Fin 2048 → EReal) (l : Fin 2048) : EReal :=
  x l + rms (fun l => ∑ i, heads (query x g wq) k v i * wo i l) g' l

/-- The greatest score does not change when minus infinity is compared once more. -/
theorem max_fold (s : Fin 256 → EReal) : max low (Finset.univ.fold max low s) = Finset.univ.fold max low s :=
  max_eq_right (Finset.le_fold_max _ |>.mpr (Or.inl le_rfl))

end Cert.Softmax

end
-- ==== Proof.MemTile.lean ====
module

public import proofs.«01_k».proof.Defs
public import proofs.«01_k».proof.Proof.Rows
public import proofs.«01_k».proof.Proof.Softmax
public import proofs.«01_k».proof.Proof.Gen.MemAttnIdeal.Value
public import Idealize.ShloMosaic.Lib.Pipeline.Value
public import Idealize.ShloMosaic.Lib.Pointwise

/-!
# What one grid point of the memory attention computes

A grid point takes 1024 rows, in two halves of 512. Each row is normalised, projected to four heads of 128 queries, attends over 256
memory slots and is projected back, normalised and added to the row: `memRow`. The kernel scales the queries, `memRow` the scores.
-/

@[expose] public section

set_option maxRecDepth 16384

noncomputable section

namespace Cert.MemAttnIdeal.Hand

open Cert.MemAttnIdeal Cert.MemAttnIdeal.Gen Cert.Rows Cert.Softmax Idealize.ShloMosaic Idealize.ShloMosaic.TcCoe Idealize.SL.Sem

/-- The keys are the first 512 columns of the block, the values the last 512. -/
def keys (kv : Vec Ideal S256x1024 .bf16) (j : Fin 256) (d : Fin 512) : EReal := kv (ix2 j ⟨d.val, by omega⟩)
def vals (kv : Vec Ideal S256x1024 .bf16) (h : Fin 4) (e : Fin 128) (j : Fin 256) : EReal := kv (ix2 j ⟨512 + h.val * 128 + e.val, by omega⟩)

abbrev κ : EReal := Ideal.ofBits .f32 0x3DB504F3#32

theorem pay6_apply (v1 : FVec Ideal S256x1024 .bf16) (v24 : FVec Ideal S512x512 .bf16) (v39 : FVec Ideal S512x128 .f32) (r : Fin 512)
    (q : Fin 512 → EReal) (hq : ∀ d, v24 (ix2 r d) = q d * κ) (h0 : ∀ e, v39 (ix2 r e) = head q (keys v1) (vals v1) 0 e)
    (l : Fin 512) : k0_pay6 v1 v24 v39 (ix2 r l) = heads q (keys v1) (vals v1) l := by
  pointwise [k0_pay6]
  simp only [hq]
  rcases (by omega : l.val < 128 ∨ (128 ≤ l.val ∧ l.val < 256) ∨ (256 ≤ l.val ∧ l.val < 384) ∨ 384 ≤ l.val) with h | h | h | h
  · rw [dif_pos h, h0, heads_at q _ _ l 0 ⟨l.val, h⟩ (by show l.val = 0 * 128 + l.val; omega)]
  · rw [dif_neg (by omega), dif_pos (by omega), heads_at q _ _ l 1 ⟨l.val - 128, by omega⟩ (by show l.val = 1 * 128 + (l.val - 128); omega)]
    unfold head; rw [← att_pre]; rfl
  · rw [dif_neg (by omega), dif_neg (by omega), dif_pos (by omega), heads_at q _ _ l 2 ⟨l.val - 128 - 128, by omega⟩ (by show l.val = 2 * 128 + (l.val - 128 - 128); omega)]
    unfold head; rw [← att_pre]; rfl
  · rw [dif_neg (by omega), dif_neg (by omega), dif_neg (by omega), heads_at q _ _ l 3 ⟨l.val - 128 - 128 - 128, by omega⟩ (by show l.val = 3 * 128 + (l.val - 128 - 128 - 128); omega)]
    unfold head; rw [← att_pre]; rfl

theorem pay4_apply (v2 : Vec Ideal S512x2048 .f32) (v4 : Vec Ideal S1x2048 .f32) (v19 : Vec Ideal S2048x512 .bf16) (r d : Fin 512) :
    k0_pay4 v2 v4 v19 (ix2 r d) = query (fun l => v2 (ix2 r l)) (fun l => v4 (ix2 0 l)) (fun k d => v19 (ix2 k d)) d * κ := by
  pointwise [k0_pay4, k0_pay3]; rfl
theorem pay10_apply (v2 : Vec Ideal S512x2048 .f32) (v4 : Vec Ideal S1x2048 .f32) (v19 : Vec Ideal S2048x512 .bf16) (r d : Fin 512) :
    k0_pay10 (k0_pay9 v2 v4 v19) κ (ix2 r d) = query (fun l => v2 (ix2 r l)) (fun l => v4 (ix2 0 l)) (fun k d => v19 (ix2 k d)) d * κ := by
  pointwise [k0_pay10, k0_pay9, k0_pay8]; rfl

theorem pay5_apply (v0 : Vec Ideal S1x256x1024 .bf16) (v2 : Vec Ideal S512x2048 .f32) (v4 : Vec Ideal S1x2048 .f32) (v19 : Vec Ideal S2048x512 .bf16) (r : Fin 512)
    (q : Fin 512 → EReal) (hq : ∀ d, k0_pay4 v2 v4 v19 (ix2 r d) = q d * κ) (e : Fin 128) :
    k0_pay5 v0 v2 v4 v19 (ix2 r e) = head q (keys (k0_pay2 v0)) (vals (k0_pay2 v0)) 0 e := by
  pointwise [k0_pay5]
  simp only [hq]
  unfold head; rw [← att_pre]
  rfl
theorem pay11_apply (v1 : FVec Ideal S256x1024 .bf16) (v125 : FVec Ideal S512x512 .f32) (r : Fin 512)
    (q : Fin 512 → EReal) (hq : ∀ d, k0_pay10 v125 κ (ix2 r d) = q d * κ) (e : Fin 128) :
    k0_pay11 v1 v125 κ (ix2 r e) = head q (keys v1) (vals v1) 0 e := by
  pointwise [k0_pay11]
  simp only [hq]
  unfold head; rw [← att_pre]
  rfl
theorem pay12_apply (v1 : FVec Ideal S256x1024 .bf16) (v125 : FVec Ideal S512x512 .f32) (r : Fin 512)
    (q : Fin 512 → EReal) (hq : ∀ d, k0_pay10 v125 κ (ix2 r d) = q d * κ) (e : Fin 128) :
    k0_pay12 v1 v125 κ (ix2 r e) = head q (keys v1) (vals v1) 1 e := by
  pointwise [k0_pay12]
  simp only [hq]
  unfold head; rw [← att_pre]
  rfl
theorem pay13_apply (v1 : FVec Ideal S256x1024 .bf16) (v125 : FVec Ideal S512x512 .f32) (r : Fin 512)
    (q : Fin 512 → EReal) (hq : ∀ d, k0_pay10 v125 κ (ix2 r d) = q d * κ) (e : Fin 128) :
    k0_pay13 v1 v125 κ (ix2 r e) = head q (keys v1) (vals v1) 2 e := by
  pointwise [k0_pay13]
  simp only [hq]
  unfold head; rw [← att_pre]
  rfl

theorem pay7_apply (v3 : FVec Ideal S512x2048 .f32) (v86 : FVec Ideal S512x512 .bf16) (v87 : Vec Ideal S512x2048 .bf16)
    (v90 : Vec Ideal S1x2048 .f32) (r : Fin 512) (l : Fin 2048) : k0_pay7 v3 v86 v87 v90 (ix2 r l)
      = v3 (ix2 r l) + rms (fun l => ∑ i, v86 (ix2 r i) * v87 (ix2 i l)) (fun l => v90 (ix2 0 l)) l := by
  pointwise [k0_pay7]; rfl

/-- The second half's store, whose heads are bound one by one, is the first half's function of the second half's rows. -/
theorem pay1_eq (v1 : FVec Ideal S256x1024 .bf16) (v107 : FVec Ideal S512x2048 .f32) (v125 : FVec Ideal S512x512 .f32)
    (v191 : Vec Ideal S512x2048 .bf16) (v194 : Vec Ideal S1x2048 .f32) :
    k0_pay1 v1 v107 (k0_pay10 v125 κ) (k0_pay11 v1 v125 κ) (k0_pay12 v1 v125 κ) (k0_pay13 v1 v125 κ) v191 v194
      = k0_pay7 v107 (k0_pay6 v1 (k0_pay10 v125 κ) (k0_pay11 v1 v125 κ)) v191 v194 := rfl

theorem pay2_apply (v0 : Vec Ideal S1x256x1024 .bf16) (j : Fin 256) (e : Fin 1024) : k0_pay2 v0 (ix2 j e) = v0 (ix3 0 j e) := by
  pointwise [k0_pay2]

theorem first_apply (x0 : Vec Ideal S512x2048 .f32) (x1 : Vec Ideal S1x2048 .f32) (x2 : Vec Ideal S2048x512 .bf16)
    (x3 : Vec Ideal S1x256x1024 .bf16) (x4 : Vec Ideal S512x2048 .bf16) (x5 : Vec Ideal S1x2048 .f32) (r : Fin 512) (l : Fin 2048) :
    k0_pay7 (k0_pay3 x0) (k0_pay6 (k0_pay2 x3) (k0_pay4 x0 x1 x2) (k0_pay5 x3 x0 x1 x2)) x4 x5 (ix2 r l)
      = memRow (fun l => x0 (ix2 r l)) (fun l => x1 (ix2 0 l)) (fun k d => x2 (ix2 k d)) (keys (k0_pay2 x3)) (vals (k0_pay2 x3))
          (fun i l => x4 (ix2 i l)) (fun l => x5 (ix2 0 l)) l := by
  rw [pay7_apply]
  simp only [pay6_apply _ _ _ r _ (pay4_apply x0 x1 x2 r) (pay5_apply x3 x0 x1 x2 r _ (pay4_apply x0 x1 x2 r))]
  unfold memRow
  congr 1
  pointwise [k0_pay3]

theorem second_apply (x0 : Vec Ideal S512x2048 .f32) (x1 : Vec Ideal S1x2048 .f32) (x2 : Vec Ideal S2048x512 .bf16)
    (x3 : FVec Ideal S256x1024 .bf16) (x4 : Vec Ideal S512x2048 .bf16) (x5 : Vec Ideal S1x2048 .f32) (r : Fin 512) (l : Fin 2048) :
    k0_pay1 x3 (k0_pay8 x0) (k0_pay10 (k0_pay9 x0 x1 x2) κ) (k0_pay11 x3 (k0_pay9 x0 x1 x2) κ) (k0_pay12 x3 (k0_pay9 x0 x1 x2) κ)
        (k0_pay13 x3 (k0_pay9 x0 x1 x2) κ) x4 x5 (ix2 r l)
      = memRow (fun l => x0 (ix2 r l)) (fun l => x1 (ix2 0 l)) (fun k d => x2 (ix2 k d)) (keys x3) (vals x3)
          (fun i l => x4 (ix2 i l)) (fun l => x5 (ix2 0 l)) l := by
  rw [pay1_eq, pay7_apply]
  simp only [pay6_apply _ _ _ r _ (pay10_apply x0 x1 x2 r) (pay11_apply x3 _ r _ (pay10_apply x0 x1 x2 r))]
  unfold memRow
  congr 1
  pointwise [k0_pay8]

/-- The rows of the first and of the second half, as the tile's; the other blocks are loaded whole. -/
theorem ld_first (x : Vec Ideal S1024x2048 .f32) (r : Fin 512) (l : Fin 2048) : View.ld x r0_1 (ix2 r l) = x (ix2 ⟨0 + r.val, by omega⟩ l) :=
  congrArg x (emb_rows _ r l)
theorem ld_second (x : Vec Ideal S1024x2048 .f32) (r : Fin 512) (l : Fin 2048) : View.ld x r0_5 (ix2 r l) = x (ix2 ⟨512 + r.val, by omega⟩ l) :=
  congrArg x (emb_rows _ r l)
theorem ld_gain (x : Vec Ideal S1x2048 .f32) : View.ld x r0_2 = x := View.ld_unit_zero off0 _ _
theorem ld_wq (x : Vec Ideal S2048x512 .bf16) : View.ld x r0_3 = x := View.ld_unit_zero off0 _ _
theorem ld_wo (x : Vec Ideal S512x2048 .bf16) : View.ld x r0_4 = x := View.ld_unit_zero off0 _ _
theorem ld_kv (x : Vec Ideal S1x256x1024 .bf16) : View.ld x r0_0 = x := View.ld_unit_zero (funext fun a => by fin_cases a <;> rfl) _ _

/-- The keys and the values, as the block of the memory holds them. -/
theorem keys_block (x : Vec Ideal S1x256x1024 .bf16) : keys (k0_pay2 x) = fun j d => x (ix3 0 j ⟨d.val, by omega⟩) :=
  funext fun j => funext fun _ => pay2_apply x j _
theorem vals_block (x : Vec Ideal S1x256x1024 .bf16) :
    vals (k0_pay2 x) = fun h e j => x (ix3 0 j ⟨512 + h.val * 128 + e.val, by omega⟩) :=
  funext fun _ => funext fun _ => funext fun j => pay2_apply x j _

/-- The tile a grid point leaves, at row `r` and column `l`, from the blocks it loads. -/
theorem out_apply (b0 : Vec Ideal S1024x2048 .f32) (b1 : Vec Ideal S1x2048 .f32) (b2 : Vec Ideal S2048x512 .bf16)
    (b3 : Vec Ideal S1x256x1024 .bf16) (b4 : Vec Ideal S512x2048 .bf16) (b5 : Vec Ideal S1x2048 .f32) (r : Fin 1024) (l : Fin 2048) :
    out0_6 b0 b1 b2 b3 b4 b5 (ix2 r l)
      = memRow (fun l => b0 (ix2 r l)) (fun l => b1 (ix2 0 l)) (fun k d => b2 (ix2 k d))
          (fun j d => b3 (ix3 0 j ⟨d.val, by omega⟩)) (fun h e j => b3 (ix3 0 j ⟨512 + h.val * 128 + e.val, by omega⟩))
          (fun i l => b4 (ix2 i l)) (fun l => b5 (ix2 0 l)) l := by
  unfold_out out0_6
  refine (View.canon_apply_of_pieces (fun y : S1024x2048.Idx => memRow (fun l => b0 (ix2 (y 0) l)) (fun l => b1 (ix2 0 l)) (fun k d => b2 (ix2 k d))
          (fun j d => b3 (ix3 0 j ⟨d.val, by omega⟩)) (fun h e j => b3 (ix3 0 j ⟨512 + h.val * 128 + e.val, by omega⟩))
          (fun i l => b4 (ix2 i l)) (fun l => b5 (ix2 0 l)) (y 1)) _ ?_ _ (cover0_6 _ _ _)).trans ?_
  · simp only [List.forall_mem_cons, ld_gain, ld_wq, ld_wo, ld_kv]
    refine ⟨fun x => ?_, fun x => ?_, fun p hp => absurd hp List.not_mem_nil⟩
    · idx_vars x
      erw [emb_rows]
      refine (second_apply _ _ _ _ _ _ _ _).trans ?_
      rw [keys_block, vals_block, funext (ld_second b0 x0)]
      rfl
    · idx_vars x
      erw [emb_rows]
      refine (first_apply _ _ _ _ _ _ _ _).trans ?_
      rw [keys_block, vals_block, funext (ld_first b0 x0)]
      rfl
  · rfl

end Cert.MemAttnIdeal.Hand

end
-- ==== Proof.MemRef.lean ====
module

public import proofs.«01_k».proof.Defs
public import proofs.«01_k».proof.Proof.Rows
public import proofs.«01_k».proof.Proof.Softmax
public import proofs.«01_k».proof.Proof.Gen.MemAttnRefIdeal.Read
public import Idealize.ShloMosaic.Lib.Pointwise

/-!
# What the memory attention's reference computes

The reference, read at an index stage by stage: queries, scaled scores, their maximum, the softmax weights, the heads, the projection
with its norm and residual.
-/

@[expose] public section

set_option maxRecDepth 16384

noncomputable section

namespace Cert.MemAttnRefIdeal.Hand

open Cert.MemAttnRefIdeal Cert.MemAttnRefIdeal.Gen Cert.MemAttnRefIdeal.Read Cert.Rows Cert.Softmax Idealize.ShloMosaic Idealize.ShloMosaic.TcCoe

/-- A host maximum over the last of four axes, at an index. -/
theorem max_last {A B C D : Nat} (v : FVec Ideal ⟨4, ![A, B, C, D]⟩ .f32) (c : FVec Ideal S_ .f32)
    (h : (⟨4, ![A, B, C, D]⟩ : Shape).ReducesTo [3] ⟨3, ![A, B, C]⟩) (hu : 0 < S_.numel) (b : Fin A) (n : Fin B) (s : Fin C) :
    Host.reduce FloatOps.maximumf v c h hu (ix3 b n s) = Finset.univ.fold max (c (Shape.Idx.first hu)) fun k => v (ix4 b n s k) := by
  simp only [pointwise]

variable (x0 : (⟨S2x16384x2048, .f32⟩ : BufTy).Contents (Elt Ideal)) (x1 x2 : (⟨S2x256x512, .f32⟩ : BufTy).Contents (Elt Ideal))
  (x3 : (⟨S2048, .f32⟩ : BufTy).Contents (Elt Ideal)) (x4 : (⟨S2048x512, .f32⟩ : BufTy).Contents (Elt Ideal))
  (x5 : (⟨S512x2048, .f32⟩ : BufTy).Contents (Elt Ideal)) (x6 : (⟨S2048, .f32⟩ : BufTy).Contents (Elt Ideal)) (b : Fin 2) (s : Fin 16384)

abbrev Q (d : Fin 512) : EReal := query (fun l => x0 (ix3 b s l)) (fun l => x3 (ix1 l)) (fun k d => x4 (ix2 k d)) d
abbrev K (j : Fin 256) (d : Fin 512) : EReal := x1 (ix3 b j d)
abbrev W (h : Fin 4) (e : Fin 128) (j : Fin 256) : EReal := x2 (ix3 b j ⟨h.val * 128 + e.val, by omega⟩)
/-- The scores of head `h`. -/
def sc (h : Fin 4) (j : Fin 256) : EReal :=
  (∑ d : Fin 128, Q x0 x3 x4 b s ⟨h.val * 128 + d.val, by omega⟩ * K x1 b j ⟨h.val * 128 + d.val, by omega⟩) * Ideal.ofBits .f32 0x3DB504F3#32

theorem q_apply (d : Fin 512) : val_main_v13 (F := Ideal) x0 x3 x4 (ix3 b s d) = Q x0 x3 x4 b s d := by
  pointwise [val_main_v13, val_main_v12, val_main_v11, val_main_v10, val_main_v9, val_main_v8, val_main_v7, val_main_v6, val_main_v5,
    val_main_v4, val_main_v3, val_main_v2, val_main_v1, val_main_v0, val_main_cst, val_main_cst_0, val_main_cst_1]
  rfl

theorem s_apply (h : Fin 4) (j : Fin 256) : val_main_v19 (F := Ideal) x0 x1 x3 x4 (ix4 b h s j) = sc x0 x1 x3 x4 b s h j := by
  pointwise [val_main_v19, val_main_v18, val_main_v17, val_main_v15, val_main_v14, val_main_cst_2]
  simp only [q_apply]
  rfl

theorem m_apply (h : Fin 4) : val_main_v22 (F := Ideal) x0 x1 x3 x4 (ix3 b h s) = Finset.univ.fold max low (sc x0 x1 x3 x4 b s h) := by
  rw [val_main_v22_apply, val_main_v21_apply]
  unfold val_main_v20
  rw [max_last]
  simp only [s_apply]
  exact max_fold _

theorem e_apply (h : Fin 4) (j : Fin 256) : val_main_v26 (F := Ideal) x0 x1 x3 x4 (ix4 b h s j)
    = Ideal.exp (sc x0 x1 x3 x4 b s h j - Finset.univ.fold max low (sc x0 x1 x3 x4 b s h)) := by
  pointwise [val_main_v26, val_main_v25, val_main_v24, val_main_v23]
  rw [s_apply, m_apply]

theorem p_apply (h : Fin 4) (j : Fin 256) : val_main_v30 (F := Ideal) x0 x1 x3 x4 (ix4 b h s j)
    = Ideal.div (Ideal.exp (sc x0 x1 x3 x4 b s h j - Finset.univ.fold max low (sc x0 x1 x3 x4 b s h)))
        (∑ i, Ideal.exp (sc x0 x1 x3 x4 b s h i - Finset.univ.fold max low (sc x0 x1 x3 x4 b s h))) := by
  pointwise [val_main_v30, val_main_v29, val_main_v28, val_main_v27, val_main_cst_5]
  simp only [e_apply]

theorem o_apply (l : Fin 512) : val_main_v33 (F := Ideal) x0 x1 x2 x3 x4 (ix3 b s l) = heads (Q x0 x3 x4 b s) (K x1 b) (W x2 b) l := by
  pointwise [val_main_v33, val_main_v32, val_main_v31, val_main_v16]
  simp only [p_apply]
  unfold heads head att weigh
  refine Finset.sum_congr rfl fun j _ => (mul_comm _ _).trans ?_
  have e : (⟨l.val / 128 * 128 + l.val % 128, by omega⟩ : Fin 512) = l := Fin.ext (Nat.div_add_mod' _ _)
  show _ = _ * x2 (ix3 b j ⟨l.val / 128 * 128 + l.val % 128, _⟩)
  rw [e]
  rfl

theorem row_apply (l : Fin 2048) : val_main_v48 (F := Ideal) x0 x1 x2 x3 x4 x5 x6 (ix3 b s l)
    = memRow (fun l => x0 (ix3 b s l)) (fun l => x3 (ix1 l)) (fun k d => x4 (ix2 k d)) (K x1 b) (W x2 b) (fun i l => x5 (ix2 i l))
        (fun l => x6 (ix1 l)) l := by
  pointwise [val_main_v48, val_main_v47, val_main_v46, val_main_v45, val_main_v44, val_main_v43, val_main_v42, val_main_v41, val_main_v40,
    val_main_v39, val_main_v38, val_main_v37, val_main_v36, val_main_v35, val_main_v34, val_main_cst_6, val_main_cst_7, val_main_cst_8]
  simp only [o_apply]
  rfl

/-- Row `16384 b + s` of the result is row `s` of batch `b`. -/
theorem ref_apply (R : Fin 32768) (l : Fin 2048) (hR : R.val = b.val * 16384 + s.val) :
    val_main_v49 (F := Ideal) x0 x1 x2 x3 x4 x5 x6 (ix2 R l)
    = memRow (fun l => x0 (ix3 b s l)) (fun l => x3 (ix1 l)) (fun k d => x4 (ix2 k d)) (K x1 b) (W x2 b) (fun i l => x5 (ix2 i l))
        (fun l => x6 (ix1 l)) l := by
  rw [val_main_v49_apply]
  refine Eq.trans (congrArg _ ?_) (row_apply x0 x1 x2 x3 x4 x5 x6 b s l)
  funext a; apply Fin.ext
  match a with
  | ⟨0, _⟩ => show (R.val * 2048 + l.val) / 33554432 = b.val; omega
  | ⟨1, _⟩ => show (R.val * 2048 + l.val) / 2048 % 16384 = s.val; omega
  | ⟨2, _⟩ => show (R.val * 2048 + l.val) % 2048 = l.val; omega

end Cert.MemAttnRefIdeal.Hand

end
-- ==== Proof.MemAttn.lean ====
module

public import proofs.«01_k».proof.Defs
public import proofs.«01_k».proof.Proof.MemTile
public import proofs.«01_k».proof.Proof.MemRef
public import Idealize.ShloMosaic.Lib.StableHlo.ReadAt

/-!
# The memory attention: `x + rms_norm(attention(rms_norm(x) @ w_q, mem_k, mem_v) @ w_o)`

The grid runs over tiles of 1024 rows, sixteen to a batch; a tile reads its batch's keys and values, which the host lays side by side.
`MemTile` says what a tile is and `MemRef` what the reference is; here the tiles are put together.
-/

@[expose] public section

set_option maxRecDepth 16384

noncomputable section

namespace Cert.MemAttnIdeal.Hand

open Cert.MemAttnIdeal Cert.MemAttnIdeal.Gen Cert.Rows Cert.Softmax Idealize.ShloMosaic Idealize.ShloMosaic.TcCoe Idealize.SL.Sem
open Idealize.ShloMosaic.Pipeline (Dat)

variable (m : (ℓ : Loc nD τ sig) → Buf (Elt Ideal) ℓ)

/-! ## The arguments, and what the kernel's windows read of them -/

abbrev A0 (c : Dev nD) : Vec Ideal S2x16384x2048 .f32 := m ((c : Thread nD τ).loc main_arg0)
abbrev A1 (c : Dev nD) : Vec Ideal S2x256x512 .f32 := m ((c : Thread nD τ).loc main_arg1)
abbrev A2 (c : Dev nD) : Vec Ideal S2x256x512 .f32 := m ((c : Thread nD τ).loc main_arg2)
abbrev A3 (c : Dev nD) : Vec Ideal S2048 .f32 := m ((c : Thread nD τ).loc main_arg3)
abbrev A4 (c : Dev nD) : Vec Ideal S2048x512 .f32 := m ((c : Thread nD τ).loc main_arg4)
abbrev A5 (c : Dev nD) : Vec Ideal S512x2048 .f32 := m ((c : Thread nD τ).loc main_arg5)
abbrev A6 (c : Dev nD) : Vec Ideal S2048 .f32 := m ((c : Thread nD τ).loc main_arg6)

/-- The keys are the first 512 columns of the memory the kernel reads. -/
theorem V1k (c : Dev nD) (b : Fin 2) (j : Fin 256) (d : Fin 1024) (h : d.val < 512) :
    (V m c main_v1 : Vec Ideal S2x256x1024 .bf16) (ix3 b j d) = A1 m c (ix3 b j ⟨d.val, h⟩) := by
  unfold V; after_reads_at
  rw [dif_pos h]
  after_reads_at
/-- The values are the last 512. -/
theorem V1v (c : Dev nD) (b : Fin 2) (j : Fin 256) (d : Fin 1024) (h : ¬ d.val < 512) :
    (V m c main_v1 : Vec Ideal S2x256x1024 .bf16) (ix3 b j d) = A2 m c (ix3 b j ⟨d.val - 512, by omega⟩) := by
  unfold V; after_reads_at
  rw [dif_neg h]
  after_reads_at
theorem V2 (c : Dev nD) (b : Fin 2) (s : Fin 16384) (R : Fin 32768) (hR : R.val = b.val * 16384 + s.val) (l : Fin 2048) :
    (V m c main_v2 : Vec Ideal S32768x2048 .f32) (ix2 R l) = A0 m c (ix3 b s l) := by
  unfold V; after_reads_at
  have eb : (⟨R.val / 16384, by omega⟩ : Fin 2) = b := Fin.ext (by dsimp only; omega)
  have es : (⟨R.val % 16384, Nat.mod_lt _ (by decide)⟩ : Fin 16384) = s := Fin.ext (by dsimp only; omega)
  rw [eb, es]
theorem V3 (c : Dev nD) (j : S2048x512.Idx) : (V m c main_v3 : Vec Ideal S2048x512 .bf16) j = A4 m c j := by
  unfold V; after_reads_at
theorem V4 (c : Dev nD) (j : S512x2048.Idx) : (V m c main_v4 : Vec Ideal S512x2048 .bf16) j = A5 m c j := by
  unfold V; after_reads_at
theorem V5 (c : Dev nD) (l : Fin 2048) : (V m c main_v5 : Vec Ideal S1x2048 .f32) (ix2 0 l) = A3 m c (ix1 l) := by
  unfold V; after_reads_at
theorem V6 (c : Dev nD) (l : Fin 2048) : (V m c main_v6 : Vec Ideal S1x2048 .f32) (ix2 0 l) = A6 m c (ix1 l) := by
  unfold V; after_reads_at

/-- Row `r` of tile `t` is row `1024 t + r` of the array: row `1024 (t % 16) + r` of batch `t / 16`. -/
def row (t : Fin cfg0.N) (r : Fin 1024) : Fin 32768 := ⟨1024 * t.val + r.val, by have := t.isLt; have : cfg0.N = 32 := N_0; omega⟩
def bat (t : Fin cfg0.N) : Fin 2 := ⟨t.val / 16, by have := t.isLt; have : cfg0.N = 32 := N_0; omega⟩
def sub (t : Fin cfg0.N) (r : Fin 1024) : Fin 16384 := ⟨1024 * (t.val % 16) + r.val, by omega⟩
theorem row_eq (t : Fin cfg0.N) (r : Fin 1024) : (row t r).val = (bat t).val * 16384 + (sub t r).val := by
  show 1024 * t.val + r.val = t.val / 16 * 16384 + (1024 * (t.val % 16) + r.val); omega

/-- The index maps of the windows, decided over the grid: tiles of rows for the input and the result, one batch of the memory, the
    whole array for the weights and the gains. -/
theorem idx : ∀ t : Fin grid0.N, (win0_0.index t 0 = t.val ∧ win0_0.index t 1 = 0) ∧ (win0_1.index t 0 = 0 ∧ win0_1.index t 1 = 0)
    ∧ (win0_2.index t 0 = 0 ∧ win0_2.index t 1 = 0) ∧ (win0_3.index t 0 = t.val / 16 ∧ win0_3.index t 1 = 0 ∧ win0_3.index t 2 = 0)
    ∧ (win0_4.index t 0 = 0 ∧ win0_4.index t 1 = 0) ∧ (win0_5.index t 0 = 0 ∧ win0_5.index t 1 = 0)
    ∧ (win0_6.index t 0 = t.val ∧ win0_6.index t 1 = 0) := by decide +kernel

theorem blk0 (c : Dev nD) (t : Fin cfg0.N) (r : Fin 1024) (l : Fin 2048) :
    (iblk m c 0 t : Vec Ideal S1024x2048 .f32) (ix2 r l) = A0 m c (ix3 (bat t) (sub t r) l) := by
  refine Eq.trans ?_ (V2 m c _ _ (row t r) (row_eq t r) _)
  unfold iblk
  rw [View.read_apply]
  show V m c main_v2 _ = V m c main_v2 _
  congr 1; funext a; apply Fin.ext
  match a with
  | ⟨0, _⟩ => show win0_0.index t 0 * 1024 + 1 * r.val = 1024 * t.val + r.val; rw [(idx t).1.1]; omega
  | ⟨1, _⟩ => show win0_0.index t 1 * 2048 + 1 * l.val = l.val; rw [(idx t).1.2]; omega

theorem blk1 (c : Dev nD) (t : Fin cfg0.N) (l : Fin 2048) : (iblk m c 1 t : Vec Ideal S1x2048 .f32) (ix2 0 l) = A3 m c (ix1 l) := by
  refine Eq.trans ?_ (V5 m c _)
  unfold iblk
  rw [View.read_apply]
  show V m c main_v5 _ = V m c main_v5 _
  congr 1; funext a; apply Fin.ext
  match a with
  | ⟨0, _⟩ => show win0_1.index t 0 * 1 + 1 * 0 = 0; rw [(idx t).2.1.1]
  | ⟨1, _⟩ => show win0_1.index t 1 * 2048 + 1 * l.val = l.val; rw [(idx t).2.1.2]; omega

theorem blk2 (c : Dev nD) (t : Fin cfg0.N) (k : Fin 2048) (d : Fin 512) :
    (iblk m c 2 t : Vec Ideal S2048x512 .bf16) (ix2 k d) = A4 m c (ix2 k d) := by
  refine Eq.trans ?_ (V3 m c _)
  unfold iblk
  rw [View.read_apply]
  show V m c main_v3 _ = V m c main_v3 _
  congr 1; funext a; apply Fin.ext
  match a with
  | ⟨0, _⟩ => show win0_2.index t 0 * 2048 + 1 * k.val = k.val; rw [(idx t).2.2.1.1]; omega
  | ⟨1, _⟩ => show win0_2.index t 1 * 512 + 1 * d.val = d.val; rw [(idx t).2.2.1.2]; omega

theorem blk3 (c : Dev nD) (t : Fin cfg0.N) (j : Fin 256) (d : Fin 1024) :
    (iblk m c 3 t : Vec Ideal S1x256x1024 .bf16) (ix3 0 j d) = (V m c main_v1 : Vec Ideal S2x256x1024 .bf16) (ix3 (bat t) j d) := by
  unfold iblk
  rw [View.read_apply]
  show V m c main_v1 _ = V m c main_v1 _
  congr 1; funext a; apply Fin.ext
  match a with
  | ⟨0, _⟩ => show win0_3.index t 0 * 1 + 1 * 0 = t.val / 16; rw [(idx t).2.2.2.1.1]; omega
  | ⟨1, _⟩ => show win0_3.index t 1 * 256 + 1 * j.val = j.val; rw [(idx t).2.2.2.1.2.1]; omega
  | ⟨2, _⟩ => show win0_3.index t 2 * 1024 + 1 * d.val = d.val; rw [(idx t).2.2.2.1.2.2]; omega

theorem blk4 (c : Dev nD) (t : Fin cfg0.N) (k : Fin 512) (l : Fin 2048) :
    (iblk m c 4 t : Vec Ideal S512x2048 .bf16) (ix2 k l) = A5 m c (ix2 k l) := by
  refine Eq.trans ?_ (V4 m c _)
  unfold iblk
  rw [View.read_apply]
  show V m c main_v4 _ = V m c main_v4 _
  congr 1; funext a; apply Fin.ext
  match a with
  | ⟨0, _⟩ => show win0_4.index t 0 * 512 + 1 * k.val = k.val; rw [(idx t).2.2.2.2.1.1]; omega
  | ⟨1, _⟩ => show win0_4.index t 1 * 2048 + 1 * l.val = l.val; rw [(idx t).2.2.2.2.1.2]; omega

theorem blk5 (c : Dev nD) (t : Fin cfg0.N) (l : Fin 2048) : (iblk m c 5 t : Vec Ideal S1x2048 .f32) (ix2 0 l) = A6 m c (ix1 l) := by
  refine Eq.trans ?_ (V6 m c _)
  unfold iblk
  rw [View.read_apply]
  show V m c main_v6 _ = V m c main_v6 _
  congr 1; funext a; apply Fin.ext
  match a with
  | ⟨0, _⟩ => show win0_5.index t 0 * 1 + 1 * 0 = 0; rw [(idx t).2.2.2.2.2.1.1]
  | ⟨1, _⟩ => show win0_5.index t 1 * 2048 + 1 * l.val = l.val; rw [(idx t).2.2.2.2.2.1.2]; omega

theorem blk_keys (c : Dev nD) (t : Fin cfg0.N) (j : Fin 256) (d : Fin 512) :
    (iblk m c 3 t : Vec Ideal S1x256x1024 .bf16) (ix3 0 j ⟨d.val, by omega⟩) = A1 m c (ix3 (bat t) j d) :=
  (blk3 m c t j _).trans (V1k m c _ j _ d.isLt)

theorem blk_vals (c : Dev nD) (t : Fin cfg0.N) (j : Fin 256) (h : Fin 4) (e : Fin 128) :
    (iblk m c 3 t : Vec Ideal S1x256x1024 .bf16) (ix3 0 j ⟨512 + h.val * 128 + e.val, by omega⟩)
      = A2 m c (ix3 (bat t) j ⟨h.val * 128 + e.val, by omega⟩) := by
  refine (blk3 m c t j _).trans ((V1v m c _ j _ (by dsimp only; omega)).trans ?_)
  have e : (⟨512 + h.val * 128 + e.val - 512, by omega⟩ : Fin 512) = ⟨h.val * 128 + e.val, by omega⟩ := Fin.ext (by dsimp only; omega)
  rw [e]

/-! ## The whole result -/

/-- The reference's result from the arguments of device `c`. -/
def res (c : Dev nD) : Vec Ideal S32768x2048 .f32 :=
  MemAttnRefIdeal.Read.val_main_v49 (F := Ideal) (A0 m c) (A1 m c) (A2 m c) (A3 m c) (A4 m c) (A5 m c) (A6 m c)

/-- What grid point `t` writes back is tile `t` of the reference's result. -/
theorem flushed_eq (c : Dev nD) (t : Fin cfg0.N) :
    (dats m 0 c).flushed 6 t = ((cfg0.win 6).blk t).view.read (Elt Ideal) (res m c) := by
  rw [Value.flushed6]
  funext y
  rw [View.read_apply]
  obtain ⟨r, l, rfl⟩ : ∃ (r : Fin 1024) (l : Fin 2048), y = ix2 r l := ⟨y 0, y 1, eq_ix2 y⟩
  have e : ((cfg0.win 6).blk t).view.emb (ix2 r l) = (ix2 (row t r) l : S32768x2048.Idx) := by
    funext a; apply Fin.ext
    match a with
    | ⟨0, _⟩ => show win0_6.index t 0 * 1024 + 1 * r.val = 1024 * t.val + r.val; rw [(idx t).2.2.2.2.2.2.1]; omega
    | ⟨1, _⟩ => show win0_6.index t 1 * 2048 + 1 * l.val = l.val; rw [(idx t).2.2.2.2.2.2.2]; omega
  show out0_6 _ _ _ _ _ _ (ix2 r l) = res m c (((cfg0.win 6).blk t).view.emb (ix2 r l))
  rw [e, out_apply]
  unfold res
  rw [MemAttnRefIdeal.Hand.ref_apply _ _ _ _ _ _ _ _ _ _ l (row_eq t r)]
  simp only [blk0, blk1, blk2, blk_keys, blk_vals, blk4, blk5]

/-- An index of the result is in tile `t` where its row is. -/
theorem mem_blk (t : Fin cfg0.N) (i : S32768x2048.Idx) :
    i ∈ ((cfg0.win 6).blk t).view.set ↔ t.val * 1024 ≤ (i 0 : Nat) ∧ (i 0 : Nat) < t.val * 1024 + 1024 := by
  show i ∈ ((View.whole main_v7).slice (win0_6.rect t)).set ↔ _
  rw [View.set_slice_whole, Rect.mem_set_unit]
  have h1 : (i 1 : Nat) < 2048 := (i 1).isLt
  obtain ⟨e0, e1⟩ := (idx t).2.2.2.2.2.2
  refine ⟨fun h => ?_, fun h a => ?_⟩
  · have : win0_6.index t 0 * 1024 ≤ (i 0 : Nat) ∧ (i 0 : Nat) < win0_6.index t 0 * 1024 + 1024 := h 0
    rw [e0] at this; exact this
  · match a with
    | ⟨0, _⟩ =>
      show win0_6.index t 0 * 1024 ≤ (i 0 : Nat) ∧ (i 0 : Nat) < win0_6.index t 0 * 1024 + 1024
      rw [e0]; exact h
    | ⟨1, _⟩ =>
      show win0_6.index t 1 * 2048 ≤ (i 1 : Nat) ∧ (i 1 : Nat) < win0_6.index t 1 * 2048 + 2048
      rw [e1]; exact ⟨Nat.zero_le _, h1⟩

/-- Every index of the result is in some tile. -/
theorem cover (i : S32768x2048.Idx) : ∃ t : Fin cfg0.N, (cfg0.win 6).flush t = true ∧ i ∈ ((cfg0.win 6).blk t).view.set := by
  have h0 : (i 0 : Nat) < 32768 := (i 0).isLt
  have hN : cfg0.N = 32 := N_0
  have ht : (i 0 : Nat) / 1024 < cfg0.N := by omega
  refine ⟨⟨(i 0 : Nat) / 1024, ht⟩, flush0_6 _, ?_⟩
  rw [mem_blk]
  dsimp only
  omega

theorem final (c : Dev nD) : (dats m 0 c).arrAt 6 cfg0.N = res m c :=
  (dats m 0 c).arrAt_eq_of_cover 6 (res m c) (fun t _ => flushed_eq m c t) cover

end Cert.MemAttnIdeal.Hand

namespace Cert.Proof

open Idealize.ShloMosaic Idealize.ShloMosaic.TcCoe Idealize.SL.Sem

/-- The kernel's result is the reference's, at every index, for every input. -/
theorem mem_attn : Cert.algebraic_MemAttnIdeal_MemAttnRefIdeal := by
  intro m ρ m' ρ' _ hagree
  refine ⟨fun c => MemAttnIdeal.Hand.res m c,
    (θ_run _ _ _).mono (fun _ h c => ⟨(h c).1.trans (MemAttnIdeal.Hand.final m c), (h c).2⟩) (MemAttnIdeal.Value.run_blocks (F := Ideal) m ρ),
    (θ_run _ _ _).mono (fun _ h c => ⟨?_, (h c).2⟩) (MemAttnRefIdeal.Value.run (F := Ideal) m' ρ')⟩
  rw [(h c).1, MemAttnRefIdeal.Read.val_main_v49_eq, (hagree c).1, (hagree c).2.1, (hagree c).2.2.1, (hagree c).2.2.2.1,
    (hagree c).2.2.2.2.1, (hagree c).2.2.2.2.2.1, (hagree c).2.2.2.2.2.2]
  rfl

end Cert.Proof

end
-- ==== Proof.InGdnRun.lean ====
module

public import proofs.«01_k».proof.Defs
public import proofs.«01_k».proof.Proof.Gen.InGdn
public import proofs.«01_k».proof.Proof.Gen.InGdnIdeal.Frame
public import proofs.«01_k».proof.Proof.Gen.InGdnIdeal.Skeleton
public import Idealize.ShloMosaic.Lib.Claim
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp

/-!
# The run of the delta rule's input projection

The kernel has two results. A row tile has four grid points. At the first the body normalises the tile's rows into a scratch buffer,
stores its columns of the main result and the whole tile of the side result (the decay and write-strength columns). At the other three it
stores its columns of the main result only. The side result's tile stays in its staging buffer and is written back after the fourth
point. So what the scratch and the side buffer hold at any point is what the tile's first point `base t` left there: `scr` and `side`.
Everything here is over any float values, so one run gives the frame of the kernel and of its ideal reading.
-/

@[expose] public section

set_option maxRecDepth 16384

noncomputable section

namespace Cert.InGdnIdeal.Hand

open Cert.InGdnIdeal Cert.InGdnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resources that the run is stated in. -/
abbrev Res (F : FTy → Type) [FloatOps F] : Type := MT nD τ sig Unit (Elt F) ℕ (UR sig nD τ) ℕ

/-! ## The two conditions, and the side window's schedule -/

/-- The body's two conditions: the first point of a row tile, and any other. -/
abbrev first (i : grid0.Coords) : Prop := k0_cond1 i = 1#1
abbrev later (i : grid0.Coords) : Prop := k0_cond2 i = 1#1

theorem first_iff : ∀ t : Fin cfg0.N, first (grid0.coords t) ↔ t.val % 4 = 0 := by decide +kernel
theorem later_iff : ∀ t : Fin cfg0.N, later (grid0.coords t) ↔ ¬t.val % 4 = 0 := by decide +kernel

/-- The main result's window is stored into at every point, -/
theorem live5 : ∀ t : Fin cfg0.N, cfg0.idle 5 (grid0.coords t) = false := by decide +kernel
/-- the side result's at a tile's first point only. -/
theorem live6 : ∀ t : Fin cfg0.N, t.val % 4 = 0 → cfg0.idle 6 (grid0.coords t) = false := by decide +kernel
theorem idle6 : ∀ t : Fin cfg0.N, ¬t.val % 4 = 0 → cfg0.idle 6 (grid0.coords t) = true := by decide +kernel

/-! ## The body, run once for each case -/

section
variable (c : Dev nD) (i : grid0.Coords) (a2 : Memref sig .tc .vmem S1024x2048 .f32) (h2 : a2.IsWhole)
  (a3 : Memref sig .tc .vmem S1x2048 .f32) (h3 : a3.IsWhole) (a4 : Memref sig .tc .vmem S2048x1024 .bf16) (h4 : a4.IsWhole)
  (a5 : Memref sig .tc .vmem S1x1024 .f32) (h5 : a5.IsWhole) (a6 : Memref sig .tc .vmem S2048x128 .bf16) (h6 : a6.IsWhole)
  (a7 : Memref sig .tc .vmem S1024x1024 .f32) (h7 : a7.IsWhole) (a8 : Memref sig .tc .vmem S1024x128 .f32) (h8 : a8.IsWhole)
  (a9 : Memref sig .tc .vmem S1024x2048 .bf16) (h9 : a9.IsWhole)
  (x0 : Vec F S1024x2048 .f32) (x1 : Vec F S1x2048 .f32) (x2 : Vec F S2048x1024 .bf16) (x3 : Vec F S1x1024 .f32)
  (x4 : Vec F S2048x128 .bf16) (xs : Vec F S1024x2048 .bf16)

set_option maxHeartbeats 1000000 in
/-- A tile's first point: what it stores into the main result's buffer, the side result's and the scratch, with the proof that the body
    run on its inputs' blocks ends with just these stores made. -/
def runA (hf : first i) (hl : ¬later i) :
    Σ' (L5 : List (View.Piece (Elt F) S1024x1024 .f32)) (L6 : List (View.Piece (Elt F) S1024x128 .f32)),
      { LS : List (View.Piece (Elt F) S1024x2048 .bf16) //
      ∀ (E : Set ℕ) (K : PUnit → sProp (Res F)),
        iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare x4
            ∗ (∃ d, owns (c : Thread nD τ) a7 fullShare d) ∗ (∃ d, owns (c : Thread nD τ) a8 fullShare d)
            ∗ (∃ d, owns (c : Thread nD τ) a9 fullShare d)
            ∗ (iprop(owns (c : Thread nD τ) a2 fullShare x0 ∗ owns (c : Thread nD τ) a3 fullShare x1
                ∗ owns (c : Thread nD τ) a4 fullShare x2 ∗ owns (c : Thread nD τ) a5 fullShare x3
                ∗ owns (c : Thread nD τ) a6 fullShare x4
                ∗ (∃ f, a7.view.loc (c : Thread nD τ) ↦[a7.view.set]{fullShare} a7.view.writes (Elt F) f L5)
                ∗ (∃ f, a8.view.loc (c : Thread nD τ) ↦[a8.view.set]{fullShare} a8.view.writes (Elt F) f L6)
                ∗ (∃ f, a9.view.loc (c : Thread nD τ) ↦[a9.view.set]{fullShare} a9.view.writes (Elt F) f LS)) -∗ K ⟨⟩))
          ⊢ wp frame (wpE (defs₀ (F := F)) Variants.none c none) E
              (cc0_in_proj_gdn i a2 h2 a3 h3 a4 h4 a5 h5 a6 h6 a7 h7 a8 h8 a9 h9) K } := by
  refine ⟨?_, ?_, ?_, fun E K => ?run⟩
  case run =>
    simp only [cc0_in_proj_gdn_eq_skeleton]; unfold cc0_in_proj_gdn_skel
    simp only [k0_part1_eq_skeleton, k0_part2_eq_skeleton, k0_part3_eq_skeleton]
    unfold owns
    iintro ⟨⟨%f0, %e0, H0⟩, ⟨%f1, %e1, H1⟩, ⟨%f2, %e2, H2⟩, ⟨%f3, %e3, H3⟩, ⟨%f4, %e4, H4⟩, ⟨%d5, %f5, -, H5⟩, ⟨%d6, %f6, -, H6⟩,
      ⟨%ds, %fs, -, HS⟩, Hk⟩
    obtain rfl := h2.eq_unread e0; obtain rfl := h3.eq_unread e1; obtain rfl := h4.eq_unread e2; obtain rfl := h5.eq_unread e3
    obtain rfl := h6.eq_unread e4
    sl_exec (disch := first | sl_exact hf | sl_exact hl)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]; · iexists _; iexact H5
    isplitl [H6]; · iexists _; iexact H6
    iexists _; iexact HS

set_option maxHeartbeats 1000000 in
/-- Any other point: it stores into the main result's buffer, reads the scratch at `xs`, and does not touch the side result's buffer. -/
def runB (hf : ¬first i) (hl : later i) :
    { L5 : List (View.Piece (Elt F) S1024x1024 .f32) //
      ∀ (E : Set ℕ) (K : PUnit → sProp (Res F)),
        iprop(owns (c : Thread nD τ) a4 fullShare x2 ∗ owns (c : Thread nD τ) a5 fullShare x3
            ∗ (∃ d, owns (c : Thread nD τ) a7 fullShare d) ∗ owns (c : Thread nD τ) a9 fullShare xs
            ∗ (iprop(owns (c : Thread nD τ) a4 fullShare x2 ∗ owns (c : Thread nD τ) a5 fullShare x3
                ∗ (∃ f, a7.view.loc (c : Thread nD τ) ↦[a7.view.set]{fullShare} a7.view.writes (Elt F) f L5)
                ∗ owns (c : Thread nD τ) a9 fullShare xs) -∗ K ⟨⟩))
          ⊢ wp frame (wpE (defs₀ (F := F)) Variants.none c none) E
              (cc0_in_proj_gdn i a2 h2 a3 h3 a4 h4 a5 h5 a6 h6 a7 h7 a8 h8 a9 h9) K } := by
  refine ⟨?_, fun E K => ?run⟩
  case run =>
    simp only [cc0_in_proj_gdn_eq_skeleton]; unfold cc0_in_proj_gdn_skel
    unfold owns
    iintro ⟨⟨%f2, %e2, H2⟩, ⟨%f3, %e3, H3⟩, ⟨%d5, %f5, -, H5⟩, ⟨%fs, %es, HS⟩, Hk⟩
    obtain rfl := h4.eq_unread e2; obtain rfl := h5.eq_unread e3; obtain rfl := h9.eq_unread es
    sl_exec (disch := first | sl_exact hf | sl_exact hl)
    sl_step
    iapply Hk
    isplitl [H2]
    · iexists _; isplitr; · ipureintro; exact h4.read_unread _
      iexact H2
    isplitl [H3]
    · iexists _; isplitr; · ipureintro; exact h5.read_unread _
      iexact H3
    isplitl [H5]; · iexists _; iexact H5
    iexists _; isplitr; · ipureintro; exact h9.read_unread _
    iexact HS

/-- The stores of each case fill the buffers they go to. -/
theorem coverA5 (hf : first i) (hl : ¬later i) (y : S1024x1024.Idx) :
    ∃ p ∈ (runA c i a2 h2 a3 h3 a4 h4 a5 h5 a6 h6 a7 h7 a8 h8 a9 h9 x0 x1 x2 x3 x4 hf hl).1, y ∈ p.1.set :=
  View.cover_of_tiledL (runA c i a2 h2 a3 h3 a4 h4 a5 h5 a6 h6 a7 h7 a8 h8 a9 h9 x0 x1 x2 x3 x4 hf hl).1 S256x1024.size (by sl_kernel_rfl) y
theorem coverA6 (hf : first i) (hl : ¬later i) (y : S1024x128.Idx) :
    ∃ p ∈ (runA c i a2 h2 a3 h3 a4 h4 a5 h5 a6 h6 a7 h7 a8 h8 a9 h9 x0 x1 x2 x3 x4 hf hl).2.1, y ∈ p.1.set :=
  View.cover_of_tiledL (runA c i a2 h2 a3 h3 a4 h4 a5 h5 a6 h6 a7 h7 a8 h8 a9 h9 x0 x1 x2 x3 x4 hf hl).2.1 S256x128.size (by sl_kernel_rfl) y
theorem coverAS (hf : first i) (hl : ¬later i) (y : S1024x2048.Idx) :
    ∃ p ∈ (runA c i a2 h2 a3 h3 a4 h4 a5 h5 a6 h6 a7 h7 a8 h8 a9 h9 x0 x1 x2 x3 x4 hf hl).2.2.1, y ∈ p.1.set :=
  View.cover_of_tiledL (runA c i a2 h2 a3 h3 a4 h4 a5 h5 a6 h6 a7 h7 a8 h8 a9 h9 x0 x1 x2 x3 x4 hf hl).2.2.1 S256x2048.size (by sl_kernel_rfl) y
theorem coverB5 (hf : ¬first i) (hl : later i) (y : S1024x1024.Idx) :
    ∃ p ∈ (runB c i a2 h2 a3 h3 a4 h4 a5 h5 a6 h6 a7 h7 a8 h8 a9 h9 x2 x3 xs hf hl).1, y ∈ p.1.set :=
  View.cover_of_tiledL (runB c i a2 h2 a3 h3 a4 h4 a5 h5 a6 h6 a7 h7 a8 h8 a9 h9 x2 x3 xs hf hl).1 S1024x1024.size (by sl_kernel_rfl) y

/-- What the buffers hold after those stores. -/
def outA5 (hf : first i) (hl : ¬later i) : Vec F S1024x1024 .f32 :=
  (Memref.whole cc0_stg5_0 : Memref sig .tc .vmem S1024x1024 .f32).view.read (Elt F) ((Memref.whole cc0_stg5_0 : Memref sig .tc .vmem S1024x1024 .f32).view.writes (Elt F)
    (Memref.whole cc0_stg5_0 : Memref sig .tc .vmem S1024x1024 .f32).view.junk
    (runA c i a2 h2 a3 h3 a4 h4 a5 h5 a6 h6 a7 h7 a8 h8 a9 h9 x0 x1 x2 x3 x4 hf hl).1)
def outA6 (hf : first i) (hl : ¬later i) : Vec F S1024x128 .f32 :=
  (Memref.whole cc0_stg6_0 : Memref sig .tc .vmem S1024x128 .f32).view.read (Elt F) ((Memref.whole cc0_stg6_0 : Memref sig .tc .vmem S1024x128 .f32).view.writes (Elt F)
    (Memref.whole cc0_stg6_0 : Memref sig .tc .vmem S1024x128 .f32).view.junk
    (runA c i a2 h2 a3 h3 a4 h4 a5 h5 a6 h6 a7 h7 a8 h8 a9 h9 x0 x1 x2 x3 x4 hf hl).2.1)
def outAS (hf : first i) (hl : ¬later i) : Vec F S1024x2048 .bf16 :=
  (Memref.whole cc0_scratch0 : Memref sig .tc .vmem S1024x2048 .bf16).view.read (Elt F) ((Memref.whole cc0_scratch0 : Memref sig .tc .vmem S1024x2048 .bf16).view.writes (Elt F)
    (Memref.whole cc0_scratch0 : Memref sig .tc .vmem S1024x2048 .bf16).view.junk
    (runA c i a2 h2 a3 h3 a4 h4 a5 h5 a6 h6 a7 h7 a8 h8 a9 h9 x0 x1 x2 x3 x4 hf hl).2.2.1)
def outB5 (hf : ¬first i) (hl : later i) : Vec F S1024x1024 .f32 :=
  (Memref.whole cc0_stg5_0 : Memref sig .tc .vmem S1024x1024 .f32).view.read (Elt F) ((Memref.whole cc0_stg5_0 : Memref sig .tc .vmem S1024x1024 .f32).view.writes (Elt F)
    (Memref.whole cc0_stg5_0 : Memref sig .tc .vmem S1024x1024 .f32).view.junk
    (runB c i a2 h2 a3 h3 a4 h4 a5 h5 a6 h6 a7 h7 a8 h8 a9 h9 x2 x3 xs hf hl).1)

end

variable (m : (ℓ : Loc nD τ sig) → Buf (Elt F) ℓ) (ρ : Dev nD → PrngReg)

/-! ## At a grid point -/

/-- Each window's staging buffer at point `t`, and the scratch. -/
abbrev b0 (t : Fin cfg0.N) : Memref sig .tc .vmem S1024x2048 .f32 := win0_0.stage (cfg0.slots t 0)
abbrev w0 (t : Fin cfg0.N) : (b0 t).IsWhole := hstage0_0 ((cfg0.slots t 0).cast nbuf0_0)
abbrev b1 (t : Fin cfg0.N) : Memref sig .tc .vmem S1x2048 .f32 := win0_1.stage (cfg0.slots t 1)
abbrev w1 (t : Fin cfg0.N) : (b1 t).IsWhole := hstage0_1 ((cfg0.slots t 1).cast nbuf0_1)
abbrev b2 (t : Fin cfg0.N) : Memref sig .tc .vmem S2048x1024 .bf16 := win0_2.stage (cfg0.slots t 2)
abbrev w2 (t : Fin cfg0.N) : (b2 t).IsWhole := hstage0_2 ((cfg0.slots t 2).cast nbuf0_2)
abbrev b3 (t : Fin cfg0.N) : Memref sig .tc .vmem S1x1024 .f32 := win0_3.stage (cfg0.slots t 3)
abbrev w3 (t : Fin cfg0.N) : (b3 t).IsWhole := hstage0_3 ((cfg0.slots t 3).cast nbuf0_3)
abbrev b4 (t : Fin cfg0.N) : Memref sig .tc .vmem S2048x128 .bf16 := win0_4.stage (cfg0.slots t 4)
abbrev w4 (t : Fin cfg0.N) : (b4 t).IsWhole := hstage0_4 ((cfg0.slots t 4).cast nbuf0_4)
abbrev b5 (t : Fin cfg0.N) : Memref sig .tc .vmem S1024x1024 .f32 := win0_5.stage (cfg0.slots t 5)
abbrev w5 (t : Fin cfg0.N) : (b5 t).IsWhole := hstage0_5 ((cfg0.slots t 5).cast nbuf0_5)
abbrev b6 (t : Fin cfg0.N) : Memref sig .tc .vmem S1024x128 .f32 := win0_6.stage (cfg0.slots t 6)
abbrev w6 (t : Fin cfg0.N) : (b6 t).IsWhole := hstage0_6 ((cfg0.slots t 6).cast nbuf0_6)
abbrev scM : Memref sig .tc .vmem S1024x2048 .bf16 := Memref.whole cc0_scratch0

/-- The first point of the tile of `t`. -/
def base (t : Fin cfg0.N) : Fin cfg0.N := ⟨4 * (t.val / 4), by have := t.isLt; omega⟩
theorem base_mod (t : Fin cfg0.N) : (base t).val % 4 = 0 := by unfold base; dsimp only; omega
theorem base_self (t : Fin cfg0.N) (h : t.val % 4 = 0) : base t = t := Fin.ext (by unfold base; dsimp only; omega)
theorem base_pred (t : Fin cfg0.N) (h : ¬t.val % 4 = 0) (h' : t.val - 1 < cfg0.N) : base ⟨t.val - 1, h'⟩ = base t :=
  Fin.ext (by unfold base; dsimp only; omega)

/-- What a first point leaves in the three buffers. -/
def mainA (c : Dev nD) (t : Fin cfg0.N) (h : t.val % 4 = 0) : Vec F S1024x1024 .f32 :=
  outA5 c (grid0.coords t) (b0 t) (w0 t) (b1 t) (w1 t) (b2 t) (w2 t) (b3 t) (w3 t) (b4 t) (w4 t) (b5 t) (w5 t) (b6 t) (w6 t) scM
    (Memref.isWhole_whole _) (iblk m c 0 t) (iblk m c 1 t) (iblk m c 2 t) (iblk m c 3 t) (iblk m c 4 t) ((first_iff t).2 h)
    (fun hl => (later_iff t).1 hl h)
def sideA (c : Dev nD) (t : Fin cfg0.N) (h : t.val % 4 = 0) : Vec F S1024x128 .f32 :=
  outA6 c (grid0.coords t) (b0 t) (w0 t) (b1 t) (w1 t) (b2 t) (w2 t) (b3 t) (w3 t) (b4 t) (w4 t) (b5 t) (w5 t) (b6 t) (w6 t) scM
    (Memref.isWhole_whole _) (iblk m c 0 t) (iblk m c 1 t) (iblk m c 2 t) (iblk m c 3 t) (iblk m c 4 t) ((first_iff t).2 h)
    (fun hl => (later_iff t).1 hl h)
def scrA (c : Dev nD) (t : Fin cfg0.N) (h : t.val % 4 = 0) : Vec F S1024x2048 .bf16 :=
  outAS c (grid0.coords t) (b0 t) (w0 t) (b1 t) (w1 t) (b2 t) (w2 t) (b3 t) (w3 t) (b4 t) (w4 t) (b5 t) (w5 t) (b6 t) (w6 t) scM
    (Memref.isWhole_whole _) (iblk m c 0 t) (iblk m c 1 t) (iblk m c 2 t) (iblk m c 3 t) (iblk m c 4 t) ((first_iff t).2 h)
    (fun hl => (later_iff t).1 hl h)

/-- What the scratch and the side result's buffer hold after point `t`: what the tile's first point left there. -/
def scr (c : Dev nD) (t : Fin cfg0.N) : Vec F S1024x2048 .bf16 := scrA m c (base t) (base_mod t)
def side (c : Dev nD) (t : Fin cfg0.N) : Vec F S1024x128 .f32 := sideA m c (base t) (base_mod t)

theorem scr_first (c : Dev nD) (t : Fin cfg0.N) (h : t.val % 4 = 0) : scr m c t = scrA m c t h := by
  unfold scr; congr 1; exact base_self t h
theorem side_first (c : Dev nD) (t : Fin cfg0.N) (h : t.val % 4 = 0) : side m c t = sideA m c t h := by
  unfold side; congr 1; exact base_self t h
theorem scr_pred (c : Dev nD) (t : Fin cfg0.N) (h : ¬t.val % 4 = 0) (h' : t.val - 1 < cfg0.N) : scr m c ⟨t.val - 1, h'⟩ = scr m c t := by
  unfold scr; congr 1; exact base_pred t h h'
theorem side_pred (c : Dev nD) (t : Fin cfg0.N) (h : ¬t.val % 4 = 0) (h' : t.val - 1 < cfg0.N) : side m c ⟨t.val - 1, h'⟩ = side m c t := by
  unfold side; congr 1; exact base_pred t h h'

/-- What a later point leaves in the main result's buffer. -/
def mainB (c : Dev nD) (t : Fin cfg0.N) (h : ¬t.val % 4 = 0) : Vec F S1024x1024 .f32 :=
  outB5 c (grid0.coords t) (b0 t) (w0 t) (b1 t) (w1 t) (b2 t) (w2 t) (b3 t) (w3 t) (b4 t) (w4 t) (b5 t) (w5 t) (b6 t) (w6 t) scM
    (Memref.isWhole_whole _) (iblk m c 2 t) (iblk m c 3 t) (scr m c t) (fun hf => h ((first_iff t).1 hf)) ((later_iff t).2 h)

/-- What the main result's buffer holds after point `t`. -/
def outm (c : Dev nD) (t : Fin cfg0.N) : Vec F S1024x1024 .f32 :=
  if h : t.val % 4 = 0 then mainA m c t h else mainB m c t h

/-- What a run of points keeps between them: nothing named before the first, then the scratch at `scr`. -/
def Phi (c : Dev nD) : (n : ℕ) → n ≤ cfg0.N → sProp (Res F)
  | 0, _ => Pipeline.ΦA spec0 c
  | n + 1, hn => iprop(owns (c : Thread nD τ) scM fullShare (scr m c ⟨n, hn⟩) ∗ (∃ r, prngReg c r))

theorem Phi_zero (c : Dev nD) (n : ℕ) (h : n ≤ cfg0.N) (hz : n = 0) : Phi m c n h = Pipeline.ΦA spec0 c := by
  subst hz; rfl
theorem Phi_pos (c : Dev nD) (n : ℕ) (h : n ≤ cfg0.N) (hz : n ≠ 0) :
    Phi m c n h = iprop(owns (c : Thread nD τ) scM fullShare (scr m c ⟨n - 1, by omega⟩) ∗ (∃ r, prngReg c r)) := by
  cases n with
  | zero => exact absurd rfl hz
  | succ n => rfl

/-- The scratch at anything, as the region begins and ends. -/
theorem PhiA_eq (c : Dev nD) :
    (Pipeline.ΦA spec0 c : sProp (Res F)) = iprop((∃ d, owns (c : Thread nD τ) scM fullShare d) ∗ (∃ r, prngReg c r)) := by
  unfold Pipeline.ΦA; rw [scopedRest0_eq]; simp only [scM, owns_whole]; try rfl

/-- The pipeline's proof data: the arrays as the region finds them; after point `t` each input's buffer at its block, the main result's at
    `outm`, the side result's at `side`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outm m c t
    | ⟨6, _⟩ => side m c t
  Φ t := Phi m c t.val (Nat.le_of_lt_succ t.isLt)
  q _ := fullShare
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = outm m c t := by dsimp only [dats]
theorem after6 (c : Dev nD) (t : Fin cfg0.N) : (dats m 0 c).after 6 t = side m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-- The side result's buffer at a tile's later points still holds what the first point left: no write-back lies between, and a point that
    stores nothing leaves it as found. -/
theorem before6 (c : Dev nD) : ∀ (n : ℕ) (hn : n < cfg0.N) (h : ¬n % 4 = 0) (d), (dats m 0 c).before 6 ⟨n, hn⟩ d = side m c ⟨n, hn⟩
  | n, hn, h, d => by
    have hz : n ≠ 0 := fun e => h (by rw [e])
    have hp : n - 1 < cfg0.N := Nat.lt_of_le_of_lt (Nat.sub_le _ _) hn
    have hfl : (cfg0.win 6).flush ⟨n - 1, hp⟩ = false := eq_false_of_ne_true fun e => by
      have := (flush0_6 ⟨n - 1, hp⟩).1 e
      dsimp only at this; omega
    rw [(dats m 0 c).before_of_pos 6 ⟨n, hn⟩ hz ((cfg0.win 6).fetch_out rfl _) d, hfl, if_neg Bool.false_ne_true]
    unfold Dat.left
    by_cases h1 : (n - 1) % 4 = 0
    · rw [live6 ⟨n - 1, hp⟩ h1]
      show (dats m 0 c).kept 6 ⟨n - 1, _⟩ d = _
      unfold Dat.kept
      rw [after6]
      exact side_pred m c ⟨n, hn⟩ h (by dsimp only; omega)
    · rw [idle6 ⟨n - 1, hp⟩ h1]
      show (dats m 0 c).before 6 ⟨n - 1, _⟩ d = _
      rw [before6 c (n - 1) hp h1 d]
      exact side_pred m c ⟨n, hn⟩ h (by dsimp only; omega)

/-! ## The body at a generic point -/

/-- What the body is handed at point `t`, window by window, and what it gives back. -/
def pre (c : Dev nD) (t : Fin cfg0.N) : sProp (Res F) :=
  iprop((dats m 0 c).Φ t.castSucc ∗ (dats m 0 c).owesAt () t.castSucc
    ∗ (∃ d, owns (c : Thread nD τ) (b0 t) fullShare ((dats m 0 c).before 0 t d))
    ∗ (∃ d, owns (c : Thread nD τ) (b1 t) fullShare ((dats m 0 c).before 1 t d))
    ∗ (∃ d, owns (c : Thread nD τ) (b2 t) fullShare ((dats m 0 c).before 2 t d))
    ∗ (∃ d, owns (c : Thread nD τ) (b3 t) fullShare ((dats m 0 c).before 3 t d))
    ∗ (∃ d, owns (c : Thread nD τ) (b4 t) fullShare ((dats m 0 c).before 4 t d))
    ∗ (∃ d, owns (c : Thread nD τ) (b5 t) fullShare ((dats m 0 c).before 5 t d))
    ∗ (∃ d, owns (c : Thread nD τ) (b6 t) fullShare ((dats m 0 c).before 6 t d)))
def post (c : Dev nD) (t : Fin cfg0.N) : sProp (Res F) :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t)

theorem leaves0 (c : Dev nD) (t : Fin cfg0.N) : (dats m 0 c).leavesExact 0 t = owns (c : Thread nD τ) (b0 t) fullShare (iblk m c 0 t) := by
  unfold Dat.leavesExact; rw [show cfg0.idle 0 (grid0.coords t) = false from rfl, after0]
theorem leaves1 (c : Dev nD) (t : Fin cfg0.N) : (dats m 0 c).leavesExact 1 t = owns (c : Thread nD τ) (b1 t) fullShare (iblk m c 1 t) := by
  unfold Dat.leavesExact; rw [show cfg0.idle 1 (grid0.coords t) = false from rfl, after1]
theorem leaves2 (c : Dev nD) (t : Fin cfg0.N) : (dats m 0 c).leavesExact 2 t = owns (c : Thread nD τ) (b2 t) fullShare (iblk m c 2 t) := by
  unfold Dat.leavesExact; rw [show cfg0.idle 2 (grid0.coords t) = false from rfl, after2]
theorem leaves3 (c : Dev nD) (t : Fin cfg0.N) : (dats m 0 c).leavesExact 3 t = owns (c : Thread nD τ) (b3 t) fullShare (iblk m c 3 t) := by
  unfold Dat.leavesExact; rw [show cfg0.idle 3 (grid0.coords t) = false from rfl, after3]
theorem leaves4 (c : Dev nD) (t : Fin cfg0.N) : (dats m 0 c).leavesExact 4 t = owns (c : Thread nD τ) (b4 t) fullShare (iblk m c 4 t) := by
  unfold Dat.leavesExact; rw [show cfg0.idle 4 (grid0.coords t) = false from rfl, after4]
theorem leaves5 (c : Dev nD) (t : Fin cfg0.N) : (dats m 0 c).leavesExact 5 t = owns (c : Thread nD τ) (b5 t) fullShare (outm m c t) := by
  unfold Dat.leavesExact; rw [live5 t, after5]
theorem leaves6_first (c : Dev nD) (t : Fin cfg0.N) (h : t.val % 4 = 0) :
    (dats m 0 c).leavesExact 6 t = owns (c : Thread nD τ) (b6 t) fullShare (side m c t) := by
  unfold Dat.leavesExact; rw [live6 t h, after6]
/-- At a later point the side result's buffer is given back as `side`, whether the point writes it back or not. -/
theorem leaves6_later (c : Dev nD) (t : Fin cfg0.N) (h : ¬t.val % 4 = 0) :
    owns (c : Thread nD τ) (b6 t) fullShare (side m c t) ⊢ (dats m 0 c).leavesExact 6 t := by
  by_cases hf : t.val % 4 = 3
  · unfold Dat.leavesExact; rw [idle6 t h, (flush0_6 t).2 hf, after6]
  · rw [(dats m 0 c).leavesExact_idle 6 t (idle6 t h) (eq_false_of_ne_true fun e => hf ((flush0_6 t).1 e))]
    iintro H
    iexists (side m c t)
    rw [before6 m c t.val t.isLt h]
    iexact H

set_option maxHeartbeats 3200000 in
/-- The body at a tile's first point. -/
theorem sound_first (c : Dev nD) (t : Fin cfg0.N) (h : t.val % 4 = 0) :
    pre m c t ⊢ wp frame (wpE (defs₀ (F := F)) Variants.none c none) Set.univ (bodyAt0 t) (fun _ => post m c t) := by
  unfold pre post bodyAt0
  simp only [before0, before1, before2, before3, before4, leaves0, leaves1, leaves2, leaves3, leaves4, leaves5, leaves6_first m c t h]
  rw [show (dats m 0 c).owesAt () t.succ = (dats m 0 c).owesAt () t.castSucc from rfl]
  rw [show (dats m 0 c).Φ t.succ = iprop(owns (c : Thread nD τ) scM fullShare (scr m c t) ∗ (∃ r, prngReg c r)) from rfl]
  rw [scr_first m c t h, side_first m c t h, show outm m c t = mainA m c t h from dif_pos h]
  unfold mainA sideA scrA outA5 outA6 outAS
  have hΦ : (dats m 0 c).Φ t.castSucc ⊢ iprop((∃ d, owns (c : Thread nD τ) scM fullShare d) ∗ (∃ r, prngReg c r)) := by
    rw [show (dats m 0 c).Φ t.castSucc = Phi m c t.val (Nat.le_of_lt t.isLt) from rfl]
    by_cases hz : t.val = 0
    · rw [Phi_zero m c _ _ hz, PhiA_eq]
    · rw [Phi_pos m c _ _ hz]
      iintro ⟨H, Hg⟩
      isplitl [H]; · iexists _; iexact H
      iexact Hg
  iintro ⟨HΦ, Ho, ⟨%d0, H0⟩, ⟨%d1, H1⟩, ⟨%d2, H2⟩, ⟨%d3, H3⟩, ⟨%d4, H4⟩, ⟨%d5, H5⟩, ⟨%d6, H6⟩⟩
  ihave HΦ' := hΦ $$ HΦ
  icases HΦ' with ⟨HS, Hg⟩
  iapply ((runA c (grid0.coords t) _ _ _ _ _ _ _ _ _ _ _ _ _ _ _ _ (iblk m c 0 t) (iblk m c 1 t) (iblk m c 2 t) (iblk m c 3 t)
    (iblk m c 4 t) ((first_iff t).2 h) (fun hl => (later_iff t).1 hl h)).2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [HS]; · iexact HS
  iintro ⟨H0, H1, H2, H3, H4, ⟨%e5, H5⟩, ⟨%e6, H6⟩, ⟨%es, HS⟩⟩
  isplitl [HS Hg]
  · isplitl [HS]
    · unfold owns; iexists _; isplitr
      swap; · iexact HS
      ipureintro; exact View.read_writes_of_cover _ _ _ _ _ (coverAS c _ _ _ _ _ _ _ _ _ _ _ _ _ _ _ _ _ _ _ _ _ _ _ _)
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (coverA5 c _ _ _ _ _ _ _ _ _ _ _ _ _ _ _ _ _ _ _ _ _ _ _ _)
  unfold owns; iexists _; isplitr
  swap; · iexact H6
  ipureintro; exact View.read_writes_of_cover _ _ _ _ _ (coverA6 c _ _ _ _ _ _ _ _ _ _ _ _ _ _ _ _ _ _ _ _ _ _ _ _)

set_option maxHeartbeats 3200000 in
/-- The body at a tile's later points. -/
theorem sound_later (c : Dev nD) (t : Fin cfg0.N) (h : ¬t.val % 4 = 0) :
    pre m c t ⊢ wp frame (wpE (defs₀ (F := F)) Variants.none c none) Set.univ (bodyAt0 t) (fun _ => post m c t) := by
  unfold pre post bodyAt0
  simp only [before0, before1, before2, before3, before4, leaves0, leaves1, leaves2, leaves3, leaves4, leaves5]
  have h6 : ∀ d, (dats m 0 c).before 6 t d = side m c t := fun d => before6 m c t.val t.isLt h d
  simp only [h6]
  rw [show (dats m 0 c).owesAt () t.succ = (dats m 0 c).owesAt () t.castSucc from rfl]
  rw [show (dats m 0 c).Φ t.succ = iprop(owns (c : Thread nD τ) scM fullShare (scr m c t) ∗ (∃ r, prngReg c r)) from rfl]
  rw [show (dats m 0 c).Φ t.castSucc = Phi m c t.val (Nat.le_of_lt t.isLt) from rfl,
    Phi_pos m c _ _ (fun e => h (by rw [e])), scr_pred m c t h]
  rw [show outm m c t = mainB m c t h from dif_neg h]
  unfold mainB outB5
  iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
  iapply ((runB c (grid0.coords t) _ _ _ _ _ _ _ _ _ _ _ _ _ _ _ _ (iblk m c 2 t) (iblk m c 3 t) (scr m c t)
    (fun hf => h ((first_iff t).1 hf)) ((later_iff t).2 h)).2 Set.univ _)
  isplitl [H2]; · iexact H2
  isplitl [H3]; · iexact H3
  isplitl [H5]; · iexists _; iexact H5
  isplitl [HS]; · iexact HS
  iintro ⟨H2, H3, ⟨%e5, H5⟩, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (coverB5 c _ _ _ _ _ _ _ _ _ _ _ _ _ _ _ _ _ _ _ _ _ _)
  iapply (leaves6_later m c t h)
  iexact H6

/-- The body obligation of the pipeline. -/
theorem body_obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  refine triple_restated ?_ rfl .rfl fun _ => .rfl
  by_cases h : t.val % 4 = 0
  · exact sound_first m c t h
  · exact sound_later m c t h

theorem hin (c : Dev nD) : Pipeline.ΦA spec0 c ⊢ (dats m 0 c).Φ 0 := by
  rw [show (dats m 0 c).Φ 0 = Phi m c 0 (Nat.zero_le _) from rfl, Phi_zero m c 0 _ rfl]

theorem hout (c : Dev nD) : (dats m 0 c).Φ (Fin.last cfg0.N) ⊢ Pipeline.ΦA spec0 c := by
  rw [show (dats m 0 c).Φ (Fin.last cfg0.N) = Phi m c cfg0.N (Nat.le_refl _) from rfl,
    Phi_pos m c _ _ (by have : cfg0.N = 128 := N_0; omega), PhiA_eq]
  iintro ⟨H, Hg⟩
  isplitl [H]; · iexists _; iexact H
  iexact Hg

/-! ## The run, the frame and the two results -/

set_option backward.isDefEq.respectTransparency.types false in
/-- Every run of the program ends, with each array as the proof data say and every semaphore counter at zero. -/
theorem run_main : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

/-- The run with both results named. -/
theorem run_results : θ_run defs (onTc (τ := τ) (main (F := F))) ⟨m, fun _ => 0, ρ⟩ (fun r => ∀ c : Dev nD,
      r.2.mem ((c.tc : Thread nD τ).loc main_v8_0) = (dats m 0 c).arrAt 5 cfg0.N
      ∧ r.2.mem ((c.tc : Thread nD τ).loc main_v8_1) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h.1.1 c).1 5, (h.1.1 c).1 6, h.2.1 c⟩) (θ_run_and (run_main m ρ) (frame m ρ))

end Cert.InGdnIdeal.Hand

end
-- ==== Proof.InGdnFrame.lean ====
module

public import proofs.«01_k».proof.Defs
public import proofs.«01_k».proof.Proof.Gen.InGdn
public import proofs.«01_k».proof.Proof.InGdnRun

/-! The delta rule's input projection runs alike over machine floats and over the extended reals: the two programs are one, so the run of
    InGdnRun, which is over any float values, gives both frames. -/

@[expose] public section

set_option maxRecDepth 16384

open Idealize.ShloMosaic Idealize.ShloMosaic.TcCoe Idealize.SL.Sem

namespace Cert.InGdnIdeal.Hand

attribute [local instance] Cert.InGdn.Gen.facts Cert.InGdnIdeal.Gen.facts

variable {F : FTy → Type} [FloatOps F]

/-- The two programs' bodies are the same, label by label, -/
theorem body_eq : Cert.InGdnIdeal.defs₀ (F := F) = Cert.InGdn.defs₀ (F := F) :=
  congrArg Defs.onTc (funext fun l => funext fun a => by
    match l, a with
    | ⟨0, _⟩, (t, s) => rfl
    | ⟨_ + 1, h⟩, _ => exact absurd h (Nat.not_lt.2 (Nat.le_add_left _ _)))

/-- and so are the programs. -/
theorem defs_eq : Cert.InGdnIdeal.defs (F := F) = Cert.InGdn.defs (F := F) :=
  congrArg (Pipeline.defs (Cert.InGdn.pcfgs (F := F))) body_eq

end Cert.InGdnIdeal.Hand

namespace Cert.Proof

/-- The kernel over machine floats ends without fault, leaves its arguments unchanged and every semaphore counter at zero. -/
theorem in_gdn_frame : Cert.quiescent_InGdn (hInGdn := Cert.InGdn.Gen.facts) := fun m ρ _ => by
  have h := Cert.InGdnIdeal.Hand.frame (F := Bits) m ρ
  rw [Cert.InGdnIdeal.Hand.defs_eq] at h
  exact h

/-- The same over the extended reals. -/
theorem in_gdn_ideal_frame : Cert.quiescent_InGdnIdeal (hInGdnIdeal := Cert.InGdnIdeal.Gen.facts) := fun m ρ _ =>
  Cert.InGdnIdeal.Hand.frame (F := Ideal) m ρ

end Cert.Proof

end
-- ==== Proof.InGdn.lean ====
module

public import proofs.«01_k».proof.Defs
public import proofs.«01_k».proof.Proof.InGdnRun
public import proofs.«01_k».proof.Proof.Gen.InGdnRefIdeal.Read
public import proofs.«01_k».proof.Proof.Rows
public import Idealize.ShloMosaic.Lib.Pipeline.Value
public import Idealize.ShloMosaic.Lib.Pointwise
public import Idealize.ShloMosaic.Lib.StableHlo.ReadAt

/-!
# The delta rule's half of the input projection: columns `0 … 4111` of `rms_norm(x) @ w_in`

The main result is the first 4096 columns, the side result the next 16 (decay and write strength) with zero columns up to 128. At the
first of a row tile's four grid points the kernel normalises the tile's 1024 rows, four chunks of 256, keeps them in a scratch buffer,
and multiplies them by the side columns; every point multiplies them by its 1024 columns of the main weights, times a row of ones. The
zero columns of the side result come from zero columns of its weights: a sum of zeros.
-/

@[expose] public section

set_option maxRecDepth 16384

noncomputable section

namespace Cert.InGdnIdeal.Hand

open Cert.InGdnIdeal Cert.InGdnIdeal.Gen Cert.Rows Idealize.ShloMosaic Idealize.ShloMosaic.TcCoe Idealize.SL.Sem
open Idealize.ShloMosaic.Pipeline (Dat)

/-- Rows of 2048 normalised: element `(r, k)`. -/
def nrm (x0 : Vec Ideal S1024x2048 .f32) (x1 : Vec Ideal S1x2048 .f32) (r : Fin 1024) (k : Fin 2048) : EReal :=
  rms (fun k => x0 (ix2 r k)) (fun k => x1 (ix2 0 k)) k

/-- A normalised row times a column. -/
def dotc (h w : Fin 2048 → EReal) : EReal := ∑ k, h k * w k

section
variable (c : Dev nD) (i : grid0.Coords) (a2 : Memref sig .tc .vmem S1024x2048 .f32) (h2 : a2.IsWhole)
  (a3 : Memref sig .tc .vmem S1x2048 .f32) (h3 : a3.IsWhole) (a4 : Memref sig .tc .vmem S2048x1024 .bf16) (h4 : a4.IsWhole)
  (a5 : Memref sig .tc .vmem S1x1024 .f32) (h5 : a5.IsWhole) (a6 : Memref sig .tc .vmem S2048x128 .bf16) (h6 : a6.IsWhole)
  (a7 : Memref sig .tc .vmem S1024x1024 .f32) (h7 : a7.IsWhole) (a8 : Memref sig .tc .vmem S1024x128 .f32) (h8 : a8.IsWhole)
  (a9 : Memref sig .tc .vmem S1024x2048 .bf16) (h9 : a9.IsWhole)
  (x0 : Vec Ideal S1024x2048 .f32) (x1 : Vec Ideal S1x2048 .f32) (x2 : Vec Ideal S2048x1024 .bf16) (x3 : Vec Ideal S1x1024 .f32)
  (x4 : Vec Ideal S2048x128 .bf16)

/-! ## What each point stores -/

/-- A first point keeps the normalised rows, -/
theorem scratch_A (hf : first i) (hl : ¬later i) (r : Fin 1024) (l : Fin 2048) :
    outAS c i a2 h2 a3 h3 a4 h4 a5 h5 a6 h6 a7 h7 a8 h8 a9 h9 x0 x1 x2 x3 x4 hf hl (ix2 r l)
      = nrm x0 x1 r l := by
  unfold outAS
  rw [View.read_writes_eq_canon _ _ _ (coverAS c i a2 h2 a3 h3 a4 h4 a5 h5 a6 h6 a7 h7 a8 h8 a9 h9 x0 x1 x2 x3 x4 hf hl)]
  refine (View.canon_apply_of_pieces (fun y : S1024x2048.Idx => nrm x0 x1 (y 0) (y 1)) _ ?_ _
    (coverAS c i a2 h2 a3 h3 a4 h4 a5 h5 a6 h6 a7 h7 a8 h8 a9 h9 x0 x1 x2 x3 x4 hf hl _)).trans ?_
  · unfold runA
    dsimp only
    sl_unfold_words
    simp only [View.readAt_eq_ld, h2.read_unread, h3.read_unread, h4.read_unread, h5.read_unread, h6.read_unread]
    simp only [List.forall_mem_cons]
    refine ⟨fun x => ?_, fun x => ?_, fun x => ?_, fun x => ?_, fun p hp => absurd hp List.not_mem_nil⟩
    all_goals
      idx_vars x
      rw [emb_rows]
    · pointwise [k0_pay2, k0_pay1, k0_pay20, k0_pay21]; rfl
    · pointwise [k0_pay17, k0_pay16, k0_pay14, k0_pay15]; rfl
    · pointwise [k0_pay11, k0_pay10]; rfl
    · pointwise [k0_pay7, k0_pay6]; rfl
  · rfl

/-- stores their products with the side columns, -/
theorem side_A (hf : first i) (hl : ¬later i) (r : Fin 1024) (l : Fin 128) :
    outA6 c i a2 h2 a3 h3 a4 h4 a5 h5 a6 h6 a7 h7 a8 h8 a9 h9 x0 x1 x2 x3 x4 hf hl (ix2 r l)
      = dotc (nrm x0 x1 r) (fun k => x4 (ix2 k l)) := by
  unfold outA6
  rw [View.read_writes_eq_canon _ _ _ (coverA6 c i a2 h2 a3 h3 a4 h4 a5 h5 a6 h6 a7 h7 a8 h8 a9 h9 x0 x1 x2 x3 x4 hf hl)]
  refine (View.canon_apply_of_pieces (fun y : S1024x128.Idx => dotc (nrm x0 x1 (y 0)) (fun k => x4 (ix2 k (y 1)))) _ ?_ _
    (coverA6 c i a2 h2 a3 h3 a4 h4 a5 h5 a6 h6 a7 h7 a8 h8 a9 h9 x0 x1 x2 x3 x4 hf hl _)).trans ?_
  · unfold runA
    dsimp only
    sl_unfold_words
    simp only [View.readAt_eq_ld, h2.read_unread, h3.read_unread, h4.read_unread, h5.read_unread, h6.read_unread]
    simp only [List.forall_mem_cons]
    refine ⟨fun x => ?_, fun x => ?_, fun x => ?_, fun x => ?_, fun p hp => absurd hp List.not_mem_nil⟩
    all_goals
      idx_vars x
      rw [emb_rows]
    · pointwise [k0_pay3, k0_pay1, k0_pay20, k0_pay21]; rfl
    · pointwise [k0_pay18, k0_pay16, k0_pay14, k0_pay15]; rfl
    · pointwise [k0_pay12, k0_pay10]; rfl
    · pointwise [k0_pay8, k0_pay6]; rfl
  · rfl

/-- and with its main columns, scaled. -/
theorem main_A (hf : first i) (hl : ¬later i) (r : Fin 1024) (l : Fin 1024) :
    outA5 c i a2 h2 a3 h3 a4 h4 a5 h5 a6 h6 a7 h7 a8 h8 a9 h9 x0 x1 x2 x3 x4 hf hl (ix2 r l)
      = dotc (nrm x0 x1 r) (fun k => x2 (ix2 k l)) * x3 (ix2 0 l) := by
  unfold outA5
  rw [View.read_writes_eq_canon _ _ _ (coverA5 c i a2 h2 a3 h3 a4 h4 a5 h5 a6 h6 a7 h7 a8 h8 a9 h9 x0 x1 x2 x3 x4 hf hl)]
  refine (View.canon_apply_of_pieces (fun y : S1024x1024.Idx => dotc (nrm x0 x1 (y 0)) (fun k => x2 (ix2 k (y 1))) * x3 (ix2 0 (y 1))) _ ?_ _
    (coverA5 c i a2 h2 a3 h3 a4 h4 a5 h5 a6 h6 a7 h7 a8 h8 a9 h9 x0 x1 x2 x3 x4 hf hl _)).trans ?_
  · unfold runA
    dsimp only
    sl_unfold_words
    simp only [View.readAt_eq_ld, h2.read_unread, h3.read_unread, h4.read_unread, h5.read_unread, h6.read_unread]
    simp only [List.forall_mem_cons]
    refine ⟨fun x => ?_, fun x => ?_, fun x => ?_, fun x => ?_, fun p hp => absurd hp List.not_mem_nil⟩
    all_goals
      idx_vars x
      rw [emb_rows]
    · pointwise [k0_pay4, k0_pay1, k0_pay20, k0_pay21]; rfl
    · pointwise [k0_pay19, k0_pay16, k0_pay14, k0_pay15]; rfl
    · pointwise [k0_pay13, k0_pay10]; rfl
    · pointwise [k0_pay9, k0_pay6]; rfl
  · rfl

/-- A later point uses the kept rows `xs`. -/
theorem main_B (hf : ¬first i) (hl : later i) (xs : Vec Ideal S1024x2048 .bf16) (r : Fin 1024) (l : Fin 1024) :
    outB5 c i a2 h2 a3 h3 a4 h4 a5 h5 a6 h6 a7 h7 a8 h8 a9 h9 x2 x3 xs hf hl (ix2 r l)
      = dotc (fun k => xs (ix2 r k)) (fun k => x2 (ix2 k l)) * x3 (ix2 0 l) := by
  unfold outB5
  rw [View.read_writes_eq_canon _ _ _ (coverB5 c i a2 h2 a3 h3 a4 h4 a5 h5 a6 h6 a7 h7 a8 h8 a9 h9 x2 x3 xs hf hl)]
  unfold runB
  dsimp only
  rw [View.canon_unit_zero off0]
  simp only [View.readAt_eq_ld, h4.read_unread, h5.read_unread, h9.read_unread]
  pointwise [k0_pay5]
  rfl

end

/-! ## The reference's two results -/

/-- The padding: the integer zero, as a number. -/
theorem pad_zero : (FloatOps.sitofp .f32 (0#32) : Ideal .f32) = (0 : EReal) := by
  show (((0#32 : BitVec 32).toInt : ℝ) : EReal) = 0
  simp

/-- Column `l` of the main weights, and of the side weights with their zero columns. -/
def wcol (l : Fin 4096) : Fin 7184 := ⟨l.val, by omega⟩
def wside (w : Vec Ideal S2048x7184 .f32) (l : Fin 128) (k : Fin 2048) : EReal :=
  if h : l.val < 16 then w (ix2 k ⟨4096 + l.val, by omega⟩) else 0

section
variable (x0 : (⟨S32768x2048, .f32⟩ : BufTy).Contents (Elt Ideal)) (x1 : (⟨S2048, .f32⟩ : BufTy).Contents (Elt Ideal))
  (x2 : (⟨S2048x7184, .f32⟩ : BufTy).Contents (Elt Ideal))

theorem ref_main (r : Fin 32768) (l : Fin 4096) :
    InGdnRefIdeal.Read.val_main_v14 (F := Ideal) x0 x1 x2 (ix2 r l)
      = dotc (fun k => rms (fun k => x0 (ix2 r k)) (fun k => x1 (ix1 k)) k) (fun k => x2 (ix2 k (wcol l))) := by
  unfold dotc wcol
  pointwise [InGdnRefIdeal.Read.val_main_v14, InGdnRefIdeal.Read.val_main_v13, InGdnRefIdeal.Read.val_main_v12,
    InGdnRefIdeal.Read.val_main_v11, InGdnRefIdeal.Read.val_main_v10, InGdnRefIdeal.Read.val_main_v9,
    InGdnRefIdeal.Read.val_main_v8, InGdnRefIdeal.Read.val_main_v7, InGdnRefIdeal.Read.val_main_v6,
    InGdnRefIdeal.Read.val_main_v5, InGdnRefIdeal.Read.val_main_v4, InGdnRefIdeal.Read.val_main_v3,
    InGdnRefIdeal.Read.val_main_v2, InGdnRefIdeal.Read.val_main_v1, InGdnRefIdeal.Read.val_main_v0,
    InGdnRefIdeal.Read.val_main_cst, InGdnRefIdeal.Read.val_main_cst_0, InGdnRefIdeal.Read.val_main_cst_1]
  rfl

theorem ref_side (r : Fin 32768) (l : Fin 128) :
    InGdnRefIdeal.Read.val_main_v16 (F := Ideal) x0 x1 x2 (ix2 r l)
      = dotc (fun k => rms (fun k => x0 (ix2 r k)) (fun k => x1 (ix1 k)) k) (wside x2 l) := by
  unfold dotc wside
  by_cases hl : l.val < 16
  · simp only [dif_pos hl]
    pointwise [InGdnRefIdeal.Read.val_main_v16]
    rw [dif_pos hl]
    pointwise [InGdnRefIdeal.Read.val_main_v15, InGdnRefIdeal.Read.val_main_v13, InGdnRefIdeal.Read.val_main_v12,
      InGdnRefIdeal.Read.val_main_v11, InGdnRefIdeal.Read.val_main_v10, InGdnRefIdeal.Read.val_main_v9,
      InGdnRefIdeal.Read.val_main_v8, InGdnRefIdeal.Read.val_main_v7, InGdnRefIdeal.Read.val_main_v6,
      InGdnRefIdeal.Read.val_main_v5, InGdnRefIdeal.Read.val_main_v4, InGdnRefIdeal.Read.val_main_v3,
      InGdnRefIdeal.Read.val_main_v2, InGdnRefIdeal.Read.val_main_v1, InGdnRefIdeal.Read.val_main_v0,
      InGdnRefIdeal.Read.val_main_cst, InGdnRefIdeal.Read.val_main_cst_0, InGdnRefIdeal.Read.val_main_cst_1]
    rfl
  · simp only [dif_neg hl, mul_zero, Finset.sum_const_zero]
    pointwise [InGdnRefIdeal.Read.val_main_v16]
    rw [dif_neg hl]
    pointwise [InGdnRefIdeal.Read.val_main_call0_v0, InGdnRefIdeal.Read.val_main_c]
    exact pad_zero

end

variable (m : (ℓ : Loc nD τ sig) → Buf (Elt Ideal) ℓ)

/-! ## The arguments, and what the kernel's windows read of them -/

abbrev A0 (c : Dev nD) : Vec Ideal S32768x2048 .f32 := m ((c : Thread nD τ).loc main_arg0)
abbrev A1 (c : Dev nD) : Vec Ideal S2048 .f32 := m ((c : Thread nD τ).loc main_arg1)
abbrev A2 (c : Dev nD) : Vec Ideal S2048x7184 .f32 := m ((c : Thread nD τ).loc main_arg2)

theorem V0 (c : Dev nD) (j : S32768x2048.Idx) : (V m c main_arg0 : Vec Ideal S32768x2048 .f32) j = A0 m c j :=
  congrFun (V_main_arg0 m c) j
theorem V1 (c : Dev nD) (l : Fin 2048) : (V m c main_v6 : Vec Ideal S1x2048 .f32) (ix2 0 l) = A1 m c (ix1 l) := by
  unfold V; after_reads_at
theorem V2 (c : Dev nD) (k : Fin 2048) (l : Fin 4096) :
    (V m c main_v1 : Vec Ideal S2048x4096 .bf16) (ix2 k l) = A2 m c (ix2 k (wcol l)) := by
  unfold V wcol; after_reads_at; try rfl
theorem V3 (c : Dev nD) (l : Fin 4096) : (V m c main_v7 : Vec Ideal S1x4096 .f32) (ix2 0 l) = (1 : EReal) := by
  unfold V; after_reads_at
/-- The side weights, with zero columns after the sixteenth. -/
theorem V4 (c : Dev nD) (k : Fin 2048) (l : Fin 128) : (V m c main_v4 : Vec Ideal S2048x128 .bf16) (ix2 k l) = wside (A2 m c) l k := by
  unfold wside
  by_cases hl : l.val < 16
  · rw [dif_pos hl]
    unfold V; after_reads_at
    rw [dif_pos hl]
  · rw [dif_neg hl]
    unfold V; after_reads_at
    rw [dif_neg hl, pad_zero]

/-- Row `r` of the tile of point `t` is row `1024 (t / 4) + r` of the array; column `l` of its columns is column `1024 (t % 4) + l`. -/
def row (t : Fin cfg0.N) (r : Fin 1024) : Fin 32768 :=
  ⟨1024 * (t.val / 4) + r.val, by have := t.isLt; have : cfg0.N = 128 := N_0; omega⟩
def col (t : Fin cfg0.N) (l : Fin 1024) : Fin 4096 := ⟨1024 * (t.val % 4) + l.val, by omega⟩

theorem row_base (t : Fin cfg0.N) (r : Fin 1024) : row (base t) r = row t r := Fin.ext (by
  show 1024 * (4 * (t.val / 4) / 4) + r.val = 1024 * (t.val / 4) + r.val
  omega)

/-- The index maps of the windows, decided over the grid. -/
theorem idx : ∀ t : Fin grid0.N, (win0_0.index t 0 = t.val / 4 ∧ win0_0.index t 1 = 0) ∧ (win0_1.index t 0 = 0 ∧ win0_1.index t 1 = 0)
    ∧ (win0_2.index t 0 = 0 ∧ win0_2.index t 1 = t.val % 4) ∧ (win0_3.index t 0 = 0 ∧ win0_3.index t 1 = t.val % 4)
    ∧ (win0_4.index t 0 = 0 ∧ win0_4.index t 1 = 0) ∧ (win0_5.index t 0 = t.val / 4 ∧ win0_5.index t 1 = t.val % 4)
    ∧ (win0_6.index t 0 = t.val / 4 ∧ win0_6.index t 1 = 0) := by decide +kernel

theorem blk0 (c : Dev nD) (t : Fin cfg0.N) (r : Fin 1024) (l : Fin 2048) :
    (iblk m c 0 t : Vec Ideal S1024x2048 .f32) (ix2 r l) = A0 m c (ix2 (row t r) l) := by
  refine Eq.trans ?_ (V0 m c _)
  unfold iblk
  rw [View.read_apply]
  show V m c main_arg0 _ = V m c main_arg0 _
  congr 1; funext a; apply Fin.ext
  match a with
  | ⟨0, _⟩ => show win0_0.index t 0 * 1024 + 1 * r.val = 1024 * (t.val / 4) + r.val; rw [(idx t).1.1]; omega
  | ⟨1, _⟩ => show win0_0.index t 1 * 2048 + 1 * l.val = l.val; rw [(idx t).1.2]; omega

theorem blk1 (c : Dev nD) (t : Fin cfg0.N) (l : Fin 2048) :
    (iblk m c 1 t : Vec Ideal S1x2048 .f32) (ix2 0 l) = A1 m c (ix1 l) := by
  refine Eq.trans ?_ (V1 m c _)
  unfold iblk
  rw [View.read_apply]
  show V m c main_v6 _ = V m c main_v6 _
  congr 1; funext a; apply Fin.ext
  match a with
  | ⟨0, _⟩ => show win0_1.index t 0 * 1 + 1 * 0 = 0; rw [(idx t).2.1.1]
  | ⟨1, _⟩ => show win0_1.index t 1 * 2048 + 1 * l.val = l.val; rw [(idx t).2.1.2]; omega

theorem blk2 (c : Dev nD) (t : Fin cfg0.N) (k : Fin 2048) (l : Fin 1024) :
    (iblk m c 2 t : Vec Ideal S2048x1024 .bf16) (ix2 k l) = A2 m c (ix2 k (wcol (col t l))) := by
  refine Eq.trans ?_ (V2 m c k (col t l))
  unfold iblk
  rw [View.read_apply]
  show V m c main_v1 _ = V m c main_v1 _
  congr 1; funext a; apply Fin.ext
  match a with
  | ⟨0, _⟩ => show win0_2.index t 0 * 2048 + 1 * k.val = k.val; rw [(idx t).2.2.1.1]; omega
  | ⟨1, _⟩ => show win0_2.index t 1 * 1024 + 1 * l.val = 1024 * (t.val % 4) + l.val; rw [(idx t).2.2.1.2]; omega

theorem blk3 (c : Dev nD) (t : Fin cfg0.N) (l : Fin 1024) :
    (iblk m c 3 t : Vec Ideal S1x1024 .f32) (ix2 0 l) = (1 : EReal) := by
  refine Eq.trans ?_ (V3 m c (col t l))
  unfold iblk
  rw [View.read_apply]
  show V m c main_v7 _ = V m c main_v7 _
  congr 1; funext a; apply Fin.ext
  match a with
  | ⟨0, _⟩ => show win0_3.index t 0 * 1 + 1 * 0 = 0; rw [(idx t).2.2.2.1.1]
  | ⟨1, _⟩ => show win0_3.index t 1 * 1024 + 1 * l.val = 1024 * (t.val % 4) + l.val; rw [(idx t).2.2.2.1.2]; omega

theorem blk4 (c : Dev nD) (t : Fin cfg0.N) (k : Fin 2048) (l : Fin 128) :
    (iblk m c 4 t : Vec Ideal S2048x128 .bf16) (ix2 k l) = wside (A2 m c) l k := by
  refine Eq.trans ?_ (V4 m c k l)
  unfold iblk
  rw [View.read_apply]
  show V m c main_v4 _ = V m c main_v4 _
  congr 1; funext a; apply Fin.ext
  match a with
  | ⟨0, _⟩ => show win0_4.index t 0 * 2048 + 1 * k.val = k.val; rw [(idx t).2.2.2.2.1.1]; omega
  | ⟨1, _⟩ => show win0_4.index t 1 * 128 + 1 * l.val = l.val; rw [(idx t).2.2.2.2.1.2]; omega

/-! ## The two whole results -/

/-- Row `R` of `x`, normalised. -/
def nx (c : Dev nD) (R : Fin 32768) (k : Fin 2048) : EReal := rms (fun k => A0 m c (ix2 R k)) (fun k => A1 m c (ix1 k)) k

theorem nrm_blk (c : Dev nD) (t : Fin cfg0.N) (r : Fin 1024) : nrm (iblk m c 0 t) (iblk m c 1 t) r = nx m c (row t r) := by
  unfold nrm nx; simp only [blk0, blk1]

/-- At every point of a tile the scratch holds the tile's normalised rows, -/
theorem scr_apply (c : Dev nD) (t : Fin cfg0.N) (r : Fin 1024) (l : Fin 2048) : scr m c t (ix2 r l) = nx m c (row t r) l := by
  unfold scr scrA
  rw [scratch_A, nrm_blk, row_base]

/-- and the side result's buffer their products with the side columns. -/
theorem side_apply (c : Dev nD) (t : Fin cfg0.N) (r : Fin 1024) (l : Fin 128) :
    side m c t (ix2 r l) = dotc (nx m c (row t r)) (wside (A2 m c) l) := by
  unfold side sideA
  rw [side_A, nrm_blk, row_base]
  simp only [blk4]

/-- Every point leaves its columns of the products in the main result's buffer. -/
theorem outm_apply (c : Dev nD) (t : Fin cfg0.N) (r : Fin 1024) (l : Fin 1024) :
    outm m c t (ix2 r l) = dotc (nx m c (row t r)) (fun k => A2 m c (ix2 k (wcol (col t l)))) := by
  unfold outm
  by_cases h : t.val % 4 = 0
  · rw [dif_pos h]
    unfold mainA
    rw [main_A, nrm_blk]
    simp only [blk2, blk3, mul_one]
  · rw [dif_neg h]
    unfold mainB
    rw [main_B]
    simp only [scr_apply, blk2, blk3, mul_one]

/-- The reference's results from the arguments of device `c`. -/
def res0 (c : Dev nD) : Vec Ideal S32768x4096 .f32 := InGdnRefIdeal.Read.val_main_v14 (F := Ideal) (A0 m c) (A1 m c) (A2 m c)
def res1 (c : Dev nD) : Vec Ideal S32768x128 .f32 := InGdnRefIdeal.Read.val_main_v16 (F := Ideal) (A0 m c) (A1 m c) (A2 m c)

/-- What grid point `t` writes back is its block of the reference's results. -/
theorem flushed5 (c : Dev nD) (t : Fin cfg0.N) :
    (dats m 0 c).flushed 5 t = ((cfg0.win 5).blk t).view.read (Elt Ideal) (res0 m c) := by
  funext y
  rw [View.read_apply]
  obtain ⟨r, l, rfl⟩ : ∃ (r : Fin 1024) (l : Fin 1024), y = ix2 r l := ⟨y 0, y 1, eq_ix2 y⟩
  have e : ((cfg0.win 5).blk t).view.emb (ix2 r l) = (ix2 (row t r) (col t l) : S32768x4096.Idx) := by
    funext a; apply Fin.ext
    match a with
    | ⟨0, _⟩ => show win0_5.index t 0 * 1024 + 1 * r.val = 1024 * (t.val / 4) + r.val; rw [(idx t).2.2.2.2.2.1.1]; omega
    | ⟨1, _⟩ => show win0_5.index t 1 * 1024 + 1 * l.val = 1024 * (t.val % 4) + l.val; rw [(idx t).2.2.2.2.2.1.2]; omega
  rw [e]
  show outm m c t (ix2 r l) = InGdnRefIdeal.Read.val_main_v14 (F := Ideal) (A0 m c) (A1 m c) (A2 m c) (ix2 (row t r) (col t l))
  rw [ref_main, outm_apply]
  rfl

theorem flushed6 (c : Dev nD) (t : Fin cfg0.N) :
    (dats m 0 c).flushed 6 t = ((cfg0.win 6).blk t).view.read (Elt Ideal) (res1 m c) := by
  funext y
  rw [View.read_apply]
  obtain ⟨r, l, rfl⟩ : ∃ (r : Fin 1024) (l : Fin 128), y = ix2 r l := ⟨y 0, y 1, eq_ix2 y⟩
  have e : ((cfg0.win 6).blk t).view.emb (ix2 r l) = (ix2 (row t r) l : S32768x128.Idx) := by
    funext a; apply Fin.ext
    match a with
    | ⟨0, _⟩ => show win0_6.index t 0 * 1024 + 1 * r.val = 1024 * (t.val / 4) + r.val; rw [(idx t).2.2.2.2.2.2.1]; omega
    | ⟨1, _⟩ => show win0_6.index t 1 * 128 + 1 * l.val = l.val; rw [(idx t).2.2.2.2.2.2.2]; omega
  rw [e]
  show side m c t (ix2 r l) = InGdnRefIdeal.Read.val_main_v16 (F := Ideal) (A0 m c) (A1 m c) (A2 m c) (ix2 (row t r) l)
  rw [ref_side, side_apply]
  rfl

/-- The blocks written back fill the results: the main one's at every point, the side one's after the last point of each tile. -/
theorem mem_blk5 (t : Fin cfg0.N) (i : S32768x4096.Idx) : i ∈ ((cfg0.win 5).blk t).view.set
    ↔ ∀ a : Fin 2, win0_5.index t a * S1024x1024.size a ≤ (i a).val ∧ (i a).val < win0_5.index t a * S1024x1024.size a + S1024x1024.size a := by
  show i ∈ ((View.whole main_v8_0).slice (win0_5.rect t)).set ↔ _
  rw [View.set_slice_whole, Rect.mem_set_unit]
  exact Iff.rfl

theorem final5 (c : Dev nD) : (dats m 0 c).arrAt 5 cfg0.N = res0 m c :=
  (dats m 0 c).arrAt_eq_of_cover 5 (res0 m c) (fun t _ => flushed5 m c t) fun (i : S32768x4096.Idx) => by
    have h0 : (i 0).val < 32768 := (i 0).isLt
    have h1 : (i 1).val < 4096 := (i 1).isLt
    have hN : cfg0.N = 128 := N_0
    refine ⟨⟨4 * ((i 0).val / 1024) + (i 1).val / 1024, by omega⟩, flush0_5 _, (mem_blk5 _ i).2 ?_⟩
    intro a
    match a with
    | ⟨0, _⟩ =>
      show win0_5.index _ 0 * 1024 ≤ (i 0).val ∧ (i 0).val < win0_5.index _ 0 * 1024 + 1024
      rw [(idx _).2.2.2.2.2.1.1]; dsimp only; omega
    | ⟨1, _⟩ =>
      show win0_5.index _ 1 * 1024 ≤ (i 1).val ∧ (i 1).val < win0_5.index _ 1 * 1024 + 1024
      rw [(idx _).2.2.2.2.2.1.2]; dsimp only; omega

theorem mem_blk6 (t : Fin cfg0.N) (i : S32768x128.Idx) : i ∈ ((cfg0.win 6).blk t).view.set
    ↔ ∀ a : Fin 2, win0_6.index t a * S1024x128.size a ≤ (i a).val ∧ (i a).val < win0_6.index t a * S1024x128.size a + S1024x128.size a := by
  show i ∈ ((View.whole main_v8_1).slice (win0_6.rect t)).set ↔ _
  rw [View.set_slice_whole, Rect.mem_set_unit]
  exact Iff.rfl

theorem final6 (c : Dev nD) : (dats m 0 c).arrAt 6 cfg0.N = res1 m c :=
  (dats m 0 c).arrAt_eq_of_cover 6 (res1 m c) (fun t _ => flushed6 m c t) fun (i : S32768x128.Idx) => by
    have h0 : (i 0).val < 32768 := (i 0).isLt
    have h1 : (i 1).val < 128 := (i 1).isLt
    have hN : cfg0.N = 128 := N_0
    refine ⟨⟨4 * ((i 0).val / 1024) + 3, by omega⟩, (flush0_6 _).2 (by dsimp only; omega), (mem_blk6 _ i).2 ?_⟩
    intro a
    match a with
    | ⟨0, _⟩ =>
      show win0_6.index _ 0 * 1024 ≤ (i 0).val ∧ (i 0).val < win0_6.index _ 0 * 1024 + 1024
      rw [(idx _).2.2.2.2.2.2.1]; dsimp only; omega
    | ⟨1, _⟩ =>
      show win0_6.index _ 1 * 128 ≤ (i 1).val ∧ (i 1).val < win0_6.index _ 1 * 128 + 128
      rw [(idx _).2.2.2.2.2.2.2]; dsimp only; omega

end Cert.InGdnIdeal.Hand

namespace Cert.Proof

open Idealize.ShloMosaic Idealize.ShloMosaic.TcCoe Idealize.SL.Sem

/-- The kernel's two results are the reference's, at every index, for every input. -/
theorem in_gdn : Cert.algebraic_InGdnIdeal_InGdnRefIdeal := by
  intro m ρ m' ρ' _ hagree
  refine ⟨fun c => InGdnIdeal.Hand.res0 m c, fun c => InGdnIdeal.Hand.res1 m c,
    (θ_run _ _ _).mono (fun _ h c => ⟨(h c).1.trans (InGdnIdeal.Hand.final5 m c), (h c).2.1.trans (InGdnIdeal.Hand.final6 m c), (h c).2.2⟩)
      (InGdnIdeal.Hand.run_results (F := Ideal) m ρ),
    (θ_run _ _ _).mono (fun _ h c => ⟨?_, ?_, (h c).2.2⟩) (InGdnRefIdeal.Value.run (F := Ideal) m' ρ')⟩
  · rw [(h c).1, InGdnRefIdeal.Read.val_main_v14_eq, (hagree c).1, (hagree c).2.1, (hagree c).2.2]
    rfl
  · rw [(h c).2.1, InGdnRefIdeal.Read.val_main_v16_eq, (hagree c).1, (hagree c).2.1, (hagree c).2.2]
    rfl

end Cert.Proof

end
-- ==== Proof.MemKv.lean ====
module

public import proofs.«01_k».proof.Defs
public import proofs.«01_k».proof.Proof.Gen.MemKvIdeal.Value
public import proofs.«01_k».proof.Proof.Gen.MemKvRefIdeal.Read
public import proofs.«01_k».proof.Proof.Rows
public import Idealize.ShloMosaic.Lib.Pipeline.Value
public import Idealize.ShloMosaic.Lib.Pointwise
public import Idealize.ShloMosaic.Lib.StableHlo.ReadAt

/-!
# The memory's keys and values: `rms_norm(mem) @ [w_mk, w_mv]`

One grid point holds the whole call: the 512 memory rows are normalised, four chunks of 128, and multiplied by the two weight matrices set
side by side, times a row of ones. The reference multiplies the normalised rows by each matrix and sets the products side by side.
-/

@[expose] public section

set_option maxRecDepth 16384

noncomputable section

namespace Cert.MemKvIdeal.Hand

open Cert.MemKvIdeal Cert.MemKvIdeal.Gen Cert.Rows Idealize.ShloMosaic Idealize.ShloMosaic.TcCoe Idealize.SL.Sem
open Idealize.ShloMosaic.Pipeline (Dat)

/-- A normalised row `y` under the gain `g`, times the column `w`. -/
def prod (y g w : Fin 2048 → EReal) : EReal := ∑ k, rms y g k * w k

/-- What the point stores at row `r` and column `l`. -/
theorem out_A (c : Dev nD) (i : grid0.Coords) (a2 : Memref sig .tc .vmem S512x2048 .f32) (h2 : a2.IsWhole)
    (a3 : Memref sig .tc .vmem S1x2048 .f32) (h3 : a3.IsWhole) (a4 : Memref sig .tc .vmem S2048x1024 .bf16) (h4 : a4.IsWhole)
    (a5 : Memref sig .tc .vmem S1x1024 .f32) (h5 : a5.IsWhole) (a6 : Memref sig .tc .vmem S512x1024 .bf16) (h6 : a6.IsWhole)
    (a7 : Memref sig .tc .vmem S512x2048 .bf16) (h7 : a7.IsWhole)
    (x0 : Vec Ideal S512x2048 .f32) (x1 : Vec Ideal S1x2048 .f32) (x2 : Vec Ideal S2048x1024 .bf16) (x3 : Vec Ideal S1x1024 .f32)
    (hc0 : cond0_0 i) (hc1 : ¬cond0_1 i) (r : Fin 512) (l : Fin 1024) :
    out0_A_4 c i a2 h2 a3 h3 a4 h4 a5 h5 a6 h6 a7 h7 hc0 hc1 x0 x1 x2 x3 (ix2 r l)
      = prod (fun k => x0 (ix2 r k)) (fun k => x1 (ix2 0 k)) (fun k => x2 (ix2 k l)) * x3 (ix2 0 l) := by
  unfold out0_A_4
  rw [View.read_writes_eq_canon _ _ _ (cover0_A_4 c i a2 h2 a3 h3 a4 h4 a5 h5 a6 h6 a7 h7 hc0 hc1 x0 x1 x2 x3)]
  refine (View.canon_apply_of_pieces (fun y : S512x1024.Idx =>
    prod (fun k => x0 (ix2 (y 0) k)) (fun k => x1 (ix2 0 k)) (fun k => x2 (ix2 k (y 1))) * x3 (ix2 0 (y 1))) _ ?_ _
    (cover0_A_4 c i a2 h2 a3 h3 a4 h4 a5 h5 a6 h6 a7 h7 hc0 hc1 x0 x1 x2 x3 _)).trans ?_
  · unfold kernelRun0_A
    dsimp only
    sl_unfold_words
    simp only [View.readAt_eq_ld, h2.read_unread, h3.read_unread, h4.read_unread, h5.read_unread]
    simp only [List.forall_mem_cons]
    refine ⟨fun x => ?_, fun x => ?_, fun x => ?_, fun x => ?_, fun p hp => absurd hp List.not_mem_nil⟩
    all_goals
      idx_vars x
      rw [emb_rows]
    · pointwise [k0_pay1, k0_pay17, k0_pay15]; rfl
    · pointwise [k0_pay14, k0_pay12]; rfl
    · pointwise [k0_pay11, k0_pay9, k0_pay8, k0_pay7, k0_pay6]; rfl
    · pointwise [k0_pay5, k0_pay3]; rfl
  · rfl

/-- Row `r` of the memory's rows laid end to end. -/
def mrow (x : Vec Ideal S2x256x2048 .f32) (r : Fin 512) (k : Fin 2048) : EReal :=
  x (ix3 ⟨r.val / 256, by omega⟩ ⟨r.val % 256, by omega⟩ k)

/-- Column `l` of the two weight matrices side by side. -/
def wkv (w v : Vec Ideal S2048x512 .f32) (l : Fin 1024) (k : Fin 2048) : EReal :=
  if h : l.val < 512 then w (ix2 k ⟨l.val, h⟩) else v (ix2 k ⟨l.val - 512, by omega⟩)

theorem ref_apply (x0 : (⟨S2x256x2048, .f32⟩ : BufTy).Contents (Elt Ideal)) (x1 : (⟨S2048, .f32⟩ : BufTy).Contents (Elt Ideal))
    (x2 x3 : (⟨S2048x512, .f32⟩ : BufTy).Contents (Elt Ideal)) (r : Fin 512) (l : Fin 1024) :
    MemKvRefIdeal.Read.val_main_v17 (F := Ideal) x0 x1 x2 x3 (ix2 r l)
      = prod (mrow x0 r) (fun k => x1 (ix1 k)) (wkv x2 x3 l) := by
  unfold prod mrow wkv
  by_cases hl : l.val < 512
  · simp only [dif_pos hl]
    pointwise [MemKvRefIdeal.Read.val_main_v17, MemKvRefIdeal.Read.val_main_v16]
    rw [dif_pos hl]
    pointwise [MemKvRefIdeal.Read.val_main_v14, MemKvRefIdeal.Read.val_main_v13, MemKvRefIdeal.Read.val_main_v12,
      MemKvRefIdeal.Read.val_main_v11, MemKvRefIdeal.Read.val_main_v10, MemKvRefIdeal.Read.val_main_v9,
      MemKvRefIdeal.Read.val_main_v8, MemKvRefIdeal.Read.val_main_v7, MemKvRefIdeal.Read.val_main_v6,
      MemKvRefIdeal.Read.val_main_v5, MemKvRefIdeal.Read.val_main_v4, MemKvRefIdeal.Read.val_main_v3,
      MemKvRefIdeal.Read.val_main_v2, MemKvRefIdeal.Read.val_main_v1, MemKvRefIdeal.Read.val_main_v0,
      MemKvRefIdeal.Read.val_main_cst, MemKvRefIdeal.Read.val_main_cst_0, MemKvRefIdeal.Read.val_main_cst_1]
    rfl
  · simp only [dif_neg hl]
    pointwise [MemKvRefIdeal.Read.val_main_v17, MemKvRefIdeal.Read.val_main_v16]
    rw [dif_neg hl]
    pointwise [MemKvRefIdeal.Read.val_main_v15, MemKvRefIdeal.Read.val_main_v13, MemKvRefIdeal.Read.val_main_v12,
      MemKvRefIdeal.Read.val_main_v11, MemKvRefIdeal.Read.val_main_v10, MemKvRefIdeal.Read.val_main_v9,
      MemKvRefIdeal.Read.val_main_v8, MemKvRefIdeal.Read.val_main_v7, MemKvRefIdeal.Read.val_main_v6,
      MemKvRefIdeal.Read.val_main_v5, MemKvRefIdeal.Read.val_main_v4, MemKvRefIdeal.Read.val_main_v3,
      MemKvRefIdeal.Read.val_main_v2, MemKvRefIdeal.Read.val_main_v1, MemKvRefIdeal.Read.val_main_v0,
      MemKvRefIdeal.Read.val_main_cst, MemKvRefIdeal.Read.val_main_cst_0, MemKvRefIdeal.Read.val_main_cst_1]
    rfl

variable (m : (ℓ : Loc nD τ sig) → Buf (Elt Ideal) ℓ)

/-! ## The arguments, and what the kernel's windows read of them -/

abbrev A0 (c : Dev nD) : Vec Ideal S2x256x2048 .f32 := m ((c : Thread nD τ).loc main_arg0)
abbrev A1 (c : Dev nD) : Vec Ideal S2048 .f32 := m ((c : Thread nD τ).loc main_arg1)
abbrev A2 (c : Dev nD) : Vec Ideal S2048x512 .f32 := m ((c : Thread nD τ).loc main_arg2)
abbrev A3 (c : Dev nD) : Vec Ideal S2048x512 .f32 := m ((c : Thread nD τ).loc main_arg3)

theorem V0 (c : Dev nD) (r : Fin 512) (k : Fin 2048) : (V m c main_v2 : Vec Ideal S512x2048 .f32) (ix2 r k) = mrow (A0 m c) r k := by
  unfold V mrow; after_reads_at
theorem V1 (c : Dev nD) (l : Fin 2048) : (V m c main_v4 : Vec Ideal S1x2048 .f32) (ix2 0 l) = A1 m c (ix1 l) := by
  unfold V; after_reads_at
theorem V2 (c : Dev nD) (k : Fin 2048) (l : Fin 1024) :
    (V m c main_v1 : Vec Ideal S2048x1024 .bf16) (ix2 k l) = wkv (A2 m c) (A3 m c) l k := by
  unfold wkv
  by_cases hl : l.val < 512
  · rw [dif_pos hl]
    unfold V; after_reads_at
    rw [dif_pos hl]
    after_reads_at
  · rw [dif_neg hl]
    unfold V; after_reads_at
    rw [dif_neg hl]
    after_reads_at
theorem V3 (c : Dev nD) (l : Fin 1024) : (V m c main_v5 : Vec Ideal S1x1024 .f32) (ix2 0 l) = (1 : EReal) := by
  unfold V; after_reads_at

/-- Every window is its whole array. -/
theorem idx : ∀ t : Fin grid0.N, (win0_0.index t 0 = 0 ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 0)
    ∧ (win0_4.index t 0 = 0 ∧ win0_4.index t 1 = 0) := by decide +kernel

theorem blk0 (c : Dev nD) (t : Fin cfg0.N) (r : Fin 512) (k : Fin 2048) :
    (iblk m c 0 t : Vec Ideal S512x2048 .f32) (ix2 r k) = mrow (A0 m c) r k := by
  refine Eq.trans ?_ (V0 m c r k)
  unfold iblk
  rw [View.read_apply]
  show V m c main_v2 _ = V m c main_v2 _
  congr 1; funext a; apply Fin.ext
  match a with
  | ⟨0, _⟩ => show win0_0.index t 0 * 512 + 1 * r.val = r.val; rw [(idx t).1.1]; omega
  | ⟨1, _⟩ => show win0_0.index t 1 * 2048 + 1 * k.val = k.val; rw [(idx t).1.2]; omega

theorem blk1 (c : Dev nD) (t : Fin cfg0.N) (l : Fin 2048) :
    (iblk m c 1 t : Vec Ideal S1x2048 .f32) (ix2 0 l) = A1 m c (ix1 l) := by
  refine Eq.trans ?_ (V1 m c l)
  unfold iblk
  rw [View.read_apply]
  show V m c main_v4 _ = V m c main_v4 _
  congr 1; funext a; apply Fin.ext
  match a with
  | ⟨0, _⟩ => show win0_1.index t 0 * 1 + 1 * 0 = 0; rw [(idx t).2.1.1]
  | ⟨1, _⟩ => show win0_1.index t 1 * 2048 + 1 * l.val = l.val; rw [(idx t).2.1.2]; omega

theorem blk2 (c : Dev nD) (t : Fin cfg0.N) (k : Fin 2048) (l : Fin 1024) :
    (iblk m c 2 t : Vec Ideal S2048x1024 .bf16) (ix2 k l) = wkv (A2 m c) (A3 m c) l k := by
  refine Eq.trans ?_ (V2 m c k l)
  unfold iblk
  rw [View.read_apply]
  show V m c main_v1 _ = V m c main_v1 _
  congr 1; funext a; apply Fin.ext
  match a with
  | ⟨0, _⟩ => show win0_2.index t 0 * 2048 + 1 * k.val = k.val; rw [(idx t).2.2.1.1]; omega
  | ⟨1, _⟩ => show win0_2.index t 1 * 1024 + 1 * l.val = l.val; rw [(idx t).2.2.1.2]; omega

theorem blk3 (c : Dev nD) (t : Fin cfg0.N) (l : Fin 1024) :
    (iblk m c 3 t : Vec Ideal S1x1024 .f32) (ix2 0 l) = (1 : EReal) := by
  refine Eq.trans ?_ (V3 m c l)
  unfold iblk
  rw [View.read_apply]
  show V m c main_v5 _ = V m c main_v5 _
  congr 1; funext a; apply Fin.ext
  match a with
  | ⟨0, _⟩ => show win0_3.index t 0 * 1 + 1 * 0 = 0; rw [(idx t).2.2.2.1.1]
  | ⟨1, _⟩ => show win0_3.index t 1 * 1024 + 1 * l.val = l.val; rw [(idx t).2.2.2.1.2]; omega

/-- The reference's result from the arguments of device `c`. -/
def res (c : Dev nD) : Vec Ideal S512x1024 .bf16 :=
  MemKvRefIdeal.Read.val_main_v17 (F := Ideal) (A0 m c) (A1 m c) (A2 m c) (A3 m c)

/-- What the point writes back is the reference's result. -/
theorem flushed_eq (c : Dev nD) (t : Fin cfg0.N) :
    (dats m 0 c).flushed 4 t = ((cfg0.win 4).blk t).view.read (Elt Ideal) (res m c) := by
  funext y
  rw [View.read_apply]
  obtain ⟨r, l, rfl⟩ : ∃ (r : Fin 512) (l : Fin 1024), y = ix2 r l := ⟨y 0, y 1, eq_ix2 y⟩
  have e : ((cfg0.win 4).blk t).view.emb (ix2 r l) = (ix2 r l : S512x1024.Idx) := by
    funext a; apply Fin.ext
    match a with
    | ⟨0, _⟩ => show win0_4.index t 0 * 512 + 1 * r.val = r.val; rw [(idx t).2.2.2.2.1]; omega
    | ⟨1, _⟩ => show win0_4.index t 1 * 1024 + 1 * l.val = l.val; rw [(idx t).2.2.2.2.2]; omega
  rw [e]
  show _ = MemKvRefIdeal.Read.val_main_v17 (F := Ideal) (A0 m c) (A1 m c) (A2 m c) (A3 m c) (ix2 r l)
  rw [ref_apply, Value.flushed4_A m c t]
  refine (out_A c _ _ _ _ _ _ _ _ _ _ _ _ _ _ _ _ _ _ _ r l).trans ?_
  simp only [blk0, blk1, blk2, blk3, mul_one]

/-- The one block is the whole result. -/
theorem mem_blk4 (t : Fin cfg0.N) (i : S512x1024.Idx) : i ∈ ((cfg0.win 4).blk t).view.set
    ↔ ∀ a : Fin 2, win0_4.index t a * S512x1024.size a ≤ (i a).val ∧ (i a).val < win0_4.index t a * S512x1024.size a + S512x1024.size a := by
  show i ∈ ((View.whole main_v6).slice (win0_4.rect t)).set ↔ _
  rw [View.set_slice_whole, Rect.mem_set_unit]
  exact Iff.rfl

theorem final (c : Dev nD) : (dats m 0 c).arrAt 4 cfg0.N = res m c :=
  (dats m 0 c).arrAt_eq_of_cover 4 (res m c) (fun t _ => flushed_eq m c t) fun (i : S512x1024.Idx) => by
    have h0 : (i 0).val < 512 := (i 0).isLt
    have h1 : (i 1).val < 1024 := (i 1).isLt
    have hN : cfg0.N = 1 := N_0
    refine ⟨⟨0, by omega⟩, flush0_4 _, (mem_blk4 _ i).2 ?_⟩
    intro a
    match a with
    | ⟨0, _⟩ =>
      show win0_4.index _ 0 * 512 ≤ (i 0).val ∧ (i 0).val < win0_4.index _ 0 * 512 + 512
      rw [(idx _).2.2.2.2.1]; omega
    | ⟨1, _⟩ =>
      show win0_4.index _ 1 * 1024 ≤ (i 1).val ∧ (i 1).val < win0_4.index _ 1 * 1024 + 1024
      rw [(idx _).2.2.2.2.2]; omega

end Cert.MemKvIdeal.Hand

namespace Cert.Proof

open Idealize.ShloMosaic Idealize.ShloMosaic.TcCoe Idealize.SL.Sem

/-- The kernel's result is the reference's, at every index, for every input. -/
theorem mem_kv : Cert.algebraic_MemKvIdeal_MemKvRefIdeal := by
  intro m ρ m' ρ' _ hagree
  refine ⟨fun c => MemKvIdeal.Hand.res m c,
    (θ_run _ _ _).mono (fun _ h c => ⟨(h c).1.trans (MemKvIdeal.Hand.final m c), (h c).2⟩) (MemKvIdeal.Value.run_blocks (F := Ideal) m ρ),
    (θ_run _ _ _).mono (fun _ h c => ⟨?_, (h c).2⟩) (MemKvRefIdeal.Value.run (F := Ideal) m' ρ')⟩
  rw [(h c).1, MemKvRefIdeal.Read.val_main_v17_eq, (hagree c).1, (hagree c).2.1, (hagree c).2.2.1, (hagree c).2.2.2]
  rfl

end Cert.Proof

end
-- ==== Proof.GdnFrame.lean ====
module

public import proofs.«01_k».proof.Defs
public import proofs.«01_k».proof.Proof.Gen.Gdn
public import proofs.«01_k».proof.Proof.Gen.GdnIdeal
public import proofs.«01_k».proof.Proof.Gen.GdnIdeal.Frame

/-! The gated delta rule's kernel runs alike over machine floats and over the extended reals: the two programs are one, so the run over
    any float values gives both frames. -/

@[expose] public section

set_option maxRecDepth 65536

open Idealize.ShloMosaic Idealize.ShloMosaic.TcCoe Idealize.SL.Sem

namespace Cert.GdnIdeal.Hand

attribute [local instance] Cert.Gdn.Gen.facts Cert.GdnIdeal.Gen.facts

variable {F : FTy → Type} [FloatOps F]

/-- The two programs' bodies are the same, label by label, -/
theorem body_eq : Cert.GdnIdeal.defs₀ (F := F) = Cert.Gdn.defs₀ (F := F) :=
  congrArg Defs.onTc (funext fun l => funext fun a => by
    match l, a with
    | ⟨0, _⟩, (t, s) => rfl
    | ⟨_ + 1, h⟩, _ => exact absurd h (Nat.not_lt.2 (Nat.le_add_left _ _)))

/-- and so are the programs. -/
theorem defs_eq : Cert.GdnIdeal.defs (F := F) = Cert.Gdn.defs (F := F) :=
  congrArg (Pipeline.defs (Cert.Gdn.pcfgs (F := F))) body_eq

end Cert.GdnIdeal.Hand

namespace Cert.Proof

/-- The kernel over machine floats ends without fault, leaves its arguments unchanged and every semaphore counter at zero. -/
theorem gdn_frame : Cert.quiescent_Gdn (hGdn := Cert.Gdn.Gen.facts) := fun m ρ _ => by
  have h := Cert.GdnIdeal.Gen.frame (F := Bits) m ρ
  rw [Cert.GdnIdeal.Hand.defs_eq] at h
  exact h

end Cert.Proof

end
-- ==== Proof.MobaRun.lean ====
module

public import proofs.«01_k».proof.Proof.Gen.MobaIdeal.Frame
public import proofs.«01_k».proof.Proof.Gen.MobaIdeal.Skeleton
public import Idealize.ShloMosaic.Lib.Pipeline.Frame
public import Idealize.ShloMosaic.Lib.Pipeline.FrameBody
public import Idealize.ShloMosaic.Lib.Scf
public import Idealize.ShloMosaic.Lib.Tactic

/-! The block-sparse attention's kernel at one grid point, over any float values. Its loops' trip counts and its two conditionals depend on
    the point, and nothing here reads what it computes, so the run names none of it: a program is `Safe` at a resource when it runs from
    the resource back to the resource. Loads and stores of a memref the resource holds are safe, a sequence of safe programs is, and a
    loop with a safe trip is. The resource is the four inputs at fixed contents, and the result and the eleven scratches at any. -/

@[expose] public section

set_option maxRecDepth 16384

noncomputable section

namespace Cert.MobaIdeal.Hand

open Cert.MobaIdeal Cert.MobaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resources of the run. -/
abbrev Res (F : FTy → Type) [FloatOps F] : Type := MT nD τ sig Unit (Elt F) ℕ (UR sig nD τ) ℕ

/-! ## Safe programs -/

section Rules

variable {c : Dev nD} {R S : sProp (Res F)} {s : Shape} {e : EltTy} {M : Memref sig .tc .vmem s e} {α β : Type}

/-- The program runs from the resource back to the resource, whatever it returns. -/
structure Safe (c : Dev nD) (R : sProp (Res F)) (p : Prog (TpuEff nD τ sig (Elt F) Λ₀ .tc) α) : Prop where
  run : R ⊢ wp frame (wpE (defs₀ (F := F)) Variants.none (c : Thread nD τ) none) Set.univ p (fun _ => R)

/-- A memref's elements held at the contents `f`. -/
abbrev At (c : Dev nD) (M : Memref sig .tc .vmem s e) (f : Buf (Elt F) (M.view.loc (c : Thread nD τ))) : sProp (Res F) :=
  M.view.loc (c : Thread nD τ) ↦[M.view.set]{fullShare} f

/-- A memref's elements held at some contents. -/
def AtSome (c : Dev nD) (M : Memref sig .tc .vmem s e) : sProp (Res F) := iprop(∃ f, At c M f)

/-- The resource lends the memref's elements, to be given back as they were, -/
class Lends (c : Dev nD) (R : sProp (Res F)) (M : Memref sig .tc .vmem s e) : Prop where
  lend : R ⊢ iprop(∃ f, At c M f ∗ (At c M f -∗ R))

/-- or at any contents. -/
class Gives (c : Dev nD) (R : sProp (Res F)) (M : Memref sig .tc .vmem s e) : Prop where
  give : R ⊢ iprop(∃ f, At c M f ∗ (∀ g, At c M g -∗ R))

theorem Gives.some : Gives c (AtSome (F := F) c M) M := by
  constructor; unfold AtSome
  iintro ⟨%f, H⟩
  iexists f
  isplitl [H]; · iexact H
  iintro %g H
  iexists g; iexact H

theorem Gives.left (h : Gives c R M) : Gives c iprop(R ∗ S) M := by
  constructor
  iintro ⟨HR, HS⟩
  ihave H := h.give $$ HR
  icases H with ⟨%f, Hf, Hk⟩
  iexists f
  isplitl [Hf]; · iexact Hf
  iintro %g Hg
  isplitl [Hg Hk]
  · iapply Hk; iexact Hg
  iexact HS

theorem Gives.right (h : Gives c S M) : Gives c iprop(R ∗ S) M := by
  constructor
  iintro ⟨HR, HS⟩
  ihave H := h.give $$ HS
  icases H with ⟨%f, Hf, Hk⟩
  iexists f
  isplitl [Hf]; · iexact Hf
  iintro %g Hg
  isplitl [HR]; · iexact HR
  iapply Hk; iexact Hg

theorem Lends.here (f : Buf (Elt F) (M.view.loc (c : Thread nD τ))) : Lends c (At c M f) M := by
  constructor
  iintro H
  iexists f
  isplitl [H]; · iexact H
  iintro H; iexact H

instance Gives.lends [h : Gives c R M] : Lends c R M := by
  constructor
  iintro HR
  ihave H := h.give $$ HR
  icases H with ⟨%f, Hf, Hk⟩
  iexists f
  isplitl [Hf]; · iexact Hf
  iintro Hf
  iapply Hk; iexact Hf

theorem Lends.left (h : Lends c R M) : Lends c iprop(R ∗ S) M := by
  constructor
  iintro ⟨HR, HS⟩
  ihave H := h.lend $$ HR
  icases H with ⟨%f, Hf, Hk⟩
  iexists f
  isplitl [Hf]; · iexact Hf
  iintro Hg
  isplitl [Hg Hk]
  · iapply Hk; iexact Hg
  iexact HS

theorem Lends.right (h : Lends c S M) : Lends c iprop(R ∗ S) M := by
  constructor
  iintro ⟨HR, HS⟩
  ihave H := h.lend $$ HS
  icases H with ⟨%f, Hf, Hk⟩
  iexists f
  isplitl [Hf]; · iexact Hf
  iintro Hg
  isplitl [HR]; · iexact HR
  iapply Hk; iexact Hg

theorem Safe.pure (a : α) : Safe c R (Pure.pure a : Prog (TpuEff nD τ sig (Elt F) Λ₀ .tc) α) :=
  ⟨le_wp_ret _ _ _ a (fun _ => R)⟩

theorem Safe.bind {p : Prog (TpuEff nD τ sig (Elt F) Λ₀ .tc) α} {k : α → Prog (TpuEff nD τ sig (Elt F) Λ₀ .tc) β}
    (hp : Safe c R p) (hk : ∀ a, Safe c R (k a)) : Safe c R (p >>= k) := by
  refine ⟨?_⟩
  rw [wp_bind]
  exact hp.run.trans (wp_mono _ _ _ fun a => (hk a).run)

theorem Safe.load {r : LoadRect s} {hl : M.view.LoadsAt r} [h : Lends c R M] :
    Safe c R (Prog.lift (.load M r hl) : Prog (TpuEff nD τ sig (Elt F) Λ₀ .tc) _) := by
  refine ⟨h.lend.trans ?_⟩
  unfold Prog.lift
  iintro ⟨%f, Hf, Hk⟩
  iapply (wp_load Variants.none (c : Thread nD τ) none Set.univ (M.view.setOn_subset_set r.set)) $$ Hf
  iintro Hf
  iapply (le_wp_ret _ _ _ _ _)
  iapply Hk; iexact Hf

theorem Safe.store {r : Rect s} {w : r.shape.Idx → Elt F e} {hx : (M.access r).Stores Finset.univ}
    {hm : (Finset.univ : Finset r.shape.Idx) = Finset.univ ∨ ∀ a, r.stride a = 1} [h : Gives c R M] :
    Safe c R (Prog.lift (.store M r w Finset.univ hx hm) : Prog (TpuEff nD τ sig (Elt F) Λ₀ .tc) _) := by
  refine ⟨h.give.trans ?_⟩
  unfold Prog.lift
  iintro ⟨%f, Hf, Hk⟩
  iapply (wp_store Variants.none (c : Thread nD τ) none Set.univ (View.set_slice_subset M.view r)) $$ Hf
  iintro Hf
  iapply (le_wp_ret _ _ _ _ _)
  iapply Hk; iexact Hf

theorem Safe.loop {n : ℕ} {l : Scf.Loop n} {hok : l.OK} {init : α} {body : Fin l.trips → α → Prog (TpuEff nD τ sig (Elt F) Λ₀ .tc) α}
    (h : ∀ k a, Safe c R (body k a)) : Safe c R (l.for hok init body) := by
  refine ⟨.trans ?_ (Scf.wp_for _ _ _ l.lb l.ub l.st hok init body (fun _ _ => R) fun k a => (h k a).run)⟩
  iintro H
  isplitl [H]; · iexact H
  iintro %a H; iexact H

end Rules

/-! ## The kernel's parts -/

section Parts

variable (c : Dev nD) (i : grid0.Coords)
  (arg3 : Memref sig .tc .vmem S256x256 .bf16) (harg3 : arg3.IsWhole)
  (arg4 : Memref sig .tc .vmem S16384x256 .bf16) (harg4 : arg4.IsWhole)
  (arg5 : Memref sig .tc .vmem S16384x256 .bf16) (harg5 : arg5.IsWhole)
  (arg6 : Memref sig .tc .vmem S2x1x256 .f32) (harg6 : arg6.IsWhole)
  (arg7 : Memref sig .tc .vmem S256x256 .bf16) (harg7 : arg7.IsWhole)
  (arg8 : Memref sig .tc .vmem S2x16384x256 .bf16) (harg8 : arg8.IsWhole)
  (arg9 : Memref sig .tc .vmem S2x256x256 .bf16) (harg9 : arg9.IsWhole)
  (arg10 : Memref sig .tc .vmem S2x64x128 .f32) (harg10 : arg10.IsWhole)
  (arg11 : Memref sig .tc .vmem S2x192x128 .bf16) (harg11 : arg11.IsWhole)
  (arg12 : Memref sig .tc .vmem S2x64x256 .f32) (harg12 : arg12.IsWhole)
  (arg13 : Memref sig .tc .vmem S8x256x256 .f32) (harg13 : arg13.IsWhole)
  (arg14 : Memref sig .tc .vmem S8x256x256 .f32) (harg14 : arg14.IsWhole)
  (arg15 : Memref sig .tc .vmem S2x144x256 .f32) (harg15 : arg15.IsWhole)
  (arg16 : Memref sig .tc .vmem S2x64x144x256 .bf16) (harg16 : arg16.IsWhole)
  (arg17 : Memref sig .tc .vmem S8x1x256 .f32) (harg17 : arg17.IsWhole)
  (arg18 : Memref sig .tc .vmem S8x1x256 .f32) (harg18 : arg18.IsWhole)
  (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ)))

/-- What the kernel holds at one point: the inputs at their contents, the result and the scratches at any. -/
abbrev Held : sProp (Res F) :=
  iprop(At c arg3 f3 ∗ At c arg4 f4 ∗ At c arg5 f5 ∗ At c arg6 f6 ∗ AtSome c arg7 ∗ AtSome c arg8 ∗ AtSome c arg9 ∗ AtSome c arg10 ∗ AtSome c arg11 ∗ AtSome c arg12 ∗ AtSome c arg13 ∗ AtSome c arg14 ∗ AtSome c arg15 ∗ AtSome c arg16 ∗ AtSome c arg17 ∗ AtSome c arg18)

instance has3 : Lends c (Held c arg3 arg4 arg5 arg6 arg7 arg8 arg9 arg10 arg11 arg12 arg13 arg14 arg15 arg16 arg17 arg18 f3 f4 f5 f6) arg3 := .left (.here f3)
instance has4 : Lends c (Held c arg3 arg4 arg5 arg6 arg7 arg8 arg9 arg10 arg11 arg12 arg13 arg14 arg15 arg16 arg17 arg18 f3 f4 f5 f6) arg4 := .right <| .left (.here f4)
instance has5 : Lends c (Held c arg3 arg4 arg5 arg6 arg7 arg8 arg9 arg10 arg11 arg12 arg13 arg14 arg15 arg16 arg17 arg18 f3 f4 f5 f6) arg5 := .right <| .right <| .left (.here f5)
instance has6 : Lends c (Held c arg3 arg4 arg5 arg6 arg7 arg8 arg9 arg10 arg11 arg12 arg13 arg14 arg15 arg16 arg17 arg18 f3 f4 f5 f6) arg6 := .right <| .right <| .right <| .left (.here f6)
instance has7 : Gives c (Held c arg3 arg4 arg5 arg6 arg7 arg8 arg9 arg10 arg11 arg12 arg13 arg14 arg15 arg16 arg17 arg18 f3 f4 f5 f6) arg7 := .right <| .right <| .right <| .right <| .left .some
instance has8 : Gives c (Held c arg3 arg4 arg5 arg6 arg7 arg8 arg9 arg10 arg11 arg12 arg13 arg14 arg15 arg16 arg17 arg18 f3 f4 f5 f6) arg8 := .right <| .right <| .right <| .right <| .right <| .left .some
instance has9 : Gives c (Held c arg3 arg4 arg5 arg6 arg7 arg8 arg9 arg10 arg11 arg12 arg13 arg14 arg15 arg16 arg17 arg18 f3 f4 f5 f6) arg9 := .right <| .right <| .right <| .right <| .right <| .right <| .left .some
instance has10 : Gives c (Held c arg3 arg4 arg5 arg6 arg7 arg8 arg9 arg10 arg11 arg12 arg13 arg14 arg15 arg16 arg17 arg18 f3 f4 f5 f6) arg10 := .right <| .right <| .right <| .right <| .right <| .right <| .right <| .left .some
instance has11 : Gives c (Held c arg3 arg4 arg5 arg6 arg7 arg8 arg9 arg10 arg11 arg12 arg13 arg14 arg15 arg16 arg17 arg18 f3 f4 f5 f6) arg11 := .right <| .right <| .right <| .right <| .right <| .right <| .right <| .right <| .left .some
instance has12 : Gives c (Held c arg3 arg4 arg5 arg6 arg7 arg8 arg9 arg10 arg11 arg12 arg13 arg14 arg15 arg16 arg17 arg18 f3 f4 f5 f6) arg12 := .right <| .right <| .right <| .right <| .right <| .right <| .right <| .right <| .right <| .left .some
instance has13 : Gives c (Held c arg3 arg4 arg5 arg6 arg7 arg8 arg9 arg10 arg11 arg12 arg13 arg14 arg15 arg16 arg17 arg18 f3 f4 f5 f6) arg13 := .right <| .right <| .right <| .right <| .right <| .right <| .right <| .right <| .right <| .right <| .left .some
instance has14 : Gives c (Held c arg3 arg4 arg5 arg6 arg7 arg8 arg9 arg10 arg11 arg12 arg13 arg14 arg15 arg16 arg17 arg18 f3 f4 f5 f6) arg14 := .right <| .right <| .right <| .right <| .right <| .right <| .right <| .right <| .right <| .right <| .right <| .left .some
instance has15 : Gives c (Held c arg3 arg4 arg5 arg6 arg7 arg8 arg9 arg10 arg11 arg12 arg13 arg14 arg15 arg16 arg17 arg18 f3 f4 f5 f6) arg15 := .right <| .right <| .right <| .right <| .right <| .right <| .right <| .right <| .right <| .right <| .right <| .right <| .left .some
instance has16 : Gives c (Held c arg3 arg4 arg5 arg6 arg7 arg8 arg9 arg10 arg11 arg12 arg13 arg14 arg15 arg16 arg17 arg18 f3 f4 f5 f6) arg16 := .right <| .right <| .right <| .right <| .right <| .right <| .right <| .right <| .right <| .right <| .right <| .right <| .right <| .left .some
instance has17 : Gives c (Held c arg3 arg4 arg5 arg6 arg7 arg8 arg9 arg10 arg11 arg12 arg13 arg14 arg15 arg16 arg17 arg18 f3 f4 f5 f6) arg17 := .right <| .right <| .right <| .right <| .right <| .right <| .right <| .right <| .right <| .right <| .right <| .right <| .right <| .right <| .left .some
instance has18 : Gives c (Held c arg3 arg4 arg5 arg6 arg7 arg8 arg9 arg10 arg11 arg12 arg13 arg14 arg15 arg16 arg17 arg18 f3 f4 f5 f6) arg18 := .right <| .right <| .right <| .right <| .right <| .right <| .right <| .right <| .right <| .right <| .right <| .right <| .right <| .right <| .right <| .some

set_option maxHeartbeats 4000000 in
/-- One trip of the loop that splits a head's keys and values into blocks is safe. -/
theorem trip1 (k0_h1 : k0_cond1 i = 1#1) (v484 : IVec S256x128 32) (v485 : FVec F S256x128 .bf16) (v486 : FVec F S256x128 .bf16) (v492 : FVec F S16x256 .bf16) (v517 : FVec F S256x128 .bf16) (v548 : FVec F S256x128 .bf16) (v563 : FVec F S256x128 .bf16) (v565 : IVec S256x128 1) (v567 : FVec F S256x128 .bf16) (v569 : IVec S256x128 1) (v571 : FVec F S256x128 .bf16) (v572 : IVec S256x128 32) (k : Fin k0_t1_loop.trips) (a : Unit) :
    Safe c (Held c arg3 arg4 arg5 arg6 arg7 arg8 arg9 arg10 arg11 arg12 arg13 arg14 arg15 arg16 arg17 arg18 f3 f4 f5 f6) (k0_t1_body i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1 v484 v485 v486 v492 v517 v548 v563 v565 v567 v569 v571 v572 k a) := by
  unfold k0_t1_body
  repeat' first
    | intro _
    | with_reducible apply Safe.bind
    | with_reducible exact Safe.load
    | with_reducible exact Safe.store
    | with_reducible exact Safe.pure _
    | split
    | (rw [k0_part1_eq_skeleton]; unfold k0_part1_skel)

set_option maxHeartbeats 4000000 in
/-- One trip of the first loop over groups of blocks is safe. -/
theorem trip2 (arg2 : BitVec 32) (v1 : FVec F S1x256 .f32) (v3 : FVec F S1x256 .f32) (v18 : FVec F S256x256 .bf16) (v37 : FVec F S256x256 .bf16) (v314 : FVec F S1x256 .f32) (v390 : FVec F S1x256 .f32) (v403 : BitVec 32) (c4_i32_250 : BitVec 32) (v404 : BitVec 32) (c0_i32_251 : BitVec 32) (k : Fin (k0_t2_loop i).trips) (a : FVec F S1x256 .f32 × FVec F S1x256 .f32) :
    Safe c (Held c arg3 arg4 arg5 arg6 arg7 arg8 arg9 arg10 arg11 arg12 arg13 arg14 arg15 arg16 arg17 arg18 f3 f4 f5 f6) (k0_t2_body i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v1 v3 v18 v37 v314 v390 v403 c4_i32_250 v404 c0_i32_251 k a) := by
  unfold k0_t2_body
  repeat' first
    | intro _
    | with_reducible apply Safe.bind
    | with_reducible exact Safe.load
    | with_reducible exact Safe.store
    | with_reducible exact Safe.pure _
    | split
    | (rw [k0_part5_eq_skeleton]; unfold k0_part5_skel)
    | (rw [k0_part6_eq_skeleton]; unfold k0_part6_skel)
    | (rw [k0_part7_eq_skeleton]; unfold k0_part7_skel)
    | (rw [k0_part8_eq_skeleton]; unfold k0_part8_skel)
    | (rw [k0_part9_eq_skeleton]; unfold k0_part9_skel)
    | (rw [k0_part10_eq_skeleton]; unfold k0_part10_skel)
    | (rw [k0_part11_eq_skeleton]; unfold k0_part11_skel)
    | (rw [k0_part12_eq_skeleton]; unfold k0_part12_skel)
    | (rw [k0_part13_eq_skeleton]; unfold k0_part13_skel)
    | (rw [k0_part14_eq_skeleton]; unfold k0_part14_skel)
    | (rw [k0_part15_eq_skeleton]; unfold k0_part15_skel)
    | (rw [k0_part16_eq_skeleton]; unfold k0_part16_skel)
    | (rw [k0_part17_eq_skeleton]; unfold k0_part17_skel)
    | (rw [k0_part18_eq_skeleton]; unfold k0_part18_skel)
    | (rw [k0_part19_eq_skeleton]; unfold k0_part19_skel)
    | (rw [k0_part20_eq_skeleton]; unfold k0_part20_skel)
    | (rw [k0_part21_eq_skeleton]; unfold k0_part21_skel)
    | (rw [k0_part22_eq_skeleton]; unfold k0_part22_skel)
    | (rw [k0_part23_eq_skeleton]; unfold k0_part23_skel)
    | (rw [k0_part24_eq_skeleton]; unfold k0_part24_skel)
    | (rw [k0_part25_eq_skeleton]; unfold k0_part25_skel)
    | (rw [k0_part26_eq_skeleton]; unfold k0_part26_skel)

set_option maxHeartbeats 4000000 in
/-- One trip of the second is safe. -/
theorem trip3 (arg2 : BitVec 32) (v1 : FVec F S1x256 .f32) (v3 : FVec F S1x256 .f32) (v18 : FVec F S256x256 .bf16) (v37 : FVec F S256x256 .bf16) (v314 : FVec F S1x256 .f32) (v390 : FVec F S1x256 .f32) (v403 : BitVec 32) (c4_i32_250 : BitVec 32) (v404 : BitVec 32) (c0_i32_251 : BitVec 32) (v444 : BitVec 32) (k : Fin (k0_t3_loop i).trips) (a : FVec F S1x256 .f32 × FVec F S1x256 .f32) :
    Safe c (Held c arg3 arg4 arg5 arg6 arg7 arg8 arg9 arg10 arg11 arg12 arg13 arg14 arg15 arg16 arg17 arg18 f3 f4 f5 f6) (k0_t3_body i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v1 v3 v18 v37 v314 v390 v403 c4_i32_250 v404 c0_i32_251 v444 k a) := by
  unfold k0_t3_body
  repeat' first
    | intro _
    | with_reducible apply Safe.bind
    | with_reducible exact Safe.load
    | with_reducible exact Safe.store
    | with_reducible exact Safe.pure _
    | split
    | (rw [k0_part27_eq_skeleton]; unfold k0_part27_skel)
    | (rw [k0_part28_eq_skeleton]; unfold k0_part28_skel)
    | (rw [k0_part29_eq_skeleton]; unfold k0_part29_skel)
    | (rw [k0_part30_eq_skeleton]; unfold k0_part30_skel)
    | (rw [k0_part31_eq_skeleton]; unfold k0_part31_skel)
    | (rw [k0_part32_eq_skeleton]; unfold k0_part32_skel)
    | (rw [k0_part33_eq_skeleton]; unfold k0_part33_skel)
    | (rw [k0_part34_eq_skeleton]; unfold k0_part34_skel)
    | (rw [k0_part35_eq_skeleton]; unfold k0_part35_skel)
    | (rw [k0_part36_eq_skeleton]; unfold k0_part36_skel)
    | (rw [k0_part37_eq_skeleton]; unfold k0_part37_skel)
    | (rw [k0_part38_eq_skeleton]; unfold k0_part38_skel)
    | (rw [k0_part39_eq_skeleton]; unfold k0_part39_skel)
    | (rw [k0_part40_eq_skeleton]; unfold k0_part40_skel)
    | (rw [k0_part41_eq_skeleton]; unfold k0_part41_skel)
    | (rw [k0_part42_eq_skeleton]; unfold k0_part42_skel)
    | (rw [k0_part43_eq_skeleton]; unfold k0_part43_skel)
    | (rw [k0_part44_eq_skeleton]; unfold k0_part44_skel)
    | (rw [k0_part45_eq_skeleton]; unfold k0_part45_skel)
    | (rw [k0_part46_eq_skeleton]; unfold k0_part46_skel)
    | (rw [k0_part47_eq_skeleton]; unfold k0_part47_skel)
    | (rw [k0_part48_eq_skeleton]; unfold k0_part48_skel)

set_option maxHeartbeats 8000000 in
/-- The odd pair of groups. -/
theorem part67 (arg2 : BitVec 32) (v1 : FVec F S1x256 .f32) (v3 : FVec F S1x256 .f32) (v18 : FVec F S256x256 .bf16) (v37 : FVec F S256x256 .bf16) (v437 : BitVec 32) (v446_0 : FVec F S1x256 .f32) (v446_1 : FVec F S1x256 .f32) (k0_h2 : k0_cond2 i = 1#1) :
    Safe c (Held c arg3 arg4 arg5 arg6 arg7 arg8 arg9 arg10 arg11 arg12 arg13 arg14 arg15 arg16 arg17 arg18 f3 f4 f5 f6) (k0_part67 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v1 v3 v18 v37 v437 v446_0 v446_1 k0_h2) := by
  rw [k0_part67_eq_skeleton]; unfold k0_part67_skel
  repeat' first
    | intro _
    | with_reducible apply Safe.bind
    | with_reducible exact Safe.load
    | with_reducible exact Safe.store
    | with_reducible exact Safe.pure _
    | split
    | (rw [k0_part49_eq_skeleton]; unfold k0_part49_skel)
    | (rw [k0_part50_eq_skeleton]; unfold k0_part50_skel)
    | (rw [k0_part51_eq_skeleton]; unfold k0_part51_skel)
    | (rw [k0_part52_eq_skeleton]; unfold k0_part52_skel)
    | (rw [k0_part53_eq_skeleton]; unfold k0_part53_skel)
    | (rw [k0_part54_eq_skeleton]; unfold k0_part54_skel)
    | (rw [k0_part55_eq_skeleton]; unfold k0_part55_skel)
    | (rw [k0_part56_eq_skeleton]; unfold k0_part56_skel)
    | (rw [k0_part57_eq_skeleton]; unfold k0_part57_skel)
    | (rw [k0_part58_eq_skeleton]; unfold k0_part58_skel)
    | (rw [k0_part59_eq_skeleton]; unfold k0_part59_skel)
    | (rw [k0_part60_eq_skeleton]; unfold k0_part60_skel)
    | (rw [k0_part61_eq_skeleton]; unfold k0_part61_skel)
    | (rw [k0_part62_eq_skeleton]; unfold k0_part62_skel)
    | (rw [k0_part63_eq_skeleton]; unfold k0_part63_skel)
    | (rw [k0_part64_eq_skeleton]; unfold k0_part64_skel)
    | (rw [k0_part65_eq_skeleton]; unfold k0_part65_skel)
    | (rw [k0_part66_eq_skeleton]; unfold k0_part66_skel)

set_option maxHeartbeats 8000000 in
/-- The start of the kernel, with the preparation of a head at its first query block. -/
theorem part75  :
    Safe c (Held c arg3 arg4 arg5 arg6 arg7 arg8 arg9 arg10 arg11 arg12 arg13 arg14 arg15 arg16 arg17 arg18 f3 f4 f5 f6) (k0_part75 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 ) := by
  rw [k0_part75_eq_skeleton]; unfold k0_part75_skel
  repeat' first
    | intro _
    | with_reducible apply Safe.bind
    | with_reducible exact Safe.load
    | with_reducible exact Safe.store
    | with_reducible exact Safe.pure _
    | with_reducible exact Safe.loop (fun _ _ => trip1 ..)
    | split
    | (rw [k0_part2_eq_skeleton]; unfold k0_part2_skel)
    | (rw [k0_part3_eq_skeleton]; unfold k0_part3_skel)
    | (rw [k0_part4_eq_skeleton]; unfold k0_part4_skel)

set_option maxHeartbeats 8000000 in
/-- The last group and the result. -/
theorem part88 (arg2 : BitVec 32) (v1 : FVec F S1x256 .f32) (v3 : FVec F S1x256 .f32) (v18 : FVec F S256x256 .bf16) (v37 : FVec F S256x256 .bf16) (v420 : BitVec 32) (v437 : BitVec 32) (v446_0 : FVec F S1x256 .f32) (v446_1 : FVec F S1x256 .f32) :
    Safe c (Held c arg3 arg4 arg5 arg6 arg7 arg8 arg9 arg10 arg11 arg12 arg13 arg14 arg15 arg16 arg17 arg18 f3 f4 f5 f6) (k0_part88 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v1 v3 v18 v37 v420 v437 v446_0 v446_1) := by
  rw [k0_part88_eq_skeleton]; unfold k0_part88_skel
  repeat' first
    | intro _
    | with_reducible apply Safe.bind
    | with_reducible exact Safe.load
    | with_reducible exact Safe.store
    | with_reducible exact Safe.pure _
    | with_reducible exact part67 ..
    | split
    | (rw [k0_part68_eq_skeleton]; unfold k0_part68_skel)
    | (rw [k0_part69_eq_skeleton]; unfold k0_part69_skel)
    | (rw [k0_part70_eq_skeleton]; unfold k0_part70_skel)
    | (rw [k0_part71_eq_skeleton]; unfold k0_part71_skel)
    | (rw [k0_part72_eq_skeleton]; unfold k0_part72_skel)
    | (rw [k0_part73_eq_skeleton]; unfold k0_part73_skel)
    | (rw [k0_part74_eq_skeleton]; unfold k0_part74_skel)

set_option maxHeartbeats 4000000 in
/-- Part 1 of what follows. -/
theorem part76 (v11 : BitVec 32) (v18 : FVec F S256x256 .bf16) :
    Safe c (Held c arg3 arg4 arg5 arg6 arg7 arg8 arg9 arg10 arg11 arg12 arg13 arg14 arg15 arg16 arg17 arg18 f3 f4 f5 f6) (k0_part76 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v11 v18) := by
  rw [k0_part76_eq_skeleton]; unfold k0_part76_skel
  repeat' first
    | intro _
    | with_reducible apply Safe.bind
    | with_reducible exact Safe.load
    | with_reducible exact Safe.store
    | with_reducible exact Safe.pure _
    | split

set_option maxHeartbeats 4000000 in
/-- Part 2 of what follows. -/
theorem part77 (v18 : FVec F S256x256 .bf16) (v37 : FVec F S256x256 .bf16) (v50 : BitVec 32) (v62 : FVec F S1x1x256 .f32) :
    Safe c (Held c arg3 arg4 arg5 arg6 arg7 arg8 arg9 arg10 arg11 arg12 arg13 arg14 arg15 arg16 arg17 arg18 f3 f4 f5 f6) (k0_part77 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v18 v37 v50 v62) := by
  rw [k0_part77_eq_skeleton]; unfold k0_part77_skel
  repeat' first
    | intro _
    | with_reducible apply Safe.bind
    | with_reducible exact Safe.load
    | with_reducible exact Safe.store
    | with_reducible exact Safe.pure _
    | split

set_option maxHeartbeats 4000000 in
/-- Part 3 of what follows. -/
theorem part78 (v18 : FVec F S256x256 .bf16) (v37 : FVec F S256x256 .bf16) (v91 : FVec F S256x256 .f32) :
    Safe c (Held c arg3 arg4 arg5 arg6 arg7 arg8 arg9 arg10 arg11 arg12 arg13 arg14 arg15 arg16 arg17 arg18 f3 f4 f5 f6) (k0_part78 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v18 v37 v91) := by
  rw [k0_part78_eq_skeleton]; unfold k0_part78_skel
  repeat' first
    | intro _
    | with_reducible apply Safe.bind
    | with_reducible exact Safe.load
    | with_reducible exact Safe.store
    | with_reducible exact Safe.pure _
    | split

set_option maxHeartbeats 4000000 in
/-- Part 4 of what follows. -/
theorem part79 (v18 : FVec F S256x256 .bf16) (v37 : FVec F S256x256 .bf16) (v121 : FVec F S1x256 .f32) :
    Safe c (Held c arg3 arg4 arg5 arg6 arg7 arg8 arg9 arg10 arg11 arg12 arg13 arg14 arg15 arg16 arg17 arg18 f3 f4 f5 f6) (k0_part79 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v18 v37 v121) := by
  rw [k0_part79_eq_skeleton]; unfold k0_part79_skel
  repeat' first
    | intro _
    | with_reducible apply Safe.bind
    | with_reducible exact Safe.load
    | with_reducible exact Safe.store
    | with_reducible exact Safe.pure _
    | split

set_option maxHeartbeats 4000000 in
/-- Part 5 of what follows. -/
theorem part80 (v18 : FVec F S256x256 .bf16) (v37 : FVec F S256x256 .bf16) (v150 : BitVec 32) :
    Safe c (Held c arg3 arg4 arg5 arg6 arg7 arg8 arg9 arg10 arg11 arg12 arg13 arg14 arg15 arg16 arg17 arg18 f3 f4 f5 f6) (k0_part80 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v18 v37 v150) := by
  rw [k0_part80_eq_skeleton]; unfold k0_part80_skel
  repeat' first
    | intro _
    | with_reducible apply Safe.bind
    | with_reducible exact Safe.load
    | with_reducible exact Safe.store
    | with_reducible exact Safe.pure _
    | split

set_option maxHeartbeats 4000000 in
/-- Part 6 of what follows. -/
theorem part81 (v18 : FVec F S256x256 .bf16) (v37 : FVec F S256x256 .bf16) (v175 : BitVec 32) (v179 : FVec F S256x256 .f32) (v182 : FVec F S1x256x256 .f32) :
    Safe c (Held c arg3 arg4 arg5 arg6 arg7 arg8 arg9 arg10 arg11 arg12 arg13 arg14 arg15 arg16 arg17 arg18 f3 f4 f5 f6) (k0_part81 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v18 v37 v175 v179 v182) := by
  rw [k0_part81_eq_skeleton]; unfold k0_part81_skel
  repeat' first
    | intro _
    | with_reducible apply Safe.bind
    | with_reducible exact Safe.load
    | with_reducible exact Safe.store
    | with_reducible exact Safe.pure _
    | split

set_option maxHeartbeats 4000000 in
/-- Part 7 of what follows. -/
theorem part82 (v18 : FVec F S256x256 .bf16) (v37 : FVec F S256x256 .bf16) (v200 : BitVec 32) (v212 : FVec F S1x1x256 .f32) :
    Safe c (Held c arg3 arg4 arg5 arg6 arg7 arg8 arg9 arg10 arg11 arg12 arg13 arg14 arg15 arg16 arg17 arg18 f3 f4 f5 f6) (k0_part82 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v18 v37 v200 v212) := by
  rw [k0_part82_eq_skeleton]; unfold k0_part82_skel
  repeat' first
    | intro _
    | with_reducible apply Safe.bind
    | with_reducible exact Safe.load
    | with_reducible exact Safe.store
    | with_reducible exact Safe.pure _
    | split

set_option maxHeartbeats 4000000 in
/-- Part 8 of what follows. -/
theorem part83 (arg2 : BitVec 32) (v7 : IVec S64x256 32) (v26 : FVec F S64x256 .f32) (v241 : FVec F S256x256 .f32) :
    Safe c (Held c arg3 arg4 arg5 arg6 arg7 arg8 arg9 arg10 arg11 arg12 arg13 arg14 arg15 arg16 arg17 arg18 f3 f4 f5 f6) (k0_part83 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v7 v26 v241) := by
  rw [k0_part83_eq_skeleton]; unfold k0_part83_skel
  repeat' first
    | intro _
    | with_reducible apply Safe.bind
    | with_reducible exact Safe.load
    | with_reducible exact Safe.store
    | with_reducible exact Safe.pure _
    | split

set_option maxHeartbeats 4000000 in
/-- Part 9 of what follows. -/
theorem part84 (arg2 : BitVec 32) (v7 : IVec S64x256 32) (v8 : IVec S256x256 32) (v9 : IVec S256x256 32) (v30 : FVec F S256x256 .f32) (v270 : FVec F S64x256 .f32) (v272 : FVec F S64x256 .f32) (v282 : IVec S64x256 32) :
    Safe c (Held c arg3 arg4 arg5 arg6 arg7 arg8 arg9 arg10 arg11 arg12 arg13 arg14 arg15 arg16 arg17 arg18 f3 f4 f5 f6) (k0_part84 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v7 v8 v9 v30 v270 v272 v282) := by
  rw [k0_part84_eq_skeleton]; unfold k0_part84_skel
  repeat' first
    | intro _
    | with_reducible apply Safe.bind
    | with_reducible exact Safe.load
    | with_reducible exact Safe.store
    | with_reducible exact Safe.pure _
    | split

set_option maxHeartbeats 4000000 in
/-- Part 10 of what follows. -/
theorem part85 (arg2 : BitVec 32) (v7 : IVec S64x256 32) (v45 : FVec F S64x256 .f32) (v322 : FVec F S144x256 .f32) :
    Safe c (Held c arg3 arg4 arg5 arg6 arg7 arg8 arg9 arg10 arg11 arg12 arg13 arg14 arg15 arg16 arg17 arg18 f3 f4 f5 f6) (k0_part85 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v7 v45 v322) := by
  rw [k0_part85_eq_skeleton]; unfold k0_part85_skel
  repeat' first
    | intro _
    | with_reducible apply Safe.bind
    | with_reducible exact Safe.load
    | with_reducible exact Safe.store
    | with_reducible exact Safe.pure _
    | split

set_option maxHeartbeats 4000000 in
/-- Part 11 of what follows. -/
theorem part86 (arg2 : BitVec 32) (v7 : IVec S64x256 32) (v8 : IVec S256x256 32) (v9 : IVec S256x256 32) (v49 : FVec F S256x256 .f32) (v364 : FVec F S64x256 .f32) (v366 : FVec F S64x256 .f32) :
    Safe c (Held c arg3 arg4 arg5 arg6 arg7 arg8 arg9 arg10 arg11 arg12 arg13 arg14 arg15 arg16 arg17 arg18 f3 f4 f5 f6) (k0_part86 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v7 v8 v9 v49 v364 v366) := by
  rw [k0_part86_eq_skeleton]; unfold k0_part86_skel
  repeat' first
    | intro _
    | with_reducible apply Safe.bind
    | with_reducible exact Safe.load
    | with_reducible exact Safe.store
    | with_reducible exact Safe.pure _
    | split

set_option maxHeartbeats 4000000 in
/-- The two loops over groups of blocks. -/
theorem part87 (arg2 : BitVec 32) (v1 : FVec F S1x256 .f32) (v3 : FVec F S1x256 .f32) (v18 : FVec F S256x256 .bf16) (v37 : FVec F S256x256 .bf16) (v314 : FVec F S1x256 .f32) (v390 : FVec F S1x256 .f32) (v403 : BitVec 32) (c4_i32_250 : BitVec 32) (v404 : BitVec 32) (c0_i32_251 : BitVec 32) :
    Safe c (Held c arg3 arg4 arg5 arg6 arg7 arg8 arg9 arg10 arg11 arg12 arg13 arg14 arg15 arg16 arg17 arg18 f3 f4 f5 f6) (k0_part87 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v1 v3 v18 v37 v314 v390 v403 c4_i32_250 v404 c0_i32_251) := by
  rw [k0_part87_eq_skeleton]; unfold k0_part87_skel
  refine Safe.bind (Safe.loop fun _ _ => ?_) fun _ => Safe.bind (Safe.loop fun _ _ => ?_) fun _ => Safe.pure _
  · with_reducible exact trip2 ..
  · with_reducible exact trip3 ..

set_option maxHeartbeats 8000000 in
/-- The kernel is safe at every grid point. -/
theorem kernel : Safe c (Held c arg3 arg4 arg5 arg6 arg7 arg8 arg9 arg10 arg11 arg12 arg13 arg14 arg15 arg16 arg17 arg18 f3 f4 f5 f6) (cc0_moba i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) := by
  rw [cc0_moba_eq_skeleton]; unfold cc0_moba_skel
  repeat' first
    | intro _
    | with_reducible apply Safe.bind
    | with_reducible exact Safe.load
    | with_reducible exact Safe.store
    | with_reducible exact Safe.pure _
    | with_reducible exact part75 ..
    | with_reducible exact part76 ..
    | with_reducible exact part77 ..
    | with_reducible exact part78 ..
    | with_reducible exact part79 ..
    | with_reducible exact part80 ..
    | with_reducible exact part81 ..
    | with_reducible exact part82 ..
    | with_reducible exact part83 ..
    | with_reducible exact part84 ..
    | with_reducible exact part85 ..
    | with_reducible exact part86 ..
    | with_reducible exact part87 ..
    | with_reducible exact part88 ..
    | split

end Parts

end Cert.MobaIdeal.Hand

end
-- ==== Proof.MobaFrame.lean ====
module

public import proofs.«01_k».proof.Defs
public import proofs.«01_k».proof.Proof.Gen.Moba
public import proofs.«01_k».proof.Proof.MobaRun

/-! The block-sparse attention's frame: the pipeline's proof data, the body obligation from the run at one grid point (MobaRun), and the
    launch. The output window is forgotten, since nothing here reads what the kernel leaves in it. The query, key and value windows are
    blocks of one array, so each holds a share of it. The program over machine floats is the program over the extended reals, so the run
    over any float values gives both frames. -/

@[expose] public section

set_option maxRecDepth 16384

noncomputable section

namespace Cert.MobaIdeal.Hand

open Cert.MobaIdeal Cert.MobaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- A memref owned at some contents is its elements at some contents, -/
theorem some_of_owns (c : Dev nD) {s : Shape} {e : EltTy} (M : Memref sig .tc .vmem s e) :
    iprop(∃ d, owns (c : Thread nD τ) M fullShare d) ⊢ (AtSome c M : sProp (Res F)) := by
  unfold owns AtSome
  iintro ⟨%d, %f, -, H⟩
  iexists f; iexact H

/-- and the other way round. -/
theorem owns_of_some (c : Dev nD) {s : Shape} {e : EltTy} (M : Memref sig .tc .vmem s e) :
    (AtSome c M : sProp (Res F)) ⊢ iprop(∃ d, owns (c : Thread nD τ) M fullShare d) := by
  unfold owns AtSome
  iintro ⟨%f, H⟩
  iexists _, f; isplitr; swap; · iexact H
  ipureintro; rfl

/-! ## The pipeline's proof data -/

abbrev b0 (t : Fin cfg0.N) : Memref sig .tc .vmem S256x256 .bf16 := win0_0.stage (cfg0.slots t 0)
abbrev w0 (t : Fin cfg0.N) : (b0 t).IsWhole := hstage0_0 ((cfg0.slots t 0).cast nbuf0_0)
abbrev b1 (t : Fin cfg0.N) : Memref sig .tc .vmem S16384x256 .bf16 := win0_1.stage (cfg0.slots t 1)
abbrev w1 (t : Fin cfg0.N) : (b1 t).IsWhole := hstage0_1 ((cfg0.slots t 1).cast nbuf0_1)
abbrev b2 (t : Fin cfg0.N) : Memref sig .tc .vmem S16384x256 .bf16 := win0_2.stage (cfg0.slots t 2)
abbrev w2 (t : Fin cfg0.N) : (b2 t).IsWhole := hstage0_2 ((cfg0.slots t 2).cast nbuf0_2)
abbrev b3 (t : Fin cfg0.N) : Memref sig .tc .vmem S2x1x256 .f32 := win0_3.stage (cfg0.slots t 3)
abbrev w3 (t : Fin cfg0.N) : (b3 t).IsWhole := hstage0_3 ((cfg0.slots t 3).cast nbuf0_3)
abbrev b4 (t : Fin cfg0.N) : Memref sig .tc .vmem S256x256 .bf16 := win0_4.stage (cfg0.slots t 4)
abbrev w4 (t : Fin cfg0.N) : (b4 t).IsWhole := hstage0_4 ((cfg0.slots t 4).cast nbuf0_4)
abbrev sc0 : Memref sig .tc .vmem S2x16384x256 .bf16 := Memref.whole cc0_scratch0
abbrev sc1 : Memref sig .tc .vmem S2x256x256 .bf16 := Memref.whole cc0_scratch1
abbrev sc2 : Memref sig .tc .vmem S2x64x128 .f32 := Memref.whole cc0_scratch2
abbrev sc3 : Memref sig .tc .vmem S2x192x128 .bf16 := Memref.whole cc0_scratch3
abbrev sc4 : Memref sig .tc .vmem S2x64x256 .f32 := Memref.whole cc0_scratch4
abbrev sc5 : Memref sig .tc .vmem S8x256x256 .f32 := Memref.whole cc0_scratch5
abbrev sc6 : Memref sig .tc .vmem S8x256x256 .f32 := Memref.whole cc0_scratch6
abbrev sc7 : Memref sig .tc .vmem S2x144x256 .f32 := Memref.whole cc0_scratch7
abbrev sc8 : Memref sig .tc .vmem S2x64x144x256 .bf16 := Memref.whole cc0_scratch8
abbrev sc9 : Memref sig .tc .vmem S8x1x256 .f32 := Memref.whole cc0_scratch9
abbrev sc10 : Memref sig .tc .vmem S8x1x256 .f32 := Memref.whole cc0_scratch10

/-- The invariant between points: the scratches at anything. -/
theorem PhiA_eq (c : Dev nD) :
    (Pipeline.ΦA spec0 c : sProp (Res F)) = iprop(((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d) ∗ (∃ d, owns (c : Thread nD τ) sc6 fullShare d) ∗ (∃ d, owns (c : Thread nD τ) sc7 fullShare d) ∗ (∃ d, owns (c : Thread nD τ) sc8 fullShare d) ∗ (∃ d, owns (c : Thread nD τ) sc9 fullShare d) ∗ (∃ d, owns (c : Thread nD τ) sc10 fullShare d)) ∗ (∃ r, prngReg c r)) := by
  unfold Pipeline.ΦA; rw [scopedRest0_eq]; simp only [sc0, sc1, sc2, sc3, sc4, sc5, sc6, sc7, sc8, sc9, sc10, owns_whole]; try rfl

/-- The output window is forgotten. -/
def forgets : Fin 5 → Bool := fun w => w == 4

/-- The proof data: the arrays as the region finds them, each input's buffer at its block, the output's unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => Dat.unnamed (cfg := cfg0) 4 t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-! ## The body at a generic point -/

/-- What the body is handed at point `t`, window by window, and what it gives back. -/
def pre (c : Dev nD) (t : Fin cfg0.N) : sProp (Res F) :=
  iprop((dats m 0 c).Φ t.castSucc ∗ (dats m 0 c).owesAt () t.castSucc
    ∗ (∃ d, owns (c : Thread nD τ) (b0 t) fullShare ((dats m 0 c).before 0 t d))
    ∗ (∃ d, owns (c : Thread nD τ) (b1 t) fullShare ((dats m 0 c).before 1 t d))
    ∗ (∃ d, owns (c : Thread nD τ) (b2 t) fullShare ((dats m 0 c).before 2 t d))
    ∗ (∃ d, owns (c : Thread nD τ) (b3 t) fullShare ((dats m 0 c).before 3 t d))
    ∗ (∃ d, owns (c : Thread nD τ) (b4 t) fullShare d))
def post (c : Dev nD) (t : Fin cfg0.N) : sProp (Res F) :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (∃ d, owns (c : Thread nD τ) (b4 t) fullShare d))

theorem leaves0 (c : Dev nD) (t : Fin cfg0.N) : (dats m 0 c).leavesExact 0 t = owns (c : Thread nD τ) (b0 t) fullShare (iblk m c 0 t) := by
  unfold Dat.leavesExact; rw [show cfg0.idle 0 (grid0.coords t) = false from rfl, after0]
theorem leaves1 (c : Dev nD) (t : Fin cfg0.N) : (dats m 0 c).leavesExact 1 t = owns (c : Thread nD τ) (b1 t) fullShare (iblk m c 1 t) := by
  unfold Dat.leavesExact; rw [show cfg0.idle 1 (grid0.coords t) = false from rfl, after1]
theorem leaves2 (c : Dev nD) (t : Fin cfg0.N) : (dats m 0 c).leavesExact 2 t = owns (c : Thread nD τ) (b2 t) fullShare (iblk m c 2 t) := by
  unfold Dat.leavesExact; rw [show cfg0.idle 2 (grid0.coords t) = false from rfl, after2]
theorem leaves3 (c : Dev nD) (t : Fin cfg0.N) : (dats m 0 c).leavesExact 3 t = owns (c : Thread nD τ) (b3 t) fullShare (iblk m c 3 t) := by
  unfold Dat.leavesExact; rw [show cfg0.idle 3 (grid0.coords t) = false from rfl, after3]

/-- The body at a point: the inputs come back at their blocks. -/
theorem sound (c : Dev nD) (t : Fin cfg0.N) :
    pre m c t ⊢ wp frame (wpE (defs₀ (F := F)) Variants.none c none) Set.univ (bodyAt0 t) (fun _ => post m c t) := by
  unfold pre post bodyAt0
  simp only [before0, before1, before2, before3, leaves0, leaves1, leaves2, leaves3]
  rw [show (dats m 0 c).owesAt () t.succ = (dats m 0 c).owesAt () t.castSucc from rfl,
    show (dats m 0 c).Φ t.succ = Pipeline.ΦA spec0 c from rfl, show (dats m 0 c).Φ t.castSucc = Pipeline.ΦA spec0 c from rfl, PhiA_eq]
  iintro ⟨⟨⟨S0, S1, S2, S3, S4, S5, S6, S7, S8, S9, S10⟩, Hg⟩, Ho, ⟨%d0, H0⟩, ⟨%d1, H1⟩, ⟨%d2, H2⟩, ⟨%d3, H3⟩, H4⟩
  icases (show (owns (c : Thread nD τ) (b0 t) fullShare (iblk m c 0 t) : sProp (Res F)) ⊢ iprop(∃ f, ⌜(b0 t).view.read (Elt F) f = iblk m c 0 t⌝ ∗ At c (b0 t) f) from .rfl) $$ H0 with ⟨%f0, %h0, H0⟩
  icases (show (owns (c : Thread nD τ) (b1 t) fullShare (iblk m c 1 t) : sProp (Res F)) ⊢ iprop(∃ f, ⌜(b1 t).view.read (Elt F) f = iblk m c 1 t⌝ ∗ At c (b1 t) f) from .rfl) $$ H1 with ⟨%f1, %h1, H1⟩
  icases (show (owns (c : Thread nD τ) (b2 t) fullShare (iblk m c 2 t) : sProp (Res F)) ⊢ iprop(∃ f, ⌜(b2 t).view.read (Elt F) f = iblk m c 2 t⌝ ∗ At c (b2 t) f) from .rfl) $$ H2 with ⟨%f2, %h2, H2⟩
  icases (show (owns (c : Thread nD τ) (b3 t) fullShare (iblk m c 3 t) : sProp (Res F)) ⊢ iprop(∃ f, ⌜(b3 t).view.read (Elt F) f = iblk m c 3 t⌝ ∗ At c (b3 t) f) from .rfl) $$ H3 with ⟨%f3, %h3, H3⟩
  iapply (wp_wand_r frame (wpE (defs₀ (F := F)) Variants.none (c : Thread nD τ) none) Set.univ)
  isplitl [H0 H1 H2 H3 H4 S0 S1 S2 S3 S4 S5 S6 S7 S8 S9 S10]
  · iapply (kernel c (grid0.coords t) (b0 t) (w0 t) (b1 t) (w1 t) (b2 t) (w2 t) (b3 t) (w3 t) (b4 t) (w4 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) sc10 (Memref.isWhole_whole _) f0 f1 f2 f3).run
    isplitl [H0]; · iexact H0
    isplitl [H1]; · iexact H1
    isplitl [H2]; · iexact H2
    isplitl [H3]; · iexact H3
    isplitl [H4]; · iapply (some_of_owns c (b4 t)); iexact H4
    isplitl [S0]; · iapply (some_of_owns c sc0); iexact S0
    isplitl [S1]; · iapply (some_of_owns c sc1); iexact S1
    isplitl [S2]; · iapply (some_of_owns c sc2); iexact S2
    isplitl [S3]; · iapply (some_of_owns c sc3); iexact S3
    isplitl [S4]; · iapply (some_of_owns c sc4); iexact S4
    isplitl [S5]; · iapply (some_of_owns c sc5); iexact S5
    isplitl [S6]; · iapply (some_of_owns c sc6); iexact S6
    isplitl [S7]; · iapply (some_of_owns c sc7); iexact S7
    isplitl [S8]; · iapply (some_of_owns c sc8); iexact S8
    isplitl [S9]; · iapply (some_of_owns c sc9); iexact S9
    iapply (some_of_owns c sc10); iexact S10
  iintro %_ ⟨H0, H1, H2, H3, H4, S0, S1, S2, S3, S4, S5, S6, S7, S8, S9, S10⟩
  isplitl [S0 S1 S2 S3 S4 S5 S6 S7 S8 S9 S10 Hg]
  · isplitl [S0 S1 S2 S3 S4 S5 S6 S7 S8 S9 S10]
    · isplitl [S0]; · iapply (owns_of_some c sc0); iexact S0
      isplitl [S1]; · iapply (owns_of_some c sc1); iexact S1
      isplitl [S2]; · iapply (owns_of_some c sc2); iexact S2
      isplitl [S3]; · iapply (owns_of_some c sc3); iexact S3
      isplitl [S4]; · iapply (owns_of_some c sc4); iexact S4
      isplitl [S5]; · iapply (owns_of_some c sc5); iexact S5
      isplitl [S6]; · iapply (owns_of_some c sc6); iexact S6
      isplitl [S7]; · iapply (owns_of_some c sc7); iexact S7
      isplitl [S8]; · iapply (owns_of_some c sc8); iexact S8
      isplitl [S9]; · iapply (owns_of_some c sc9); iexact S9
      iapply (owns_of_some c sc10); iexact S10
    iexact Hg
  isplitl [Ho]; · iexact Ho
  isplitl [H0]
  · unfold owns; iexists f0; isplitr; · ipureintro; exact h0
    iexact H0
  isplitl [H1]
  · unfold owns; iexists f1; isplitr; · ipureintro; exact h1
    iexact H1
  isplitl [H2]
  · unfold owns; iexists f2; isplitr; · ipureintro; exact h2
    iexact H2
  isplitl [H3]
  · unfold owns; iexists f3; isplitr; · ipureintro; exact h3
    iexact H3
  iapply (owns_of_some c (b4 t)); iexact H4

/-- The body obligation of the pipeline, with the output forgotten. -/
theorem body_obligation (c : Dev nD) :
    BodyObligation (dats (F := F) m 0 c) (defs₀ (F := F)) Variants.none () Set.univ forgets := fun t => by
  rw [bigSep_W0, bigSep_W0, show defs₀ (F := F) .tc cfg0.body (cfg0.bodyArgs t (cfg0.slots t)) = bodyAt0 t from by unfold defs₀; rw [Defs.onTc_tc]]
  exact triple_restated (sound m c t) rfl .rfl fun _ => .rfl

/-! ## The run and the frame -/

set_option backward.isDefEq.respectTransparency.types false in
/-- Every run of the program ends, with each input array as the region found it and every semaphore counter at zero. -/
theorem run_main : θ_run defs (onTc (τ := τ) (main (F := F))) (s₀ m ρ)
    (fun r => Pipeline.RDat.FramePost (cfgs 0) (fun c => (dats m 0 c).toRForget forgets) (V m) r ∧ r.2.sem = fun _ => 0) :=
  Pipeline.θ_run_frame_forget_shared (Q' := _) cfgs (dats m) (0 : Fin 1) launch₀0 defs₀ Variants.none forgets m ρ main
    (hbody := fun c => (body_obligation m c).loose) (hq := fun _ _ _ => rfl)
    (howed := fun _ _ => rfl) (V := V m) (hmain := hmain m Variants.none) (hA := A_eq m) (hΦ := fun _ _ => rfl)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
      ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩, h.2⟩) (run_main m ρ)

attribute [local instance] Cert.Moba.Gen.facts Cert.MobaIdeal.Gen.facts

/-- The two programs' bodies are the same, label by label, -/
theorem body_eq : Cert.MobaIdeal.defs₀ (F := F) = Cert.Moba.defs₀ (F := F) :=
  congrArg Defs.onTc (funext fun l => funext fun a => by
    match l, a with
    | ⟨0, _⟩, (t, s) => rfl
    | ⟨_ + 1, h⟩, _ => exact absurd h (Nat.not_lt.2 (Nat.le_add_left _ _)))

/-- and so are the programs. -/
theorem defs_eq : Cert.MobaIdeal.defs (F := F) = Cert.Moba.defs (F := F) :=
  congrArg (Pipeline.defs (Cert.Moba.pcfgs (F := F))) body_eq

end Cert.MobaIdeal.Hand

namespace Cert.Proof

open Idealize.ShloMosaic Idealize.ShloMosaic.TcCoe Idealize.SL.Sem

/-- The kernel over machine floats ends without fault, leaves its arguments unchanged and every semaphore counter at zero. -/
theorem moba_frame : Cert.quiescent_Moba (hMoba := Cert.Moba.Gen.facts) := fun m ρ _ => by
  have h := Cert.MobaIdeal.Hand.frame (F := Bits) m ρ
  rw [Cert.MobaIdeal.Hand.defs_eq] at h
  exact h

/-- The same over the extended reals. -/
theorem moba_ideal_frame : Cert.quiescent_MobaIdeal (hMobaIdeal := Cert.MobaIdeal.Gen.facts) := fun m ρ _ =>
  Cert.MobaIdeal.Hand.frame (F := Ideal) m ρ

end Cert.Proof

end
-- ==== Proof.lean ====
module

public import proofs.«01_k».proof.Defs
public import proofs.«01_k».proof.Proof.Gen.MlpUp
public import proofs.«01_k».proof.Proof.Gen.MlpUp.Skeleton
public import proofs.«01_k».proof.Proof.Gen.MlpUp.Launch
public import proofs.«01_k».proof.Proof.Gen.MlpUp.Points
public import proofs.«01_k».proof.Proof.Gen.MlpUp.Frame
public import proofs.«01_k».proof.Proof.Gen.MlpUpIdeal
public import proofs.«01_k».proof.Proof.Gen.MlpUpIdeal.Skeleton
public import proofs.«01_k».proof.Proof.Gen.MlpUpIdeal.Launch
public import proofs.«01_k».proof.Proof.Gen.MlpUpIdeal.Points
public import proofs.«01_k».proof.Proof.Gen.MlpUpIdeal.Frame
public import proofs.«01_k».proof.Proof.Gen.MlpUpRefIdeal
public import proofs.«01_k».proof.Proof.Gen.MlpDown
public import proofs.«01_k».proof.Proof.Gen.MlpDown.Skeleton
public import proofs.«01_k».proof.Proof.Gen.MlpDown.Launch
public import proofs.«01_k».proof.Proof.Gen.MlpDown.Points
public import proofs.«01_k».proof.Proof.Gen.MlpDown.Frame
public import proofs.«01_k».proof.Proof.Gen.MlpDownIdeal
public import proofs.«01_k».proof.Proof.Gen.MlpDownIdeal.Skeleton
public import proofs.«01_k».proof.Proof.Gen.MlpDownIdeal.Launch
public import proofs.«01_k».proof.Proof.Gen.MlpDownIdeal.Points
public import proofs.«01_k».proof.Proof.Gen.MlpDownIdeal.Frame
public import proofs.«01_k».proof.Proof.Gen.MlpDownRefIdeal
public import proofs.«01_k».proof.Proof.Gen.InMoba
public import proofs.«01_k».proof.Proof.Gen.InMoba.Skeleton
public import proofs.«01_k».proof.Proof.Gen.InMoba.Launch
public import proofs.«01_k».proof.Proof.Gen.InMoba.Points
public import proofs.«01_k».proof.Proof.Gen.InMoba.Frame
public import proofs.«01_k».proof.Proof.Gen.InMobaIdeal
public import proofs.«01_k».proof.Proof.Gen.InMobaIdeal.Skeleton
public import proofs.«01_k».proof.Proof.Gen.InMobaIdeal.Launch
public import proofs.«01_k».proof.Proof.Gen.InMobaIdeal.Points
public import proofs.«01_k».proof.Proof.Gen.InMobaIdeal.Frame
public import proofs.«01_k».proof.Proof.Gen.InMobaRefIdeal
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjRefIdeal
public import proofs.«01_k».proof.Proof.Gen.InGdn
public import proofs.«01_k».proof.Proof.Gen.InGdnIdeal
public import proofs.«01_k».proof.Proof.Gen.InGdnRefIdeal
public import proofs.«01_k».proof.Proof.Gen.MemKv
public import proofs.«01_k».proof.Proof.Gen.MemKv.Skeleton
public import proofs.«01_k».proof.Proof.Gen.MemKv.Launch
public import proofs.«01_k».proof.Proof.Gen.MemKv.Points
public import proofs.«01_k».proof.Proof.Gen.MemKv.Frame
public import proofs.«01_k».proof.Proof.Gen.MemKvIdeal
public import proofs.«01_k».proof.Proof.Gen.MemKvIdeal.Skeleton
public import proofs.«01_k».proof.Proof.Gen.MemKvIdeal.Launch
public import proofs.«01_k».proof.Proof.Gen.MemKvIdeal.Points
public import proofs.«01_k».proof.Proof.Gen.MemKvIdeal.Frame
public import proofs.«01_k».proof.Proof.Gen.MemKvRefIdeal
public import proofs.«01_k».proof.Proof.Gen.MemAttn
public import proofs.«01_k».proof.Proof.Gen.MemAttn.Skeleton
public import proofs.«01_k».proof.Proof.Gen.MemAttn.Launch
public import proofs.«01_k».proof.Proof.Gen.MemAttn.Points
public import proofs.«01_k».proof.Proof.Gen.MemAttn.Frame
public import proofs.«01_k».proof.Proof.Gen.MemAttnIdeal
public import proofs.«01_k».proof.Proof.Gen.MemAttnIdeal.Skeleton
public import proofs.«01_k».proof.Proof.Gen.MemAttnIdeal.Launch
public import proofs.«01_k».proof.Proof.Gen.MemAttnIdeal.Points
public import proofs.«01_k».proof.Proof.Gen.MemAttnIdeal.Frame
public import proofs.«01_k».proof.Proof.Gen.MemAttnRefIdeal
public import proofs.«01_k».proof.Proof.Gen.Gdn
public import proofs.«01_k».proof.Proof.Gen.GdnIdeal
public import proofs.«01_k».proof.Proof.Gen.GdnIdeal.Skeleton
public import proofs.«01_k».proof.Proof.Gen.GdnIdeal.Launch
public import proofs.«01_k».proof.Proof.Gen.GdnIdeal.Points
public import proofs.«01_k».proof.Proof.Gen.GdnIdeal.Frame
public import proofs.«01_k».proof.Proof.Gen.Moba
public import proofs.«01_k».proof.Proof.Gen.MobaIdeal
public import proofs.«01_k».proof.Proof.InMoba
public import proofs.«01_k».proof.Proof.MlpDown
public import proofs.«01_k».proof.Proof.MlpUp
public import proofs.«01_k».proof.Proof.OutProj
public import proofs.«01_k».proof.Proof.MemAttn
public import proofs.«01_k».proof.Proof.InGdnFrame
public import proofs.«01_k».proof.Proof.InGdn
public import proofs.«01_k».proof.Proof.MemKv
public import proofs.«01_k».proof.Proof.GdnFrame
public import proofs.«01_k».proof.Proof.MobaFrame
public import Idealize.ShloMosaic.Adequacy
public import Idealize.ShloMosaic.Init

@[expose] public section

noncomputable section

namespace Cert.Proof

open Idealize.ShloMosaic Idealize.SL.Sem Cert.MlpUp

theorem claim : Cert.Claim := ⟨
  Cert.MlpUp.Gen.facts,
  Cert.MlpUpIdeal.Gen.facts,
  Cert.MlpUpRefIdeal.Gen.facts,
  Cert.MlpDown.Gen.facts,
  Cert.MlpDownIdeal.Gen.facts,
  Cert.MlpDownRefIdeal.Gen.facts,
  Cert.InMoba.Gen.facts,
  Cert.InMobaIdeal.Gen.facts,
  Cert.InMobaRefIdeal.Gen.facts,
  Cert.OutProj.Gen.facts,
  Cert.OutProjIdeal.Gen.facts,
  Cert.OutProjRefIdeal.Gen.facts,
  Cert.InGdn.Gen.facts,
  Cert.InGdnIdeal.Gen.facts,
  Cert.InGdnRefIdeal.Gen.facts,
  Cert.MemKv.Gen.facts,
  Cert.MemKvIdeal.Gen.facts,
  Cert.MemKvRefIdeal.Gen.facts,
  Cert.MemAttn.Gen.facts,
  Cert.MemAttnIdeal.Gen.facts,
  Cert.MemAttnRefIdeal.Gen.facts,
  Cert.Gdn.Gen.facts,
  Cert.GdnIdeal.Gen.facts,
  Cert.Moba.Gen.facts,
  Cert.MobaIdeal.Gen.facts,
  fun m ρ _ => Cert.MlpUp.Gen.frame m ρ,
  fun m ρ _ => Cert.MlpUpIdeal.Gen.frame m ρ,
  fun m ρ _ => (θ_run _ _ _).mono (fun r h => ⟨fun c => (h c).2, sem_eq_zero_of_no_sems (by decide) r.2⟩) (Cert.MlpUpRefIdeal.Value.run (F := Ideal) m ρ),
  fun m ρ _ => Cert.MlpDown.Gen.frame m ρ,
  fun m ρ _ => Cert.MlpDownIdeal.Gen.frame m ρ,
  fun m ρ _ => (θ_run _ _ _).mono (fun r h => ⟨fun c => (h c).2, sem_eq_zero_of_no_sems (by decide) r.2⟩) (Cert.MlpDownRefIdeal.Value.run (F := Ideal) m ρ),
  fun m ρ _ => Cert.InMoba.Gen.frame m ρ,
  fun m ρ _ => Cert.InMobaIdeal.Gen.frame m ρ,
  fun m ρ _ => (θ_run _ _ _).mono (fun r h => ⟨fun c => (h c).2, sem_eq_zero_of_no_sems (by decide) r.2⟩) (Cert.InMobaRefIdeal.Value.run (F := Ideal) m ρ),
  fun m ρ _ => Cert.OutProj.Gen.frame m ρ,
  fun m ρ _ => Cert.OutProjIdeal.Gen.frame m ρ,
  fun m ρ _ => (θ_run _ _ _).mono (fun r h => ⟨fun c => (h c).2, sem_eq_zero_of_no_sems (by decide) r.2⟩) (Cert.OutProjRefIdeal.Value.run (F := Ideal) m ρ),
  in_gdn_frame,
  in_gdn_ideal_frame,
  fun m ρ _ => (θ_run _ _ _).mono (fun r h => ⟨fun c => (h c).2.2, sem_eq_zero_of_no_sems (by decide) r.2⟩) (Cert.InGdnRefIdeal.Value.run (F := Ideal) m ρ),
  fun m ρ _ => Cert.MemKv.Gen.frame m ρ,
  fun m ρ _ => Cert.MemKvIdeal.Gen.frame m ρ,
  fun m ρ _ => (θ_run _ _ _).mono (fun r h => ⟨fun c => (h c).2, sem_eq_zero_of_no_sems (by decide) r.2⟩) (Cert.MemKvRefIdeal.Value.run (F := Ideal) m ρ),
  fun m ρ _ => Cert.MemAttn.Gen.frame m ρ,
  fun m ρ _ => Cert.MemAttnIdeal.Gen.frame m ρ,
  fun m ρ _ => (θ_run _ _ _).mono (fun r h => ⟨fun c => (h c).2, sem_eq_zero_of_no_sems (by decide) r.2⟩) (Cert.MemAttnRefIdeal.Value.run (F := Ideal) m ρ),
  gdn_frame,
  fun m ρ _ => Cert.GdnIdeal.Gen.frame m ρ,
  moba_frame,
  moba_ideal_frame,
  trivial,
  mlp_up,
  trivial,
  mlp_down,
  trivial,
  in_moba,
  trivial,
  out_proj,
  trivial,
  in_gdn,
  trivial,
  mem_kv,
  trivial,
  mem_attn,
  trivial,
  trivial⟩

end Cert.Proof

end
